-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).2.2 = (fun _ => 1#1)

def Pre_HnTwo (m : (ℓ : Loc Cert.HnTwo.nD Cert.HnTwo.τ Cert.HnTwo.sig) → Buf (Elt Bits) ℓ) : Prop :=
  True

def Pre_HnTwoIdeal (m : (ℓ : Loc Cert.HnTwoIdeal.nD Cert.HnTwoIdeal.τ Cert.HnTwoIdeal.sig) → Buf (Elt Ideal) ℓ) : Prop :=
  True

def Pre_HnTwoIdeal_hn2_finite [hPre_hn2_finite : Cert.Pre_hn2_finite.Facts] (m : (ℓ : Loc Cert.HnTwoIdeal.nD Cert.HnTwoIdeal.τ Cert.HnTwoIdeal.sig) → Buf (Elt Ideal) ℓ) : Prop :=
  ∀ c : Dev Cert.HnTwoIdeal.nD,
    (Cert.Pre_hn2_finite.fn (F := Ideal) (m ((c.tc : Thread Cert.HnTwoIdeal.nD Cert.HnTwoIdeal.τ).loc Cert.HnTwoIdeal.main_arg0)) (m ((c.tc : Thread Cert.HnTwoIdeal.nD Cert.HnTwoIdeal.τ).loc Cert.HnTwoIdeal.main_arg1)) (m ((c.tc : Thread Cert.HnTwoIdeal.nD Cert.HnTwoIdeal.τ).loc Cert.HnTwoIdeal.main_arg2)) (m ((c.tc : Thread Cert.HnTwoIdeal.nD Cert.HnTwoIdeal.τ).loc Cert.HnTwoIdeal.main_arg3)) (m ((c.tc : Thread Cert.HnTwoIdeal.nD Cert.HnTwoIdeal.τ).loc Cert.HnTwoIdeal.main_arg4))).1 = (fun _ => 1#1)
    ∧ (Cert.Pre_hn2_finite.fn (F := Ideal) (m ((c.tc : Thread Cert.HnTwoIdeal.nD Cert.HnTwoIdeal.τ).loc Cert.HnTwoIdeal.main_arg0)) (m ((c.tc : Thread Cert.HnTwoIdeal.nD Cert.HnTwoIdeal.τ).loc Cert.HnTwoIdeal.main_arg1)) (m ((c.tc : Thread Cert.HnTwoIdeal.nD Cert.HnTwoIdeal.τ).loc Cert.HnTwoIdeal.main_arg2)) (m ((c.tc : Thread Cert.HnTwoIdeal.nD Cert.HnTwoIdeal.τ).loc Cert.HnTwoIdeal.main_arg3)) (m ((c.tc : Thread Cert.HnTwoIdeal.nD Cert.HnTwoIdeal.τ).loc Cert.HnTwoIdeal.main_arg4))).2.1 = (fun _ => 1#1)
    ∧ (Cert.Pre_hn2_finite.fn (F := Ideal) (m ((c.tc : Thread Cert.HnTwoIdeal.nD Cert.HnTwoIdeal.τ).loc Cert.HnTwoIdeal.main_arg0)) (m ((c.tc : Thread Cert.HnTwoIdeal.nD Cert.HnTwoIdeal.τ).loc Cert.HnTwoIdeal.main_arg1)) (m ((c.tc : Thread Cert.HnTwoIdeal.nD Cert.HnTwoIdeal.τ).loc Cert.HnTwoIdeal.main_arg2)) (m ((c.tc : Thread Cert.HnTwoIdeal.nD Cert.HnTwoIdeal.τ).loc Cert.HnTwoIdeal.main_arg3)) (m ((c.tc : Thread Cert.HnTwoIdeal.nD Cert.HnTwoIdeal.τ).loc Cert.HnTwoIdeal.main_arg4))).2.2.1 = (fun _ => 1#1)
    ∧ (Cert.Pre_hn2_finite.fn (F := Ideal) (m ((c.tc : Thread Cert.HnTwoIdeal.nD Cert.HnTwoIdeal.τ).loc Cert.HnTwoIdeal.main_arg0)) (m ((c.tc : Thread Cert.HnTwoIdeal.nD Cert.HnTwoIdeal.τ).loc Cert.HnTwoIdeal.main_arg1)) (m ((c.tc : Thread Cert.HnTwoIdeal.nD Cert.HnTwoIdeal.τ).loc Cert.HnTwoIdeal.main_arg2)) (m ((c.tc : Thread Cert.HnTwoIdeal.nD Cert.HnTwoIdeal.τ).loc Cert.HnTwoIdeal.main_arg3)) (m ((c.tc : Thread Cert.HnTwoIdeal.nD Cert.HnTwoIdeal.τ).loc Cert.HnTwoIdeal.main_arg4))).2.2.2 = (fun _ => 1#1)

def Pre_HnTwoRefIdeal (m : (ℓ : Loc Cert.HnTwoRefIdeal.nD Cert.HnTwoRefIdeal.τ Cert.HnTwoRefIdeal.sig) → Buf (Elt Ideal) ℓ) : Prop :=
  True

def Pre_HnTwoRefIdeal_hn2_finite [hPre_hn2_finite : Cert.Pre_hn2_finite.Facts] (m : (ℓ : Loc Cert.HnTwoRefIdeal.nD Cert.HnTwoRefIdeal.τ Cert.HnTwoRefIdeal.sig) → Buf (Elt Ideal) ℓ) : Prop :=
  ∀ c : Dev Cert.HnTwoRefIdeal.nD,
    (Cert.Pre_hn2_finite.fn (F := Ideal) (m ((c.tc : Thread Cert.HnTwoRefIdeal.nD Cert.HnTwoRefIdeal.τ).loc Cert.HnTwoRefIdeal.main_arg0)) (m ((c.tc : Thread Cert.HnTwoRefIdeal.nD Cert.HnTwoRefIdeal.τ).loc Cert.HnTwoRefIdeal.main_arg1)) (m ((c.tc : Thread Cert.HnTwoRefIdeal.nD Cert.HnTwoRefIdeal.τ).loc Cert.HnTwoRefIdeal.main_arg2)) (m ((c.tc : Thread Cert.HnTwoRefIdeal.nD Cert.HnTwoRefIdeal.τ).loc Cert.HnTwoRefIdeal.main_arg3)) (m ((c.tc : Thread Cert.HnTwoRefIdeal.nD Cert.HnTwoRefIdeal.τ).loc Cert.HnTwoRefIdeal.main_arg4))).1 = (fun _ => 1#1)
    ∧ (Cert.Pre_hn2_finite.fn (F := Ideal) (m ((c.tc : Thread Cert.HnTwoRefIdeal.nD Cert.HnTwoRefIdeal.τ).loc Cert.HnTwoRefIdeal.main_arg0)) (m ((c.tc : Thread Cert.HnTwoRefIdeal.nD Cert.HnTwoRefIdeal.τ).loc Cert.HnTwoRefIdeal.main_arg1)) (m ((c.tc : Thread Cert.HnTwoRefIdeal.nD Cert.HnTwoRefIdeal.τ).loc Cert.HnTwoRefIdeal.main_arg2)) (m ((c.tc : Thread Cert.HnTwoRefIdeal.nD Cert.HnTwoRefIdeal.τ).loc Cert.HnTwoRefIdeal.main_arg3)) (m ((c.tc : Thread Cert.HnTwoRefIdeal.nD Cert.HnTwoRefIdeal.τ).loc Cert.HnTwoRefIdeal.main_arg4))).2.1 = (fun _ => 1#1)
    ∧ (Cert.Pre_hn2_finite.fn (F := Ideal) (m ((c.tc : Thread Cert.HnTwoRefIdeal.nD Cert.HnTwoRefIdeal.τ).loc Cert.HnTwoRefIdeal.main_arg0)) (m ((c.tc : Thread Cert.HnTwoRefIdeal.nD Cert.HnTwoRefIdeal.τ).loc Cert.HnTwoRefIdeal.main_arg1)) (m ((c.tc : Thread Cert.HnTwoRefIdeal.nD Cert.HnTwoRefIdeal.τ).loc Cert.HnTwoRefIdeal.main_arg2)) (m ((c.tc : Thread Cert.HnTwoRefIdeal.nD Cert.HnTwoRefIdeal.τ).loc Cert.HnTwoRefIdeal.main_arg3)) (m ((c.tc : Thread Cert.HnTwoRefIdeal.nD Cert.HnTwoRefIdeal.τ).loc Cert.HnTwoRefIdeal.main_arg4))).2.2.1 = (fun _ => 1#1)
    ∧ (Cert.Pre_hn2_finite.fn (F := Ideal) (m ((c.tc : Thread Cert.HnTwoRefIdeal.nD Cert.HnTwoRefIdeal.τ).loc Cert.HnTwoRefIdeal.main_arg0)) (m ((c.tc : Thread Cert.HnTwoRefIdeal.nD Cert.HnTwoRefIdeal.τ).loc Cert.HnTwoRefIdeal.main_arg1)) (m ((c.tc : Thread Cert.HnTwoRefIdeal.nD Cert.HnTwoRefIdeal.τ).loc Cert.HnTwoRefIdeal.main_arg2)) (m ((c.tc : Thread Cert.HnTwoRefIdeal.nD Cert.HnTwoRefIdeal.τ).loc Cert.HnTwoRefIdeal.main_arg3)) (m ((c.tc : Thread Cert.HnTwoRefIdeal.nD Cert.HnTwoRefIdeal.τ).loc Cert.HnTwoRefIdeal.main_arg4))).2.2.2 = (fun _ => 1#1)

def Pre_HnOne (m : (ℓ : Loc Cert.HnOne.nD Cert.HnOne.τ Cert.HnOne.sig) → Buf (Elt Bits) ℓ) : Prop :=
  True

def Pre_HnOneIdeal (m : (ℓ : Loc Cert.HnOneIdeal.nD Cert.HnOneIdeal.τ Cert.HnOneIdeal.sig) → Buf (Elt Ideal) ℓ) : Prop :=
  True

def Pre_HnOneIdeal_hn1_finite [hPre_hn1_finite : Cert.Pre_hn1_finite.Facts] (m : (ℓ : Loc Cert.HnOneIdeal.nD Cert.HnOneIdeal.τ Cert.HnOneIdeal.sig) → Buf (Elt Ideal) ℓ) : Prop :=
  ∀ c : Dev Cert.HnOneIdeal.nD,
    (Cert.Pre_hn1_finite.fn (F := Ideal) (m ((c.tc : Thread Cert.HnOneIdeal.nD Cert.HnOneIdeal.τ).loc Cert.HnOneIdeal.main_arg0)) (m ((c.tc : Thread Cert.HnOneIdeal.nD Cert.HnOneIdeal.τ).loc Cert.HnOneIdeal.main_arg1)) (m ((c.tc : Thread Cert.HnOneIdeal.nD Cert.HnOneIdeal.τ).loc Cert.HnOneIdeal.main_arg2)) (m ((c.tc : Thread Cert.HnOneIdeal.nD Cert.HnOneIdeal.τ).loc Cert.HnOneIdeal.main_arg3)) (m ((c.tc : Thread Cert.HnOneIdeal.nD Cert.HnOneIdeal.τ).loc Cert.HnOneIdeal.main_arg4))).1 = (fun _ => 1#1)
    ∧ (Cert.Pre_hn1_finite.fn (F := Ideal) (m ((c.tc : Thread Cert.HnOneIdeal.nD Cert.HnOneIdeal.τ).loc Cert.HnOneIdeal.main_arg0)) (m ((c.tc : Thread Cert.HnOneIdeal.nD Cert.HnOneIdeal.τ).loc Cert.HnOneIdeal.main_arg1)) (m ((c.tc : Thread Cert.HnOneIdeal.nD Cert.HnOneIdeal.τ).loc Cert.HnOneIdeal.main_arg2)) (m ((c.tc : Thread Cert.HnOneIdeal.nD Cert.HnOneIdeal.τ).loc Cert.HnOneIdeal.main_arg3)) (m ((c.tc : Thread Cert.HnOneIdeal.nD Cert.HnOneIdeal.τ).loc Cert.HnOneIdeal.main_arg4))).2.1 = (fun _ => 1#1)
    ∧ (Cert.Pre_hn1_finite.fn (F := Ideal) (m ((c.tc : Thread Cert.HnOneIdeal.nD Cert.HnOneIdeal.τ).loc Cert.HnOneIdeal.main_arg0)) (m ((c.tc : Thread Cert.HnOneIdeal.nD Cert.HnOneIdeal.τ).loc Cert.HnOneIdeal.main_arg1)) (m ((c.tc : Thread Cert.HnOneIdeal.nD Cert.HnOneIdeal.τ).loc Cert.HnOneIdeal.main_arg2)) (m ((c.tc : Thread Cert.HnOneIdeal.nD Cert.HnOneIdeal.τ).loc Cert.HnOneIdeal.main_arg3)) (m ((c.tc : Thread Cert.HnOneIdeal.nD Cert.HnOneIdeal.τ).loc Cert.HnOneIdeal.main_arg4))).2.2.1 = (fun _ => 1#1)
    ∧ (Cert.Pre_hn1_finite.fn (F := Ideal) (m ((c.tc : Thread Cert.HnOneIdeal.nD Cert.HnOneIdeal.τ).loc Cert.HnOneIdeal.main_arg0)) (m ((c.tc : Thread Cert.HnOneIdeal.nD Cert.HnOneIdeal.τ).loc Cert.HnOneIdeal.main_arg1)) (m ((c.tc : Thread Cert.HnOneIdeal.nD Cert.HnOneIdeal.τ).loc Cert.HnOneIdeal.main_arg2)) (m ((c.tc : Thread Cert.HnOneIdeal.nD Cert.HnOneIdeal.τ).loc Cert.HnOneIdeal.main_arg3)) (m ((c.tc : Thread Cert.HnOneIdeal.nD Cert.HnOneIdeal.τ).loc Cert.HnOneIdeal.main_arg4))).2.2.2 = (fun _ => 1#1)

def Pre_HnOneRefIdeal (m : (ℓ : Loc Cert.HnOneRefIdeal.nD Cert.HnOneRefIdeal.τ Cert.HnOneRefIdeal.sig) → Buf (Elt Ideal) ℓ) : Prop :=
  True

def Pre_HnOneRefIdeal_hn1_finite [hPre_hn1_finite : Cert.Pre_hn1_finite.Facts] (m : (ℓ : Loc Cert.HnOneRefIdeal.nD Cert.HnOneRefIdeal.τ Cert.HnOneRefIdeal.sig) → Buf (Elt Ideal) ℓ) : Prop :=
  ∀ c : Dev Cert.HnOneRefIdeal.nD,
    (Cert.Pre_hn1_finite.fn (F := Ideal) (m ((c.tc : Thread Cert.HnOneRefIdeal.nD Cert.HnOneRefIdeal.τ).loc Cert.HnOneRefIdeal.main_arg0)) (m ((c.tc : Thread Cert.HnOneRefIdeal.nD Cert.HnOneRefIdeal.τ).loc Cert.HnOneRefIdeal.main_arg1)) (m ((c.tc : Thread Cert.HnOneRefIdeal.nD Cert.HnOneRefIdeal.τ).loc Cert.HnOneRefIdeal.main_arg2)) (m ((c.tc : Thread Cert.HnOneRefIdeal.nD Cert.HnOneRefIdeal.τ).loc Cert.HnOneRefIdeal.main_arg3)) (m ((c.tc : Thread Cert.HnOneRefIdeal.nD Cert.HnOneRefIdeal.τ).loc Cert.HnOneRefIdeal.main_arg4))).1 = (fun _ => 1#1)
    ∧ (Cert.Pre_hn1_finite.fn (F := Ideal) (m ((c.tc : Thread Cert.HnOneRefIdeal.nD Cert.HnOneRefIdeal.τ).loc Cert.HnOneRefIdeal.main_arg0)) (m ((c.tc : Thread Cert.HnOneRefIdeal.nD Cert.HnOneRefIdeal.τ).loc Cert.HnOneRefIdeal.main_arg1)) (m ((c.tc : Thread Cert.HnOneRefIdeal.nD Cert.HnOneRefIdeal.τ).loc Cert.HnOneRefIdeal.main_arg2)) (m ((c.tc : Thread Cert.HnOneRefIdeal.nD Cert.HnOneRefIdeal.τ).loc Cert.HnOneRefIdeal.main_arg3)) (m ((c.tc : Thread Cert.HnOneRefIdeal.nD Cert.HnOneRefIdeal.τ).loc Cert.HnOneRefIdeal.main_arg4))).2.1 = (fun _ => 1#1)
    ∧ (Cert.Pre_hn1_finite.fn (F := Ideal) (m ((c.tc : Thread Cert.HnOneRefIdeal.nD Cert.HnOneRefIdeal.τ).loc Cert.HnOneRefIdeal.main_arg0)) (m ((c.tc : Thread Cert.HnOneRefIdeal.nD Cert.HnOneRefIdeal.τ).loc Cert.HnOneRefIdeal.main_arg1)) (m ((c.tc : Thread Cert.HnOneRefIdeal.nD Cert.HnOneRefIdeal.τ).loc Cert.HnOneRefIdeal.main_arg2)) (m ((c.tc : Thread Cert.HnOneRefIdeal.nD Cert.HnOneRefIdeal.τ).loc Cert.HnOneRefIdeal.main_arg3)) (m ((c.tc : Thread Cert.HnOneRefIdeal.nD Cert.HnOneRefIdeal.τ).loc Cert.HnOneRefIdeal.main_arg4))).2.2.1 = (fun _ => 1#1)
    ∧ (Cert.Pre_hn1_finite.fn (F := Ideal) (m ((c.tc : Thread Cert.HnOneRefIdeal.nD Cert.HnOneRefIdeal.τ).loc Cert.HnOneRefIdeal.main_arg0)) (m ((c.tc : Thread Cert.HnOneRefIdeal.nD Cert.HnOneRefIdeal.τ).loc Cert.HnOneRefIdeal.main_arg1)) (m ((c.tc : Thread Cert.HnOneRefIdeal.nD Cert.HnOneRefIdeal.τ).loc Cert.HnOneRefIdeal.main_arg2)) (m ((c.tc : Thread Cert.HnOneRefIdeal.nD Cert.HnOneRefIdeal.τ).loc Cert.HnOneRefIdeal.main_arg3)) (m ((c.tc : Thread Cert.HnOneRefIdeal.nD Cert.HnOneRefIdeal.τ).loc Cert.HnOneRefIdeal.main_arg4))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_RgBwd (m : (ℓ : Loc Cert.RgBwd.nD Cert.RgBwd.τ Cert.RgBwd.sig) → Buf (Elt Bits) ℓ) : Prop :=
  True

def Pre_RgBwdIdeal (m : (ℓ : Loc Cert.RgBwdIdeal.nD Cert.RgBwdIdeal.τ Cert.RgBwdIdeal.sig) → Buf (Elt Ideal) ℓ) : Prop :=
  True

def Pre_HgrnBwd (m : (ℓ : Loc Cert.HgrnBwd.nD Cert.HgrnBwd.τ Cert.HgrnBwd.sig) → Buf (Elt Bits) ℓ) : Prop :=
  True

def Pre_HgrnBwdIdeal (m : (ℓ : Loc Cert.HgrnBwdIdeal.nD Cert.HgrnBwdIdeal.τ Cert.HgrnBwdIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_RgF (m : (ℓ : Loc Cert.RgF.nD Cert.RgF.τ Cert.RgF.sig) → Buf (Elt Bits) ℓ) : Prop :=
  True

def Pre_RgFIdeal (m : (ℓ : Loc Cert.RgFIdeal.nD Cert.RgFIdeal.τ Cert.RgFIdeal.sig) → Buf (Elt Ideal) ℓ) : Prop :=
  True

def Pre_HgrnF (m : (ℓ : Loc Cert.HgrnF.nD Cert.HgrnF.τ Cert.HgrnF.sig) → Buf (Elt Bits) ℓ) : Prop :=
  True

def Pre_HgrnFIdeal (m : (ℓ : Loc Cert.HgrnFIdeal.nD Cert.HgrnFIdeal.τ Cert.HgrnFIdeal.sig) → Buf (Elt Ideal) ℓ) : Prop :=
  True

def Pre_Wfi (m : (ℓ : Loc Cert.Wfi.nD Cert.Wfi.τ Cert.Wfi.sig) → Buf (Elt Bits) ℓ) : Prop :=
  True

def Pre_WfiIdeal (m : (ℓ : Loc Cert.WfiIdeal.nD Cert.WfiIdeal.τ Cert.WfiIdeal.sig) → Buf (Elt Ideal) ℓ) : Prop :=
  True

def Pre_WfiRefIdeal (m : (ℓ : Loc Cert.WfiRefIdeal.nD Cert.WfiRefIdeal.τ Cert.WfiRefIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_HnTwo [hHnTwo : Cert.HnTwo.Facts] : Prop :=
  ∀ (m : (ℓ : Loc Cert.HnTwo.nD Cert.HnTwo.τ Cert.HnTwo.sig) → Buf (Elt Bits) ℓ) (g : Dev Cert.HnTwo.nD → PrngReg), Pre_HnTwo m →
    θ_run (Cert.HnTwo.defs (F := Bits)) (onTc (τ := Cert.HnTwo.τ) (Cert.HnTwo.main (F := Bits))) ⟨m, fun _ => 0, g⟩ (fun r => (∀ c : Dev Cert.HnTwo.nD,
      r.2.mem ((c.tc : Thread Cert.HnTwo.nD Cert.HnTwo.τ).loc Cert.HnTwo.main_arg0) = m ((c.tc : Thread Cert.HnTwo.nD Cert.HnTwo.τ).loc Cert.HnTwo.main_arg0)
      ∧ r.2.mem ((c.tc : Thread Cert.HnTwo.nD Cert.HnTwo.τ).loc Cert.HnTwo.main_arg1) = m ((c.tc : Thread Cert.HnTwo.nD Cert.HnTwo.τ).loc Cert.HnTwo.main_arg1)
      ∧ r.2.mem ((c.tc : Thread Cert.HnTwo.nD Cert.HnTwo.τ).loc Cert.HnTwo.main_arg2) = m ((c.tc : Thread Cert.HnTwo.nD Cert.HnTwo.τ).loc Cert.HnTwo.main_arg2)
      ∧ r.2.mem ((c.tc : Thread Cert.HnTwo.nD Cert.HnTwo.τ).loc Cert.HnTwo.main_arg3) = m ((c.tc : Thread Cert.HnTwo.nD Cert.HnTwo.τ).loc Cert.HnTwo.main_arg3)
      ∧ r.2.mem ((c.tc : Thread Cert.HnTwo.nD Cert.HnTwo.τ).loc Cert.HnTwo.main_arg4) = m ((c.tc : Thread Cert.HnTwo.nD Cert.HnTwo.τ).loc Cert.HnTwo.main_arg4))
      ∧ r.2.sem = fun _ => 0)

def quiescent_HnTwoIdeal [hHnTwoIdeal : Cert.HnTwoIdeal.Facts] : Prop :=
  ∀ (m : (ℓ : Loc Cert.HnTwoIdeal.nD Cert.HnTwoIdeal.τ Cert.HnTwoIdeal.sig) → Buf (Elt Ideal) ℓ) (g : Dev Cert.HnTwoIdeal.nD → PrngReg), Pre_HnTwoIdeal m →
    θ_run (Cert.HnTwoIdeal.defs (F := Ideal)) (onTc (τ := Cert.HnTwoIdeal.τ) (Cert.HnTwoIdeal.main (F := Ideal))) ⟨m, fun _ => 0, g⟩ (fun r => (∀ c : Dev Cert.HnTwoIdeal.nD,
      r.2.mem ((c.tc : Thread Cert.HnTwoIdeal.nD Cert.HnTwoIdeal.τ).loc Cert.HnTwoIdeal.main_arg0) = m ((c.tc : Thread Cert.HnTwoIdeal.nD Cert.HnTwoIdeal.τ).loc Cert.HnTwoIdeal.main_arg0)
      ∧ r.2.mem ((c.tc : Thread Cert.HnTwoIdeal.nD Cert.HnTwoIdeal.τ).loc Cert.HnTwoIdeal.main_arg1) = m ((c.tc : Thread Cert.HnTwoIdeal.nD Cert.HnTwoIdeal.τ).loc Cert.HnTwoIdeal.main_arg1)
      ∧ r.2.mem ((c.tc : Thread Cert.HnTwoIdeal.nD Cert.HnTwoIdeal.τ).loc Cert.HnTwoIdeal.main_arg2) = m ((c.tc : Thread Cert.HnTwoIdeal.nD Cert.HnTwoIdeal.τ).loc Cert.HnTwoIdeal.main_arg2)
      ∧ r.2.mem ((c.tc : Thread Cert.HnTwoIdeal.nD Cert.HnTwoIdeal.τ).loc Cert.HnTwoIdeal.main_arg3) = m ((c.tc : Thread Cert.HnTwoIdeal.nD Cert.HnTwoIdeal.τ).loc Cert.HnTwoIdeal.main_arg3)
      ∧ r.2.mem ((c.tc : Thread Cert.HnTwoIdeal.nD Cert.HnTwoIdeal.τ).loc Cert.HnTwoIdeal.main_arg4) = m ((c.tc : Thread Cert.HnTwoIdeal.nD Cert.HnTwoIdeal.τ).loc Cert.HnTwoIdeal.main_arg4))
      ∧ r.2.sem = fun _ => 0)

def quiescent_HnTwoIdeal_pre_hn2_finite [hHnTwoIdeal : Cert.HnTwoIdeal.Facts] [hPre_hn2_finite : Cert.Pre_hn2_finite.Facts] : Prop :=
  ∀ (m : (ℓ : Loc Cert.HnTwoIdeal.nD Cert.HnTwoIdeal.τ Cert.HnTwoIdeal.sig) → Buf (Elt Ideal) ℓ) (g : Dev Cert.HnTwoIdeal.nD → PrngReg), Pre_HnTwoIdeal_hn2_finite m →
    θ_run (Cert.HnTwoIdeal.defs (F := Ideal)) (onTc (τ := Cert.HnTwoIdeal.τ) (Cert.HnTwoIdeal.main (F := Ideal))) ⟨m, fun _ => 0, g⟩ (fun r => (∀ c : Dev Cert.HnTwoIdeal.nD,
      r.2.mem ((c.tc : Thread Cert.HnTwoIdeal.nD Cert.HnTwoIdeal.τ).loc Cert.HnTwoIdeal.main_arg0) = m ((c.tc : Thread Cert.HnTwoIdeal.nD Cert.HnTwoIdeal.τ).loc Cert.HnTwoIdeal.main_arg0)
      ∧ r.2.mem ((c.tc : Thread Cert.HnTwoIdeal.nD Cert.HnTwoIdeal.τ).loc Cert.HnTwoIdeal.main_arg1) = m ((c.tc : Thread Cert.HnTwoIdeal.nD Cert.HnTwoIdeal.τ).loc Cert.HnTwoIdeal.main_arg1)
      ∧ r.2.mem ((c.tc : Thread Cert.HnTwoIdeal.nD Cert.HnTwoIdeal.τ).loc Cert.HnTwoIdeal.main_arg2) = m ((c.tc : Thread Cert.HnTwoIdeal.nD Cert.HnTwoIdeal.τ).loc Cert.HnTwoIdeal.main_arg2)
      ∧ r.2.mem ((c.tc : Thread Cert.HnTwoIdeal.nD Cert.HnTwoIdeal.τ).loc Cert.HnTwoIdeal.main_arg3) = m ((c.tc : Thread Cert.HnTwoIdeal.nD Cert.HnTwoIdeal.τ).loc Cert.HnTwoIdeal.main_arg3)
      ∧ r.2.mem ((c.tc : Thread Cert.HnTwoIdeal.nD Cert.HnTwoIdeal.τ).loc Cert.HnTwoIdeal.main_arg4) = m ((c.tc : Thread Cert.HnTwoIdeal.nD Cert.HnTwoIdeal.τ).loc Cert.HnTwoIdeal.main_arg4))
      ∧ r.2.sem = fun _ => 0)

def quiescent_HnTwoRefIdeal [hHnTwoRefIdeal : Cert.HnTwoRefIdeal.Facts] : Prop :=
  ∀ (m : (ℓ : Loc Cert.HnTwoRefIdeal.nD Cert.HnTwoRefIdeal.τ Cert.HnTwoRefIdeal.sig) → Buf (Elt Ideal) ℓ) (g : Dev Cert.HnTwoRefIdeal.nD → PrngReg), Pre_HnTwoRefIdeal m →
    θ_run (Cert.HnTwoRefIdeal.defs (F := Ideal)) (onTc (τ := Cert.HnTwoRefIdeal.τ) (Cert.HnTwoRefIdeal.main (F := Ideal))) ⟨m, fun _ => 0, g⟩ (fun r => (∀ c : Dev Cert.HnTwoRefIdeal.nD,
      r.2.mem ((c.tc : Thread Cert.HnTwoRefIdeal.nD Cert.HnTwoRefIdeal.τ).loc Cert.HnTwoRefIdeal.main_arg0) = m ((c.tc : Thread Cert.HnTwoRefIdeal.nD Cert.HnTwoRefIdeal.τ).loc Cert.HnTwoRefIdeal.main_arg0)
      ∧ r.2.mem ((c.tc : Thread Cert.HnTwoRefIdeal.nD Cert.HnTwoRefIdeal.τ).loc Cert.HnTwoRefIdeal.main_arg1) = m ((c.tc : Thread Cert.HnTwoRefIdeal.nD Cert.HnTwoRefIdeal.τ).loc Cert.HnTwoRefIdeal.main_arg1)
      ∧ r.2.mem ((c.tc : Thread Cert.HnTwoRefIdeal.nD Cert.HnTwoRefIdeal.τ).loc Cert.HnTwoRefIdeal.main_arg2) = m ((c.tc : Thread Cert.HnTwoRefIdeal.nD Cert.HnTwoRefIdeal.τ).loc Cert.HnTwoRefIdeal.main_arg2)
      ∧ r.2.mem ((c.tc : Thread Cert.HnTwoRefIdeal.nD Cert.HnTwoRefIdeal.τ).loc Cert.HnTwoRefIdeal.main_arg3) = m ((c.tc : Thread Cert.HnTwoRefIdeal.nD Cert.HnTwoRefIdeal.τ).loc Cert.HnTwoRefIdeal.main_arg3)
      ∧ r.2.mem ((c.tc : Thread Cert.HnTwoRefIdeal.nD Cert.HnTwoRefIdeal.τ).loc Cert.HnTwoRefIdeal.main_arg4) = m ((c.tc : Thread Cert.HnTwoRefIdeal.nD Cert.HnTwoRefIdeal.τ).loc Cert.HnTwoRefIdeal.main_arg4))
      ∧ r.2.sem = fun _ => 0)

def quiescent_HnTwoRefIdeal_pre_hn2_finite [hHnTwoRefIdeal : Cert.HnTwoRefIdeal.Facts] [hPre_hn2_finite : Cert.Pre_hn2_finite.Facts] : Prop :=
  ∀ (m : (ℓ : Loc Cert.HnTwoRefIdeal.nD Cert.HnTwoRefIdeal.τ Cert.HnTwoRefIdeal.sig) → Buf (Elt Ideal) ℓ) (g : Dev Cert.HnTwoRefIdeal.nD → PrngReg), Pre_HnTwoRefIdeal_hn2_finite m →
    θ_run (Cert.HnTwoRefIdeal.defs (F := Ideal)) (onTc (τ := Cert.HnTwoRefIdeal.τ) (Cert.HnTwoRefIdeal.main (F := Ideal))) ⟨m, fun _ => 0, g⟩ (fun r => (∀ c : Dev Cert.HnTwoRefIdeal.nD,
      r.2.mem ((c.tc : Thread Cert.HnTwoRefIdeal.nD Cert.HnTwoRefIdeal.τ).loc Cert.HnTwoRefIdeal.main_arg0) = m ((c.tc : Thread Cert.HnTwoRefIdeal.nD Cert.HnTwoRefIdeal.τ).loc Cert.HnTwoRefIdeal.main_arg0)
      ∧ r.2.mem ((c.tc : Thread Cert.HnTwoRefIdeal.nD Cert.HnTwoRefIdeal.τ).loc Cert.HnTwoRefIdeal.main_arg1) = m ((c.tc : Thread Cert.HnTwoRefIdeal.nD Cert.HnTwoRefIdeal.τ).loc Cert.HnTwoRefIdeal.main_arg1)
      ∧ r.2.mem ((c.tc : Thread Cert.HnTwoRefIdeal.nD Cert.HnTwoRefIdeal.τ).loc Cert.HnTwoRefIdeal.main_arg2) = m ((c.tc : Thread Cert.HnTwoRefIdeal.nD Cert.HnTwoRefIdeal.τ).loc Cert.HnTwoRefIdeal.main_arg2)
      ∧ r.2.mem ((c.tc : Thread Cert.HnTwoRefIdeal.nD Cert.HnTwoRefIdeal.τ).loc Cert.HnTwoRefIdeal.main_arg3) = m ((c.tc : Thread Cert.HnTwoRefIdeal.nD Cert.HnTwoRefIdeal.τ).loc Cert.HnTwoRefIdeal.main_arg3)
      ∧ r.2.mem ((c.tc : Thread Cert.HnTwoRefIdeal.nD Cert.HnTwoRefIdeal.τ).loc Cert.HnTwoRefIdeal.main_arg4) = m ((c.tc : Thread Cert.HnTwoRefIdeal.nD Cert.HnTwoRefIdeal.τ).loc Cert.HnTwoRefIdeal.main_arg4))
      ∧ r.2.sem = fun _ => 0)

def quiescent_HnOne [hHnOne : Cert.HnOne.Facts] : Prop :=
  ∀ (m : (ℓ : Loc Cert.HnOne.nD Cert.HnOne.τ Cert.HnOne.sig) → Buf (Elt Bits) ℓ) (g : Dev Cert.HnOne.nD → PrngReg), Pre_HnOne m →
    θ_run (Cert.HnOne.defs (F := Bits)) (onTc (τ := Cert.HnOne.τ) (Cert.HnOne.main (F := Bits))) ⟨m, fun _ => 0, g⟩ (fun r => (∀ c : Dev Cert.HnOne.nD,
      r.2.mem ((c.tc : Thread Cert.HnOne.nD Cert.HnOne.τ).loc Cert.HnOne.main_arg0) = m ((c.tc : Thread Cert.HnOne.nD Cert.HnOne.τ).loc Cert.HnOne.main_arg0)
      ∧ r.2.mem ((c.tc : Thread Cert.HnOne.nD Cert.HnOne.τ).loc Cert.HnOne.main_arg1) = m ((c.tc : Thread Cert.HnOne.nD Cert.HnOne.τ).loc Cert.HnOne.main_arg1)
      ∧ r.2.mem ((c.tc : Thread Cert.HnOne.nD Cert.HnOne.τ).loc Cert.HnOne.main_arg2) = m ((c.tc : Thread Cert.HnOne.nD Cert.HnOne.τ).loc Cert.HnOne.main_arg2)
      ∧ r.2.mem ((c.tc : Thread Cert.HnOne.nD Cert.HnOne.τ).loc Cert.HnOne.main_arg3) = m ((c.tc : Thread Cert.HnOne.nD Cert.HnOne.τ).loc Cert.HnOne.main_arg3)
      ∧ r.2.mem ((c.tc : Thread Cert.HnOne.nD Cert.HnOne.τ).loc Cert.HnOne.main_arg4) = m ((c.tc : Thread Cert.HnOne.nD Cert.HnOne.τ).loc Cert.HnOne.main_arg4))
      ∧ r.2.sem = fun _ => 0)

def quiescent_HnOneIdeal [hHnOneIdeal : Cert.HnOneIdeal.Facts] : Prop :=
  ∀ (m : (ℓ : Loc Cert.HnOneIdeal.nD Cert.HnOneIdeal.τ Cert.HnOneIdeal.sig) → Buf (Elt Ideal) ℓ) (g : Dev Cert.HnOneIdeal.nD → PrngReg), Pre_HnOneIdeal m →
    θ_run (Cert.HnOneIdeal.defs (F := Ideal)) (onTc (τ := Cert.HnOneIdeal.τ) (Cert.HnOneIdeal.main (F := Ideal))) ⟨m, fun _ => 0, g⟩ (fun r => (∀ c : Dev Cert.HnOneIdeal.nD,
      r.2.mem ((c.tc : Thread Cert.HnOneIdeal.nD Cert.HnOneIdeal.τ).loc Cert.HnOneIdeal.main_arg0) = m ((c.tc : Thread Cert.HnOneIdeal.nD Cert.HnOneIdeal.τ).loc Cert.HnOneIdeal.main_arg0)
      ∧ r.2.mem ((c.tc : Thread Cert.HnOneIdeal.nD Cert.HnOneIdeal.τ).loc Cert.HnOneIdeal.main_arg1) = m ((c.tc : Thread Cert.HnOneIdeal.nD Cert.HnOneIdeal.τ).loc Cert.HnOneIdeal.main_arg1)
      ∧ r.2.mem ((c.tc : Thread Cert.HnOneIdeal.nD Cert.HnOneIdeal.τ).loc Cert.HnOneIdeal.main_arg2) = m ((c.tc : Thread Cert.HnOneIdeal.nD Cert.HnOneIdeal.τ).loc Cert.HnOneIdeal.main_arg2)
      ∧ r.2.mem ((c.tc : Thread Cert.HnOneIdeal.nD Cert.HnOneIdeal.τ).loc Cert.HnOneIdeal.main_arg3) = m ((c.tc : Thread Cert.HnOneIdeal.nD Cert.HnOneIdeal.τ).loc Cert.HnOneIdeal.main_arg3)
      ∧ r.2.mem ((c.tc : Thread Cert.HnOneIdeal.nD Cert.HnOneIdeal.τ).loc Cert.HnOneIdeal.main_arg4) = m ((c.tc : Thread Cert.HnOneIdeal.nD Cert.HnOneIdeal.τ).loc Cert.HnOneIdeal.main_arg4))
      ∧ r.2.sem = fun _ => 0)

def quiescent_HnOneIdeal_pre_hn1_finite [hHnOneIdeal : Cert.HnOneIdeal.Facts] [hPre_hn1_finite : Cert.Pre_hn1_finite.Facts] : Prop :=
  ∀ (m : (ℓ : Loc Cert.HnOneIdeal.nD Cert.HnOneIdeal.τ Cert.HnOneIdeal.sig) → Buf (Elt Ideal) ℓ) (g : Dev Cert.HnOneIdeal.nD → PrngReg), Pre_HnOneIdeal_hn1_finite m →
    θ_run (Cert.HnOneIdeal.defs (F := Ideal)) (onTc (τ := Cert.HnOneIdeal.τ) (Cert.HnOneIdeal.main (F := Ideal))) ⟨m, fun _ => 0, g⟩ (fun r => (∀ c : Dev Cert.HnOneIdeal.nD,
      r.2.mem ((c.tc : Thread Cert.HnOneIdeal.nD Cert.HnOneIdeal.τ).loc Cert.HnOneIdeal.main_arg0) = m ((c.tc : Thread Cert.HnOneIdeal.nD Cert.HnOneIdeal.τ).loc Cert.HnOneIdeal.main_arg0)
      ∧ r.2.mem ((c.tc : Thread Cert.HnOneIdeal.nD Cert.HnOneIdeal.τ).loc Cert.HnOneIdeal.main_arg1) = m ((c.tc : Thread Cert.HnOneIdeal.nD Cert.HnOneIdeal.τ).loc Cert.HnOneIdeal.main_arg1)
      ∧ r.2.mem ((c.tc : Thread Cert.HnOneIdeal.nD Cert.HnOneIdeal.τ).loc Cert.HnOneIdeal.main_arg2) = m ((c.tc : Thread Cert.HnOneIdeal.nD Cert.HnOneIdeal.τ).loc Cert.HnOneIdeal.main_arg2)
      ∧ r.2.mem ((c.tc : Thread Cert.HnOneIdeal.nD Cert.HnOneIdeal.τ).loc Cert.HnOneIdeal.main_arg3) = m ((c.tc : Thread Cert.HnOneIdeal.nD Cert.HnOneIdeal.τ).loc Cert.HnOneIdeal.main_arg3)
      ∧ r.2.mem ((c.tc : Thread Cert.HnOneIdeal.nD Cert.HnOneIdeal.τ).loc Cert.HnOneIdeal.main_arg4) = m ((c.tc : Thread Cert.HnOneIdeal.nD Cert.HnOneIdeal.τ).loc Cert.HnOneIdeal.main_arg4))
      ∧ r.2.sem = fun _ => 0)

def quiescent_HnOneRefIdeal [hHnOneRefIdeal : Cert.HnOneRefIdeal.Facts] : Prop :=
  ∀ (m : (ℓ : Loc Cert.HnOneRefIdeal.nD Cert.HnOneRefIdeal.τ Cert.HnOneRefIdeal.sig) → Buf (Elt Ideal) ℓ) (g : Dev Cert.HnOneRefIdeal.nD → PrngReg), Pre_HnOneRefIdeal m →
    θ_run (Cert.HnOneRefIdeal.defs (F := Ideal)) (onTc (τ := Cert.HnOneRefIdeal.τ) (Cert.HnOneRefIdeal.main (F := Ideal))) ⟨m, fun _ => 0, g⟩ (fun r => (∀ c : Dev Cert.HnOneRefIdeal.nD,
      r.2.mem ((c.tc : Thread Cert.HnOneRefIdeal.nD Cert.HnOneRefIdeal.τ).loc Cert.HnOneRefIdeal.main_arg0) = m ((c.tc : Thread Cert.HnOneRefIdeal.nD Cert.HnOneRefIdeal.τ).loc Cert.HnOneRefIdeal.main_arg0)
      ∧ r.2.mem ((c.tc : Thread Cert.HnOneRefIdeal.nD Cert.HnOneRefIdeal.τ).loc Cert.HnOneRefIdeal.main_arg1) = m ((c.tc : Thread Cert.HnOneRefIdeal.nD Cert.HnOneRefIdeal.τ).loc Cert.HnOneRefIdeal.main_arg1)
      ∧ r.2.mem ((c.tc : Thread Cert.HnOneRefIdeal.nD Cert.HnOneRefIdeal.τ).loc Cert.HnOneRefIdeal.main_arg2) = m ((c.tc : Thread Cert.HnOneRefIdeal.nD Cert.HnOneRefIdeal.τ).loc Cert.HnOneRefIdeal.main_arg2)
      ∧ r.2.mem ((c.tc : Thread Cert.HnOneRefIdeal.nD Cert.HnOneRefIdeal.τ).loc Cert.HnOneRefIdeal.main_arg3) = m ((c.tc : Thread Cert.HnOneRefIdeal.nD Cert.HnOneRefIdeal.τ).loc Cert.HnOneRefIdeal.main_arg3)
      ∧ r.2.mem ((c.tc : Thread Cert.HnOneRefIdeal.nD Cert.HnOneRefIdeal.τ).loc Cert.HnOneRefIdeal.main_arg4) = m ((c.tc : Thread Cert.HnOneRefIdeal.nD Cert.HnOneRefIdeal.τ).loc Cert.HnOneRefIdeal.main_arg4))
      ∧ r.2.sem = fun _ => 0)

def quiescent_HnOneRefIdeal_pre_hn1_finite [hHnOneRefIdeal : Cert.HnOneRefIdeal.Facts] [hPre_hn1_finite : Cert.Pre_hn1_finite.Facts] : Prop :=
  ∀ (m : (ℓ : Loc Cert.HnOneRefIdeal.nD Cert.HnOneRefIdeal.τ Cert.HnOneRefIdeal.sig) → Buf (Elt Ideal) ℓ) (g : Dev Cert.HnOneRefIdeal.nD → PrngReg), Pre_HnOneRefIdeal_hn1_finite m →
    θ_run (Cert.HnOneRefIdeal.defs (F := Ideal)) (onTc (τ := Cert.HnOneRefIdeal.τ) (Cert.HnOneRefIdeal.main (F := Ideal))) ⟨m, fun _ => 0, g⟩ (fun r => (∀ c : Dev Cert.HnOneRefIdeal.nD,
      r.2.mem ((c.tc : Thread Cert.HnOneRefIdeal.nD Cert.HnOneRefIdeal.τ).loc Cert.HnOneRefIdeal.main_arg0) = m ((c.tc : Thread Cert.HnOneRefIdeal.nD Cert.HnOneRefIdeal.τ).loc Cert.HnOneRefIdeal.main_arg0)
      ∧ r.2.mem ((c.tc : Thread Cert.HnOneRefIdeal.nD Cert.HnOneRefIdeal.τ).loc Cert.HnOneRefIdeal.main_arg1) = m ((c.tc : Thread Cert.HnOneRefIdeal.nD Cert.HnOneRefIdeal.τ).loc Cert.HnOneRefIdeal.main_arg1)
      ∧ r.2.mem ((c.tc : Thread Cert.HnOneRefIdeal.nD Cert.HnOneRefIdeal.τ).loc Cert.HnOneRefIdeal.main_arg2) = m ((c.tc : Thread Cert.HnOneRefIdeal.nD Cert.HnOneRefIdeal.τ).loc Cert.HnOneRefIdeal.main_arg2)
      ∧ r.2.mem ((c.tc : Thread Cert.HnOneRefIdeal.nD Cert.HnOneRefIdeal.τ).loc Cert.HnOneRefIdeal.main_arg3) = m ((c.tc : Thread Cert.HnOneRefIdeal.nD Cert.HnOneRefIdeal.τ).loc Cert.HnOneRefIdeal.main_arg3)
      ∧ r.2.mem ((c.tc : Thread Cert.HnOneRefIdeal.nD Cert.HnOneRefIdeal.τ).loc Cert.HnOneRefIdeal.main_arg4) = m ((c.tc : Thread Cert.HnOneRefIdeal.nD Cert.HnOneRefIdeal.τ).loc Cert.HnOneRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_RgBwd [hRgBwd : Cert.RgBwd.Facts] : Prop :=
  ∀ (m : (ℓ : Loc Cert.RgBwd.nD Cert.RgBwd.τ Cert.RgBwd.sig) → Buf (Elt Bits) ℓ) (g : Dev Cert.RgBwd.nD → PrngReg), Pre_RgBwd m →
    θ_run (Cert.RgBwd.defs (F := Bits)) (onTc (τ := Cert.RgBwd.τ) (Cert.RgBwd.main (F := Bits))) ⟨m, fun _ => 0, g⟩ (fun r => (∀ c : Dev Cert.RgBwd.nD,
      r.2.mem ((c.tc : Thread Cert.RgBwd.nD Cert.RgBwd.τ).loc Cert.RgBwd.main_arg0) = m ((c.tc : Thread Cert.RgBwd.nD Cert.RgBwd.τ).loc Cert.RgBwd.main_arg0)
      ∧ r.2.mem ((c.tc : Thread Cert.RgBwd.nD Cert.RgBwd.τ).loc Cert.RgBwd.main_arg1) = m ((c.tc : Thread Cert.RgBwd.nD Cert.RgBwd.τ).loc Cert.RgBwd.main_arg1)
      ∧ r.2.mem ((c.tc : Thread Cert.RgBwd.nD Cert.RgBwd.τ).loc Cert.RgBwd.main_arg2) = m ((c.tc : Thread Cert.RgBwd.nD Cert.RgBwd.τ).loc Cert.RgBwd.main_arg2)
      ∧ r.2.mem ((c.tc : Thread Cert.RgBwd.nD Cert.RgBwd.τ).loc Cert.RgBwd.main_arg3) = m ((c.tc : Thread Cert.RgBwd.nD Cert.RgBwd.τ).loc Cert.RgBwd.main_arg3)
      ∧ r.2.mem ((c.tc : Thread Cert.RgBwd.nD Cert.RgBwd.τ).loc Cert.RgBwd.main_arg4) = m ((c.tc : Thread Cert.RgBwd.nD Cert.RgBwd.τ).loc Cert.RgBwd.main_arg4)
      ∧ r.2.mem ((c.tc : Thread Cert.RgBwd.nD Cert.RgBwd.τ).loc Cert.RgBwd.main_arg5) = m ((c.tc : Thread Cert.RgBwd.nD Cert.RgBwd.τ).loc Cert.RgBwd.main_arg5)
      ∧ r.2.mem ((c.tc : Thread Cert.RgBwd.nD Cert.RgBwd.τ).loc Cert.RgBwd.main_arg6) = m ((c.tc : Thread Cert.RgBwd.nD Cert.RgBwd.τ).loc Cert.RgBwd.main_arg6)
      ∧ r.2.mem ((c.tc : Thread Cert.RgBwd.nD Cert.RgBwd.τ).loc Cert.RgBwd.main_arg7) = m ((c.tc : Thread Cert.RgBwd.nD Cert.RgBwd.τ).loc Cert.RgBwd.main_arg7)
      ∧ r.2.mem ((c.tc : Thread Cert.RgBwd.nD Cert.RgBwd.τ).loc Cert.RgBwd.main_arg8) = m ((c.tc : Thread Cert.RgBwd.nD Cert.RgBwd.τ).loc Cert.RgBwd.main_arg8))
      ∧ r.2.sem = fun _ => 0)

def quiescent_RgBwdIdeal [hRgBwdIdeal : Cert.RgBwdIdeal.Facts] : Prop :=
  ∀ (m : (ℓ : Loc Cert.RgBwdIdeal.nD Cert.RgBwdIdeal.τ Cert.RgBwdIdeal.sig) → Buf (Elt Ideal) ℓ) (g : Dev Cert.RgBwdIdeal.nD → PrngReg), Pre_RgBwdIdeal m →
    θ_run (Cert.RgBwdIdeal.defs (F := Ideal)) (onTc (τ := Cert.RgBwdIdeal.τ) (Cert.RgBwdIdeal.main (F := Ideal))) ⟨m, fun _ => 0, g⟩ (fun r => (∀ c : Dev Cert.RgBwdIdeal.nD,
      r.2.mem ((c.tc : Thread Cert.RgBwdIdeal.nD Cert.RgBwdIdeal.τ).loc Cert.RgBwdIdeal.main_arg0) = m ((c.tc : Thread Cert.RgBwdIdeal.nD Cert.RgBwdIdeal.τ).loc Cert.RgBwdIdeal.main_arg0)
      ∧ r.2.mem ((c.tc : Thread Cert.RgBwdIdeal.nD Cert.RgBwdIdeal.τ).loc Cert.RgBwdIdeal.main_arg1) = m ((c.tc : Thread Cert.RgBwdIdeal.nD Cert.RgBwdIdeal.τ).loc Cert.RgBwdIdeal.main_arg1)
      ∧ r.2.mem ((c.tc : Thread Cert.RgBwdIdeal.nD Cert.RgBwdIdeal.τ).loc Cert.RgBwdIdeal.main_arg2) = m ((c.tc : Thread Cert.RgBwdIdeal.nD Cert.RgBwdIdeal.τ).loc Cert.RgBwdIdeal.main_arg2)
      ∧ r.2.mem ((c.tc : Thread Cert.RgBwdIdeal.nD Cert.RgBwdIdeal.τ).loc Cert.RgBwdIdeal.main_arg3) = m ((c.tc : Thread Cert.RgBwdIdeal.nD Cert.RgBwdIdeal.τ).loc Cert.RgBwdIdeal.main_arg3)
      ∧ r.2.mem ((c.tc : Thread Cert.RgBwdIdeal.nD Cert.RgBwdIdeal.τ).loc Cert.RgBwdIdeal.main_arg4) = m ((c.tc : Thread Cert.RgBwdIdeal.nD Cert.RgBwdIdeal.τ).loc Cert.RgBwdIdeal.main_arg4)
      ∧ r.2.mem ((c.tc : Thread Cert.RgBwdIdeal.nD Cert.RgBwdIdeal.τ).loc Cert.RgBwdIdeal.main_arg5) = m ((c.tc : Thread Cert.RgBwdIdeal.nD Cert.RgBwdIdeal.τ).loc Cert.RgBwdIdeal.main_arg5)
      ∧ r.2.mem ((c.tc : Thread Cert.RgBwdIdeal.nD Cert.RgBwdIdeal.τ).loc Cert.RgBwdIdeal.main_arg6) = m ((c.tc : Thread Cert.RgBwdIdeal.nD Cert.RgBwdIdeal.τ).loc Cert.RgBwdIdeal.main_arg6)
      ∧ r.2.mem ((c.tc : Thread Cert.RgBwdIdeal.nD Cert.RgBwdIdeal.τ).loc Cert.RgBwdIdeal.main_arg7) = m ((c.tc : Thread Cert.RgBwdIdeal.nD Cert.RgBwdIdeal.τ).loc Cert.RgBwdIdeal.main_arg7)
      ∧ r.2.mem ((c.tc : Thread Cert.RgBwdIdeal.nD Cert.RgBwdIdeal.τ).loc Cert.RgBwdIdeal.main_arg8) = m ((c.tc : Thread Cert.RgBwdIdeal.nD Cert.RgBwdIdeal.τ).loc Cert.RgBwdIdeal.main_arg8))
      ∧ r.2.sem = fun _ => 0)

def quiescent_HgrnBwd [hHgrnBwd : Cert.HgrnBwd.Facts] : Prop :=
  ∀ (m : (ℓ : Loc Cert.HgrnBwd.nD Cert.HgrnBwd.τ Cert.HgrnBwd.sig) → Buf (Elt Bits) ℓ) (g : Dev Cert.HgrnBwd.nD → PrngReg), Pre_HgrnBwd m →
    θ_run (Cert.HgrnBwd.defs (F := Bits)) (onTc (τ := Cert.HgrnBwd.τ) (Cert.HgrnBwd.main (F := Bits))) ⟨m, fun _ => 0, g⟩ (fun r => (∀ c : Dev Cert.HgrnBwd.nD,
      r.2.mem ((c.tc : Thread Cert.HgrnBwd.nD Cert.HgrnBwd.τ).loc Cert.HgrnBwd.main_arg0) = m ((c.tc : Thread Cert.HgrnBwd.nD Cert.HgrnBwd.τ).loc Cert.HgrnBwd.main_arg0)
      ∧ r.2.mem ((c.tc : Thread Cert.HgrnBwd.nD Cert.HgrnBwd.τ).loc Cert.HgrnBwd.main_arg1) = m ((c.tc : Thread Cert.HgrnBwd.nD Cert.HgrnBwd.τ).loc Cert.HgrnBwd.main_arg1)
      ∧ r.2.mem ((c.tc : Thread Cert.HgrnBwd.nD Cert.HgrnBwd.τ).loc Cert.HgrnBwd.main_arg2) = m ((c.tc : Thread Cert.HgrnBwd.nD Cert.HgrnBwd.τ).loc Cert.HgrnBwd.main_arg2)
      ∧ r.2.mem ((c.tc : Thread Cert.HgrnBwd.nD Cert.HgrnBwd.τ).loc Cert.HgrnBwd.main_arg3) = m ((c.tc : Thread Cert.HgrnBwd.nD Cert.HgrnBwd.τ).loc Cert.HgrnBwd.main_arg3)
      ∧ r.2.mem ((c.tc : Thread Cert.HgrnBwd.nD Cert.HgrnBwd.τ).loc Cert.HgrnBwd.main_arg4) = m ((c.tc : Thread Cert.HgrnBwd.nD Cert.HgrnBwd.τ).loc Cert.HgrnBwd.main_arg4)
      ∧ r.2.mem ((c.tc : Thread Cert.HgrnBwd.nD Cert.HgrnBwd.τ).loc Cert.HgrnBwd.main_arg5) = m ((c.tc : Thread Cert.HgrnBwd.nD Cert.HgrnBwd.τ).loc Cert.HgrnBwd.main_arg5)
      ∧ r.2.mem ((c.tc : Thread Cert.HgrnBwd.nD Cert.HgrnBwd.τ).loc Cert.HgrnBwd.main_arg6) = m ((c.tc : Thread Cert.HgrnBwd.nD Cert.HgrnBwd.τ).loc Cert.HgrnBwd.main_arg6))
      ∧ r.2.sem = fun _ => 0)

def quiescent_HgrnBwdIdeal [hHgrnBwdIdeal : Cert.HgrnBwdIdeal.Facts] : Prop :=
  ∀ (m : (ℓ : Loc Cert.HgrnBwdIdeal.nD Cert.HgrnBwdIdeal.τ Cert.HgrnBwdIdeal.sig) → Buf (Elt Ideal) ℓ) (g : Dev Cert.HgrnBwdIdeal.nD → PrngReg), Pre_HgrnBwdIdeal m →
    θ_run (Cert.HgrnBwdIdeal.defs (F := Ideal)) (onTc (τ := Cert.HgrnBwdIdeal.τ) (Cert.HgrnBwdIdeal.main (F := Ideal))) ⟨m, fun _ => 0, g⟩ (fun r => (∀ c : Dev Cert.HgrnBwdIdeal.nD,
      r.2.mem ((c.tc : Thread Cert.HgrnBwdIdeal.nD Cert.HgrnBwdIdeal.τ).loc Cert.HgrnBwdIdeal.main_arg0) = m ((c.tc : Thread Cert.HgrnBwdIdeal.nD Cert.HgrnBwdIdeal.τ).loc Cert.HgrnBwdIdeal.main_arg0)
      ∧ r.2.mem ((c.tc : Thread Cert.HgrnBwdIdeal.nD Cert.HgrnBwdIdeal.τ).loc Cert.HgrnBwdIdeal.main_arg1) = m ((c.tc : Thread Cert.HgrnBwdIdeal.nD Cert.HgrnBwdIdeal.τ).loc Cert.HgrnBwdIdeal.main_arg1)
      ∧ r.2.mem ((c.tc : Thread Cert.HgrnBwdIdeal.nD Cert.HgrnBwdIdeal.τ).loc Cert.HgrnBwdIdeal.main_arg2) = m ((c.tc : Thread Cert.HgrnBwdIdeal.nD Cert.HgrnBwdIdeal.τ).loc Cert.HgrnBwdIdeal.main_arg2)
      ∧ r.2.mem ((c.tc : Thread Cert.HgrnBwdIdeal.nD Cert.HgrnBwdIdeal.τ).loc Cert.HgrnBwdIdeal.main_arg3) = m ((c.tc : Thread Cert.HgrnBwdIdeal.nD Cert.HgrnBwdIdeal.τ).loc Cert.HgrnBwdIdeal.main_arg3)
      ∧ r.2.mem ((c.tc : Thread Cert.HgrnBwdIdeal.nD Cert.HgrnBwdIdeal.τ).loc Cert.HgrnBwdIdeal.main_arg4) = m ((c.tc : Thread Cert.HgrnBwdIdeal.nD Cert.HgrnBwdIdeal.τ).loc Cert.HgrnBwdIdeal.main_arg4)
      ∧ r.2.mem ((c.tc : Thread Cert.HgrnBwdIdeal.nD Cert.HgrnBwdIdeal.τ).loc Cert.HgrnBwdIdeal.main_arg5) = m ((c.tc : Thread Cert.HgrnBwdIdeal.nD Cert.HgrnBwdIdeal.τ).loc Cert.HgrnBwdIdeal.main_arg5)
      ∧ r.2.mem ((c.tc : Thread Cert.HgrnBwdIdeal.nD Cert.HgrnBwdIdeal.τ).loc Cert.HgrnBwdIdeal.main_arg6) = m ((c.tc : Thread Cert.HgrnBwdIdeal.nD Cert.HgrnBwdIdeal.τ).loc Cert.HgrnBwdIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_RgF [hRgF : Cert.RgF.Facts] : Prop :=
  ∀ (m : (ℓ : Loc Cert.RgF.nD Cert.RgF.τ Cert.RgF.sig) → Buf (Elt Bits) ℓ) (g : Dev Cert.RgF.nD → PrngReg), Pre_RgF m →
    θ_run (Cert.RgF.defs (F := Bits)) (onTc (τ := Cert.RgF.τ) (Cert.RgF.main (F := Bits))) ⟨m, fun _ => 0, g⟩ (fun r => (∀ c : Dev Cert.RgF.nD,
      r.2.mem ((c.tc : Thread Cert.RgF.nD Cert.RgF.τ).loc Cert.RgF.main_arg0) = m ((c.tc : Thread Cert.RgF.nD Cert.RgF.τ).loc Cert.RgF.main_arg0)
      ∧ r.2.mem ((c.tc : Thread Cert.RgF.nD Cert.RgF.τ).loc Cert.RgF.main_arg1) = m ((c.tc : Thread Cert.RgF.nD Cert.RgF.τ).loc Cert.RgF.main_arg1)
      ∧ r.2.mem ((c.tc : Thread Cert.RgF.nD Cert.RgF.τ).loc Cert.RgF.main_arg2) = m ((c.tc : Thread Cert.RgF.nD Cert.RgF.τ).loc Cert.RgF.main_arg2)
      ∧ r.2.mem ((c.tc : Thread Cert.RgF.nD Cert.RgF.τ).loc Cert.RgF.main_arg3) = m ((c.tc : Thread Cert.RgF.nD Cert.RgF.τ).loc Cert.RgF.main_arg3)
      ∧ r.2.mem ((c.tc : Thread Cert.RgF.nD Cert.RgF.τ).loc Cert.RgF.main_arg4) = m ((c.tc : Thread Cert.RgF.nD Cert.RgF.τ).loc Cert.RgF.main_arg4)
      ∧ r.2.mem ((c.tc : Thread Cert.RgF.nD Cert.RgF.τ).loc Cert.RgF.main_arg5) = m ((c.tc : Thread Cert.RgF.nD Cert.RgF.τ).loc Cert.RgF.main_arg5)
      ∧ r.2.mem ((c.tc : Thread Cert.RgF.nD Cert.RgF.τ).loc Cert.RgF.main_arg6) = m ((c.tc : Thread Cert.RgF.nD Cert.RgF.τ).loc Cert.RgF.main_arg6))
      ∧ r.2.sem = fun _ => 0)

def quiescent_RgFIdeal [hRgFIdeal : Cert.RgFIdeal.Facts] : Prop :=
  ∀ (m : (ℓ : Loc Cert.RgFIdeal.nD Cert.RgFIdeal.τ Cert.RgFIdeal.sig) → Buf (Elt Ideal) ℓ) (g : Dev Cert.RgFIdeal.nD → PrngReg), Pre_RgFIdeal m →
    θ_run (Cert.RgFIdeal.defs (F := Ideal)) (onTc (τ := Cert.RgFIdeal.τ) (Cert.RgFIdeal.main (F := Ideal))) ⟨m, fun _ => 0, g⟩ (fun r => (∀ c : Dev Cert.RgFIdeal.nD,
      r.2.mem ((c.tc : Thread Cert.RgFIdeal.nD Cert.RgFIdeal.τ).loc Cert.RgFIdeal.main_arg0) = m ((c.tc : Thread Cert.RgFIdeal.nD Cert.RgFIdeal.τ).loc Cert.RgFIdeal.main_arg0)
      ∧ r.2.mem ((c.tc : Thread Cert.RgFIdeal.nD Cert.RgFIdeal.τ).loc Cert.RgFIdeal.main_arg1) = m ((c.tc : Thread Cert.RgFIdeal.nD Cert.RgFIdeal.τ).loc Cert.RgFIdeal.main_arg1)
      ∧ r.2.mem ((c.tc : Thread Cert.RgFIdeal.nD Cert.RgFIdeal.τ).loc Cert.RgFIdeal.main_arg2) = m ((c.tc : Thread Cert.RgFIdeal.nD Cert.RgFIdeal.τ).loc Cert.RgFIdeal.main_arg2)
      ∧ r.2.mem ((c.tc : Thread Cert.RgFIdeal.nD Cert.RgFIdeal.τ).loc Cert.RgFIdeal.main_arg3) = m ((c.tc : Thread Cert.RgFIdeal.nD Cert.RgFIdeal.τ).loc Cert.RgFIdeal.main_arg3)
      ∧ r.2.mem ((c.tc : Thread Cert.RgFIdeal.nD Cert.RgFIdeal.τ).loc Cert.RgFIdeal.main_arg4) = m ((c.tc : Thread Cert.RgFIdeal.nD Cert.RgFIdeal.τ).loc Cert.RgFIdeal.main_arg4)
      ∧ r.2.mem ((c.tc : Thread Cert.RgFIdeal.nD Cert.RgFIdeal.τ).loc Cert.RgFIdeal.main_arg5) = m ((c.tc : Thread Cert.RgFIdeal.nD Cert.RgFIdeal.τ).loc Cert.RgFIdeal.main_arg5)
      ∧ r.2.mem ((c.tc : Thread Cert.RgFIdeal.nD Cert.RgFIdeal.τ).loc Cert.RgFIdeal.main_arg6) = m ((c.tc : Thread Cert.RgFIdeal.nD Cert.RgFIdeal.τ).loc Cert.RgFIdeal.main_arg6))
      ∧ r.2.sem = fun _ => 0)

def quiescent_HgrnF [hHgrnF : Cert.HgrnF.Facts] : Prop :=
  ∀ (m : (ℓ : Loc Cert.HgrnF.nD Cert.HgrnF.τ Cert.HgrnF.sig) → Buf (Elt Bits) ℓ) (g : Dev Cert.HgrnF.nD → PrngReg), Pre_HgrnF m →
    θ_run (Cert.HgrnF.defs (F := Bits)) (onTc (τ := Cert.HgrnF.τ) (Cert.HgrnF.main (F := Bits))) ⟨m, fun _ => 0, g⟩ (fun r => (∀ c : Dev Cert.HgrnF.nD,
      r.2.mem ((c.tc : Thread Cert.HgrnF.nD Cert.HgrnF.τ).loc Cert.HgrnF.main_arg0) = m ((c.tc : Thread Cert.HgrnF.nD Cert.HgrnF.τ).loc Cert.HgrnF.main_arg0)
      ∧ r.2.mem ((c.tc : Thread Cert.HgrnF.nD Cert.HgrnF.τ).loc Cert.HgrnF.main_arg1) = m ((c.tc : Thread Cert.HgrnF.nD Cert.HgrnF.τ).loc Cert.HgrnF.main_arg1)
      ∧ r.2.mem ((c.tc : Thread Cert.HgrnF.nD Cert.HgrnF.τ).loc Cert.HgrnF.main_arg2) = m ((c.tc : Thread Cert.HgrnF.nD Cert.HgrnF.τ).loc Cert.HgrnF.main_arg2))
      ∧ r.2.sem = fun _ => 0)

def quiescent_HgrnFIdeal [hHgrnFIdeal : Cert.HgrnFIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
      ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2))
      ∧ r.2.sem = fun _ => 0)

def quiescent_Wfi [hWfi : Cert.Wfi.Facts] : Prop :=
  ∀ (m : (ℓ : Loc Cert.Wfi.nD Cert.Wfi.τ Cert.Wfi.sig) → Buf (Elt Bits) ℓ) (g : Dev Cert.Wfi.nD → PrngReg), Pre_Wfi m →
    θ_run (Cert.Wfi.defs (F := Bits)) (onTc (τ := Cert.Wfi.τ) (Cert.Wfi.main (F := Bits))) ⟨m, fun _ => 0, g⟩ (fun r => (∀ c : Dev Cert.Wfi.nD,
      r.2.mem ((c.tc : Thread Cert.Wfi.nD Cert.Wfi.τ).loc Cert.Wfi.main_arg0) = m ((c.tc : Thread Cert.Wfi.nD Cert.Wfi.τ).loc Cert.Wfi.main_arg0)
      ∧ r.2.mem ((c.tc : Thread Cert.Wfi.nD Cert.Wfi.τ).loc Cert.Wfi.main_arg1) = m ((c.tc : Thread Cert.Wfi.nD Cert.Wfi.τ).loc Cert.Wfi.main_arg1))
      ∧ r.2.sem = fun _ => 0)

def quiescent_WfiIdeal [hWfiIdeal : Cert.WfiIdeal.Facts] : Prop :=
  ∀ (m : (ℓ : Loc Cert.WfiIdeal.nD Cert.WfiIdeal.τ Cert.WfiIdeal.sig) → Buf (Elt Ideal) ℓ) (g : Dev Cert.WfiIdeal.nD → PrngReg), Pre_WfiIdeal m →
    θ_run (Cert.WfiIdeal.defs (F := Ideal)) (onTc (τ := Cert.WfiIdeal.τ) (Cert.WfiIdeal.main (F := Ideal))) ⟨m, fun _ => 0, g⟩ (fun r => (∀ c : Dev Cert.WfiIdeal.nD,
      r.2.mem ((c.tc : Thread Cert.WfiIdeal.nD Cert.WfiIdeal.τ).loc Cert.WfiIdeal.main_arg0) = m ((c.tc : Thread Cert.WfiIdeal.nD Cert.WfiIdeal.τ).loc Cert.WfiIdeal.main_arg0)
      ∧ r.2.mem ((c.tc : Thread Cert.WfiIdeal.nD Cert.WfiIdeal.τ).loc Cert.WfiIdeal.main_arg1) = m ((c.tc : Thread Cert.WfiIdeal.nD Cert.WfiIdeal.τ).loc Cert.WfiIdeal.main_arg1))
      ∧ r.2.sem = fun _ => 0)

def quiescent_WfiRefIdeal [hWfiRefIdeal : Cert.WfiRefIdeal.Facts] : Prop :=
  ∀ (m : (ℓ : Loc Cert.WfiRefIdeal.nD Cert.WfiRefIdeal.τ Cert.WfiRefIdeal.sig) → Buf (Elt Ideal) ℓ) (g : Dev Cert.WfiRefIdeal.nD → PrngReg), Pre_WfiRefIdeal m →
    θ_run (Cert.WfiRefIdeal.defs (F := Ideal)) (onTc (τ := Cert.WfiRefIdeal.τ) (Cert.WfiRefIdeal.main (F := Ideal))) ⟨m, fun _ => 0, g⟩ (fun r => (∀ c : Dev Cert.WfiRefIdeal.nD,
      r.2.mem ((c.tc : Thread Cert.WfiRefIdeal.nD Cert.WfiRefIdeal.τ).loc Cert.WfiRefIdeal.main_arg0) = m ((c.tc : Thread Cert.WfiRefIdeal.nD Cert.WfiRefIdeal.τ).loc Cert.WfiRefIdeal.main_arg0)
      ∧ r.2.mem ((c.tc : Thread Cert.WfiRefIdeal.nD Cert.WfiRefIdeal.τ).loc Cert.WfiRefIdeal.main_arg1) = m ((c.tc : Thread Cert.WfiRefIdeal.nD Cert.WfiRefIdeal.τ).loc Cert.WfiRefIdeal.main_arg1))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4)
      ∧ r.2.mem ((c.tc : Thread Cert.RowsRefIdeal.nD Cert.RowsRefIdeal.τ).loc Cert.RowsRefIdeal.main_arg5) = m ((c.tc : Thread Cert.RowsRefIdeal.nD Cert.RowsRefIdeal.τ).loc Cert.RowsRefIdeal.main_arg5))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0)
      ∧ r.2.mem ((c.tc : Thread Cert.Sum.nD Cert.Sum.τ).loc Cert.Sum.main_arg1) = m ((c.tc : Thread Cert.Sum.nD Cert.Sum.τ).loc Cert.Sum.main_arg1))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0)
      ∧ r.2.mem ((c.tc : Thread Cert.SumIdeal.nD Cert.SumIdeal.τ).loc Cert.SumIdeal.main_arg1) = m ((c.tc : Thread Cert.SumIdeal.nD Cert.SumIdeal.τ).loc Cert.SumIdeal.main_arg1))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v17)) (v1 : (c : Dev Cert.MergeIdeal.nD) → Buf (Elt Ideal) ((c.tc : Thread Cert.MergeIdeal.nD Cert.MergeIdeal.τ).loc Cert.MergeIdeal.main_v19)) (v2 : (c : Dev Cert.MergeIdeal.nD) → Buf (Elt Ideal) ((c.tc : Thread Cert.MergeIdeal.nD Cert.MergeIdeal.τ).loc Cert.MergeIdeal.main_v21)) (v3 : (c : Dev Cert.MergeIdeal.nD) → Buf (Elt Ideal) ((c.tc : Thread Cert.MergeIdeal.nD Cert.MergeIdeal.τ).loc Cert.MergeIdeal.main_v23)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_v19) = v1 c
          ∧ r.2.mem ((c.tc : Thread Cert.MergeIdeal.nD Cert.MergeIdeal.τ).loc Cert.MergeIdeal.main_v21) = v2 c
          ∧ r.2.mem ((c.tc : Thread Cert.MergeIdeal.nD Cert.MergeIdeal.τ).loc Cert.MergeIdeal.main_v23) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_v25) = v1 c
          ∧ r.2.mem ((c.tc : Thread Cert.MergeRefIdeal.nD Cert.MergeRefIdeal.τ).loc Cert.MergeRefIdeal.main_v30) = v2 c
          ∧ r.2.mem ((c.tc : Thread Cert.MergeRefIdeal.nD Cert.MergeRefIdeal.τ).loc Cert.MergeRefIdeal.main_v27) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v17)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v17) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v9) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_HnTwo_HnTwoIdeal : Prop :=
  True

def algebraic_HnTwoIdeal_HnTwoRefIdeal_pre_hn2_finite [hHnTwoIdeal : Cert.HnTwoIdeal.Facts] [hHnTwoRefIdeal : Cert.HnTwoRefIdeal.Facts] [hPre_hn2_finite : Cert.Pre_hn2_finite.Facts] : Prop :=
  ∀ (m : (ℓ : Loc Cert.HnTwoIdeal.nD Cert.HnTwoIdeal.τ Cert.HnTwoIdeal.sig) → Buf (Elt Ideal) ℓ) (g : Dev Cert.HnTwoIdeal.nD → PrngReg)
    (m' : (ℓ : Loc Cert.HnTwoRefIdeal.nD Cert.HnTwoRefIdeal.τ Cert.HnTwoRefIdeal.sig) → Buf (Elt Ideal) ℓ) (g' : Dev Cert.HnTwoRefIdeal.nD → PrngReg), Pre_HnTwoIdeal_hn2_finite m →
    (∀ c : Dev Cert.HnTwoIdeal.nD,
      m' ((c.tc : Thread Cert.HnTwoRefIdeal.nD Cert.HnTwoRefIdeal.τ).loc Cert.HnTwoRefIdeal.main_arg0) = m ((c.tc : Thread Cert.HnTwoIdeal.nD Cert.HnTwoIdeal.τ).loc Cert.HnTwoIdeal.main_arg0)
      ∧ m' ((c.tc : Thread Cert.HnTwoRefIdeal.nD Cert.HnTwoRefIdeal.τ).loc Cert.HnTwoRefIdeal.main_arg1) = m ((c.tc : Thread Cert.HnTwoIdeal.nD Cert.HnTwoIdeal.τ).loc Cert.HnTwoIdeal.main_arg1)
      ∧ m' ((c.tc : Thread Cert.HnTwoRefIdeal.nD Cert.HnTwoRefIdeal.τ).loc Cert.HnTwoRefIdeal.main_arg2) = m ((c.tc : Thread Cert.HnTwoIdeal.nD Cert.HnTwoIdeal.τ).loc Cert.HnTwoIdeal.main_arg2)
      ∧ m' ((c.tc : Thread Cert.HnTwoRefIdeal.nD Cert.HnTwoRefIdeal.τ).loc Cert.HnTwoRefIdeal.main_arg3) = m ((c.tc : Thread Cert.HnTwoIdeal.nD Cert.HnTwoIdeal.τ).loc Cert.HnTwoIdeal.main_arg3)
      ∧ m' ((c.tc : Thread Cert.HnTwoRefIdeal.nD Cert.HnTwoRefIdeal.τ).loc Cert.HnTwoRefIdeal.main_arg4) = m ((c.tc : Thread Cert.HnTwoIdeal.nD Cert.HnTwoIdeal.τ).loc Cert.HnTwoIdeal.main_arg4)) →
    ∃ (v0 : (c : Dev Cert.HnTwoIdeal.nD) → Buf (Elt Ideal) ((c.tc : Thread Cert.HnTwoIdeal.nD Cert.HnTwoIdeal.τ).loc Cert.HnTwoIdeal.main_v17)) (v1 : (c : Dev Cert.HnTwoIdeal.nD) → Buf (Elt Ideal) ((c.tc : Thread Cert.HnTwoIdeal.nD Cert.HnTwoIdeal.τ).loc Cert.HnTwoIdeal.main_v18)),
      θ_run (Cert.HnTwoIdeal.defs (F := Ideal)) (onTc (τ := Cert.HnTwoIdeal.τ) (Cert.HnTwoIdeal.main (F := Ideal))) ⟨m, fun _ => 0, g⟩ (fun r => ∀ c : Dev Cert.HnTwoIdeal.nD,
          r.2.mem ((c.tc : Thread Cert.HnTwoIdeal.nD Cert.HnTwoIdeal.τ).loc Cert.HnTwoIdeal.main_v17) = v0 c
          ∧ r.2.mem ((c.tc : Thread Cert.HnTwoIdeal.nD Cert.HnTwoIdeal.τ).loc Cert.HnTwoIdeal.main_v18) = v1 c
          ∧ r.2.mem ((c.tc : Thread Cert.HnTwoIdeal.nD Cert.HnTwoIdeal.τ).loc Cert.HnTwoIdeal.main_arg0) = m ((c.tc : Thread Cert.HnTwoIdeal.nD Cert.HnTwoIdeal.τ).loc Cert.HnTwoIdeal.main_arg0)
          ∧ r.2.mem ((c.tc : Thread Cert.HnTwoIdeal.nD Cert.HnTwoIdeal.τ).loc Cert.HnTwoIdeal.main_arg1) = m ((c.tc : Thread Cert.HnTwoIdeal.nD Cert.HnTwoIdeal.τ).loc Cert.HnTwoIdeal.main_arg1)
          ∧ r.2.mem ((c.tc : Thread Cert.HnTwoIdeal.nD Cert.HnTwoIdeal.τ).loc Cert.HnTwoIdeal.main_arg2) = m ((c.tc : Thread Cert.HnTwoIdeal.nD Cert.HnTwoIdeal.τ).loc Cert.HnTwoIdeal.main_arg2)
          ∧ r.2.mem ((c.tc : Thread Cert.HnTwoIdeal.nD Cert.HnTwoIdeal.τ).loc Cert.HnTwoIdeal.main_arg3) = m ((c.tc : Thread Cert.HnTwoIdeal.nD Cert.HnTwoIdeal.τ).loc Cert.HnTwoIdeal.main_arg3)
          ∧ r.2.mem ((c.tc : Thread Cert.HnTwoIdeal.nD Cert.HnTwoIdeal.τ).loc Cert.HnTwoIdeal.main_arg4) = m ((c.tc : Thread Cert.HnTwoIdeal.nD Cert.HnTwoIdeal.τ).loc Cert.HnTwoIdeal.main_arg4))
      ∧ θ_run (Cert.HnTwoRefIdeal.defs (F := Ideal)) (onTc (τ := Cert.HnTwoRefIdeal.τ) (Cert.HnTwoRefIdeal.main (F := Ideal))) ⟨m', fun _ => 0, g'⟩ (fun r => ∀ c : Dev Cert.HnTwoRefIdeal.nD,
          r.2.mem ((c.tc : Thread Cert.HnTwoRefIdeal.nD Cert.HnTwoRefIdeal.τ).loc Cert.HnTwoRefIdeal.main_v38) = v0 c
          ∧ r.2.mem ((c.tc : Thread Cert.HnTwoRefIdeal.nD Cert.HnTwoRefIdeal.τ).loc Cert.HnTwoRefIdeal.main_v23) = v1 c
          ∧ r.2.mem ((c.tc : Thread Cert.HnTwoRefIdeal.nD Cert.HnTwoRefIdeal.τ).loc Cert.HnTwoRefIdeal.main_arg0) = m' ((c.tc : Thread Cert.HnTwoRefIdeal.nD Cert.HnTwoRefIdeal.τ).loc Cert.HnTwoRefIdeal.main_arg0)
          ∧ r.2.mem ((c.tc : Thread Cert.HnTwoRefIdeal.nD Cert.HnTwoRefIdeal.τ).loc Cert.HnTwoRefIdeal.main_arg1) = m' ((c.tc : Thread Cert.HnTwoRefIdeal.nD Cert.HnTwoRefIdeal.τ).loc Cert.HnTwoRefIdeal.main_arg1)
          ∧ r.2.mem ((c.tc : Thread Cert.HnTwoRefIdeal.nD Cert.HnTwoRefIdeal.τ).loc Cert.HnTwoRefIdeal.main_arg2) = m' ((c.tc : Thread Cert.HnTwoRefIdeal.nD Cert.HnTwoRefIdeal.τ).loc Cert.HnTwoRefIdeal.main_arg2)
          ∧ r.2.mem ((c.tc : Thread Cert.HnTwoRefIdeal.nD Cert.HnTwoRefIdeal.τ).loc Cert.HnTwoRefIdeal.main_arg3) = m' ((c.tc : Thread Cert.HnTwoRefIdeal.nD Cert.HnTwoRefIdeal.τ).loc Cert.HnTwoRefIdeal.main_arg3)
          ∧ r.2.mem ((c.tc : Thread Cert.HnTwoRefIdeal.nD Cert.HnTwoRefIdeal.τ).loc Cert.HnTwoRefIdeal.main_arg4) = m' ((c.tc : Thread Cert.HnTwoRefIdeal.nD Cert.HnTwoRefIdeal.τ).loc Cert.HnTwoRefIdeal.main_arg4))

def preserves_HnOne_HnOneIdeal : Prop :=
  True

def algebraic_HnOneIdeal_HnOneRefIdeal_pre_hn1_finite [hHnOneIdeal : Cert.HnOneIdeal.Facts] [hHnOneRefIdeal : Cert.HnOneRefIdeal.Facts] [hPre_hn1_finite : Cert.Pre_hn1_finite.Facts] : Prop :=
  ∀ (m : (ℓ : Loc Cert.HnOneIdeal.nD Cert.HnOneIdeal.τ Cert.HnOneIdeal.sig) → Buf (Elt Ideal) ℓ) (g : Dev Cert.HnOneIdeal.nD → PrngReg)
    (m' : (ℓ : Loc Cert.HnOneRefIdeal.nD Cert.HnOneRefIdeal.τ Cert.HnOneRefIdeal.sig) → Buf (Elt Ideal) ℓ) (g' : Dev Cert.HnOneRefIdeal.nD → PrngReg), Pre_HnOneIdeal_hn1_finite m →
    (∀ c : Dev Cert.HnOneIdeal.nD,
      m' ((c.tc : Thread Cert.HnOneRefIdeal.nD Cert.HnOneRefIdeal.τ).loc Cert.HnOneRefIdeal.main_arg0) = m ((c.tc : Thread Cert.HnOneIdeal.nD Cert.HnOneIdeal.τ).loc Cert.HnOneIdeal.main_arg0)
      ∧ m' ((c.tc : Thread Cert.HnOneRefIdeal.nD Cert.HnOneRefIdeal.τ).loc Cert.HnOneRefIdeal.main_arg1) = m ((c.tc : Thread Cert.HnOneIdeal.nD Cert.HnOneIdeal.τ).loc Cert.HnOneIdeal.main_arg1)
      ∧ m' ((c.tc : Thread Cert.HnOneRefIdeal.nD Cert.HnOneRefIdeal.τ).loc Cert.HnOneRefIdeal.main_arg2) = m ((c.tc : Thread Cert.HnOneIdeal.nD Cert.HnOneIdeal.τ).loc Cert.HnOneIdeal.main_arg2)
      ∧ m' ((c.tc : Thread Cert.HnOneRefIdeal.nD Cert.HnOneRefIdeal.τ).loc Cert.HnOneRefIdeal.main_arg3) = m ((c.tc : Thread Cert.HnOneIdeal.nD Cert.HnOneIdeal.τ).loc Cert.HnOneIdeal.main_arg3)
      ∧ m' ((c.tc : Thread Cert.HnOneRefIdeal.nD Cert.HnOneRefIdeal.τ).loc Cert.HnOneRefIdeal.main_arg4) = m ((c.tc : Thread Cert.HnOneIdeal.nD Cert.HnOneIdeal.τ).loc Cert.HnOneIdeal.main_arg4)) →
    ∃ (v0 : (c : Dev Cert.HnOneIdeal.nD) → Buf (Elt Ideal) ((c.tc : Thread Cert.HnOneIdeal.nD Cert.HnOneIdeal.τ).loc Cert.HnOneIdeal.main_v15)) (v1 : (c : Dev Cert.HnOneIdeal.nD) → Buf (Elt Ideal) ((c.tc : Thread Cert.HnOneIdeal.nD Cert.HnOneIdeal.τ).loc Cert.HnOneIdeal.main_v16)),
      θ_run (Cert.HnOneIdeal.defs (F := Ideal)) (onTc (τ := Cert.HnOneIdeal.τ) (Cert.HnOneIdeal.main (F := Ideal))) ⟨m, fun _ => 0, g⟩ (fun r => ∀ c : Dev Cert.HnOneIdeal.nD,
          r.2.mem ((c.tc : Thread Cert.HnOneIdeal.nD Cert.HnOneIdeal.τ).loc Cert.HnOneIdeal.main_v15) = v0 c
          ∧ r.2.mem ((c.tc : Thread Cert.HnOneIdeal.nD Cert.HnOneIdeal.τ).loc Cert.HnOneIdeal.main_v16) = v1 c
          ∧ r.2.mem ((c.tc : Thread Cert.HnOneIdeal.nD Cert.HnOneIdeal.τ).loc Cert.HnOneIdeal.main_arg0) = m ((c.tc : Thread Cert.HnOneIdeal.nD Cert.HnOneIdeal.τ).loc Cert.HnOneIdeal.main_arg0)
          ∧ r.2.mem ((c.tc : Thread Cert.HnOneIdeal.nD Cert.HnOneIdeal.τ).loc Cert.HnOneIdeal.main_arg1) = m ((c.tc : Thread Cert.HnOneIdeal.nD Cert.HnOneIdeal.τ).loc Cert.HnOneIdeal.main_arg1)
          ∧ r.2.mem ((c.tc : Thread Cert.HnOneIdeal.nD Cert.HnOneIdeal.τ).loc Cert.HnOneIdeal.main_arg2) = m ((c.tc : Thread Cert.HnOneIdeal.nD Cert.HnOneIdeal.τ).loc Cert.HnOneIdeal.main_arg2)
          ∧ r.2.mem ((c.tc : Thread Cert.HnOneIdeal.nD Cert.HnOneIdeal.τ).loc Cert.HnOneIdeal.main_arg3) = m ((c.tc : Thread Cert.HnOneIdeal.nD Cert.HnOneIdeal.τ).loc Cert.HnOneIdeal.main_arg3)
          ∧ r.2.mem ((c.tc : Thread Cert.HnOneIdeal.nD Cert.HnOneIdeal.τ).loc Cert.HnOneIdeal.main_arg4) = m ((c.tc : Thread Cert.HnOneIdeal.nD Cert.HnOneIdeal.τ).loc Cert.HnOneIdeal.main_arg4))
      ∧ θ_run (Cert.HnOneRefIdeal.defs (F := Ideal)) (onTc (τ := Cert.HnOneRefIdeal.τ) (Cert.HnOneRefIdeal.main (F := Ideal))) ⟨m', fun _ => 0, g'⟩ (fun r => ∀ c : Dev Cert.HnOneRefIdeal.nD,
          r.2.mem ((c.tc : Thread Cert.HnOneRefIdeal.nD Cert.HnOneRefIdeal.τ).loc Cert.HnOneRefIdeal.main_v38) = v0 c
          ∧ r.2.mem ((c.tc : Thread Cert.HnOneRefIdeal.nD Cert.HnOneRefIdeal.τ).loc Cert.HnOneRefIdeal.main_v23) = v1 c
          ∧ r.2.mem ((c.tc : Thread Cert.HnOneRefIdeal.nD Cert.HnOneRefIdeal.τ).loc Cert.HnOneRefIdeal.main_arg0) = m' ((c.tc : Thread Cert.HnOneRefIdeal.nD Cert.HnOneRefIdeal.τ).loc Cert.HnOneRefIdeal.main_arg0)
          ∧ r.2.mem ((c.tc : Thread Cert.HnOneRefIdeal.nD Cert.HnOneRefIdeal.τ).loc Cert.HnOneRefIdeal.main_arg1) = m' ((c.tc : Thread Cert.HnOneRefIdeal.nD Cert.HnOneRefIdeal.τ).loc Cert.HnOneRefIdeal.main_arg1)
          ∧ r.2.mem ((c.tc : Thread Cert.HnOneRefIdeal.nD Cert.HnOneRefIdeal.τ).loc Cert.HnOneRefIdeal.main_arg2) = m' ((c.tc : Thread Cert.HnOneRefIdeal.nD Cert.HnOneRefIdeal.τ).loc Cert.HnOneRefIdeal.main_arg2)
          ∧ r.2.mem ((c.tc : Thread Cert.HnOneRefIdeal.nD Cert.HnOneRefIdeal.τ).loc Cert.HnOneRefIdeal.main_arg3) = m' ((c.tc : Thread Cert.HnOneRefIdeal.nD Cert.HnOneRefIdeal.τ).loc Cert.HnOneRefIdeal.main_arg3)
          ∧ r.2.mem ((c.tc : Thread Cert.HnOneRefIdeal.nD Cert.HnOneRefIdeal.τ).loc Cert.HnOneRefIdeal.main_arg4) = m' ((c.tc : Thread Cert.HnOneRefIdeal.nD Cert.HnOneRefIdeal.τ).loc Cert.HnOneRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v7)) (v1 : (c : Dev Cert.LossIdeal.nD) → Buf (Elt Ideal) ((c.tc : Thread Cert.LossIdeal.nD Cert.LossIdeal.τ).loc Cert.LossIdeal.main_v8)) (v2 : (c : Dev Cert.LossIdeal.nD) → Buf (Elt Ideal) ((c.tc : Thread Cert.LossIdeal.nD Cert.LossIdeal.τ).loc Cert.LossIdeal.main_v9)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v7) = v0 c
          ∧ r.2.mem ((c.tc : Thread Cert.LossIdeal.nD Cert.LossIdeal.τ).loc Cert.LossIdeal.main_v8) = v1 c
          ∧ r.2.mem ((c.tc : Thread Cert.LossIdeal.nD Cert.LossIdeal.τ).loc Cert.LossIdeal.main_v9) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v27) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v40) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v11)) (v1 : (c : Dev Cert.ConvIdeal.nD) → Buf (Elt Ideal) ((c.tc : Thread Cert.ConvIdeal.nD Cert.ConvIdeal.τ).loc Cert.ConvIdeal.main_v9_1)) (v2 : (c : Dev Cert.ConvIdeal.nD) → Buf (Elt Ideal) ((c.tc : Thread Cert.ConvIdeal.nD Cert.ConvIdeal.τ).loc Cert.ConvIdeal.main_v12)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v11) = v0 c
          ∧ r.2.mem ((c.tc : Thread Cert.ConvIdeal.nD Cert.ConvIdeal.τ).loc Cert.ConvIdeal.main_v9_1) = v1 c
          ∧ r.2.mem ((c.tc : Thread Cert.ConvIdeal.nD Cert.ConvIdeal.τ).loc Cert.ConvIdeal.main_v12) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_v79) = v1 c
          ∧ r.2.mem ((c.tc : Thread Cert.ConvRefIdeal.nD Cert.ConvRefIdeal.τ).loc Cert.ConvRefIdeal.main_v37) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_RgBwd_RgBwdIdeal : Prop :=
  True

def preserves_HgrnBwd_HgrnBwdIdeal : Prop :=
  True

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v13)) (v1 : (c : Dev Cert.OutIdeal.nD) → Buf (Elt Ideal) ((c.tc : Thread Cert.OutIdeal.nD Cert.OutIdeal.τ).loc Cert.OutIdeal.main_v15)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v13) = v0 c
          ∧ r.2.mem ((c.tc : Thread Cert.OutIdeal.nD Cert.OutIdeal.τ).loc Cert.OutIdeal.main_v15) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v18) = v0 c
          ∧ r.2.mem ((c.tc : Thread Cert.OutRefIdeal.nD Cert.OutRefIdeal.τ).loc Cert.OutRefIdeal.main_v16) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v9)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v9) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v32) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v15)) (v1 : (c : Dev Cert.FfnIdeal.nD) → Buf (Elt Ideal) ((c.tc : Thread Cert.FfnIdeal.nD Cert.FfnIdeal.τ).loc Cert.FfnIdeal.main_v17)) (v2 : (c : Dev Cert.FfnIdeal.nD) → Buf (Elt Ideal) ((c.tc : Thread Cert.FfnIdeal.nD Cert.FfnIdeal.τ).loc Cert.FfnIdeal.main_v19)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15) = v0 c
          ∧ r.2.mem ((c.tc : Thread Cert.FfnIdeal.nD Cert.FfnIdeal.τ).loc Cert.FfnIdeal.main_v17) = v1 c
          ∧ r.2.mem ((c.tc : Thread Cert.FfnIdeal.nD Cert.FfnIdeal.τ).loc Cert.FfnIdeal.main_v19) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v13) = v0 c
          ∧ r.2.mem ((c.tc : Thread Cert.FfnRefIdeal.nD Cert.FfnRefIdeal.τ).loc Cert.FfnRefIdeal.main_v17) = v1 c
          ∧ r.2.mem ((c.tc : Thread Cert.FfnRefIdeal.nD Cert.FfnRefIdeal.τ).loc Cert.FfnRefIdeal.main_v12) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9)) (v1 : (c : Dev Cert.ProjIdeal.nD) → Buf (Elt Ideal) ((c.tc : Thread Cert.ProjIdeal.nD Cert.ProjIdeal.τ).loc Cert.ProjIdeal.main_v11)) (v2 : (c : Dev Cert.ProjIdeal.nD) → Buf (Elt Ideal) ((c.tc : Thread Cert.ProjIdeal.nD Cert.ProjIdeal.τ).loc Cert.ProjIdeal.main_v13)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_v11) = v1 c
          ∧ r.2.mem ((c.tc : Thread Cert.ProjIdeal.nD Cert.ProjIdeal.τ).loc Cert.ProjIdeal.main_v13) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v12) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_RgF_RgFIdeal : Prop :=
  True

def preserves_HgrnF_HgrnFIdeal : Prop :=
  True

def preserves_Wfi_WfiIdeal : Prop :=
  True

def algebraic_WfiIdeal_WfiRefIdeal [hWfiIdeal : Cert.WfiIdeal.Facts] [hWfiRefIdeal : Cert.WfiRefIdeal.Facts] : Prop :=
  ∀ (m : (ℓ : Loc Cert.WfiIdeal.nD Cert.WfiIdeal.τ Cert.WfiIdeal.sig) → Buf (Elt Ideal) ℓ) (g : Dev Cert.WfiIdeal.nD → PrngReg)
    (m' : (ℓ : Loc Cert.WfiRefIdeal.nD Cert.WfiRefIdeal.τ Cert.WfiRefIdeal.sig) → Buf (Elt Ideal) ℓ) (g' : Dev Cert.WfiRefIdeal.nD → PrngReg), Pre_WfiIdeal m →
    (∀ c : Dev Cert.WfiIdeal.nD,
      m' ((c.tc : Thread Cert.WfiRefIdeal.nD Cert.WfiRefIdeal.τ).loc Cert.WfiRefIdeal.main_arg0) = m ((c.tc : Thread Cert.WfiIdeal.nD Cert.WfiIdeal.τ).loc Cert.WfiIdeal.main_arg0)
      ∧ m' ((c.tc : Thread Cert.WfiRefIdeal.nD Cert.WfiRefIdeal.τ).loc Cert.WfiRefIdeal.main_arg1) = m ((c.tc : Thread Cert.WfiIdeal.nD Cert.WfiIdeal.τ).loc Cert.WfiIdeal.main_arg1)) →
    ∃ (v0 : (c : Dev Cert.WfiIdeal.nD) → Buf (Elt Ideal) ((c.tc : Thread Cert.WfiIdeal.nD Cert.WfiIdeal.τ).loc Cert.WfiIdeal.main_v15)),
      θ_run (Cert.WfiIdeal.defs (F := Ideal)) (onTc (τ := Cert.WfiIdeal.τ) (Cert.WfiIdeal.main (F := Ideal))) ⟨m, fun _ => 0, g⟩ (fun r => ∀ c : Dev Cert.WfiIdeal.nD,
          r.2.mem ((c.tc : Thread Cert.WfiIdeal.nD Cert.WfiIdeal.τ).loc Cert.WfiIdeal.main_v15) = v0 c
          ∧ r.2.mem ((c.tc : Thread Cert.WfiIdeal.nD Cert.WfiIdeal.τ).loc Cert.WfiIdeal.main_arg0) = m ((c.tc : Thread Cert.WfiIdeal.nD Cert.WfiIdeal.τ).loc Cert.WfiIdeal.main_arg0)
          ∧ r.2.mem ((c.tc : Thread Cert.WfiIdeal.nD Cert.WfiIdeal.τ).loc Cert.WfiIdeal.main_arg1) = m ((c.tc : Thread Cert.WfiIdeal.nD Cert.WfiIdeal.τ).loc Cert.WfiIdeal.main_arg1))
      ∧ θ_run (Cert.WfiRefIdeal.defs (F := Ideal)) (onTc (τ := Cert.WfiRefIdeal.τ) (Cert.WfiRefIdeal.main (F := Ideal))) ⟨m', fun _ => 0, g'⟩ (fun r => ∀ c : Dev Cert.WfiRefIdeal.nD,
          r.2.mem ((c.tc : Thread Cert.WfiRefIdeal.nD Cert.WfiRefIdeal.τ).loc Cert.WfiRefIdeal.main_v1) = v0 c
          ∧ r.2.mem ((c.tc : Thread Cert.WfiRefIdeal.nD Cert.WfiRefIdeal.τ).loc Cert.WfiRefIdeal.main_arg0) = m' ((c.tc : Thread Cert.WfiRefIdeal.nD Cert.WfiRefIdeal.τ).loc Cert.WfiRefIdeal.main_arg0)
          ∧ r.2.mem ((c.tc : Thread Cert.WfiRefIdeal.nD Cert.WfiRefIdeal.τ).loc Cert.WfiRefIdeal.main_arg1) = m' ((c.tc : Thread Cert.WfiRefIdeal.nD Cert.WfiRefIdeal.τ).loc Cert.WfiRefIdeal.main_arg1))

def preserves_Opt_OptIdeal : Prop :=
  True

def algebraic_OptIdeal_OptRefIdeal [hOptIdeal : Cert.OptIdeal.Facts] [hOptRefIdeal : Cert.OptRefIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptIdeal m →
    (∀ c : Dev Cert.OptIdeal.nD,
      m' ((c.tc : Thread Cert.OptRefIdeal.nD Cert.OptRefIdeal.τ).loc Cert.OptRefIdeal.main_arg0) = m ((c.tc : Thread Cert.OptIdeal.nD Cert.OptIdeal.τ).loc Cert.OptIdeal.main_arg0)
      ∧ m' ((c.tc : Thread Cert.OptRefIdeal.nD Cert.OptRefIdeal.τ).loc Cert.OptRefIdeal.main_arg1) = m ((c.tc : Thread Cert.OptIdeal.nD Cert.OptIdeal.τ).loc Cert.OptIdeal.main_arg1)
      ∧ m' ((c.tc : Thread Cert.OptRefIdeal.nD Cert.OptRefIdeal.τ).loc Cert.OptRefIdeal.main_arg2) = m ((c.tc : Thread Cert.OptIdeal.nD Cert.OptIdeal.τ).loc Cert.OptIdeal.main_arg2)
      ∧ m' ((c.tc : Thread Cert.OptRefIdeal.nD Cert.OptRefIdeal.τ).loc Cert.OptRefIdeal.main_arg3) = m ((c.tc : Thread Cert.OptIdeal.nD Cert.OptIdeal.τ).loc Cert.OptIdeal.main_arg3)) →
    ∃ (v0 : (c : Dev Cert.OptIdeal.nD) → Buf (Elt Ideal) ((c.tc : Thread Cert.OptIdeal.nD Cert.OptIdeal.τ).loc Cert.OptIdeal.main_v0_0)) (v1 : (c : Dev Cert.OptIdeal.nD) → Buf (Elt Ideal) ((c.tc : Thread Cert.OptIdeal.nD Cert.OptIdeal.τ).loc Cert.OptIdeal.main_v0_1)) (v2 : (c : Dev Cert.OptIdeal.nD) → Buf (Elt Ideal) ((c.tc : Thread Cert.OptIdeal.nD Cert.OptIdeal.τ).loc Cert.OptIdeal.main_v0_2)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v0_0) = v0 c
          ∧ r.2.mem ((c.tc : Thread Cert.OptIdeal.nD Cert.OptIdeal.τ).loc Cert.OptIdeal.main_v0_1) = v1 c
          ∧ r.2.mem ((c.tc : Thread Cert.OptIdeal.nD Cert.OptIdeal.τ).loc Cert.OptIdeal.main_v0_2) = v2 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v23) = v0 c
          ∧ r.2.mem ((c.tc : Thread Cert.OptRefIdeal.nD Cert.OptRefIdeal.τ).loc Cert.OptRefIdeal.main_v4) = v1 c
          ∧ r.2.mem ((c.tc : Thread Cert.OptRefIdeal.nD Cert.OptRefIdeal.τ).loc Cert.OptRefIdeal.main_v10) = v2 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)
      ∧ m' ((c.tc : Thread Cert.RowsRefIdeal.nD Cert.RowsRefIdeal.τ).loc Cert.RowsRefIdeal.main_arg3) = m ((c.tc : Thread Cert.RowsIdeal.nD Cert.RowsIdeal.τ).loc Cert.RowsIdeal.main_arg3)
      ∧ m' ((c.tc : Thread Cert.RowsRefIdeal.nD Cert.RowsRefIdeal.τ).loc Cert.RowsRefIdeal.main_arg4) = m ((c.tc : Thread Cert.RowsIdeal.nD Cert.RowsIdeal.τ).loc Cert.RowsIdeal.main_arg4)
      ∧ m' ((c.tc : Thread Cert.RowsRefIdeal.nD Cert.RowsRefIdeal.τ).loc Cert.RowsRefIdeal.main_arg5) = m ((c.tc : Thread Cert.RowsIdeal.nD Cert.RowsIdeal.τ).loc Cert.RowsIdeal.main_arg5)) →
    ∃ (v0 : (c : Dev Cert.RowsIdeal.nD) → Buf (Elt Ideal) ((c.tc : Thread Cert.RowsIdeal.nD Cert.RowsIdeal.τ).loc Cert.RowsIdeal.main_v4_0)) (v1 : (c : Dev Cert.RowsIdeal.nD) → Buf (Elt Ideal) ((c.tc : Thread Cert.RowsIdeal.nD Cert.RowsIdeal.τ).loc Cert.RowsIdeal.main_v4_1)) (v2 : (c : Dev Cert.RowsIdeal.nD) → Buf (Elt Ideal) ((c.tc : Thread Cert.RowsIdeal.nD Cert.RowsIdeal.τ).loc Cert.RowsIdeal.main_v4_2)) (v3 : (c : Dev Cert.RowsIdeal.nD) → Buf (Elt Ideal) ((c.tc : Thread Cert.RowsIdeal.nD Cert.RowsIdeal.τ).loc Cert.RowsIdeal.main_v4_3)) (v4 : (c : Dev Cert.RowsIdeal.nD) → Buf (Elt Ideal) ((c.tc : Thread Cert.RowsIdeal.nD Cert.RowsIdeal.τ).loc Cert.RowsIdeal.main_v4_4)) (v5 : (c : Dev Cert.RowsIdeal.nD) → Buf (Elt Ideal) ((c.tc : Thread Cert.RowsIdeal.nD Cert.RowsIdeal.τ).loc Cert.RowsIdeal.main_v4_5)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v4_0) = v0 c
          ∧ r.2.mem ((c.tc : Thread Cert.RowsIdeal.nD Cert.RowsIdeal.τ).loc Cert.RowsIdeal.main_v4_1) = v1 c
          ∧ r.2.mem ((c.tc : Thread Cert.RowsIdeal.nD Cert.RowsIdeal.τ).loc Cert.RowsIdeal.main_v4_2) = v2 c
          ∧ r.2.mem ((c.tc : Thread Cert.RowsIdeal.nD Cert.RowsIdeal.τ).loc Cert.RowsIdeal.main_v4_3) = v3 c
          ∧ r.2.mem ((c.tc : Thread Cert.RowsIdeal.nD Cert.RowsIdeal.τ).loc Cert.RowsIdeal.main_v4_4) = v4 c
          ∧ r.2.mem ((c.tc : Thread Cert.RowsIdeal.nD Cert.RowsIdeal.τ).loc Cert.RowsIdeal.main_v4_5) = v5 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
          ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v0) = v0 c
          ∧ r.2.mem ((c.tc : Thread Cert.RowsRefIdeal.nD Cert.RowsRefIdeal.τ).loc Cert.RowsRefIdeal.main_v24) = v1 c
          ∧ r.2.mem ((c.tc : Thread Cert.RowsRefIdeal.nD Cert.RowsRefIdeal.τ).loc Cert.RowsRefIdeal.main_v5) = v2 c
          ∧ r.2.mem ((c.tc : Thread Cert.RowsRefIdeal.nD Cert.RowsRefIdeal.τ).loc Cert.RowsRefIdeal.main_v11) = v3 c
          ∧ r.2.mem ((c.tc : Thread Cert.RowsRefIdeal.nD Cert.RowsRefIdeal.τ).loc Cert.RowsRefIdeal.main_v25) = v4 c
          ∧ r.2.mem ((c.tc : Thread Cert.RowsRefIdeal.nD Cert.RowsRefIdeal.τ).loc Cert.RowsRefIdeal.main_v27) = v5 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2)
          ∧ r.2.mem ((c.tc : Thread Cert.RowsRefIdeal.nD Cert.RowsRefIdeal.τ).loc Cert.RowsRefIdeal.main_arg3) = m' ((c.tc : Thread Cert.RowsRefIdeal.nD Cert.RowsRefIdeal.τ).loc Cert.RowsRefIdeal.main_arg3)
          ∧ r.2.mem ((c.tc : Thread Cert.RowsRefIdeal.nD Cert.RowsRefIdeal.τ).loc Cert.RowsRefIdeal.main_arg4) = m' ((c.tc : Thread Cert.RowsRefIdeal.nD Cert.RowsRefIdeal.τ).loc Cert.RowsRefIdeal.main_arg4)
          ∧ r.2.mem ((c.tc : Thread Cert.RowsRefIdeal.nD Cert.RowsRefIdeal.τ).loc Cert.RowsRefIdeal.main_arg5) = m' ((c.tc : Thread Cert.RowsRefIdeal.nD Cert.RowsRefIdeal.τ).loc Cert.RowsRefIdeal.main_arg5))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)
      ∧ m' ((c.tc : Thread Cert.SumRefIdeal.nD Cert.SumRefIdeal.τ).loc Cert.SumRefIdeal.main_arg1) = m ((c.tc : Thread Cert.SumIdeal.nD Cert.SumIdeal.τ).loc Cert.SumIdeal.main_arg1)) →
    ∃ (v0 : (c : Dev Cert.SumIdeal.nD) → Buf (Elt Ideal) ((c.tc : Thread Cert.SumIdeal.nD Cert.SumIdeal.τ).loc Cert.SumIdeal.main_v4)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v4) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0)
          ∧ r.2.mem ((c.tc : Thread Cert.SumIdeal.nD Cert.SumIdeal.τ).loc Cert.SumIdeal.main_arg1) = m ((c.tc : Thread Cert.SumIdeal.nD Cert.SumIdeal.τ).loc Cert.SumIdeal.main_arg1))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v2) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0)
          ∧ r.2.mem ((c.tc : Thread Cert.SumRefIdeal.nD Cert.SumRefIdeal.τ).loc Cert.SumRefIdeal.main_arg1) = m' ((c.tc : Thread Cert.SumRefIdeal.nD Cert.SumRefIdeal.τ).loc Cert.SumRefIdeal.main_arg1))

def Claim : Prop :=
  ∃ (hMerge : Cert.Merge.Facts) (hMergeIdeal : Cert.MergeIdeal.Facts) (hMergeRefIdeal : Cert.MergeRefIdeal.Facts) (hAct : Cert.Act.Facts) (hActIdeal : Cert.ActIdeal.Facts) (hActRefIdeal : Cert.ActRefIdeal.Facts) (hHnTwo : Cert.HnTwo.Facts) (hHnTwoIdeal : Cert.HnTwoIdeal.Facts) (hHnTwoRefIdeal : Cert.HnTwoRefIdeal.Facts) (hHnOne : Cert.HnOne.Facts) (hHnOneIdeal : Cert.HnOneIdeal.Facts) (hHnOneRefIdeal : Cert.HnOneRefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hRgBwd : Cert.RgBwd.Facts) (hRgBwdIdeal : Cert.RgBwdIdeal.Facts) (hHgrnBwd : Cert.HgrnBwd.Facts) (hHgrnBwdIdeal : Cert.HgrnBwdIdeal.Facts) (hOut : Cert.Out.Facts) (hOutIdeal : Cert.OutIdeal.Facts) (hOutRefIdeal : Cert.OutRefIdeal.Facts) (hConvF : Cert.ConvF.Facts) (hConvFIdeal : Cert.ConvFIdeal.Facts) (hConvFRefIdeal : Cert.ConvFRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hRgF : Cert.RgF.Facts) (hRgFIdeal : Cert.RgFIdeal.Facts) (hHgrnF : Cert.HgrnF.Facts) (hHgrnFIdeal : Cert.HgrnFIdeal.Facts) (hWfi : Cert.Wfi.Facts) (hWfiIdeal : Cert.WfiIdeal.Facts) (hWfiRefIdeal : Cert.WfiRefIdeal.Facts) (hOpt : Cert.Opt.Facts) (hOptIdeal : Cert.OptIdeal.Facts) (hOptRefIdeal : Cert.OptRefIdeal.Facts) (hRows : Cert.Rows.Facts) (hRowsIdeal : Cert.RowsIdeal.Facts) (hRowsRefIdeal : Cert.RowsRefIdeal.Facts) (hSum : Cert.Sum.Facts) (hSumIdeal : Cert.SumIdeal.Facts) (hSumRefIdeal : Cert.SumRefIdeal.Facts) (hPre_act_finite : Cert.Pre_act_finite.Facts) (hPre_hn2_finite : Cert.Pre_hn2_finite.Facts) (hPre_hn1_finite : Cert.Pre_hn1_finite.Facts) (hPre_loss_finite : Cert.Pre_loss_finite.Facts),
    quiescent_Merge (hMerge := hMerge)
    ∧ quiescent_MergeIdeal (hMergeIdeal := hMergeIdeal)
    ∧ quiescent_MergeRefIdeal (hMergeRefIdeal := hMergeRefIdeal)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_HnTwo (hHnTwo := hHnTwo)
    ∧ quiescent_HnTwoIdeal (hHnTwoIdeal := hHnTwoIdeal)
    ∧ quiescent_HnTwoIdeal_pre_hn2_finite (hHnTwoIdeal := hHnTwoIdeal) (hPre_hn2_finite := hPre_hn2_finite)
    ∧ quiescent_HnTwoRefIdeal (hHnTwoRefIdeal := hHnTwoRefIdeal)
    ∧ quiescent_HnTwoRefIdeal_pre_hn2_finite (hHnTwoRefIdeal := hHnTwoRefIdeal) (hPre_hn2_finite := hPre_hn2_finite)
    ∧ quiescent_HnOne (hHnOne := hHnOne)
    ∧ quiescent_HnOneIdeal (hHnOneIdeal := hHnOneIdeal)
    ∧ quiescent_HnOneIdeal_pre_hn1_finite (hHnOneIdeal := hHnOneIdeal) (hPre_hn1_finite := hPre_hn1_finite)
    ∧ quiescent_HnOneRefIdeal (hHnOneRefIdeal := hHnOneRefIdeal)
    ∧ quiescent_HnOneRefIdeal_pre_hn1_finite (hHnOneRefIdeal := hHnOneRefIdeal) (hPre_hn1_finite := hPre_hn1_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Conv (hConv := hConv)
    ∧ quiescent_ConvIdeal (hConvIdeal := hConvIdeal)
    ∧ quiescent_ConvRefIdeal (hConvRefIdeal := hConvRefIdeal)
    ∧ quiescent_RgBwd (hRgBwd := hRgBwd)
    ∧ quiescent_RgBwdIdeal (hRgBwdIdeal := hRgBwdIdeal)
    ∧ quiescent_HgrnBwd (hHgrnBwd := hHgrnBwd)
    ∧ quiescent_HgrnBwdIdeal (hHgrnBwdIdeal := hHgrnBwdIdeal)
    ∧ quiescent_Out (hOut := hOut)
    ∧ quiescent_OutIdeal (hOutIdeal := hOutIdeal)
    ∧ quiescent_OutRefIdeal (hOutRefIdeal := hOutRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_RgF (hRgF := hRgF)
    ∧ quiescent_RgFIdeal (hRgFIdeal := hRgFIdeal)
    ∧ quiescent_HgrnF (hHgrnF := hHgrnF)
    ∧ quiescent_HgrnFIdeal (hHgrnFIdeal := hHgrnFIdeal)
    ∧ quiescent_Wfi (hWfi := hWfi)
    ∧ quiescent_WfiIdeal (hWfiIdeal := hWfiIdeal)
    ∧ quiescent_WfiRefIdeal (hWfiRefIdeal := hWfiRefIdeal)
    ∧ quiescent_Opt (hOpt := hOpt)
    ∧ quiescent_OptIdeal (hOptIdeal := hOptIdeal)
    ∧ quiescent_OptRefIdeal (hOptRefIdeal := hOptRefIdeal)
    ∧ quiescent_Rows (hRows := hRows)
    ∧ quiescent_RowsIdeal (hRowsIdeal := hRowsIdeal)
    ∧ quiescent_RowsRefIdeal (hRowsRefIdeal := hRowsRefIdeal)
    ∧ quiescent_Sum (hSum := hSum)
    ∧ quiescent_SumIdeal (hSumIdeal := hSumIdeal)
    ∧ quiescent_SumRefIdeal (hSumRefIdeal := hSumRefIdeal)
    ∧ preserves_Merge_MergeIdeal
    ∧ algebraic_MergeIdeal_MergeRefIdeal (hMergeIdeal := hMergeIdeal) (hMergeRefIdeal := hMergeRefIdeal)
    ∧ preserves_Act_ActIdeal
    ∧ algebraic_ActIdeal_ActRefIdeal_pre_act_finite (hActIdeal := hActIdeal) (hActRefIdeal := hActRefIdeal) (hPre_act_finite := hPre_act_finite)
    ∧ preserves_HnTwo_HnTwoIdeal
    ∧ algebraic_HnTwoIdeal_HnTwoRefIdeal_pre_hn2_finite (hHnTwoIdeal := hHnTwoIdeal) (hHnTwoRefIdeal := hHnTwoRefIdeal) (hPre_hn2_finite := hPre_hn2_finite)
    ∧ preserves_HnOne_HnOneIdeal
    ∧ algebraic_HnOneIdeal_HnOneRefIdeal_pre_hn1_finite (hHnOneIdeal := hHnOneIdeal) (hHnOneRefIdeal := hHnOneRefIdeal) (hPre_hn1_finite := hPre_hn1_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Conv_ConvIdeal
    ∧ algebraic_ConvIdeal_ConvRefIdeal (hConvIdeal := hConvIdeal) (hConvRefIdeal := hConvRefIdeal)
    ∧ preserves_RgBwd_RgBwdIdeal
    ∧ preserves_HgrnBwd_HgrnBwdIdeal
    ∧ preserves_Out_OutIdeal
    ∧ algebraic_OutIdeal_OutRefIdeal (hOutIdeal := hOutIdeal) (hOutRefIdeal := hOutRefIdeal)
    ∧ preserves_ConvF_ConvFIdeal
    ∧ algebraic_ConvFIdeal_ConvFRefIdeal (hConvFIdeal := hConvFIdeal) (hConvFRefIdeal := hConvFRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_RgF_RgFIdeal
    ∧ preserves_HgrnF_HgrnFIdeal
    ∧ preserves_Wfi_WfiIdeal
    ∧ algebraic_WfiIdeal_WfiRefIdeal (hWfiIdeal := hWfiIdeal) (hWfiRefIdeal := hWfiRefIdeal)
    ∧ preserves_Opt_OptIdeal
    ∧ algebraic_OptIdeal_OptRefIdeal (hOptIdeal := hOptIdeal) (hOptRefIdeal := hOptRefIdeal)
    ∧ preserves_Rows_RowsIdeal
    ∧ algebraic_RowsIdeal_RowsRefIdeal (hRowsIdeal := hRowsIdeal) (hRowsRefIdeal := hRowsRefIdeal)
    ∧ preserves_Sum_SumIdeal
    ∧ algebraic_SumIdeal_SumRefIdeal (hSumIdeal := hSumIdeal) (hSumRefIdeal := hSumRefIdeal)
-- ==== Pre_act_finite.lean ====
abbrev S8208x1024 : Shape := ⟨2, ![8208, 1024]⟩
abbrev S8208x5632 : Shape := ⟨2, ![8208, 5632]⟩
abbrev S2816x1024 : Shape := ⟨2, ![2816, 1024]⟩
abbrev S_ : Shape := ⟨0, ![]⟩

class Facts : Prop where
  bcast_S_S8208x1024 : S_.BroadcastsInDim S8208x1024 (![] : Fin 0 → Fin S8208x1024.rank)
  bcast_S_S8208x5632 : S_.BroadcastsInDim S8208x5632 (![] : Fin 0 → Fin S8208x5632.rank)
  bcast_S_S2816x1024 : S_.BroadcastsInDim S2816x1024 (![] : Fin 0 → Fin S2816x1024.rank)

variable [Facts]

def fn {F : FTy → Type} [FloatOps F] (main_arg0 : FVec F S8208x1024 .f32) (main_arg1 : FVec F S8208x5632 .f32) (main_arg2 : FVec F S2816x1024 .f32) : IVec S8208x1024 1 × IVec S8208x5632 1 × IVec S2816x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S8208x5632 .f32 := Host.absf main_arg1
  let main_cst_0 : FVec F S_ .f32 := constant S_ .f32 0x7F800000#32
  let main_v4 : FVec F S8208x5632 .f32 := broadcastInDim S8208x5632 ![] bcast_S_S8208x5632 main_cst_0
  let main_v5 : IVec S8208x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  (main_v2, main_v5, main_v8)
-- ==== Pre_hn1_finite.lean ====
abbrev S8208x8704 : Shape := ⟨2, ![8208, 8704]⟩
abbrev S1024x8704 : Shape := ⟨2, ![1024, 8704]⟩
abbrev S8208x1024 : Shape := ⟨2, ![8208, 1024]⟩
abbrev S1024 : Shape := ⟨1, ![1024]⟩
abbrev S_ : Shape := ⟨0, ![]⟩

class Facts : Prop where
  bcast_S_S8208x8704 : S_.BroadcastsInDim S8208x8704 (![] : Fin 0 → Fin S8208x8704.rank)
  bcast_S_S1024x8704 : S_.BroadcastsInDim S1024x8704 (![] : Fin 0 → Fin S1024x8704.rank)
  bcast_S_S8208x1024 : S_.BroadcastsInDim S8208x1024 (![] : Fin 0 → Fin S8208x1024.rank)
  bcast_S_S1024 : S_.BroadcastsInDim S1024 (![] : Fin 0 → Fin S1024.rank)

variable [Facts]

def fn {F : FTy → Type} [FloatOps F] (main_arg0 : FVec F S8208x8704 .f32) (main_arg1 : FVec F S1024x8704 .f32) (main_arg2 : FVec F S8208x1024 .f32) (main_arg3 : FVec F S1024 .f32) (main_arg4 : FVec F S8208x1024 .f32) : IVec S8208x8704 1 × IVec S1024x8704 1 × IVec S8208x1024 1 × IVec S1024 1 :=
  let main_v0 : FVec F S8208x8704 .f32 := Host.absf main_arg0
  let main_cst : FVec F S_ .f32 := constant S_ .f32 0x7F800000#32
  let main_v1 : FVec F S8208x8704 .f32 := broadcastInDim S8208x8704 ![] bcast_S_S8208x8704 main_cst
  let main_v2 : IVec S8208x8704 1 := cmpf .olt main_v0 main_v1
  let main_v3 : FVec F S1024x8704 .f32 := Host.absf main_arg1
  let main_cst_0 : FVec F S_ .f32 := constant S_ .f32 0x7F800000#32
  let main_v4 : FVec F S1024x8704 .f32 := broadcastInDim S1024x8704 ![] bcast_S_S1024x8704 main_cst_0
  let main_v5 : IVec S1024x8704 1 := cmpf .olt main_v3 main_v4
  let main_v6 : FVec F S8208x1024 .f32 := Host.absf main_arg2
  let main_cst_1 : FVec F S_ .f32 := constant S_ .f32 0x7F800000#32
  let main_v7 : FVec F S8208x1024 .f32 := broadcastInDim S8208x1024 ![] bcast_S_S8208x1024 main_cst_1
  let main_v8 : IVec S8208x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_hn2_finite.lean ====
abbrev S8208x5632 : Shape := ⟨2, ![8208, 5632]⟩
abbrev S1024x5632 : Shape := ⟨2, ![1024, 5632]⟩
abbrev S8208x1024 : Shape := ⟨2, ![8208, 1024]⟩
abbrev S1024 : Shape := ⟨1, ![1024]⟩
abbrev S_ : Shape := ⟨0, ![]⟩

class Facts : Prop where
  bcast_S_S8208x5632 : S_.BroadcastsInDim S8208x5632 (![] : Fin 0 → Fin S8208x5632.rank)
  bcast_S_S1024x5632 : S_.BroadcastsInDim S1024x5632 (![] : Fin 0 → Fin S1024x5632.rank)
  bcast_S_S8208x1024 : S_.BroadcastsInDim S8208x1024 (![] : Fin 0 → Fin S8208x1024.rank)
  bcast_S_S1024 : S_.BroadcastsInDim S1024 (![] : Fin 0 → Fin S1024.rank)

variable [Facts]

def fn {F : FTy → Type} [FloatOps F] (main_arg0 : FVec F S8208x5632 .f32) (main_arg1 : FVec F S1024x5632 .f32) (main_arg2 : FVec F S8208x1024 .f32) (main_arg3 : FVec F S1024 .f32) (main_arg4 : FVec F S8208x1024 .f32) : IVec S8208x5632 1 × IVec S1024x5632 1 × IVec S8208x1024 1 × IVec S1024 1 :=
  let main_v0 : FVec F S8208x5632 .f32 := Host.absf main_arg0
  let main_cst : FVec F S_ .f32 := constant S_ .f32 0x7F800000#32
  let main_v1 : FVec F S8208x5632 .f32 := broadcastInDim S8208x5632 ![] bcast_S_S8208x5632 main_cst
  let main_v2 : IVec S8208x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S8208x1024 .f32 := Host.absf main_arg2
  let main_cst_1 : FVec F S_ .f32 := constant S_ .f32 0x7F800000#32
  let main_v7 : FVec F S8208x1024 .f32 := broadcastInDim S8208x1024 ![] bcast_S_S8208x1024 main_cst_1
  let main_v8 : IVec S8208x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_loss_finite.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩

class Facts : Prop where
  bcast_S_S8208x2816 : S_.BroadcastsInDim S8208x2816 (![] : Fin 0 → Fin S8208x2816.rank)
  bcast_S_S2816x1024 : S_.BroadcastsInDim S2816x1024 (![] : Fin 0 → Fin S2816x1024.rank)
  bcast_S_S8208x1024 : S_.BroadcastsInDim S8208x1024 (![] : Fin 0 → Fin S8208x1024.rank)
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8208x2816 .f32) (main_arg1 : FVec F S2816x1024 .f32) (main_arg2 : FVec F S8208x1024 .f32) (main_arg3 : FVec F S1024 .f32) (main_arg4 : FVec F S8192x1024 .f32) : IVec S8208x2816 1 × IVec S2816x1024 1 × IVec S8208x1024 1 × IVec S1024 1 × IVec S8192x1024 1 :=
  let main_v0 : FVec F S8208x2816 .f32 := Host.absf main_arg0
  let main_cst : FVec F S_ .f32 := constant S_ .f32 0x7F800000#32
  let main_v1 : FVec F S8208x2816 .f32 := broadcastInDim S8208x2816 ![] bcast_S_S8208x2816 main_cst
  let main_v2 : IVec S8208x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8208x1024 .f32 := Host.absf main_arg2
  let main_cst_1 : FVec F S_ .f32 := constant S_ .f32 0x7F800000#32
  let main_v7 : FVec F S8208x1024 .f32 := broadcastInDim S8208x1024 ![] bcast_S_S8208x1024 main_cst_1
  let main_v8 : IVec S8208x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Merge.lean ====
abbrev S8208x1024 : Shape := ⟨2, ![8208, 1024]⟩
abbrev S8208x8704 : Shape := ⟨2, ![8208, 8704]⟩
abbrev S1024x1024 : Shape := ⟨2, ![1024, 1024]⟩
abbrev S_ : Shape := ⟨0, ![]⟩
abbrev S8448x1024 : Shape := ⟨2, ![8448, 1024]⟩
abbrev S8208x6144 : Shape := ⟨2, ![8208, 6144]⟩
abbrev S8208x256 : Shape := ⟨2, ![8208, 256]⟩
abbrev S8208x2560 : Shape := ⟨2, ![8208, 2560]⟩
abbrev S8208x8960 : Shape := ⟨2, ![8208, 8960]⟩
abbrev S8448x8960 : Shape := ⟨2, ![8448, 8960]⟩
abbrev S768x1024 : Shape := ⟨2, ![768, 1024]⟩
abbrev S768x2048 : Shape := ⟨2, ![768, 2048]⟩

abbrev nBuf : Space → Nat
  | .hbm => 40
  | .vmem => 17
  | .smem => 0
  | _ => 0

abbrev bufTy : (tb : Table) → Fin (tcTables nBuf tb) → BufTy
  | .hbm, ⟨0, _⟩ => ⟨S8208x1024, .f32⟩
  | .hbm, ⟨1, _⟩ => ⟨S8208x8704, .f32⟩
  | .hbm, ⟨2, _⟩ => ⟨S8208x1024, .f32⟩
  | .hbm, ⟨3, _⟩ => ⟨S8208x1024, .f32⟩
  | .hbm, ⟨4, _⟩ => ⟨S1024x1024, .f32⟩
  | .hbm, ⟨5, _⟩ => ⟨S_, .i32⟩
  | .hbm, ⟨6, _⟩ => ⟨S_, .f32⟩
  | .hbm, ⟨7, _⟩ => ⟨S8448x1024, .f32⟩
  | .hbm, ⟨8, _⟩ => ⟨S8448x1024, .bf16⟩
  | .hbm, ⟨9, _⟩ => ⟨S1024x1024, .bf16⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S8448x1024, .bf16⟩
  | .hbm, ⟨14, _⟩ => ⟨S_, .i32⟩
  | .hbm, ⟨15, _⟩ => ⟨S_, .f32⟩
  | .hbm, ⟨16, _⟩ => ⟨S8448x1024, .f32⟩
  | .hbm, ⟨17, _⟩ => ⟨S8448x1024, .bf16⟩
  | .hbm, ⟨18, _⟩ => ⟨S8208x6144, .f32⟩
  | .hbm, ⟨19, _⟩ => ⟨S_, .f32⟩
  | .hbm, ⟨20, _⟩ => ⟨S8208x256, .f32⟩
  | .hbm, ⟨21, _⟩ => ⟨S8208x2560, .f32⟩
  | .hbm, ⟨22, _⟩ => ⟨S8208x8960, .f32⟩
  | .hbm, ⟨23, _⟩ => ⟨S_, .i32⟩
  | .hbm, ⟨24, _⟩ => ⟨S_, .f32⟩
  | .hbm, ⟨25, _⟩ => ⟨S8448x8960, .f32⟩
  | .hbm, ⟨26, _⟩ => ⟨S8448x8960, .bf16⟩
  | .hbm, ⟨27, _⟩ => ⟨S8448x1024, .bf16⟩
  | .hbm, ⟨28, _⟩ => ⟨S8448x1024, .bf16⟩
  | .hbm, ⟨29, _⟩ => ⟨S8448x8960, .bf16⟩
  | .hbm, ⟨30, _⟩ => ⟨S8448x1024, .bf16⟩
  | .hbm, ⟨31, _⟩ => ⟨S8448x1024, .bf16⟩
  | .hbm, ⟨32, _⟩ => ⟨S8208x1024, .bf16⟩
  | .hbm, ⟨33, _⟩ => ⟨S8208x1024, .f32⟩
  | .hbm, ⟨34, _⟩ => ⟨S8208x1024, .bf16⟩
  | .hbm, ⟨35, _⟩ => ⟨S8208x1024, .f32⟩
  | .hbm, ⟨36, _⟩ => ⟨S8208x1024, .bf16⟩
  | .hbm, ⟨37, _⟩ => ⟨S8208x1024, .f32⟩
  | .hbm, ⟨38, _⟩ => ⟨S8208x1024, .bf16⟩
  | .hbm, ⟨39, _⟩ => ⟨S8208x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S768x1024, .bf16⟩
  | .local _ .vmem, ⟨14, _⟩ => ⟨S768x1024, .bf16⟩
  | .local _ .vmem, ⟨15, _⟩ => ⟨S768x2048, .bf16⟩
  | .local _ .vmem, ⟨16, _⟩ => ⟨S768x2048, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_call3_v0 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S768x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MergeRefIdeal.lean ====
abbrev S8208x1024 : Shape := ⟨2, ![8208, 1024]⟩
abbrev S8208x8704 : Shape := ⟨2, ![8208, 8704]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x8704, .f32⟩
  | .hbm, ⟨2, _⟩ => ⟨S8208x1024, .f32⟩
  | .hbm, ⟨3, _⟩ => ⟨S8208x1024, .f32⟩
  | .hbm, ⟨4, _⟩ => ⟨S1024x1024, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S8208x1024, .f32⟩
  | .hbm, ⟨9, _⟩ => ⟨S_, .f32⟩
  | .hbm, ⟨10, _⟩ => ⟨S8208x1024, .f32⟩
  | .hbm, ⟨11, _⟩ => ⟨S8208x1024, .f32⟩
  | .hbm, ⟨12, _⟩ => ⟨S_, .f32⟩
  | .hbm, ⟨13, _⟩ => ⟨S8208x1024, .f32⟩
  | .hbm, ⟨14, _⟩ => ⟨S8208x1024, .f32⟩
  | .hbm, ⟨15, _⟩ => ⟨S_, .f32⟩
  | .hbm, ⟨16, _⟩ => ⟨S8208x1024, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S_, .f32⟩
  | .hbm, ⟨23, _⟩ => ⟨S8208x1024, .f32⟩
  | .hbm, ⟨24, _⟩ => ⟨S8208x1024, .f32⟩
  | .hbm, ⟨25, _⟩ => ⟨S_, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S8208x1024, .f32⟩
  | .hbm, ⟨30, _⟩ => ⟨S8208x1024, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S8208x1024, .f32⟩
  | .hbm, ⟨36, _⟩ => ⟨S8208x1024, .f32⟩
  | .hbm, ⟨37, _⟩ => ⟨S8208x1024, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Act.lean ====
abbrev S8208x1024 : Shape := ⟨2, ![8208, 1024]⟩
abbrev S8208x5632 : Shape := ⟨2, ![8208, 5632]⟩
abbrev S2816x1024 : Shape := ⟨2, ![2816, 1024]⟩
abbrev S_ : Shape := ⟨0, ![]⟩
abbrev S8448x1024 : Shape := ⟨2, ![8448, 1024]⟩
abbrev S8208x1408 : Shape := ⟨2, ![8208, 1408]⟩
abbrev S8448x5632 : Shape := ⟨2, ![8448, 5632]⟩
abbrev S384x1024 : Shape := ⟨2, ![384, 1024]⟩
abbrev S1408x1024 : Shape := ⟨2, ![1408, 1024]⟩
abbrev S384x2816 : Shape := ⟨2, ![384, 2816]⟩
abbrev S384x1408 : Shape := ⟨2, ![384, 1408]⟩

abbrev nBuf : Space → Nat
  | .hbm => 25
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S2816x1024, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S8448x1024, .bf16⟩
  | .hbm, ⟨7, _⟩ => ⟨S2816x1024, .bf16⟩
  | .hbm, ⟨8, _⟩ => ⟨S8208x1408, .f32⟩
  | .hbm, ⟨9, _⟩ => ⟨S8208x1408, .f32⟩
  | .hbm, ⟨10, _⟩ => ⟨S8208x1408, .f32⟩
  | .hbm, ⟨11, _⟩ => ⟨S8208x1408, .f32⟩
  | .hbm, ⟨12, _⟩ => ⟨S8208x5632, .f32⟩
  | .hbm, ⟨13, _⟩ => ⟨S_, .i32⟩
  | .hbm, ⟨14, _⟩ => ⟨S_, .f32⟩
  | .hbm, ⟨15, _⟩ => ⟨S8448x5632, .f32⟩
  | .hbm, ⟨16, _⟩ => ⟨S8448x5632, .bf16⟩
  | .hbm, ⟨17, _⟩ => ⟨S8448x5632, .bf16⟩
  | .hbm, ⟨18, _⟩ => ⟨S8208x5632, .bf16⟩
  | .hbm, ⟨19, _⟩ => ⟨S8208x5632, .f32⟩
  | .hbm, ⟨20, _⟩ => ⟨S8208x1408, .f32⟩
  | .hbm, ⟨21, _⟩ => ⟨S8208x1408, .f32⟩
  | .hbm, ⟨22, _⟩ => ⟨S8208x1408, .f32⟩
  | .hbm, ⟨23, _⟩ => ⟨S8208x1408, .f32⟩
  | .hbm, ⟨24, _⟩ => ⟨S8208x5632, .f32⟩
  | .local _ .vmem, ⟨0, _⟩ => ⟨S384x1024, .bf16⟩
  | .local _ .vmem, ⟨1, _⟩ => ⟨S384x1024, .bf16⟩
  | .local _ .vmem, ⟨2, _⟩ => ⟨S1408x1024, .bf16⟩
  | .local _ .vmem, ⟨3, _⟩ => ⟨S1408x1024, .bf16⟩
  | .local _ .vmem, ⟨4, _⟩ => ⟨S384x2816, .bf16⟩
  | .local _ .vmem, ⟨5, _⟩ => ⟨S384x2816, .bf16⟩
  | .local _ .vmem, ⟨6, _⟩ => ⟨S384x2816, .bf16⟩
  | .local _ .vmem, ⟨7, _⟩ => ⟨S384x2816, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![22, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S8208x1024 : Shape := ⟨2, ![8208, 1024]⟩
abbrev S8208x5632 : Shape := ⟨2, ![8208, 5632]⟩
abbrev S2816x1024 : Shape := ⟨2, ![2816, 1024]⟩
abbrev S8208x2816 : Shape := ⟨2, ![8208, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S2816x1024, .f32⟩
  | .hbm, ⟨3, _⟩ => ⟨S8208x2816, .f32⟩
  | .hbm, ⟨4, _⟩ => ⟨S8208x2816, .f32⟩
  | .hbm, ⟨5, _⟩ => ⟨S8208x2816, .f32⟩
  | .hbm, ⟨6, _⟩ => ⟨S8208x2816, .f32⟩
  | .hbm, ⟨7, _⟩ => ⟨S_, .f32⟩
  | .hbm, ⟨8, _⟩ => ⟨S8208x2816, .f32⟩
  | .hbm, ⟨9, _⟩ => ⟨S8208x2816, .f32⟩
  | .hbm, ⟨10, _⟩ => ⟨S_, .f32⟩
  | .hbm, ⟨11, _⟩ => ⟨S8208x2816, .f32⟩
  | .hbm, ⟨12, _⟩ => ⟨S8208x2816, .f32⟩
  | .hbm, ⟨13, _⟩ => ⟨S_, .f32⟩
  | .hbm, ⟨14, _⟩ => ⟨S8208x2816, .f32⟩
  | .hbm, ⟨15, _⟩ => ⟨S8208x2816, .f32⟩
  | .hbm, ⟨16, _⟩ => ⟨S8208x2816, .f32⟩
  | .hbm, ⟨17, _⟩ => ⟨S8208x2816, .f32⟩
  | .hbm, ⟨18, _⟩ => ⟨S8208x2816, .f32⟩
  | .hbm, ⟨19, _⟩ => ⟨S8208x1024, .f32⟩
  | .hbm, ⟨20, _⟩ => ⟨S8208x2816, .f32⟩
  | .hbm, ⟨21, _⟩ => ⟨S8208x2816, .f32⟩
  | .hbm, ⟨22, _⟩ => ⟨S8208x2816, .f32⟩
  | .hbm, ⟨23, _⟩ => ⟨S8208x2816, .f32⟩
  | .hbm, ⟨24, _⟩ => ⟨S8208x2816, .f32⟩
  | .hbm, ⟨25, _⟩ => ⟨S8208x2816, .f32⟩
  | .hbm, ⟨26, _⟩ => ⟨S8208x2816, .f32⟩
  | .hbm, ⟨27, _⟩ => ⟨S8208x5632, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== HnTwo.lean ====
abbrev S8208x5632 : Shape := ⟨2, ![8208, 5632]⟩
abbrev S1024x5632 : Shape := ⟨2, ![1024, 5632]⟩
abbrev S8208x1024 : Shape := ⟨2, ![8208, 1024]⟩
abbrev S1024 : Shape := ⟨1, ![1024]⟩
abbrev S8208x1408 : Shape := ⟨2, ![8208, 1408]⟩
abbrev S_ : Shape := ⟨0, ![]⟩
abbrev S8448x5632 : Shape := ⟨2, ![8448, 5632]⟩
abbrev S1024x1408 : Shape := ⟨2, ![1024, 1408]⟩
abbrev S8448x1024 : Shape := ⟨2, ![8448, 1024]⟩
abbrev S1x1024 : Shape := ⟨2, ![1, 1024]⟩
abbrev S768x1408 : Shape := ⟨2, ![768, 1408]⟩
abbrev S768x1024 : Shape := ⟨2, ![768, 1024]⟩
abbrev S768 : Shape := ⟨1, ![768]⟩
abbrev S768x1 : Shape := ⟨2, ![768, 1]⟩

abbrev nBuf : Space → Nat
  | .hbm => 32
  | .vmem => 15
  | .smem => 0
  | _ => 0

abbrev bufTy : (tb : Table) → Fin (tcTables nBuf tb) → BufTy
  | .hbm, ⟨0, _⟩ => ⟨S8208x5632, .f32⟩
  | .hbm, ⟨1, _⟩ => ⟨S1024x5632, .f32⟩
  | .hbm, ⟨2, _⟩ => ⟨S8208x1024, .f32⟩
  | .hbm, ⟨3, _⟩ => ⟨S1024, .f32⟩
  | .hbm, ⟨4, _⟩ => ⟨S8208x1024, .f32⟩
  | .hbm, ⟨5, _⟩ => ⟨S8208x1408, .f32⟩
  | .hbm, ⟨6, _⟩ => ⟨S8208x1408, .f32⟩
  | .hbm, ⟨7, _⟩ => ⟨S8208x1408, .f32⟩
  | .hbm, ⟨8, _⟩ => ⟨S8208x1408, .f32⟩
  | .hbm, ⟨9, _⟩ => ⟨S8208x5632, .f32⟩
  | .hbm, ⟨10, _⟩ => ⟨S_, .i32⟩
  | .hbm, ⟨11, _⟩ => ⟨S_, .f32⟩
  | .hbm, ⟨12, _⟩ => ⟨S8448x5632, .f32⟩
  | .hbm, ⟨13, _⟩ => ⟨S8448x5632, .bf16⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1024x5632, .f32⟩
  | .hbm, ⟨19, _⟩ => ⟨S1024x5632, .bf16⟩
  | .hbm, ⟨20, _⟩ => ⟨S_, .i32⟩
  | .hbm, ⟨21, _⟩ => ⟨S_, .f32⟩
  | .hbm, ⟨22, _⟩ => ⟨S8448x1024, .f32⟩
  | .hbm, ⟨23, _⟩ => ⟨S1x1024, .f32⟩
  | .hbm, ⟨24, _⟩ => ⟨S_, .i32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S8448x1024, .bf16⟩
  | .hbm, ⟨29, _⟩ => ⟨S1x1024, .f32⟩
  | .hbm, ⟨30, _⟩ => ⟨S8208x1024, .f32⟩
  | .hbm, ⟨31, _⟩ => ⟨S1024, .f32⟩
  | .local _ .vmem, ⟨0, _⟩ => ⟨S768x1408, .bf16⟩
  | .local _ .vmem, ⟨1, _⟩ => ⟨S768x1408, .bf16⟩
  | .local _ .vmem, ⟨2, _⟩ => ⟨S1024x1408, .bf16⟩
  | .local _ .vmem, ⟨3, _⟩ => ⟨S1024x1408, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | .local _ .vmem, ⟨13, _⟩ => ⟨S1x1024, .f32⟩
  | .local _ .vmem, ⟨14, _⟩ => ⟨S768x1024, .f32⟩
  | _, _ => ⟨S8208x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_11 : BitVec 32 := 0#32
  let v17 : BitVec 1 := Scalar.cmpi .eq arg0 c0_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== HnTwoRefIdeal.lean ====
abbrev S8208x5632 : Shape := ⟨2, ![8208, 5632]⟩
abbrev S1024x5632 : Shape := ⟨2, ![1024, 5632]⟩
abbrev S8208x1024 : Shape := ⟨2, ![8208, 1024]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8208x5632, .f32⟩
  | .hbm, ⟨1, _⟩ => ⟨S1024x5632, .f32⟩
  | .hbm, ⟨2, _⟩ => ⟨S8208x1024, .f32⟩
  | .hbm, ⟨3, _⟩ => ⟨S1024, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x5632, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S_, .f32⟩
  | .hbm, ⟨34, _⟩ => ⟨S1024, .f32⟩
  | .hbm, ⟨35, _⟩ => ⟨S8208x1024, .f32⟩
  | .hbm, ⟨36, _⟩ => ⟨S_, .f32⟩
  | .hbm, ⟨37, _⟩ => ⟨S8208, .f32⟩
  | .hbm, ⟨38, _⟩ => ⟨S8208x1, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1, .f32⟩
  | .hbm, ⟨43, _⟩ => ⟨S_, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | _, _ => ⟨S8208x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== HnOne.lean ====
abbrev S8208x8704 : Shape := ⟨2, ![8208, 8704]⟩
abbrev S1024x8704 : Shape := ⟨2, ![1024, 8704]⟩
abbrev S8208x1024 : Shape := ⟨2, ![8208, 1024]⟩
abbrev S1024 : Shape := ⟨1, ![1024]⟩
abbrev S8208x6144 : Shape := ⟨2, ![8208, 6144]⟩
abbrev S_ : Shape := ⟨0, ![]⟩
abbrev S8208x256 : Shape := ⟨2, ![8208, 256]⟩
abbrev S8208x2560 : Shape := ⟨2, ![8208, 2560]⟩
abbrev S8208x8960 : Shape := ⟨2, ![8208, 8960]⟩
abbrev S8448x8960 : Shape := ⟨2, ![8448, 8960]⟩
abbrev S1024x6144 : Shape := ⟨2, ![1024, 6144]⟩
abbrev S1024x256 : Shape := ⟨2, ![1024, 256]⟩
abbrev S1024x2560 : Shape := ⟨2, ![1024, 2560]⟩
abbrev S1024x8960 : Shape := ⟨2, ![1024, 8960]⟩
abbrev S8448x1024 : Shape := ⟨2, ![8448, 1024]⟩
abbrev S1x1024 : Shape := ⟨2, ![1, 1024]⟩
abbrev S768x1792 : Shape := ⟨2, ![768, 1792]⟩
abbrev S1024x1792 : Shape := ⟨2, ![1024, 1792]⟩
abbrev S768x1024 : Shape := ⟨2, ![768, 1024]⟩
abbrev S768 : Shape := ⟨1, ![768]⟩
abbrev S768x1 : Shape := ⟨2, ![768, 1]⟩

abbrev nBuf : Space → Nat
  | .hbm => 31
  | .vmem => 13
  | .smem => 0
  | _ => 0

abbrev bufTy : (tb : Table) → Fin (tcTables nBuf tb) → BufTy
  | .hbm, ⟨0, _⟩ => ⟨S8208x8704, .f32⟩
  | .hbm, ⟨1, _⟩ => ⟨S1024x8704, .f32⟩
  | .hbm, ⟨2, _⟩ => ⟨S8208x1024, .f32⟩
  | .hbm, ⟨3, _⟩ => ⟨S1024, .f32⟩
  | .hbm, ⟨4, _⟩ => ⟨S8208x1024, .f32⟩
  | .hbm, ⟨5, _⟩ => ⟨S8208x6144, .f32⟩
  | .hbm, ⟨6, _⟩ => ⟨S_, .f32⟩
  | .hbm, ⟨7, _⟩ => ⟨S8208x256, .f32⟩
  | .hbm, ⟨8, _⟩ => ⟨S8208x2560, .f32⟩
  | .hbm, ⟨9, _⟩ => ⟨S8208x8960, .f32⟩
  | .hbm, ⟨10, _⟩ => ⟨S_, .i32⟩
  | .hbm, ⟨11, _⟩ => ⟨S_, .f32⟩
  | .hbm, ⟨12, _⟩ => ⟨S8448x8960, .f32⟩
  | .hbm, ⟨13, _⟩ => ⟨S8448x8960, .bf16⟩
  | .hbm, ⟨14, _⟩ => ⟨S1024x6144, .f32⟩
  | .hbm, ⟨15, _⟩ => ⟨S_, .f32⟩
  | .hbm, ⟨16, _⟩ => ⟨S1024x256, .f32⟩
  | .hbm, ⟨17, _⟩ => ⟨S1024x2560, .f32⟩
  | .hbm, ⟨18, _⟩ => ⟨S1024x8960, .f32⟩
  | .hbm, ⟨19, _⟩ => ⟨S1024x8960, .bf16⟩
  | .hbm, ⟨20, _⟩ => ⟨S_, .i32⟩
  | .hbm, ⟨21, _⟩ => ⟨S_, .f32⟩
  | .hbm, ⟨22, _⟩ => ⟨S8448x1024, .f32⟩
  | .hbm, ⟨23, _⟩ => ⟨S1x1024, .f32⟩
  | .hbm, ⟨24, _⟩ => ⟨S_, .i32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S1x1024, .f32⟩
  | .hbm, ⟨29, _⟩ => ⟨S8208x1024, .f32⟩
  | .hbm, ⟨30, _⟩ => ⟨S1024, .f32⟩
  | .local _ .vmem, ⟨0, _⟩ => ⟨S768x1792, .bf16⟩
  | .local _ .vmem, ⟨1, _⟩ => ⟨S768x1792, .bf16⟩
  | .local _ .vmem, ⟨2, _⟩ => ⟨S1024x1792, .bf16⟩
  | .local _ .vmem, ⟨3, _⟩ => ⟨S1024x1792, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S1x1024, .f32⟩
  | .local _ .vmem, ⟨12, _⟩ => ⟨S768x1024, .f32⟩
  | _, _ => ⟨S8208x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call2_v0 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![11, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_11 : BitVec 32 := 0#32
  let v17 : BitVec 1 := Scalar.cmpi .eq arg0 c0_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== HnOneRefIdeal.lean ====
abbrev S8208x8704 : Shape := ⟨2, ![8208, 8704]⟩
abbrev S1024x8704 : Shape := ⟨2, ![1024, 8704]⟩
abbrev S8208x1024 : Shape := ⟨2, ![8208, 1024]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8208x8704, .f32⟩
  | .hbm, ⟨1, _⟩ => ⟨S1024x8704, .f32⟩
  | .hbm, ⟨2, _⟩ => ⟨S8208x1024, .f32⟩
  | .hbm, ⟨3, _⟩ => ⟨S1024, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x8704, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S_, .f32⟩
  | .hbm, ⟨34, _⟩ => ⟨S1024, .f32⟩
  | .hbm, ⟨35, _⟩ => ⟨S8208x1024, .f32⟩
  | .hbm, ⟨36, _⟩ => ⟨S_, .f32⟩
  | .hbm, ⟨37, _⟩ => ⟨S8208, .f32⟩
  | .hbm, ⟨38, _⟩ => ⟨S8208x1, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1, .f32⟩
  | .hbm, ⟨43, _⟩ => ⟨S_, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | _, _ => ⟨S8208x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Loss.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S8448x2816 : Shape := ⟨2, ![8448, 2816]⟩
abbrev S8448x1024 : Shape := ⟨2, ![8448, 1024]⟩
abbrev S1x1024 : Shape := ⟨2, ![1, 1024]⟩
abbrev S8x128 : Shape := ⟨2, ![8, 128]⟩
abbrev S768x2816 : Shape := ⟨2, ![768, 2816]⟩
abbrev S768x1024 : Shape := ⟨2, ![768, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 22
  | .vmem => 18
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S8192x1024, .f32⟩
  | .hbm, ⟨5, _⟩ => ⟨S_, .i32⟩
  | .hbm, ⟨6, _⟩ => ⟨S_, .f32⟩
  | .hbm, ⟨7, _⟩ => ⟨S8448x2816, .f32⟩
  | .hbm, ⟨8, _⟩ => ⟨S8448x2816, .bf16⟩
  | .hbm, ⟨9, _⟩ => ⟨S2816x1024, .bf16⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S1x1024, .f32⟩
  | .hbm, ⟨14, _⟩ => ⟨S8448x1024, .f32⟩
  | .hbm, ⟨15, _⟩ => ⟨S8448x1024, .bf16⟩
  | .hbm, ⟨16, _⟩ => ⟨S8x128, .f32⟩
  | .hbm, ⟨17, _⟩ => ⟨S1x1024, .f32⟩
  | .hbm, ⟨18, _⟩ => ⟨S1x1, .f32⟩
  | .hbm, ⟨19, _⟩ => ⟨S_, .f32⟩
  | .hbm, ⟨20, _⟩ => ⟨S8208x1024, .f32⟩
  | .hbm, ⟨21, _⟩ => ⟨S1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S768x1024, .f32⟩
  | .local _ .vmem, ⟨13, _⟩ => ⟨S768x1024, .f32⟩
  | .local _ .vmem, ⟨14, _⟩ => ⟨S768x1024, .bf16⟩
  | .local _ .vmem, ⟨15, _⟩ => ⟨S768x1024, .bf16⟩
  | .local _ .vmem, ⟨16, _⟩ => ⟨S8x128, .f32⟩
  | .local _ .vmem, ⟨17, _⟩ => ⟨S1x1024, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== LossRefIdeal.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8192 : Shape := ⟨1, ![8192]⟩

abbrev nBuf : Space → Nat
  | .hbm => 78
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S8192x1024, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x1, .f32⟩
  | .hbm, ⟨19, _⟩ => ⟨S_, .f32⟩
  | .hbm, ⟨20, _⟩ => ⟨S8208x1, .f32⟩
  | .hbm, ⟨21, _⟩ => ⟨S8208x1, .f32⟩
  | .hbm, ⟨22, _⟩ => ⟨S8208x1024, .f32⟩
  | .hbm, ⟨23, _⟩ => ⟨S8208x1024, .f32⟩
  | .hbm, ⟨24, _⟩ => ⟨S1x1024, .f32⟩
  | .hbm, ⟨25, _⟩ => ⟨S8208x1024, .f32⟩
  | .hbm, ⟨26, _⟩ => ⟨S8208x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8208x1024, .f32⟩
  | .hbm, ⟨53, _⟩ => ⟨S8208x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8208x1024, .f32⟩
  | .hbm, ⟨58, _⟩ => ⟨S8208x1024, .f32⟩
  | .hbm, ⟨59, _⟩ => ⟨S_, .f32⟩
  | .hbm, ⟨60, _⟩ => ⟨S1024, .f32⟩
  | .hbm, ⟨61, _⟩ => ⟨S8208x1024, .f32⟩
  | .hbm, ⟨62, _⟩ => ⟨S_, .f32⟩
  | .hbm, ⟨63, _⟩ => ⟨S8208, .f32⟩
  | .hbm, ⟨64, _⟩ => ⟨S8208x1, .f32⟩
  | .hbm, ⟨65, _⟩ => ⟨S8208x1024, .f32⟩
  | .hbm, ⟨66, _⟩ => ⟨S8208x1024, .f32⟩
  | .hbm, ⟨67, _⟩ => ⟨S8208x1, .f32⟩
  | .hbm, ⟨68, _⟩ => ⟨S_, .f32⟩
  | .hbm, ⟨69, _⟩ => ⟨S8208x1, .f32⟩
  | .hbm, ⟨70, _⟩ => ⟨S8208x1, .f32⟩
  | .hbm, ⟨71, _⟩ => ⟨S_, .f32⟩
  | .hbm, ⟨72, _⟩ => ⟨S8208, .f32⟩
  | .hbm, ⟨73, _⟩ => ⟨S8208x1024, .f32⟩
  | .hbm, ⟨74, _⟩ => ⟨S8208x1024, .f32⟩
  | .hbm, ⟨75, _⟩ => ⟨S8208x1024, .f32⟩
  | .hbm, ⟨76, _⟩ => ⟨S8208x1024, .f32⟩
  | .hbm, ⟨77, _⟩ => ⟨S8208x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Conv.lean ====
abbrev S8208x1280 : Shape := ⟨2, ![8208, 1280]⟩
abbrev S8208x8704 : Shape := ⟨2, ![8208, 8704]⟩
abbrev S4x1280 : Shape := ⟨2, ![4, 1280]⟩
abbrev S1280 : Shape := ⟨1, ![1280]⟩
abbrev S_ : Shape := ⟨0, ![]⟩
abbrev S8448x1280 : Shape := ⟨2, ![8448, 1280]⟩
abbrev S8208x6144 : Shape := ⟨2, ![8208, 6144]⟩
abbrev S8208x256 : Shape := ⟨2, ![8208, 256]⟩
abbrev S8208x2560 : Shape := ⟨2, ![8208, 2560]⟩
abbrev S8208x8960 : Shape := ⟨2, ![8208, 8960]⟩
abbrev S8448x8960 : Shape := ⟨2, ![8448, 8960]⟩
abbrev S1x1280 : Shape := ⟨2, ![1, 1280]⟩
abbrev S256x1280 : Shape := ⟨2, ![256, 1280]⟩
abbrev S16x1280 : Shape := ⟨2, ![16, 1280]⟩
abbrev S5x8x1280 : Shape := ⟨3, ![5, 8, 1280]⟩
abbrev S32x1280 : Shape := ⟨2, ![32, 1280]⟩
abbrev S1x8x1280 : Shape := ⟨3, ![1, 8, 1280]⟩
abbrev S8x1280 : Shape := ⟨2, ![8, 1280]⟩

abbrev nBuf : Space → Nat
  | .hbm => 25
  | .vmem => 14
  | .smem => 0
  | _ => 0

abbrev bufTy : (tb : Table) → Fin (tcTables nBuf tb) → BufTy
  | .hbm, ⟨0, _⟩ => ⟨S8208x1280, .f32⟩
  | .hbm, ⟨1, _⟩ => ⟨S8208x8704, .f32⟩
  | .hbm, ⟨2, _⟩ => ⟨S4x1280, .f32⟩
  | .hbm, ⟨3, _⟩ => ⟨S1280, .f32⟩
  | .hbm, ⟨4, _⟩ => ⟨S_, .i32⟩
  | .hbm, ⟨5, _⟩ => ⟨S_, .f32⟩
  | .hbm, ⟨6, _⟩ => ⟨S8448x1280, .f32⟩
  | .hbm, ⟨7, _⟩ => ⟨S8448x1280, .bf16⟩
  | .hbm, ⟨8, _⟩ => ⟨S8208x6144, .f32⟩
  | .hbm, ⟨9, _⟩ => ⟨S_, .f32⟩
  | .hbm, ⟨10, _⟩ => ⟨S8208x256, .f32⟩
  | .hbm, ⟨11, _⟩ => ⟨S8208x2560, .f32⟩
  | .hbm, ⟨12, _⟩ => ⟨S8208x8960, .f32⟩
  | .hbm, ⟨13, _⟩ => ⟨S_, .i32⟩
  | .hbm, ⟨14, _⟩ => ⟨S_, .f32⟩
  | .hbm, ⟨15, _⟩ => ⟨S8448x8960, .f32⟩
  | .hbm, ⟨16, _⟩ => ⟨S8448x8960, .bf16⟩
  | .hbm, ⟨17, _⟩ => ⟨S_, .bf16⟩
  | .hbm, ⟨18, _⟩ => ⟨S8448x8960, .bf16⟩
  | .hbm, ⟨19, _⟩ => ⟨S8448x8960, .bf16⟩
  | .hbm, ⟨20, _⟩ => ⟨S4x1280, .f32⟩
  | .hbm, ⟨21, _⟩ => ⟨S1x1280, .f32⟩
  | .hbm, ⟨22, _⟩ => ⟨S8208x1280, .bf16⟩
  | .hbm, ⟨23, _⟩ => ⟨S8208x1280, .f32⟩
  | .hbm, ⟨24, _⟩ => ⟨S1280, .f32⟩
  | .local _ .vmem, ⟨0, _⟩ => ⟨S256x1280, .bf16⟩
  | .local _ .vmem, ⟨1, _⟩ => ⟨S256x1280, .bf16⟩
  | .local _ .vmem, ⟨2, _⟩ => ⟨S16x1280, .bf16⟩
  | .local _ .vmem, ⟨3, _⟩ => ⟨S16x1280, .bf16⟩
  | .local _ .vmem, ⟨4, _⟩ => ⟨S256x1280, .bf16⟩
  | .local _ .vmem, ⟨5, _⟩ => ⟨S256x1280, .bf16⟩
  | .local _ .vmem, ⟨6, _⟩ => ⟨S16x1280, .bf16⟩
  | .local _ .vmem, ⟨7, _⟩ => ⟨S16x1280, .bf16⟩
  | .local _ .vmem, ⟨8, _⟩ => ⟨S4x1280, .f32⟩
  | .local _ .vmem, ⟨9, _⟩ => ⟨S256x1280, .bf16⟩
  | .local _ .vmem, ⟨10, _⟩ => ⟨S256x1280, .bf16⟩
  | .local _ .vmem, ⟨11, _⟩ => ⟨S4x1280, .f32⟩
  | .local _ .vmem, ⟨12, _⟩ => ⟨S1x1280, .f32⟩
  | .local _ .vmem, ⟨13, _⟩ => ⟨S5x8x1280, .f32⟩
  | _, _ => ⟨S8208x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![1, 33], ![false, false]⟩

@[reducible] def k0_t1_loop : Scf.Loop 32 :=
  let c0_i32_12 : BitVec 32 := 0#32
  let c16_i32 : BitVec 32 := 16#32
  let v20 : BitVec 32 := Scalar.addi c0_i32_12 c16_i32
  let c1_i32 : BitVec 32 := 1#32
  ⟨c0_i32_12, v20, c1_i32⟩
def k0_mult1 (k0_t1 : Fin k0_t1_loop.trips) : BitVec 32 :=
  let c0_i32_12 : BitVec 32 := 0#32
  let c1_i32 : BitVec 32 := 1#32
  let arg12 : BitVec 32 := Scf.iv c0_i32_12 c1_i32 k0_t1
  let c16_i32_50 : BitVec 32 := 16#32
  let v62 : BitVec 32 := Scalar.muli arg12 c16_i32_50
  v62
def k0_off1 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c16_i32_50 : BitVec 32 := 16#32
  let v62 : BitVec 32 := Scalar.muli arg12 c16_i32_50
  let v63 : BitVec 32 := v62
  let v64 : Index := Scalar.indexCast v63
  let c0_51 : Index := 0#32
  ![v64.toNat, 0]
def k0_mult2 (k0_t1 : Fin k0_t1_loop.trips) : BitVec 32 :=
  let c0_i32_12 : BitVec 32 := 0#32
  let c1_i32 : BitVec 32 := 1#32
  let arg12 : BitVec 32 := Scf.iv c0_i32_12 c1_i32 k0_t1
  let c16_i32_50 : BitVec 32 := 16#32
  let v62 : BitVec 32 := Scalar.muli arg12 c16_i32_50
  let v63 : BitVec 32 := v62
  let c16_i32_53 : BitVec 32 := 16#32
  let v72 : BitVec 32 := Scalar.addi v63 c16_i32_53
  let c240_i32 : BitVec 32 := 240#32
  let v73 : BitVec 32 := Scalar.minsi v72 c240_i32
  v73
def k0_off2 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c16_i32_50 : BitVec 32 := 16#32
  let v62 : BitVec 32 := Scalar.muli arg12 c16_i32_50
  let v63 : BitVec 32 := v62
  let c16_i32_53 : BitVec 32 := 16#32
  let v72 : BitVec 32 := Scalar.addi v63 c16_i32_53
  let c240_i32 : BitVec 32 := 240#32
  let v73 : BitVec 32 := Scalar.minsi v72 c240_i32
  let v74 : BitVec 32 := v73
  let v75 : Index := Scalar.indexCast v74
  let c0_54 : Index := 0#32
  ![v75.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== ConvRefIdeal.lean ====
abbrev S8208x1280 : Shape := ⟨2, ![8208, 1280]⟩
abbrev S8208x8704 : Shape := ⟨2, ![8208, 8704]⟩
abbrev S4x1280 : Shape := ⟨2, ![4, 1280]⟩
abbrev S1280 : Shape := ⟨1, ![1280]⟩
abbrev S_ : Shape := ⟨0, ![]⟩
abbrev S3x1280 : Shape := ⟨2, ![3, 1280]⟩
abbrev S8211x1280 : Shape := ⟨2, ![8211, 1280]⟩
abbrev S1x1280 : Shape := ⟨2, ![1, 1280]⟩

abbrev nBuf : Space → Nat
  | .hbm => 106
  | .vmem => 0
  | .smem => 0
  | _ => 0

abbrev bufTy : (tb : Table) → Fin (tcTables nBuf tb) → BufTy
  | .hbm, ⟨0, _⟩ => ⟨S8208x1280, .f32⟩
  | .hbm, ⟨1, _⟩ => ⟨S8208x8704, .f32⟩
  | .hbm, ⟨2, _⟩ => ⟨S4x1280, .f32⟩
  | .hbm, ⟨3, _⟩ => ⟨S1280, .f32⟩
  | .hbm, ⟨4, _⟩ => ⟨S8208x1280, .f32⟩
  | .hbm, ⟨5, _⟩ => ⟨S_, .f32⟩
  | .hbm, ⟨6, _⟩ => ⟨S3x1280, .f32⟩
  | .hbm, ⟨7, _⟩ => ⟨S8211x1280, .f32⟩
  | .hbm, ⟨8, _⟩ => ⟨S_, .f32⟩
  | .hbm, ⟨9, _⟩ => ⟨S3x1280, .f32⟩
  | .hbm, ⟨10, _⟩ => ⟨S1x1280, .f32⟩
  | .hbm, ⟨11, _⟩ => ⟨S1280, .f32⟩
  | .hbm, ⟨12, _⟩ => ⟨S8208x1280, .f32⟩
  | .hbm, ⟨13, _⟩ => ⟨S1x1280, .f32⟩
  | .hbm, ⟨14, _⟩ => ⟨S8208x1280, .f32⟩
  | .hbm, ⟨15, _⟩ => ⟨S8208x1280, .f32⟩
  | .hbm, ⟨16, _⟩ => ⟨S1x1280, .f32⟩
  | .hbm, ⟨17, _⟩ => ⟨S1280, .f32⟩
  | .hbm, ⟨18, _⟩ => ⟨S8208x1280, .f32⟩
  | .hbm, ⟨19, _⟩ => ⟨S1x1280, .f32⟩
  | .hbm, ⟨20, _⟩ => ⟨S8208x1280, .f32⟩
  | .hbm, ⟨21, _⟩ => ⟨S8208x1280, .f32⟩
  | .hbm, ⟨22, _⟩ => ⟨S8208x1280, .f32⟩
  | .hbm, ⟨23, _⟩ => ⟨S1x1280, .f32⟩
  | .hbm, ⟨24, _⟩ => ⟨S1280, .f32⟩
  | .hbm, ⟨25, _⟩ => ⟨S8208x1280, .f32⟩
  | .hbm, ⟨26, _⟩ => ⟨S1x1280, .f32⟩
  | .hbm, ⟨27, _⟩ => ⟨S8208x1280, .f32⟩
  | .hbm, ⟨28, _⟩ => ⟨S8208x1280, .f32⟩
  | .hbm, ⟨29, _⟩ => ⟨S8208x1280, .f32⟩
  | .hbm, ⟨30, _⟩ => ⟨S1x1280, .f32⟩
  | .hbm, ⟨31, _⟩ => ⟨S1280, .f32⟩
  | .hbm, ⟨32, _⟩ => ⟨S8208x1280, .f32⟩
  | .hbm, ⟨33, _⟩ => ⟨S1x1280, .f32⟩
  | .hbm, ⟨34, _⟩ => ⟨S8208x1280, .f32⟩
  | .hbm, ⟨35, _⟩ => ⟨S8208x1280, .f32⟩
  | .hbm, ⟨36, _⟩ => ⟨S8208x1280, .f32⟩
  | .hbm, ⟨37, _⟩ => ⟨S1x1280, .f32⟩
  | .hbm, ⟨38, _⟩ => ⟨S8208x1280, .f32⟩
  | .hbm, ⟨39, _⟩ => ⟨S8208x1280, .f32⟩
  | .hbm, ⟨40, _⟩ => ⟨S8208x1280, .f32⟩
  | .hbm, ⟨41, _⟩ => ⟨S_, .f32⟩
  | .hbm, ⟨42, _⟩ => ⟨S1280, .f32⟩
  | .hbm, ⟨43, _⟩ => ⟨S1x1280, .f32⟩
  | .hbm, ⟨44, _⟩ => ⟨S_, .f32⟩
  | .hbm, ⟨45, _⟩ => ⟨S1280, .f32⟩
  | .hbm, ⟨46, _⟩ => ⟨S8208x1280, .f32⟩
  | .hbm, ⟨47, _⟩ => ⟨S8208x1280, .f32⟩
  | .hbm, ⟨48, _⟩ => ⟨S8208x1280, .f32⟩
  | .hbm, ⟨49, _⟩ => ⟨S_, .f32⟩
  | .hbm, ⟨50, _⟩ => ⟨S1280, .f32⟩
  | .hbm, ⟨51, _⟩ => ⟨S1x1280, .f32⟩
  | .hbm, ⟨52, _⟩ => ⟨S_, .f32⟩
  | .hbm, ⟨53, _⟩ => ⟨S1280, .f32⟩
  | .hbm, ⟨54, _⟩ => ⟨S_, .f32⟩
  | .hbm, ⟨55, _⟩ => ⟨S8211x1280, .f32⟩
  | .hbm, ⟨56, _⟩ => ⟨S1x1280, .f32⟩
  | .hbm, ⟨57, _⟩ => ⟨S_, .f32⟩
  | .hbm, ⟨58, _⟩ => ⟨S4x1280, .f32⟩
  | .hbm, ⟨59, _⟩ => ⟨S8208x1280, .f32⟩
  | .hbm, ⟨60, _⟩ => ⟨S8208x1280, .f32⟩
  | .hbm, ⟨61, _⟩ => ⟨S8208x1280, .f32⟩
  | .hbm, ⟨62, _⟩ => ⟨S_, .f32⟩
  | .hbm, ⟨63, _⟩ => ⟨S1280, .f32⟩
  | .hbm, ⟨64, _⟩ => ⟨S1x1280, .f32⟩
  | .hbm, ⟨65, _⟩ => ⟨S_, .f32⟩
  | .hbm, ⟨66, _⟩ => ⟨S1280, .f32⟩
  | .hbm, ⟨67, _⟩ => ⟨S_, .f32⟩
  | .hbm, ⟨68, _⟩ => ⟨S8211x1280, .f32⟩
  | .hbm, ⟨69, _⟩ => ⟨S8211x1280, .f32⟩
  | .hbm, ⟨70, _⟩ => ⟨S1x1280, .f32⟩
  | .hbm, ⟨71, _⟩ => ⟨S_, .f32⟩
  | .hbm, ⟨72, _⟩ => ⟨S4x1280, .f32⟩
  | .hbm, ⟨73, _⟩ => ⟨S4x1280, .f32⟩
  | .hbm, ⟨74, _⟩ => ⟨S8208x1280, .f32⟩
  | .hbm, ⟨75, _⟩ => ⟨S8208x1280, .f32⟩
  | .hbm, ⟨76, _⟩ => ⟨S8208x1280, .f32⟩
  | .hbm, ⟨77, _⟩ => ⟨S_, .f32⟩
  | .hbm, ⟨78, _⟩ => ⟨S1280, .f32⟩
  | .hbm, ⟨79, _⟩ => ⟨S1x1280, .f32⟩
  | .hbm, ⟨80, _⟩ => ⟨S_, .f32⟩
  | .hbm, ⟨81, _⟩ => ⟨S1280, .f32⟩
  | .hbm, ⟨82, _⟩ => ⟨S_, .f32⟩
  | .hbm, ⟨83, _⟩ => ⟨S8211x1280, .f32⟩
  | .hbm, ⟨84, _⟩ => ⟨S8211x1280, .f32⟩
  | .hbm, ⟨85, _⟩ => ⟨S1x1280, .f32⟩
  | .hbm, ⟨86, _⟩ => ⟨S_, .f32⟩
  | .hbm, ⟨87, _⟩ => ⟨S4x1280, .f32⟩
  | .hbm, ⟨88, _⟩ => ⟨S4x1280, .f32⟩
  | .hbm, ⟨89, _⟩ => ⟨S8208x1280, .f32⟩
  | .hbm, ⟨90, _⟩ => ⟨S8208x1280, .f32⟩
  | .hbm, ⟨91, _⟩ => ⟨S8208x1280, .f32⟩
  | .hbm, ⟨92, _⟩ => ⟨S_, .f32⟩
  | .hbm, ⟨93, _⟩ => ⟨S1280, .f32⟩
  | .hbm, ⟨94, _⟩ => ⟨S1x1280, .f32⟩
  | .hbm, ⟨95, _⟩ => ⟨S_, .f32⟩
  | .hbm, ⟨96, _⟩ => ⟨S1280, .f32⟩
  | .hbm, ⟨97, _⟩ => ⟨S_, .f32⟩
  | .hbm, ⟨98, _⟩ => ⟨S8211x1280, .f32⟩
  | .hbm, ⟨99, _⟩ => ⟨S8211x1280, .f32⟩
  | .hbm, ⟨100, _⟩ => ⟨S1x1280, .f32⟩
  | .hbm, ⟨101, _⟩ => ⟨S_, .f32⟩
  | .hbm, ⟨102, _⟩ => ⟨S4x1280, .f32⟩
  | .hbm, ⟨103, _⟩ => ⟨S4x1280, .f32⟩
  | .hbm, ⟨104, _⟩ => ⟨S3x1280, .f32⟩
  | .hbm, ⟨105, _⟩ => ⟨S8208x1280, .f32⟩
  | _, _ => ⟨S8208x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_18 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== RgBwd.lean ====
abbrev S8448x1280 : Shape := ⟨2, ![8448, 1280]⟩
abbrev S8448x2560 : Shape := ⟨2, ![8448, 2560]⟩
abbrev S8448x8960 : Shape := ⟨2, ![8448, 8960]⟩
abbrev S1x1280 : Shape := ⟨2, ![1, 1280]⟩
abbrev S256x1280 : Shape := ⟨2, ![256, 1280]⟩
abbrev S8x1280 : Shape := ⟨2, ![8, 1280]⟩
abbrev S256x2560 : Shape := ⟨2, ![256, 2560]⟩
abbrev S24x1280 : Shape := ⟨2, ![24, 1280]⟩
abbrev S3x8x1280 : Shape := ⟨3, ![3, 8, 1280]⟩
abbrev S16x1280 : Shape := ⟨2, ![16, 1280]⟩
abbrev S1x8x1280 : Shape := ⟨3, ![1, 8, 1280]⟩
abbrev S1280 : Shape := ⟨1, ![1280]⟩

abbrev nBuf : Space → Nat
  | .hbm => 15
  | .vmem => 29
  | .smem => 0
  | _ => 0

abbrev bufTy : (tb : Table) → Fin (tcTables nBuf tb) → BufTy
  | .hbm, ⟨0, _⟩ => ⟨S8448x1280, .bf16⟩
  | .hbm, ⟨1, _⟩ => ⟨S8448x1280, .f32⟩
  | .hbm, ⟨2, _⟩ => ⟨S8448x2560, .bf16⟩
  | .hbm, ⟨3, _⟩ => ⟨S8448x1280, .bf16⟩
  | .hbm, ⟨4, _⟩ => ⟨S8448x8960, .bf16⟩
  | .hbm, ⟨5, _⟩ => ⟨S1x1280, .f32⟩
  | .hbm, ⟨6, _⟩ => ⟨S1x1280, .f32⟩
  | .hbm, ⟨7, _⟩ => ⟨S1x1280, .f32⟩
  | .hbm, ⟨8, _⟩ => ⟨S8448x8960, .bf16⟩
  | .hbm, ⟨9, _⟩ => ⟨S8448x2560, .bf16⟩
  | .hbm, ⟨10, _⟩ => ⟨S8448x1280, .bf16⟩
  | .hbm, ⟨11, _⟩ => ⟨S8448x8960, .bf16⟩
  | .hbm, ⟨12, _⟩ => ⟨S1x1280, .f32⟩
  | .hbm, ⟨13, _⟩ => ⟨S1x1280, .f32⟩
  | .hbm, ⟨14, _⟩ => ⟨S1x1280, .f32⟩
  | .local _ .vmem, ⟨0, _⟩ => ⟨S256x1280, .bf16⟩
  | .local _ .vmem, ⟨1, _⟩ => ⟨S256x1280, .bf16⟩
  | .local _ .vmem, ⟨2, _⟩ => ⟨S256x1280, .f32⟩
  | .local _ .vmem, ⟨3, _⟩ => ⟨S256x1280, .f32⟩
  | .local _ .vmem, ⟨4, _⟩ => ⟨S8x1280, .f32⟩
  | .local _ .vmem, ⟨5, _⟩ => ⟨S8x1280, .f32⟩
  | .local _ .vmem, ⟨6, _⟩ => ⟨S256x1280, .bf16⟩
  | .local _ .vmem, ⟨7, _⟩ => ⟨S256x1280, .bf16⟩
  | .local _ .vmem, ⟨8, _⟩ => ⟨S256x1280, .bf16⟩
  | .local _ .vmem, ⟨9, _⟩ => ⟨S256x1280, .bf16⟩
  | .local _ .vmem, ⟨10, _⟩ => ⟨S256x1280, .bf16⟩
  | .local _ .vmem, ⟨11, _⟩ => ⟨S256x1280, .bf16⟩
  | .local _ .vmem, ⟨12, _⟩ => ⟨S256x1280, .bf16⟩
  | .local _ .vmem, ⟨13, _⟩ => ⟨S256x1280, .bf16⟩
  | .local _ .vmem, ⟨14, _⟩ => ⟨S1x1280, .f32⟩
  | .local _ .vmem, ⟨15, _⟩ => ⟨S1x1280, .f32⟩
  | .local _ .vmem, ⟨16, _⟩ => ⟨S1x1280, .f32⟩
  | .local _ .vmem, ⟨17, _⟩ => ⟨S256x2560, .bf16⟩
  | .local _ .vmem, ⟨18, _⟩ => ⟨S256x2560, .bf16⟩
  | .local _ .vmem, ⟨19, _⟩ => ⟨S256x1280, .bf16⟩
  | .local _ .vmem, ⟨20, _⟩ => ⟨S256x1280, .bf16⟩
  | .local _ .vmem, ⟨21, _⟩ => ⟨S256x1280, .bf16⟩
  | .local _ .vmem, ⟨22, _⟩ => ⟨S256x1280, .bf16⟩
  | .local _ .vmem, ⟨23, _⟩ => ⟨S1x1280, .f32⟩
  | .local _ .vmem, ⟨24, _⟩ => ⟨S1x1280, .f32⟩
  | .local _ .vmem, ⟨25, _⟩ => ⟨S1x1280, .f32⟩
  | .local _ .vmem, ⟨26, _⟩ => ⟨S24x1280, .f32⟩
  | .local _ .vmem, ⟨27, _⟩ => ⟨S3x8x1280, .f32⟩
  | .local _ .vmem, ⟨28, _⟩ => ⟨S1x1280, .f32⟩
  | _, _ => ⟨S8448x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![1, 33], ![false, false]⟩

@[reducible] def k0_t1_loop : Scf.Loop 32 :=
  let c0_i32_14 : BitVec 32 := 0#32
  let c16_i32 : BitVec 32 := 16#32
  let v17 : BitVec 32 := Scalar.addi c0_i32_14 c16_i32
  let c1_i32 : BitVec 32 := 1#32
  ⟨c0_i32_14, v17, c1_i32⟩
def k0_mult1 (k0_t1 : Fin k0_t1_loop.trips) : BitVec 32 :=
  let c15_i32 : BitVec 32 := 15#32
  let c0_i32_14 : BitVec 32 := 0#32
  let c1_i32 : BitVec 32 := 1#32
  let arg22 : BitVec 32 := Scf.iv c0_i32_14 c1_i32 k0_t1
  let v58 : BitVec 32 := Scalar.subi c15_i32 arg22
  let c16_i32_45 : BitVec 32 := 16#32
  let v59 : BitVec 32 := Scalar.muli v58 c16_i32_45
  v59
def k0_off1 (k0_t1 : Fin k0_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k0_t1
  let v58 : BitVec 32 := Scalar.subi c15_i32 arg22
  let c16_i32_45 : BitVec 32 := 16#32
  let v59 : BitVec 32 := Scalar.muli v58 c16_i32_45
  let v60 : BitVec 32 := v59
  let v61 : Index := Scalar.indexCast v60
  let c0_46 : Index := 0#32
  ![v61.toNat, 0]
def k0_mult2 (k0_t1 : Fin k0_t1_loop.trips) : BitVec 32 :=
  let c15_i32 : BitVec 32 := 15#32
  let c0_i32_14 : BitVec 32 := 0#32
  let c1_i32 : BitVec 32 := 1#32
  let arg22 : BitVec 32 := Scf.iv c0_i32_14 c1_i32 k0_t1
  let v58 : BitVec 32 := Scalar.subi c15_i32 arg22
  let c16_i32_45 : BitVec 32 := 16#32
  let v59 : BitVec 32 := Scalar.muli v58 c16_i32_45
  let v60 : BitVec 32 := v59
  let c16_i32_88 : BitVec 32 := 16#32
  let v316 : BitVec 32 := Scalar.subi v60 c16_i32_88
  let c0_i32_89 : BitVec 32 := 0#32
  let v317 : BitVec 32 := Scalar.maxsi v316 c0_i32_89
  v317
def k0_off2 (k0_t1 : Fin k0_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k0_t1
  let v58 : BitVec 32 := Scalar.subi c15_i32 arg22
  let c16_i32_45 : BitVec 32 := 16#32
  let v59 : BitVec 32 := Scalar.muli v58 c16_i32_45
  let v60 : BitVec 32 := v59
  let c16_i32_88 : BitVec 32 := 16#32
  let v316 : BitVec 32 := Scalar.subi v60 c16_i32_88
  let c0_i32_89 : BitVec 32 := 0#32
  let v317 : BitVec 32 := Scalar.maxsi v316 c0_i32_89
  let v318 : BitVec 32 := v317
  let v319 : Index := Scalar.indexCast v318
  let c0_90 : Index := 0#32
  ![v319.toNat, 0]
def k0_off3 (k0_t1 : Fin k0_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k0_t1
  let v58 : BitVec 32 := Scalar.subi c15_i32 arg22
  let c16_i32_45 : BitVec 32 := 16#32
  let v59 : BitVec 32 := Scalar.muli v58 c16_i32_45
  let v60 : BitVec 32 := v59
  let v355 : Index := Scalar.indexCast v60
  let c0_101 : Index := 0#32
  ![v355.toNat, 0]
def k0_off4 (k0_t1 : Fin k0_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k0_t1
  let v58 : BitVec 32 := Scalar.subi c15_i32 arg22
  let c16_i32_45 : BitVec 32 := 16#32
  let v59 : BitVec 32 := Scalar.muli v58 c16_i32_45
  let v60 : BitVec 32 := v59
  let v358 : Index := Scalar.indexCast v60
  let c1280 : Index := 1280#32
  ![v358.toNat, 1280]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c32_i32_0 : BitVec 32 := 32#32
  let v1 : BitVec 32 := Scalar.muli v0 c32_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  ![v3.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let v1 : BitVec 32 := Scalar.addi c1_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c6_i32 : BitVec 32 := 6#32
  let v1 : BitVec 32 := Scalar.addi c6_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c6_i32 : BitVec 32 := 6#32
  let v1 : BitVec 32 := Scalar.addi c6_i32 arg0
  let c0_i32 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S256x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1280 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== HgrnBwd.lean ====
abbrev S8448x1024 : Shape := ⟨2, ![8448, 1024]⟩
abbrev S8448x8960 : Shape := ⟨2, ![8448, 8960]⟩
abbrev S132x8x128x128 : Shape := ⟨4, ![132, 8, 128, 128]⟩
abbrev S2x1024 : Shape := ⟨2, ![2, 1024]⟩
abbrev S1x128 : Shape := ⟨2, ![1, 128]⟩
abbrev S256x1024 : Shape := ⟨2, ![256, 1024]⟩
abbrev S4x8x128x128 : Shape := ⟨4, ![4, 8, 128, 128]⟩
abbrev S256x4096 : Shape := ⟨2, ![256, 4096]⟩
abbrev S8x128x128 : Shape := ⟨3, ![8, 128, 128]⟩
abbrev S1x1024 : Shape := ⟨2, ![1, 1024]⟩
abbrev S64x128 : Shape := ⟨2, ![64, 128]⟩
abbrev S64x1024 : Shape := ⟨2, ![64, 1024]⟩
abbrev S64x64 : Shape := ⟨2, ![64, 64]⟩
abbrev S1x1x128x128 : Shape := ⟨4, ![1, 1, 128, 128]⟩
abbrev S128x128 : Shape := ⟨2, ![128, 128]⟩
abbrev S1x128x128 : Shape := ⟨3, ![1, 128, 128]⟩
abbrev S64 : Shape := ⟨1, ![64]⟩
abbrev S64x1 : Shape := ⟨2, ![64, 1]⟩
abbrev S128 : Shape := ⟨1, ![128]⟩
abbrev S1024 : Shape := ⟨1, ![1024]⟩

abbrev nBuf : Space → Nat
  | .hbm => 10
  | .vmem => 22
  | .smem => 0
  | _ => 0

abbrev bufTy : (tb : Table) → Fin (tcTables nBuf tb) → BufTy
  | .hbm, ⟨0, _⟩ => ⟨S8448x1024, .bf16⟩
  | .hbm, ⟨1, _⟩ => ⟨S8448x8960, .bf16⟩
  | .hbm, ⟨2, _⟩ => ⟨S8448x1024, .f32⟩
  | .hbm, ⟨3, _⟩ => ⟨S132x8x128x128, .f32⟩
  | .hbm, ⟨4, _⟩ => ⟨S2x1024, .f32⟩
  | .hbm, ⟨5, _⟩ => ⟨S1x128, .f32⟩
  | .hbm, ⟨6, _⟩ => ⟨S8448x8960, .bf16⟩
  | .hbm, ⟨7, _⟩ => ⟨S8448x8960, .bf16⟩
  | .hbm, ⟨8, _⟩ => ⟨S1x128, .f32⟩
  | .hbm, ⟨9, _⟩ => ⟨S2x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S4x8x128x128, .f32⟩
  | .local _ .vmem, ⟨13, _⟩ => ⟨S4x8x128x128, .f32⟩
  | .local _ .vmem, ⟨14, _⟩ => ⟨S2x1024, .f32⟩
  | .local _ .vmem, ⟨15, _⟩ => ⟨S1x128, .f32⟩
  | .local _ .vmem, ⟨16, _⟩ => ⟨S256x4096, .bf16⟩
  | .local _ .vmem, ⟨17, _⟩ => ⟨S256x4096, .bf16⟩
  | .local _ .vmem, ⟨18, _⟩ => ⟨S1x128, .f32⟩
  | .local _ .vmem, ⟨19, _⟩ => ⟨S2x1024, .f32⟩
  | .local _ .vmem, ⟨20, _⟩ => ⟨S8x128x128, .f32⟩
  | .local _ .vmem, ⟨21, _⟩ => ⟨S1x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![33], ![false]⟩

def k0_mult1 : BitVec 32 :=
  let c3_i32 : BitVec 32 := 3#32
  let c0_i32_6 : BitVec 32 := 0#32
  let v18 : BitVec 32 := Scalar.subi c3_i32 c0_i32_6
  let c64_i32 : BitVec 32 := 64#32
  let v19 : BitVec 32 := Scalar.muli v18 c64_i32
  v19
def k0_off1 (c0_i32_6 : BitVec 32) : Fin 2 → Nat :=
  let c3_i32 : BitVec 32 := 3#32
  let v18 : BitVec 32 := Scalar.subi c3_i32 c0_i32_6
  let c64_i32 : BitVec 32 := 64#32
  let v19 : BitVec 32 := Scalar.muli v18 c64_i32
  let v20 : BitVec 32 := v19
  let v21 : Index := Scalar.indexCast v20
  let c0_7 : Index := 0#32
  ![v21.toNat, 0]
def k0_off2 (c0_i32_6 : BitVec 32) : Fin 4 → Nat :=
  let c3_i32 : BitVec 32 := 3#32
  let v18 : BitVec 32 := Scalar.subi c3_i32 c0_i32_6
  let v113 : Index := Scalar.indexCast v18
  let c0_28 : Index := 0#32
  let c0_29 : Index := 0#32
  let c0_30 : Index := 0#32
  ![v113.toNat, 0, 0, 0]
def k0_off3 (c0_i32_6 : BitVec 32) : Fin 4 → Nat :=
  let c3_i32 : BitVec 32 := 3#32
  let v18 : BitVec 32 := Scalar.subi c3_i32 c0_i32_6
  let v235 : Index := Scalar.indexCast v18
  let c1 : Index := 1#32
  let c0_62 : Index := 0#32
  let c0_63 : Index := 0#32
  ![v235.toNat, 1, 0, 0]
def k0_off4 (c0_i32_6 : BitVec 32) : Fin 4 → Nat :=
  let c3_i32 : BitVec 32 := 3#32
  let v18 : BitVec 32 := Scalar.subi c3_i32 c0_i32_6
  let v357 : Index := Scalar.indexCast v18
  let c2 : Index := 2#32
  let c0_95 : Index := 0#32
  let c0_96 : Index := 0#32
  ![v357.toNat, 2, 0, 0]
def k0_off5 (c0_i32_6 : BitVec 32) : Fin 4 → Nat :=
  let c3_i32 : BitVec 32 := 3#32
  let v18 : BitVec 32 := Scalar.subi c3_i32 c0_i32_6
  let v479 : Index := Scalar.indexCast v18
  let c3 : Index := 3#32
  let c0_128 : Index := 0#32
  let c0_129 : Index := 0#32
  ![v479.toNat, 3, 0, 0]
def k0_off6 (c0_i32_6 : BitVec 32) : Fin 4 → Nat :=
  let c3_i32 : BitVec 32 := 3#32
  let v18 : BitVec 32 := Scalar.subi c3_i32 c0_i32_6
  let v601 : Index := Scalar.indexCast v18
  let c4 : Index := 4#32
  let c0_161 : Index := 0#32
  let c0_162 : Index := 0#32
  ![v601.toNat, 4, 0, 0]
def k0_off7 (c0_i32_6 : BitVec 32) : Fin 4 → Nat :=
  let c3_i32 : BitVec 32 := 3#32
  let v18 : BitVec 32 := Scalar.subi c3_i32 c0_i32_6
  let v723 : Index := Scalar.indexCast v18
  let c5 : Index := 5#32
  let c0_194 : Index := 0#32
  let c0_195 : Index := 0#32
  ![v723.toNat, 5, 0, 0]
def k0_off8 (c0_i32_6 : BitVec 32) : Fin 4 → Nat :=
  let c3_i32 : BitVec 32 := 3#32
  let v18 : BitVec 32 := Scalar.subi c3_i32 c0_i32_6
  let v845 : Index := Scalar.indexCast v18
  let c6 : Index := 6#32
  let c0_227 : Index := 0#32
  let c0_228 : Index := 0#32
  ![v845.toNat, 6, 0, 0]
def k0_off9 (c0_i32_6 : BitVec 32) : Fin 4 → Nat :=
  let c3_i32 : BitVec 32 := 3#32
  let v18 : BitVec 32 := Scalar.subi c3_i32 c0_i32_6
  let v967 : Index := Scalar.indexCast v18
  let c7 : Index := 7#32
  let c0_260 : Index := 0#32
  let c0_261 : Index := 0#32
  ![v967.toNat, 7, 0, 0]
def k0_off10 (c0_i32_6 : BitVec 32) : Fin 2 → Nat :=
  let c3_i32 : BitVec 32 := 3#32
  let v18 : BitVec 32 := Scalar.subi c3_i32 c0_i32_6
  let c64_i32 : BitVec 32 := 64#32
  let v19 : BitVec 32 := Scalar.muli v18 c64_i32
  let v20 : BitVec 32 := v19
  let v1132 : Index := Scalar.indexCast v20
  let c0_309 : Index := 0#32
  ![v1132.toNat, 0]
def k0_off11 (c0_i32_6 : BitVec 32) : Fin 2 → Nat :=
  let c3_i32 : BitVec 32 := 3#32
  let v18 : BitVec 32 := Scalar.subi c3_i32 c0_i32_6
  let c64_i32 : BitVec 32 := 64#32
  let v19 : BitVec 32 := Scalar.muli v18 c64_i32
  let v20 : BitVec 32 := v19
  let v1139 : Index := Scalar.indexCast v20
  let c1024 : Index := 1024#32
  ![v1139.toNat, 1024]
def k0_off12 (c0_i32_6 : BitVec 32) : Fin 2 → Nat :=
  let c3_i32 : BitVec 32 := 3#32
  let v18 : BitVec 32 := Scalar.subi c3_i32 c0_i32_6
  let c64_i32 : BitVec 32 := 64#32
  let v19 : BitVec 32 := Scalar.muli v18 c64_i32
  let v20 : BitVec 32 := v19
  let v1143 : Index := Scalar.indexCast v20
  let c2048 : Index := 2048#32
  ![v1143.toNat, 2048]
def k0_off13 (c0_i32_6 : BitVec 32) : Fin 2 → Nat :=
  let c3_i32 : BitVec 32 := 3#32
  let v18 : BitVec 32 := Scalar.subi c3_i32 c0_i32_6
  let c64_i32 : BitVec 32 := 64#32
  let v19 : BitVec 32 := Scalar.muli v18 c64_i32
  let v20 : BitVec 32 := v19
  let v1147 : Index := Scalar.indexCast v20
  let c3072 : Index := 3072#32
  ![v1147.toNat, 3072]
def k0_mult2 : BitVec 32 :=
  let c3_i32_311 : BitVec 32 := 3#32
  let c1_i32 : BitVec 32 := 1#32
  let v1149 : BitVec 32 := Scalar.subi c3_i32_311 c1_i32
  let c64_i32_312 : BitVec 32 := 64#32
  let v1150 : BitVec 32 := Scalar.muli v1149 c64_i32_312
  v1150
def k0_mult3 : BitVec 32 :=
  let c3_i32_627 : BitVec 32 := 3#32
  let c2_i32 : BitVec 32 := 2#32
  let v2280 : BitVec 32 := Scalar.subi c3_i32_627 c2_i32
  let c64_i32_628 : BitVec 32 := 64#32
  let v2281 : BitVec 32 := Scalar.muli v2280 c64_i32_628
  v2281
def k0_mult4 : BitVec 32 :=
  let c3_i32_944 : BitVec 32 := 3#32
  let c3_i32_943 : BitVec 32 := 3#32
  let v3411 : BitVec 32 := Scalar.subi c3_i32_944 c3_i32_943
  let c64_i32_945 : BitVec 32 := 64#32
  let v3412 : BitVec 32 := Scalar.muli v3411 c64_i32_945
  v3412
def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Out.lean ====
abbrev S8208x1024 : Shape := ⟨2, ![8208, 1024]⟩
abbrev S8208x8704 : Shape := ⟨2, ![8208, 8704]⟩
abbrev S1024x1024 : Shape := ⟨2, ![1024, 1024]⟩
abbrev S_ : Shape := ⟨0, ![]⟩
abbrev S8448x1024 : Shape := ⟨2, ![8448, 1024]⟩
abbrev S8208x6144 : Shape := ⟨2, ![8208, 6144]⟩
abbrev S8208x256 : Shape := ⟨2, ![8208, 256]⟩
abbrev S8208x2560 : Shape := ⟨2, ![8208, 2560]⟩
abbrev S8208x8960 : Shape := ⟨2, ![8208, 8960]⟩
abbrev S8448x8960 : Shape := ⟨2, ![8448, 8960]⟩
abbrev S768x1024 : Shape := ⟨2, ![768, 1024]⟩

abbrev nBuf : Space → Nat
  | .hbm => 31
  | .vmem => 16
  | .smem => 0
  | _ => 0

abbrev bufTy : (tb : Table) → Fin (tcTables nBuf tb) → BufTy
  | .hbm, ⟨0, _⟩ => ⟨S8208x1024, .f32⟩
  | .hbm, ⟨1, _⟩ => ⟨S8208x8704, .f32⟩
  | .hbm, ⟨2, _⟩ => ⟨S8208x1024, .f32⟩
  | .hbm, ⟨3, _⟩ => ⟨S8208x1024, .f32⟩
  | .hbm, ⟨4, _⟩ => ⟨S1024x1024, .f32⟩
  | .hbm, ⟨5, _⟩ => ⟨S_, .i32⟩
  | .hbm, ⟨6, _⟩ => ⟨S_, .f32⟩
  | .hbm, ⟨7, _⟩ => ⟨S8448x1024, .f32⟩
  | .hbm, ⟨8, _⟩ => ⟨S8448x1024, .bf16⟩
  | .hbm, ⟨9, _⟩ => ⟨S1024x1024, .bf16⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S_, .i32⟩
  | .hbm, ⟨14, _⟩ => ⟨S_, .f32⟩
  | .hbm, ⟨15, _⟩ => ⟨S8448x1024, .f32⟩
  | .hbm, ⟨16, _⟩ => ⟨S8448x1024, .bf16⟩
  | .hbm, ⟨17, _⟩ => ⟨S8208x6144, .f32⟩
  | .hbm, ⟨18, _⟩ => ⟨S_, .f32⟩
  | .hbm, ⟨19, _⟩ => ⟨S8208x256, .f32⟩
  | .hbm, ⟨20, _⟩ => ⟨S8208x2560, .f32⟩
  | .hbm, ⟨21, _⟩ => ⟨S8208x8960, .f32⟩
  | .hbm, ⟨22, _⟩ => ⟨S_, .i32⟩
  | .hbm, ⟨23, _⟩ => ⟨S_, .f32⟩
  | .hbm, ⟨24, _⟩ => ⟨S8448x8960, .f32⟩
  | .hbm, ⟨25, _⟩ => ⟨S8448x8960, .bf16⟩
  | .hbm, ⟨26, _⟩ => ⟨S8448x1024, .f32⟩
  | .hbm, ⟨27, _⟩ => ⟨S8448x1024, .bf16⟩
  | .hbm, ⟨28, _⟩ => ⟨S8208x1024, .f32⟩
  | .hbm, ⟨29, _⟩ => ⟨S8208x1024, .bf16⟩
  | .hbm, ⟨30, _⟩ => ⟨S8208x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .f32⟩
  | .local _ .vmem, ⟨12, _⟩ => ⟨S768x1024, .f32⟩
  | .local _ .vmem, ⟨13, _⟩ => ⟨S768x1024, .bf16⟩
  | .local _ .vmem, ⟨14, _⟩ => ⟨S768x1024, .bf16⟩
  | .local _ .vmem, ⟨15, _⟩ => ⟨S768x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_call3_v0 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![11, 1, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== OutRefIdeal.lean ====
abbrev S8208x1024 : Shape := ⟨2, ![8208, 1024]⟩
abbrev S8208x8704 : Shape := ⟨2, ![8208, 8704]⟩
abbrev S1024x1024 : Shape := ⟨2, ![1024, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x8704, .f32⟩
  | .hbm, ⟨2, _⟩ => ⟨S8208x1024, .f32⟩
  | .hbm, ⟨3, _⟩ => ⟨S8208x1024, .f32⟩
  | .hbm, ⟨4, _⟩ => ⟨S1024x1024, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S8208x1024, .f32⟩
  | .hbm, ⟨9, _⟩ => ⟨S_, .f32⟩
  | .hbm, ⟨10, _⟩ => ⟨S8208x1024, .f32⟩
  | .hbm, ⟨11, _⟩ => ⟨S8208x1024, .f32⟩
  | .hbm, ⟨12, _⟩ => ⟨S_, .f32⟩
  | .hbm, ⟨13, _⟩ => ⟨S8208x1024, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S8208x1024, .f32⟩
  | .hbm, ⟨18, _⟩ => ⟨S_, .f32⟩
  | .hbm, ⟨19, _⟩ => ⟨S8208x1024, .f32⟩
  | .hbm, ⟨20, _⟩ => ⟨S8208x1024, .f32⟩
  | .hbm, ⟨21, _⟩ => ⟨S_, .f32⟩
  | .hbm, ⟨22, _⟩ => ⟨S8208x1024, .f32⟩
  | .hbm, ⟨23, _⟩ => ⟨S8208x1024, .f32⟩
  | .hbm, ⟨24, _⟩ => ⟨S8208x1024, .f32⟩
  | .hbm, ⟨25, _⟩ => ⟨S8208x1024, .f32⟩
  | .hbm, ⟨26, _⟩ => ⟨S8208x1024, .f32⟩
  | .hbm, ⟨27, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== ConvF.lean ====
abbrev S8208x8704 : Shape := ⟨2, ![8208, 8704]⟩
abbrev S4x1280 : Shape := ⟨2, ![4, 1280]⟩
abbrev S1280 : Shape := ⟨1, ![1280]⟩
abbrev S8208x6144 : Shape := ⟨2, ![8208, 6144]⟩
abbrev S_ : Shape := ⟨0, ![]⟩
abbrev S8208x256 : Shape := ⟨2, ![8208, 256]⟩
abbrev S8208x2560 : Shape := ⟨2, ![8208, 2560]⟩
abbrev S8208x8960 : Shape := ⟨2, ![8208, 8960]⟩
abbrev S8448x8960 : Shape := ⟨2, ![8448, 8960]⟩
abbrev S1x1280 : Shape := ⟨2, ![1, 1280]⟩
abbrev S8448x1280 : Shape := ⟨2, ![8448, 1280]⟩
abbrev S256x1280 : Shape := ⟨2, ![256, 1280]⟩
abbrev S16x1280 : Shape := ⟨2, ![16, 1280]⟩
abbrev S32x1280 : Shape := ⟨2, ![32, 1280]⟩
abbrev S8208x1280 : Shape := ⟨2, ![8208, 1280]⟩

abbrev nBuf : Space → Nat
  | .hbm => 16
  | .vmem => 8
  | .smem => 0
  | _ => 0

abbrev bufTy : (tb : Table) → Fin (tcTables nBuf tb) → BufTy
  | .hbm, ⟨0, _⟩ => ⟨S8208x8704, .f32⟩
  | .hbm, ⟨1, _⟩ => ⟨S4x1280, .f32⟩
  | .hbm, ⟨2, _⟩ => ⟨S1280, .f32⟩
  | .hbm, ⟨3, _⟩ => ⟨S8208x6144, .f32⟩
  | .hbm, ⟨4, _⟩ => ⟨S_, .f32⟩
  | .hbm, ⟨5, _⟩ => ⟨S8208x256, .f32⟩
  | .hbm, ⟨6, _⟩ => ⟨S8208x2560, .f32⟩
  | .hbm, ⟨7, _⟩ => ⟨S8208x8960, .f32⟩
  | .hbm, ⟨8, _⟩ => ⟨S_, .i32⟩
  | .hbm, ⟨9, _⟩ => ⟨S_, .f32⟩
  | .hbm, ⟨10, _⟩ => ⟨S8448x8960, .f32⟩
  | .hbm, ⟨11, _⟩ => ⟨S8448x8960, .bf16⟩
  | .hbm, ⟨12, _⟩ => ⟨S1x1280, .f32⟩
  | .hbm, ⟨13, _⟩ => ⟨S8448x1280, .bf16⟩
  | .hbm, ⟨14, _⟩ => ⟨S8208x1280, .bf16⟩
  | .hbm, ⟨15, _⟩ => ⟨S8208x1280, .f32⟩
  | .local _ .vmem, ⟨0, _⟩ => ⟨S256x1280, .bf16⟩
  | .local _ .vmem, ⟨1, _⟩ => ⟨S256x1280, .bf16⟩
  | .local _ .vmem, ⟨2, _⟩ => ⟨S16x1280, .bf16⟩
  | .local _ .vmem, ⟨3, _⟩ => ⟨S16x1280, .bf16⟩
  | .local _ .vmem, ⟨4, _⟩ => ⟨S4x1280, .f32⟩
  | .local _ .vmem, ⟨5, _⟩ => ⟨S1x1280, .f32⟩
  | .local _ .vmem, ⟨6, _⟩ => ⟨S256x1280, .bf16⟩
  | .local _ .vmem, ⟨7, _⟩ => ⟨S256x1280, .bf16⟩
  | _, _ => ⟨S8208x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 33], ![false, false]⟩

@[reducible] def k0_t1_loop : Scf.Loop 32 :=
  let c0_i32_5 : BitVec 32 := 0#32
  let c16_i32 : BitVec 32 := 16#32
  let v9 : BitVec 32 := Scalar.addi c0_i32_5 c16_i32
  let c1_i32 : BitVec 32 := 1#32
  ⟨c0_i32_5, v9, c1_i32⟩
def k0_mult1 (k0_t1 : Fin k0_t1_loop.trips) : BitVec 32 :=
  let c0_i32_5 : BitVec 32 := 0#32
  let c1_i32 : BitVec 32 := 1#32
  let arg7 : BitVec 32 := Scf.iv c0_i32_5 c1_i32 k0_t1
  let c16_i32_7 : BitVec 32 := 16#32
  let v11 : BitVec 32 := Scalar.muli arg7 c16_i32_7
  v11
def k0_off1 (k0_t1 : Fin k0_t1_loop.trips) : Fin 2 → Nat :=
  let c0_i32_5 : BitVec 32 := 0#32
  let c1_i32 : BitVec 32 := 1#32
  let arg7 : BitVec 32 := Scf.iv c0_i32_5 c1_i32 k0_t1
  let c16_i32_7 : BitVec 32 := 16#32
  let v11 : BitVec 32 := Scalar.muli arg7 c16_i32_7
  let v12 : BitVec 32 := v11
  let v13 : Index := Scalar.indexCast v12
  let c0_8 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFRefIdeal.lean ====
abbrev S8208x8704 : Shape := ⟨2, ![8208, 8704]⟩
abbrev S4x1280 : Shape := ⟨2, ![4, 1280]⟩
abbrev S1280 : Shape := ⟨1, ![1280]⟩
abbrev S_ : Shape := ⟨0, ![]⟩
abbrev S3x1280 : Shape := ⟨2, ![3, 1280]⟩
abbrev S8208x1280 : Shape := ⟨2, ![8208, 1280]⟩
abbrev S8211x1280 : Shape := ⟨2, ![8211, 1280]⟩
abbrev S1x1280 : Shape := ⟨2, ![1, 1280]⟩

abbrev nBuf : Space → Nat
  | .hbm => 37
  | .vmem => 0
  | .smem => 0
  | _ => 0

abbrev bufTy : (tb : Table) → Fin (tcTables nBuf tb) → BufTy
  | .hbm, ⟨0, _⟩ => ⟨S8208x8704, .f32⟩
  | .hbm, ⟨1, _⟩ => ⟨S4x1280, .f32⟩
  | .hbm, ⟨2, _⟩ => ⟨S1280, .f32⟩
  | .hbm, ⟨3, _⟩ => ⟨S_, .f32⟩
  | .hbm, ⟨4, _⟩ => ⟨S3x1280, .f32⟩
  | .hbm, ⟨5, _⟩ => ⟨S8208x1280, .f32⟩
  | .hbm, ⟨6, _⟩ => ⟨S8211x1280, .f32⟩
  | .hbm, ⟨7, _⟩ => ⟨S1x1280, .f32⟩
  | .hbm, ⟨8, _⟩ => ⟨S1280, .f32⟩
  | .hbm, ⟨9, _⟩ => ⟨S8208x1280, .f32⟩
  | .hbm, ⟨10, _⟩ => ⟨S1x1280, .f32⟩
  | .hbm, ⟨11, _⟩ => ⟨S8208x1280, .f32⟩
  | .hbm, ⟨12, _⟩ => ⟨S8208x1280, .f32⟩
  | .hbm, ⟨13, _⟩ => ⟨S1x1280, .f32⟩
  | .hbm, ⟨14, _⟩ => ⟨S1280, .f32⟩
  | .hbm, ⟨15, _⟩ => ⟨S8208x1280, .f32⟩
  | .hbm, ⟨16, _⟩ => ⟨S1x1280, .f32⟩
  | .hbm, ⟨17, _⟩ => ⟨S8208x1280, .f32⟩
  | .hbm, ⟨18, _⟩ => ⟨S8208x1280, .f32⟩
  | .hbm, ⟨19, _⟩ => ⟨S8208x1280, .f32⟩
  | .hbm, ⟨20, _⟩ => ⟨S1x1280, .f32⟩
  | .hbm, ⟨21, _⟩ => ⟨S1280, .f32⟩
  | .hbm, ⟨22, _⟩ => ⟨S8208x1280, .f32⟩
  | .hbm, ⟨23, _⟩ => ⟨S1x1280, .f32⟩
  | .hbm, ⟨24, _⟩ => ⟨S8208x1280, .f32⟩
  | .hbm, ⟨25, _⟩ => ⟨S8208x1280, .f32⟩
  | .hbm, ⟨26, _⟩ => ⟨S8208x1280, .f32⟩
  | .hbm, ⟨27, _⟩ => ⟨S1x1280, .f32⟩
  | .hbm, ⟨28, _⟩ => ⟨S1280, .f32⟩
  | .hbm, ⟨29, _⟩ => ⟨S8208x1280, .f32⟩
  | .hbm, ⟨30, _⟩ => ⟨S1x1280, .f32⟩
  | .hbm, ⟨31, _⟩ => ⟨S8208x1280, .f32⟩
  | .hbm, ⟨32, _⟩ => ⟨S8208x1280, .f32⟩
  | .hbm, ⟨33, _⟩ => ⟨S8208x1280, .f32⟩
  | .hbm, ⟨34, _⟩ => ⟨S1x1280, .f32⟩
  | .hbm, ⟨35, _⟩ => ⟨S8208x1280, .f32⟩
  | .hbm, ⟨36, _⟩ => ⟨S8208x1280, .f32⟩
  | _, _ => ⟨S8208x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Ffn.lean ====
abbrev S8208x1024 : Shape := ⟨2, ![8208, 1024]⟩
abbrev S1024x5632 : Shape := ⟨2, ![1024, 5632]⟩
abbrev S1024 : Shape := ⟨1, ![1024]⟩
abbrev S_ : Shape := ⟨0, ![]⟩
abbrev S8448x1024 : Shape := ⟨2, ![8448, 1024]⟩
abbrev S1024x1408 : Shape := ⟨2, ![1024, 1408]⟩
abbrev S1x1024 : Shape := ⟨2, ![1, 1024]⟩
abbrev S8448x5632 : Shape := ⟨2, ![8448, 5632]⟩
abbrev S8448x2816 : Shape := ⟨2, ![8448, 2816]⟩
abbrev S384x1024 : Shape := ⟨2, ![384, 1024]⟩
abbrev S1024x2816 : Shape := ⟨2, ![1024, 2816]⟩
abbrev S384x2816 : Shape := ⟨2, ![384, 2816]⟩
abbrev S384x1408 : Shape := ⟨2, ![384, 1408]⟩
abbrev S384 : Shape := ⟨1, ![384]⟩
abbrev S384x1 : Shape := ⟨2, ![384, 1]⟩
abbrev S8208x5632 : Shape := ⟨2, ![8208, 5632]⟩
abbrev S8208x1408 : Shape := ⟨2, ![8208, 1408]⟩
abbrev S8208x2816 : Shape := ⟨2, ![8208, 2816]⟩

abbrev nBuf : Space → Nat
  | .hbm => 27
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S1024x5632, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x5632, .f32⟩
  | .hbm, ⟨11, _⟩ => ⟨S1024x5632, .bf16⟩
  | .hbm, ⟨12, _⟩ => ⟨S1x1024, .f32⟩
  | .hbm, ⟨13, _⟩ => ⟨S8448x5632, .bf16⟩
  | .hbm, ⟨14, _⟩ => ⟨S8448x2816, .bf16⟩
  | .hbm, ⟨15, _⟩ => ⟨S8448x1024, .bf16⟩
  | .hbm, ⟨16, _⟩ => ⟨S8208x5632, .bf16⟩
  | .hbm, ⟨17, _⟩ => ⟨S8208x5632, .f32⟩
  | .hbm, ⟨18, _⟩ => ⟨S8208x1408, .f32⟩
  | .hbm, ⟨19, _⟩ => ⟨S8208x1408, .f32⟩
  | .hbm, ⟨20, _⟩ => ⟨S8208x1408, .f32⟩
  | .hbm, ⟨21, _⟩ => ⟨S8208x1408, .f32⟩
  | .hbm, ⟨22, _⟩ => ⟨S8208x5632, .f32⟩
  | .hbm, ⟨23, _⟩ => ⟨S8208x2816, .bf16⟩
  | .hbm, ⟨24, _⟩ => ⟨S8208x2816, .f32⟩
  | .hbm, ⟨25, _⟩ => ⟨S8208x1024, .bf16⟩
  | .hbm, ⟨26, _⟩ => ⟨S8208x1024, .f32⟩
  | .local _ .vmem, ⟨0, _⟩ => ⟨S384x1024, .f32⟩
  | .local _ .vmem, ⟨1, _⟩ => ⟨S384x1024, .f32⟩
  | .local _ .vmem, ⟨2, _⟩ => ⟨S1024x2816, .bf16⟩
  | .local _ .vmem, ⟨3, _⟩ => ⟨S1024x2816, .bf16⟩
  | .local _ .vmem, ⟨4, _⟩ => ⟨S1x1024, .f32⟩
  | .local _ .vmem, ⟨5, _⟩ => ⟨S384x2816, .bf16⟩
  | .local _ .vmem, ⟨6, _⟩ => ⟨S384x2816, .bf16⟩
  | .local _ .vmem, ⟨7, _⟩ => ⟨S384x1408, .bf16⟩
  | .local _ .vmem, ⟨8, _⟩ => ⟨S384x1408, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![22, 2, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== FfnRefIdeal.lean ====
abbrev S8208x1024 : Shape := ⟨2, ![8208, 1024]⟩
abbrev S1024x5632 : Shape := ⟨2, ![1024, 5632]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x5632 : Shape := ⟨2, ![8208, 5632]⟩
abbrev S8208x2816 : Shape := ⟨2, ![8208, 2816]⟩

abbrev nBuf : Space → Nat
  | .hbm => 32
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x5632, .f32⟩
  | .hbm, ⟨2, _⟩ => ⟨S1024, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S1x1024, .f32⟩
  | .hbm, ⟨17, _⟩ => ⟨S8208x1024, .f32⟩
  | .hbm, ⟨18, _⟩ => ⟨S8208x1024, .f32⟩
  | .hbm, ⟨19, _⟩ => ⟨S8208x5632, .f32⟩
  | .hbm, ⟨20, _⟩ => ⟨S8208x2816, .f32⟩
  | .hbm, ⟨21, _⟩ => ⟨S8208x2816, .f32⟩
  | .hbm, ⟨22, _⟩ => ⟨S8208x2816, .f32⟩
  | .hbm, ⟨23, _⟩ => ⟨S8208x2816, .f32⟩
  | .hbm, ⟨24, _⟩ => ⟨S_, .f32⟩
  | .hbm, ⟨25, _⟩ => ⟨S8208x2816, .f32⟩
  | .hbm, ⟨26, _⟩ => ⟨S8208x2816, .f32⟩
  | .hbm, ⟨27, _⟩ => ⟨S_, .f32⟩
  | .hbm, ⟨28, _⟩ => ⟨S8208x2816, .f32⟩
  | .hbm, ⟨29, _⟩ => ⟨S8208x2816, .f32⟩
  | .hbm, ⟨30, _⟩ => ⟨S8208x2816, .f32⟩
  | .hbm, ⟨31, _⟩ => ⟨S8208x2816, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Proj.lean ====
abbrev S8208x1024 : Shape := ⟨2, ![8208, 1024]⟩
abbrev S1024x8704 : Shape := ⟨2, ![1024, 8704]⟩
abbrev S1024 : Shape := ⟨1, ![1024]⟩
abbrev S_ : Shape := ⟨0, ![]⟩
abbrev S8448x1024 : Shape := ⟨2, ![8448, 1024]⟩
abbrev S1024x6144 : Shape := ⟨2, ![1024, 6144]⟩
abbrev S1024x256 : Shape := ⟨2, ![1024, 256]⟩
abbrev S1024x2560 : Shape := ⟨2, ![1024, 2560]⟩
abbrev S1024x8960 : Shape := ⟨2, ![1024, 8960]⟩
abbrev S1x1024 : Shape := ⟨2, ![1, 1024]⟩
abbrev S8448x8960 : Shape := ⟨2, ![8448, 8960]⟩
abbrev S768x1024 : Shape := ⟨2, ![768, 1024]⟩
abbrev S1024x1792 : Shape := ⟨2, ![1024, 1792]⟩
abbrev S768x1792 : Shape := ⟨2, ![768, 1792]⟩
abbrev S768 : Shape := ⟨1, ![768]⟩
abbrev S768x1 : Shape := ⟨2, ![768, 1]⟩
abbrev S8208x2560 : Shape := ⟨2, ![8208, 2560]⟩
abbrev S8208x6144 : Shape := ⟨2, ![8208, 6144]⟩

abbrev nBuf : Space → Nat
  | .hbm => 21
  | .vmem => 10
  | .smem => 0
  | _ => 0

abbrev bufTy : (tb : Table) → Fin (tcTables nBuf tb) → BufTy
  | .hbm, ⟨0, _⟩ => ⟨S8208x1024, .f32⟩
  | .hbm, ⟨1, _⟩ => ⟨S1024x8704, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S1024x6144, .f32⟩
  | .hbm, ⟨7, _⟩ => ⟨S_, .f32⟩
  | .hbm, ⟨8, _⟩ => ⟨S1024x256, .f32⟩
  | .hbm, ⟨9, _⟩ => ⟨S1024x2560, .f32⟩
  | .hbm, ⟨10, _⟩ => ⟨S1024x8960, .f32⟩
  | .hbm, ⟨11, _⟩ => ⟨S1024x8960, .bf16⟩
  | .hbm, ⟨12, _⟩ => ⟨S1x1024, .f32⟩
  | .hbm, ⟨13, _⟩ => ⟨S8448x8960, .bf16⟩
  | .hbm, ⟨14, _⟩ => ⟨S8448x1024, .bf16⟩
  | .hbm, ⟨15, _⟩ => ⟨S8208x2560, .bf16⟩
  | .hbm, ⟨16, _⟩ => ⟨S8208x2560, .f32⟩
  | .hbm, ⟨17, _⟩ => ⟨S8208x6144, .bf16⟩
  | .hbm, ⟨18, _⟩ => ⟨S8208x6144, .f32⟩
  | .hbm, ⟨19, _⟩ => ⟨S8208x1024, .bf16⟩
  | .hbm, ⟨20, _⟩ => ⟨S8208x1024, .f32⟩
  | .local _ .vmem, ⟨0, _⟩ => ⟨S768x1024, .f32⟩
  | .local _ .vmem, ⟨1, _⟩ => ⟨S768x1024, .f32⟩
  | .local _ .vmem, ⟨2, _⟩ => ⟨S1024x1792, .bf16⟩
  | .local _ .vmem, ⟨3, _⟩ => ⟨S1024x1792, .bf16⟩
  | .local _ .vmem, ⟨4, _⟩ => ⟨S1x1024, .f32⟩
  | .local _ .vmem, ⟨5, _⟩ => ⟨S768x1792, .bf16⟩
  | .local _ .vmem, ⟨6, _⟩ => ⟨S768x1792, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![11, 5, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S768x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ProjRefIdeal.lean ====
abbrev S8208x1024 : Shape := ⟨2, ![8208, 1024]⟩
abbrev S1024x8704 : Shape := ⟨2, ![1024, 8704]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x8704 : Shape := ⟨2, ![8208, 8704]⟩
abbrev S8208x2560 : Shape := ⟨2, ![8208, 2560]⟩
abbrev S8208x6144 : Shape := ⟨2, ![8208, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x8704, .f32⟩
  | .hbm, ⟨2, _⟩ => ⟨S1024, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S1x1024, .f32⟩
  | .hbm, ⟨17, _⟩ => ⟨S8208x1024, .f32⟩
  | .hbm, ⟨18, _⟩ => ⟨S8208x1024, .f32⟩
  | .hbm, ⟨19, _⟩ => ⟨S8208x8704, .f32⟩
  | .hbm, ⟨20, _⟩ => ⟨S8208x2560, .f32⟩
  | .hbm, ⟨21, _⟩ => ⟨S8208x6144, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RgF.lean ====
abbrev S8208x1280 : Shape := ⟨2, ![8208, 1280]⟩
abbrev S8208x8704 : Shape := ⟨2, ![8208, 8704]⟩
abbrev S1280 : Shape := ⟨1, ![1280]⟩
abbrev S8208x2560 : Shape := ⟨2, ![8208, 2560]⟩
abbrev S_ : Shape := ⟨0, ![]⟩
abbrev S8448x2560 : Shape := ⟨2, ![8448, 2560]⟩
abbrev S8448x1280 : Shape := ⟨2, ![8448, 1280]⟩
abbrev S8208x6144 : Shape := ⟨2, ![8208, 6144]⟩
abbrev S8208x256 : Shape := ⟨2, ![8208, 256]⟩
abbrev S8208x8960 : Shape := ⟨2, ![8208, 8960]⟩
abbrev S8448x8960 : Shape := ⟨2, ![8448, 8960]⟩
abbrev S1x1280 : Shape := ⟨2, ![1, 1280]⟩
abbrev S256x1280 : Shape := ⟨2, ![256, 1280]⟩
abbrev S8x1280 : Shape := ⟨2, ![8, 1280]⟩
abbrev S16x1280 : Shape := ⟨2, ![16, 1280]⟩

abbrev nBuf : Space → Nat
  | .hbm => 33
  | .vmem => 16
  | .smem => 0
  | _ => 0

abbrev bufTy : (tb : Table) → Fin (tcTables nBuf tb) → BufTy
  | .hbm, ⟨0, _⟩ => ⟨S8208x1280, .f32⟩
  | .hbm, ⟨1, _⟩ => ⟨S8208x1280, .f32⟩
  | .hbm, ⟨2, _⟩ => ⟨S8208x1280, .f32⟩
  | .hbm, ⟨3, _⟩ => ⟨S8208x8704, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S8208x2560, .f32⟩
  | .hbm, ⟨8, _⟩ => ⟨S_, .i32⟩
  | .hbm, ⟨9, _⟩ => ⟨S_, .f32⟩
  | .hbm, ⟨10, _⟩ => ⟨S8448x2560, .f32⟩
  | .hbm, ⟨11, _⟩ => ⟨S8448x2560, .bf16⟩
  | .hbm, ⟨12, _⟩ => ⟨S_, .i32⟩
  | .hbm, ⟨13, _⟩ => ⟨S_, .f32⟩
  | .hbm, ⟨14, _⟩ => ⟨S8448x1280, .f32⟩
  | .hbm, ⟨15, _⟩ => ⟨S8448x1280, .bf16⟩
  | .hbm, ⟨16, _⟩ => ⟨S8208x6144, .f32⟩
  | .hbm, ⟨17, _⟩ => ⟨S_, .f32⟩
  | .hbm, ⟨18, _⟩ => ⟨S8208x256, .f32⟩
  | .hbm, ⟨19, _⟩ => ⟨S8208x2560, .f32⟩
  | .hbm, ⟨20, _⟩ => ⟨S8208x8960, .f32⟩
  | .hbm, ⟨21, _⟩ => ⟨S_, .i32⟩
  | .hbm, ⟨22, _⟩ => ⟨S_, .f32⟩
  | .hbm, ⟨23, _⟩ => ⟨S8448x8960, .f32⟩
  | .hbm, ⟨24, _⟩ => ⟨S8448x8960, .bf16⟩
  | .hbm, ⟨25, _⟩ => ⟨S1x1280, .f32⟩
  | .hbm, ⟨26, _⟩ => ⟨S1x1280, .f32⟩
  | .hbm, ⟨27, _⟩ => ⟨S1x1280, .f32⟩
  | .hbm, ⟨28, _⟩ => ⟨S8448x1280, .f32⟩
  | .hbm, ⟨29, _⟩ => ⟨S8448x1280, .bf16⟩
  | .hbm, ⟨30, _⟩ => ⟨S8208x1280, .f32⟩
  | .hbm, ⟨31, _⟩ => ⟨S8208x1280, .bf16⟩
  | .hbm, ⟨32, _⟩ => ⟨S8208x1280, .f32⟩
  | .local _ .vmem, ⟨0, _⟩ => ⟨S256x1280, .bf16⟩
  | .local _ .vmem, ⟨1, _⟩ => ⟨S256x1280, .bf16⟩
  | .local _ .vmem, ⟨2, _⟩ => ⟨S256x1280, .bf16⟩
  | .local _ .vmem, ⟨3, _⟩ => ⟨S256x1280, .bf16⟩
  | .local _ .vmem, ⟨4, _⟩ => ⟨S256x1280, .bf16⟩
  | .local _ .vmem, ⟨5, _⟩ => ⟨S256x1280, .bf16⟩
  | .local _ .vmem, ⟨6, _⟩ => ⟨S256x1280, .bf16⟩
  | .local _ .vmem, ⟨7, _⟩ => ⟨S256x1280, .bf16⟩
  | .local _ .vmem, ⟨8, _⟩ => ⟨S1x1280, .f32⟩
  | .local _ .vmem, ⟨9, _⟩ => ⟨S1x1280, .f32⟩
  | .local _ .vmem, ⟨10, _⟩ => ⟨S1x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .bf16⟩
  | .local _ .vmem, ⟨14, _⟩ => ⟨S256x1280, .bf16⟩
  | .local _ .vmem, ⟨15, _⟩ => ⟨S1x1280, .f32⟩
  | _, _ => ⟨S8208x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call2_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 33], ![false, false]⟩

@[reducible] def k0_t1_loop : Scf.Loop 32 :=
  let c0_i32_8 : BitVec 32 := 0#32
  let c16_i32 : BitVec 32 := 16#32
  let v11 : BitVec 32 := Scalar.addi c0_i32_8 c16_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c16_i32_12 : BitVec 32 := 16#32
  let v16 : BitVec 32 := Scalar.muli arg12 c16_i32_12
  v16
def k0_off1 (k0_t1 : Fin k0_t1_loop.trips) : Fin 2 → Nat :=
  let c0_i32_8 : BitVec 32 := 0#32
  let c1_i32 : BitVec 32 := 1#32
  let arg12 : BitVec 32 := Scf.iv c0_i32_8 c1_i32 k0_t1
  let c16_i32_12 : BitVec 32 := 16#32
  let v16 : BitVec 32 := Scalar.muli arg12 c16_i32_12
  let v17 : BitVec 32 := v16
  let v18 : Index := Scalar.indexCast v17
  let c0_13 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== HgrnF.lean ====
abbrev S8208x8704 : Shape := ⟨2, ![8208, 8704]⟩
abbrev S2x1024 : Shape := ⟨2, ![2, 1024]⟩
abbrev S128 : Shape := ⟨1, ![128]⟩
abbrev S8208x6144 : Shape := ⟨2, ![8208, 6144]⟩
abbrev S_ : Shape := ⟨0, ![]⟩
abbrev S8208x256 : Shape := ⟨2, ![8208, 256]⟩
abbrev S8208x2560 : Shape := ⟨2, ![8208, 2560]⟩
abbrev S8208x8960 : Shape := ⟨2, ![8208, 8960]⟩
abbrev S8448x8960 : Shape := ⟨2, ![8448, 8960]⟩
abbrev S1x128 : Shape := ⟨2, ![1, 128]⟩
abbrev S8448x1024 : Shape := ⟨2, ![8448, 1024]⟩
abbrev S132x8x128x128 : Shape := ⟨4, ![132, 8, 128, 128]⟩
abbrev S256x1024 : Shape := ⟨2, ![256, 1024]⟩
abbrev S4x8x128x128 : Shape := ⟨4, ![4, 8, 128, 128]⟩
abbrev S8x128x128 : Shape := ⟨3, ![8, 128, 128]⟩
abbrev S1x1024 : Shape := ⟨2, ![1, 1024]⟩
abbrev S64x1024 : Shape := ⟨2, ![64, 1024]⟩
abbrev S64x64 : Shape := ⟨2, ![64, 64]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S64 : Shape := ⟨1, ![64]⟩
abbrev S64x1 : Shape := ⟨2, ![64, 1]⟩
abbrev S8208x1024 : Shape := ⟨2, ![8208, 1024]⟩

abbrev nBuf : Space → Nat
  | .hbm => 19
  | .vmem => 17
  | .smem => 0
  | _ => 0

abbrev bufTy : (tb : Table) → Fin (tcTables nBuf tb) → BufTy
  | .hbm, ⟨0, _⟩ => ⟨S8208x8704, .f32⟩
  | .hbm, ⟨1, _⟩ => ⟨S2x1024, .f32⟩
  | .hbm, ⟨2, _⟩ => ⟨S128, .f32⟩
  | .hbm, ⟨3, _⟩ => ⟨S8208x6144, .f32⟩
  | .hbm, ⟨4, _⟩ => ⟨S_, .f32⟩
  | .hbm, ⟨5, _⟩ => ⟨S8208x256, .f32⟩
  | .hbm, ⟨6, _⟩ => ⟨S8208x2560, .f32⟩
  | .hbm, ⟨7, _⟩ => ⟨S8208x8960, .f32⟩
  | .hbm, ⟨8, _⟩ => ⟨S_, .i32⟩
  | .hbm, ⟨9, _⟩ => ⟨S_, .f32⟩
  | .hbm, ⟨10, _⟩ => ⟨S8448x8960, .f32⟩
  | .hbm, ⟨11, _⟩ => ⟨S8448x8960, .bf16⟩
  | .hbm, ⟨12, _⟩ => ⟨S1x128, .f32⟩
  | .hbm, ⟨13, _⟩ => ⟨S8448x1024, .bf16⟩
  | .hbm, ⟨14, _⟩ => ⟨S8448x1024, .f32⟩
  | .hbm, ⟨15, _⟩ => ⟨S132x8x128x128, .f32⟩
  | .hbm, ⟨16, _⟩ => ⟨S8208x1024, .bf16⟩
  | .hbm, ⟨17, _⟩ => ⟨S8208x1024, .f32⟩
  | .hbm, ⟨18, _⟩ => ⟨S8208x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S2x1024, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S4x8x128x128, .f32⟩
  | .local _ .vmem, ⟨15, _⟩ => ⟨S4x8x128x128, .f32⟩
  | .local _ .vmem, ⟨16, _⟩ => ⟨S8x128x128, .f32⟩
  | _, _ => ⟨S8208x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![33], ![false]⟩

def k0_mult1 : BitVec 32 :=
  let c0_i32_6 : BitVec 32 := 0#32
  let c64_i32 : BitVec 32 := 64#32
  let v16 : BitVec 32 := Scalar.muli c0_i32_6 c64_i32
  v16
def k0_off1 (c0_i32_6 : BitVec 32) : Fin 2 → Nat :=
  let c64_i32 : BitVec 32 := 64#32
  let v16 : BitVec 32 := Scalar.muli c0_i32_6 c64_i32
  let v17 : BitVec 32 := v16
  let v18 : Index := Scalar.indexCast v17
  let c0_7 : Index := 0#32
  ![v18.toNat, 0]
def k0_off2 (c0_i32_6 : BitVec 32) : Fin 2 → Nat :=
  let c64_i32 : BitVec 32 := 64#32
  let v16 : BitVec 32 := Scalar.muli c0_i32_6 c64_i32
  let v17 : BitVec 32 := v16
  let v146 : Index := Scalar.indexCast v17
  let c0_42 : Index := 0#32
  ![v146.toNat, 0]
def k0_off3 (c0_i32_6 : BitVec 32) : Fin 2 → Nat :=
  let c64_i32 : BitVec 32 := 64#32
  let v16 : BitVec 32 := Scalar.muli c0_i32_6 c64_i32
  let v17 : BitVec 32 := v16
  let v204 : Index := Scalar.indexCast v17
  let c128 : Index := 128#32
  ![v204.toNat, 128]
def k0_off4 (c0_i32_6 : BitVec 32) : Fin 2 → Nat :=
  let c64_i32 : BitVec 32 := 64#32
  let v16 : BitVec 32 := Scalar.muli c0_i32_6 c64_i32
  let v17 : BitVec 32 := v16
  let v262 : Index := Scalar.indexCast v17
  let c256 : Index := 256#32
  ![v262.toNat, 256]
def k0_off5 (c0_i32_6 : BitVec 32) : Fin 2 → Nat :=
  let c64_i32 : BitVec 32 := 64#32
  let v16 : BitVec 32 := Scalar.muli c0_i32_6 c64_i32
  let v17 : BitVec 32 := v16
  let v320 : Index := Scalar.indexCast v17
  let c384 : Index := 384#32
  ![v320.toNat, 384]
def k0_off6 (c0_i32_6 : BitVec 32) : Fin 2 → Nat :=
  let c64_i32 : BitVec 32 := 64#32
  let v16 : BitVec 32 := Scalar.muli c0_i32_6 c64_i32
  let v17 : BitVec 32 := v16
  let v378 : Index := Scalar.indexCast v17
  let c512 : Index := 512#32
  ![v378.toNat, 512]
def k0_off7 (c0_i32_6 : BitVec 32) : Fin 2 → Nat :=
  let c64_i32 : BitVec 32 := 64#32
  let v16 : BitVec 32 := Scalar.muli c0_i32_6 c64_i32
  let v17 : BitVec 32 := v16
  let v436 : Index := Scalar.indexCast v17
  let c640 : Index := 640#32
  ![v436.toNat, 640]
def k0_off8 (c0_i32_6 : BitVec 32) : Fin 2 → Nat :=
  let c64_i32 : BitVec 32 := 64#32
  let v16 : BitVec 32 := Scalar.muli c0_i32_6 c64_i32
  let v17 : BitVec 32 := v16
  let v494 : Index := Scalar.indexCast v17
  let c768 : Index := 768#32
  ![v494.toNat, 768]
def k0_off9 (c0_i32_6 : BitVec 32) : Fin 2 → Nat :=
  let c64_i32 : BitVec 32 := 64#32
  let v16 : BitVec 32 := Scalar.muli c0_i32_6 c64_i32
  let v17 : BitVec 32 := v16
  let v552 : Index := Scalar.indexCast v17
  let c896 : Index := 896#32
  ![v552.toNat, 896]
def k0_mult2 : BitVec 32 :=
  let c1_i32 : BitVec 32 := 1#32
  let c64_i32_187 : BitVec 32 := 64#32
  let v568 : BitVec 32 := Scalar.muli c1_i32 c64_i32_187
  v568
def k0_mult3 : BitVec 32 :=
  let c2_i32 : BitVec 32 := 2#32
  let c64_i32_382 : BitVec 32 := 64#32
  let v1120 : BitVec 32 := Scalar.muli c2_i32 c64_i32_382
  v1120
def k0_mult4 : BitVec 32 :=
  let c3_i32 : BitVec 32 := 3#32
  let c64_i32_577 : BitVec 32 := 64#32
  let v1672 : BitVec 32 := Scalar.muli c3_i32 c64_i32_577
  v1672
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Wfi.lean ====
abbrev S8208x1024 : Shape := ⟨2, ![8208, 1024]⟩
abbrev S8208x5632 : Shape := ⟨2, ![8208, 5632]⟩
abbrev S_ : Shape := ⟨0, ![]⟩
abbrev S8448x1024 : Shape := ⟨2, ![8448, 1024]⟩
abbrev S8208x1408 : Shape := ⟨2, ![8208, 1408]⟩
abbrev S8448x5632 : Shape := ⟨2, ![8448, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .bf16⟩
  | .hbm, ⟨6, _⟩ => ⟨S8208x1408, .f32⟩
  | .hbm, ⟨7, _⟩ => ⟨S8208x1408, .f32⟩
  | .hbm, ⟨8, _⟩ => ⟨S8208x1408, .f32⟩
  | .hbm, ⟨9, _⟩ => ⟨S8208x1408, .f32⟩
  | .hbm, ⟨10, _⟩ => ⟨S8208x5632, .f32⟩
  | .hbm, ⟨11, _⟩ => ⟨S_, .i32⟩
  | .hbm, ⟨12, _⟩ => ⟨S_, .f32⟩
  | .hbm, ⟨13, _⟩ => ⟨S8448x5632, .f32⟩
  | .hbm, ⟨14, _⟩ => ⟨S8448x5632, .bf16⟩
  | .hbm, ⟨15, _⟩ => ⟨S1024x5632, .bf16⟩
  | .hbm, ⟨16, _⟩ => ⟨S1024x5632, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S1024x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WfiRefIdeal.lean ====
abbrev S8208x1024 : Shape := ⟨2, ![8208, 1024]⟩
abbrev S8208x5632 : Shape := ⟨2, ![8208, 5632]⟩
abbrev S1024x8208 : Shape := ⟨2, ![1024, 8208]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S1024x8208, .f32⟩
  | .hbm, ⟨3, _⟩ => ⟨S1024x5632, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Opt.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Rows.lean ====
abbrev S8x1x1024 : Shape := ⟨3, ![8, 1, 1024]⟩
abbrev S8x16x1024 : Shape := ⟨3, ![8, 16, 1024]⟩
abbrev S8x1x1 : Shape := ⟨3, ![8, 1, 1]⟩
abbrev S1x1024 : Shape := ⟨2, ![1, 1024]⟩
abbrev S_ : Shape := ⟨0, ![]⟩
abbrev S6x1024 : Shape := ⟨2, ![6, 1024]⟩
abbrev S8x6x1024 : Shape := ⟨3, ![8, 6, 1024]⟩
abbrev S8x24x1024 : Shape := ⟨3, ![8, 24, 1024]⟩
abbrev S16x1024 : Shape := ⟨2, ![16, 1024]⟩
abbrev S1x24x1024 : Shape := ⟨3, ![1, 24, 1024]⟩
abbrev S24x1024 : Shape := ⟨2, ![24, 1024]⟩

abbrev nBuf : Space → Nat
  | .hbm => 17
  | .vmem => 10
  | .smem => 0
  | _ => 0

abbrev bufTy : (tb : Table) → Fin (tcTables nBuf tb) → BufTy
  | .hbm, ⟨0, _⟩ => ⟨S8x1x1024, .f32⟩
  | .hbm, ⟨1, _⟩ => ⟨S8x16x1024, .f32⟩
  | .hbm, ⟨2, _⟩ => ⟨S8x1x1, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8x1x1024, .f32⟩
  | .hbm, ⟨7, _⟩ => ⟨S_, .f32⟩
  | .hbm, ⟨8, _⟩ => ⟨S6x1024, .f32⟩
  | .hbm, ⟨9, _⟩ => ⟨S8x6x1024, .f32⟩
  | .hbm, ⟨10, _⟩ => ⟨S8x24x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16x1024, .f32⟩
  | .hbm, ⟨16, _⟩ => ⟨S1x1024, .f32⟩
  | .local _ .vmem, ⟨0, _⟩ => ⟨S8x24x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S16x1024, .f32⟩
  | .local _ .vmem, ⟨9, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== RowsRefIdeal.lean ====
abbrev S8x1x1024 : Shape := ⟨3, ![8, 1, 1024]⟩
abbrev S8x16x1024 : Shape := ⟨3, ![8, 16, 1024]⟩
abbrev S8x1x1 : Shape := ⟨3, ![8, 1, 1]⟩
abbrev S1x1024 : Shape := ⟨2, ![1, 1024]⟩
abbrev S_ : Shape := ⟨0, ![]⟩
abbrev S16x1024 : Shape := ⟨2, ![16, 1024]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S8x16x1024, .f32⟩
  | .hbm, ⟨2, _⟩ => ⟨S8x1x1, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S16x1024, .f32⟩
  | .hbm, ⟨43, _⟩ => ⟨S_, .f32⟩
  | .hbm, ⟨44, _⟩ => ⟨S1x1, .f32⟩
  | .hbm, ⟨45, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_cst_10 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Sum.lean ====
abbrev S1024x5632 : Shape := ⟨2, ![1024, 5632]⟩
abbrev S7x512x1408 : Shape := ⟨3, ![7, 512, 1408]⟩
abbrev S_ : Shape := ⟨0, ![]⟩
abbrev S3 : Shape := ⟨1, ![3]⟩
abbrev S1024x1408 : Shape := ⟨2, ![1024, 1408]⟩
abbrev S128x1408 : Shape := ⟨2, ![128, 1408]⟩
abbrev S1 : Shape := ⟨1, ![1]⟩
abbrev S7x128x1408 : Shape := ⟨3, ![7, 128, 1408]⟩
abbrev S1x128x1408 : Shape := ⟨3, ![1, 128, 1408]⟩
abbrev S512x1408 : Shape := ⟨2, ![512, 1408]⟩

abbrev nBuf : Space → Nat
  | .hbm => 7
  | .vmem => 6
  | .smem => 1
  | _ => 0

abbrev bufTy : (tb : Table) → Fin (tcTables nBuf tb) → BufTy
  | .hbm, ⟨0, _⟩ => ⟨S1024x5632, .f32⟩
  | .hbm, ⟨1, _⟩ => ⟨S7x512x1408, .f32⟩
  | .hbm, ⟨2, _⟩ => ⟨S_, .i32⟩
  | .hbm, ⟨3, _⟩ => ⟨S7x512x1408, .bf16⟩
  | .hbm, ⟨4, _⟩ => ⟨S1024x5632, .bf16⟩
  | .hbm, ⟨5, _⟩ => ⟨S1024x1408, .f32⟩
  | .hbm, ⟨6, _⟩ => ⟨S512x1408, .f32⟩
  | .local _ .vmem, ⟨0, _⟩ => ⟨S128x1408, .bf16⟩
  | .local _ .vmem, ⟨1, _⟩ => ⟨S128x1408, .bf16⟩
  | .local _ .vmem, ⟨2, _⟩ => ⟨S7x128x1408, .bf16⟩
  | .local _ .vmem, ⟨3, _⟩ => ⟨S7x128x1408, .bf16⟩
  | .local _ .vmem, ⟨4, _⟩ => ⟨S128x1408, .f32⟩
  | .local _ .vmem, ⟨5, _⟩ => ⟨S128x1408, .f32⟩
  | .local _ .smem, ⟨0, _⟩ => ⟨S3, .i32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S3_S1_2 : ∀ a, (![2] : Fin 1 → Nat) a + S1.size a ≤ S3.size a) (numel1_S1 : S1.numel = 1) (inb_S3_S1_0 : ∀ a, (![0] : Fin 1 → Nat) a + S1.size a ≤ S3.size a) (inb_S3_S1_1 : ∀ a, (![1] : Fin 1 → Nat) a + S1.size a ≤ S3.size a) (pf : pre0.Contents (Elt F)) (i : grid0.Coords) : Fin 2 → Nat :=
  let arg0 : BitVec 32 := BitVec.ofNat 32 (i 0).val
  let c2 : Index := 2#32
  let v0 : BitVec 32 := pf.at 0 (Rect.unit (s := S3) ![2] S1.size inb_S3_S1_2) numel1_S1
  let c4_i32 : BitVec 32 := 4#32
  let v1 : BitVec 32 := Scalar.muli v0 c4_i32
  let v2 : BitVec 32 := Scalar.addi v1 arg0
  let c0 : Index := 0#32
  let v3 : BitVec 32 := pf.at 0 (Rect.unit (s := S3) ![0] S1.size inb_S3_S1_0) numel1_S1
  let c1 : Index := 1#32
  let v4 : BitVec 32 := pf.at 0 (Rect.unit (s := S3) ![1] S1.size inb_S3_S1_1) numel1_S1
  let c2_i32 : BitVec 32 := 2#32
  let v5 : BitVec 32 := Scalar.muli c2_i32 v4
  let v6 : BitVec 32 := Scalar.addi v5 v3
  let c0_i32 : BitVec 32 := 0#32
  ![v2.toNat, v6.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S3_S1_2 : ∀ a, (![2] : Fin 1 → Nat) a + S1.size a ≤ S3.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S3) ![2] S1.size inb_S3_S1_2) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumRefIdeal.lean ====
abbrev S1024x5632 : Shape := ⟨2, ![1024, 5632]⟩
abbrev S7x512x1408 : Shape := ⟨3, ![7, 512, 1408]⟩
abbrev S512x1408 : Shape := ⟨2, ![512, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S7x512x1408, .f32⟩
  | .hbm, ⟨2, _⟩ => ⟨S512x1408, .f32⟩
  | .hbm, ⟨3, _⟩ => ⟨S_, .f32⟩
  | .hbm, ⟨4, _⟩ => ⟨S512x1408, .f32⟩
  | .hbm, ⟨5, _⟩ => ⟨S512x1408, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Common.Sigmoid.lean ====
module

public import Idealize.ShloMosaic.Lib.IdealHost
public import Mathlib.Analysis.SpecialFunctions.Trigonometric.DerivHyp

@[expose] public section

noncomputable section

open Idealize.ShloMosaic

namespace Cert.Common

/-- The kernel's way of writing the logistic function: half the hyperbolic tangent of half the argument, plus a half. -/
def sg (x : EReal) : EReal :=
  Ideal.ofBits .f32 1056964608#32 * Ideal.tanh (Ideal.ofBits .f32 1056964608#32 * x) + Ideal.ofBits .f32 1056964608#32

/-- The word 0x3F000000 is one half. -/
theorem ofBits_half : Ideal.ofBits .f32 1056964608#32 = ((1 / 2 : ℝ) : EReal) := by
  simp [Ideal.ofBits, Ideal.ieee, -EReal.coe_mul]
  norm_num

/-- Half of tanh of half a real number, plus a half, is the logistic function there. -/
theorem half_tanh (r : ℝ) : 1 / 2 * Real.tanh (1 / 2 * r) + 1 / 2 = (1 + Real.exp (-r))⁻¹ := by
  have e : Real.exp (1 / 2 * r) ≠ 0 := (Real.exp_pos _).ne'
  rw [Real.tanh_eq_sinh_div_cosh, Real.sinh_eq, Real.cosh_eq, show -r = -(1 / 2 * r) + -(1 / 2 * r) by ring, Real.exp_add, Real.exp_neg]
  have p := Real.exp_pos (1 / 2 * r)
  have h1 : Real.exp (1 / 2 * r) + (Real.exp (1 / 2 * r))⁻¹ ≠ 0 := by positivity
  have h2 : 1 + (Real.exp (1 / 2 * r))⁻¹ * (Real.exp (1 / 2 * r))⁻¹ ≠ 0 := by positivity
  field_simp
  ring

/-- The kernel's sigmoid is the logistic function at every extended real. -/
theorem sg_eq (x : EReal) : sg x = Ideal.logistic x := by
  unfold sg
  rw [ofBits_half]
  induction x using EReal.rec with
  | bot =>
    rw [EReal.coe_mul_bot_of_pos (by norm_num), Ideal.tanh_bot, Ideal.logistic_bot]
    rw [show (-1 : EReal) = ((-1 : ℝ) : EReal) from rfl]
    norm_cast
    norm_num
  | top =>
    rw [EReal.coe_mul_top_of_pos (by norm_num), Ideal.tanh_top, Ideal.logistic_top]
    rw [show (1 : EReal) = ((1 : ℝ) : EReal) from rfl]
    norm_cast
    norm_num
  | coe r =>
    rw [← EReal.coe_mul, Ideal.tanh_coe, Ideal.logistic_coe, ← EReal.coe_mul, ← EReal.coe_add, half_tanh]

end Cert.Common

end
-- ==== Proof.Merge.Value.lean ====
module

public import proofs.«01_k».proof.Proof.Gen.MergeIdeal.Frame
public import Idealize.ShloMosaic.Lib.Pipeline.ValueKit
public import proofs.«01_k».proof.Proof.Common.Sigmoid

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Common

variable (m : (ℓ : Loc nD τ sig) → Buf (Elt Ideal) ℓ)

/-- Which block each window stages at a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 4] ∧ win0_5.index t = ![t.val, 5]
    ∧ win0_6.index t = ![t.val, 0] ∧ win0_7.index t = ![t.val, 0] ∧ win0_8.index t = ![t.val, 2] :=
  (by decide +kernel : ∀ t : Fin grid0.N, _)

/-- Row `r` of the cotangent against row `k` of the weight. -/
def dot (d : FVec Ideal S8448x1024 .bf16) (w : FVec Ideal S1024x1024 .bf16) (r : Fin 8448) (k : Fin 1024) : EReal :=
  ∑ x, d (ix2 r x) * w (ix2 k x)

/-- The gradient of a branch output. -/
def gradBranch (gate : ℕ) (hg : gate + 1024 ≤ 8960) (d : FVec Ideal S8448x1024 .bf16) (w : FVec Ideal S1024x1024 .bf16) (p : FVec Ideal S8448x8960 .bf16) :
    FVec Ideal S8448x1024 .bf16 := fun i =>
  sg (p (ix2 (i 0) ⟨gate + (i 1).val, lt_of_lt_of_le (Nat.add_lt_add_left (i 1).isLt _) hg⟩)) * dot d w (i 0) (i 1)

/-- What a point writes of the gradient of branch A. -/
theorem X4 (c : Dev nD) (t : Fin cfg0.N) (y : S768x1024.Idx) :
    X0_4 m c t y = (V m c main_v12 : FVec Ideal S8448x8960 .bf16) (ix2 ⟨t.val * 768 + (y 0).val, by idx_bounds; omega⟩ ⟨4096 + (y 1).val, by idx_bounds; omega⟩) := by
  unfold X0_4 Pipeline.Window.fill
  rw [dif_pos (moved0_4 t y)]
  blk_ext [iblk, V, idx t]

/-- The call's first output: the gradient of branch A. -/
theorem final6 (c : Dev nD) : (dats m 0 c).arrAt 6 (cfgs 0).N =
    gradBranch 4096 (by omega) (V m c main_v1) (V m c main_v2) (V m c main_v12) := by
  refine (dats m 0 c).arrAt_eq_of_covers 6 _ (by decide +kernel) fun t _ y => ?_
  blk_simp
  rw [after0_6]
  unfold outsAt0
  dsimp only
  frame_out
  pointwise [k0_pay9, k0_pay7, k0_pay4]
  rw [X4]
  unfold gradBranch sg dot
  blk_point [iblk, V, idx t]

/-- What a point writes of the gradient of branch B. -/
theorem X5 (c : Dev nD) (t : Fin cfg0.N) (y : S768x1024.Idx) :
    X0_5 m c t y = (V m c main_v12 : FVec Ideal S8448x8960 .bf16) (ix2 ⟨t.val * 768 + (y 0).val, by idx_bounds; omega⟩ ⟨5120 + (y 1).val, by idx_bounds; omega⟩) := by
  unfold X0_5 Pipeline.Window.fill
  rw [dif_pos (moved0_5 t y)]
  blk_ext [iblk, V, idx t]

/-- The call's second output: the gradient of branch B. -/
theorem final7 (c : Dev nD) : (dats m 0 c).arrAt 7 (cfgs 0).N =
    gradBranch 5120 (by omega) (V m c main_v1) (V m c main_v2) (V m c main_v12) := by
  refine (dats m 0 c).arrAt_eq_of_covers 7 _ (by decide +kernel) fun t _ y => ?_
  blk_simp
  rw [after0_7]
  unfold outsAt0
  dsimp only
  frame_out
  pointwise [k0_pay1, k0_pay10, k0_pay8, k0_pay4]
  rw [X5]
  unfold gradBranch sg dot
  blk_point [iblk, V, idx t]

end Cert.MergeIdeal.Value

end
-- ==== Proof.Merge.Gates.lean ====
module

public import proofs.«01_k».proof.Proof.Merge.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Common

variable (m : (ℓ : Loc nD τ sig) → Buf (Elt Ideal) ℓ)

/-- The gradient of a gate's logit. -/
def gate (g : EReal) (d b : EReal) : EReal := d * b * sg g * (1 - sg g)

/-- What the kernel writes to the columns of the two gates. -/
def gradGates (d : FVec Ideal S8448x1024 .bf16) (w : FVec Ideal S1024x1024 .bf16) (p : FVec Ideal S8448x8960 .bf16) (a b : FVec Ideal S8448x1024 .bf16) :
    FVec Ideal S8448x8960 .bf16 := fun i =>
  if h : (i 1).val - 4096 < 1024 then gate (p i) (dot d w (i 0) ⟨(i 1).val - 4096, h⟩) (a (ix2 (i 0) ⟨(i 1).val - 4096, h⟩))
  else if h : (i 1).val - 5120 < 1024 then gate (p i) (dot d w (i 0) ⟨(i 1).val - 5120, h⟩) (b (ix2 (i 0) ⟨(i 1).val - 5120, h⟩)) else 0

/-- What a point writes at a row and column is the gradient of the gates there. -/
theorem written (c : Dev nD) (t : Fin cfg0.N) (y : S768x2048.Idx) (i : S8448x8960.Idx) (h0 : (i 0).val = t.val * 768 + (y 0).val) (h1 : (i 1).val = 4096 + (y 1).val) :
    View.canon (Val := Elt Ideal) (s := S768x2048) (e := .bf16)
      [⟨Rect.unit ![0, 1024] ![768, 1024] inb_S768x2048_S768x1024_0_1024,
          k0_pay3 (k0_pay4 (iblk m c 0 t) (iblk m c 1 t)) (k0_pay6 (iblk m c 3 t)) (k0_pay8 (X0_5 m c t))⟩,
        ⟨Rect.unit ![0, 0] ![768, 1024] inb_S768x2048_S768x1024_0_0,
          k0_pay2 (k0_pay4 (iblk m c 0 t) (iblk m c 1 t)) (k0_pay5 (iblk m c 2 t)) (k0_pay7 (X0_4 m c t))⟩] y =
    gradGates (V m c main_v1) (V m c main_v2) (V m c main_v12) (V m c main_v4) (V m c main_v6) i := by
  canon_tiles x h
  · pointwise [k0_pay3, k0_pay4, k0_pay6, k0_pay8]
    rw [X5]
    unfold gradGates gate sg dot
    rw [dif_neg (by omega), dif_pos (by omega)]
    blk_point [iblk, V, idx t]
  · pointwise [k0_pay2, k0_pay4, k0_pay5, k0_pay7]
    rw [X4]
    unfold gradGates gate sg dot
    rw [dif_pos (by omega)]
    blk_point [iblk, V, idx t]

/-- The call's third output, in the gates' columns. -/
theorem final8 (c : Dev nD) (i : S8448x8960.Idx) (hi : 4096 ≤ (i 1).val ∧ (i 1).val < 6144) : ((dats m 0 c).arrAt 8 (cfgs 0).N : FVec Ideal S8448x8960 .bf16) i =
    gradGates (V m c main_v1) (V m c main_v2) (V m c main_v12) (V m c main_v4) (V m c main_v6) i := by
  refine ((dats m 0 c).arrAt_apply_of_coversWhere 8 (gradGates (V m c main_v1) (V m c main_v2) (V m c main_v12) (V m c main_v4) (V m c main_v6))
    (P := fun i => 4096 ≤ (i 1).val ∧ (i 1).val < 6144) (fun β => β (1 : Fin _) = 2) (by decide +kernel) (fun t hf y => ?_)
    (fun j => by blk_simp [Pipeline.Window.cell_apply]; omega) i).trans (if_pos hi)
  blk_simp
  rw [after0_8]
  unfold outsAt0
  dsimp only
  frame_out
  have e0 : (((win0_8.blk t).view.emb y) (0 : Fin 2)).val = t.val * 768 + (y (0 : Fin 2)).val := by blk_simp [idx t]
  have e1 : (((win0_8.blk t).view.emb y) (1 : Fin 2)).val = 4096 + (y (1 : Fin 2)).val := by blk_simp [idx t]
  refine written m c t _ _ ?_ ?_
  · exact e0
  · exact e1

end Cert.MergeIdeal.Value

end
-- ==== Proof.Merge.Entry.lean ====
module

public import proofs.«01_k».proof.Proof.Gen.MergeIdeal.Frame
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- The kernel's rows of an array of the reference: 240 rows of zeros in front. -/
def rows (x : FVec Ideal S8208x1024 .f32) : FVec Ideal S8448x1024 .bf16 :=
  truncf .bf16 (pad S8448x1024 ![240, 0] ![0, 0] ![0, 0] x (sitofp .f32 (constantI S_ 32 0#32)) pads_S8208x1024_S8448x1024_24000_000 h_S_) bitsLt_bf16_f32

/-- The kernel's order of the projection's columns, in the kernel's rows. -/
def cols (x : FVec Ideal S8208x8704 .f32) : FVec Ideal S8448x8960 .bf16 :=
  truncf .bf16 (pad S8448x8960 ![240, 0] ![0, 0] ![0, 0] (concatenate S8208x8960 1 [⟨S8208x6144, extractStridedSlice S8208x6144 ![0, 2560] x slices_S8208x8704_S8208x6144_0_2560⟩,
     ⟨S8208x256, broadcastInDim S8208x256 ![] bcast_S_S8208x256 (constant S_ .f32 0x00000000#32)⟩, ⟨S8208x2560, extractStridedSlice S8208x2560 ![0, 0] x slices_S8208x8704_S8208x2560_0_0⟩] concatenates_S8208x6144_S8208x256_S8208x2560_S8208x8960_d1)
    (sitofp .f32 (constantI S_ 32 0#32)) pads_S8208x8960_S8448x8960_24000_000 h_S_) bitsLt_bf16_f32

/-- A row of the sequence after the padding. -/
theorem rows_apply (x : FVec Ideal S8208x1024 .f32) (r : Fin 8208) (k : Fin 1024) : rows x (ix2 ⟨240 + r.val, by omega⟩ k) = x (ix2 r k) := by
  pointwise [rows]

/-- A row of the sequence after the padding, in the version's columns. -/
theorem cols_apply (x : FVec Ideal S8208x8704 .f32) (r : Fin 8208) (k : Fin 6144) : cols x (ix2 ⟨240 + r.val, by omega⟩ ⟨k.val, by omega⟩) = x (ix2 r ⟨2560 + k.val, by omega⟩) := by
  pointwise [cols]
  rw [dif_pos (by omega)]

/-- The padded cotangent that the call is given. -/
theorem V_dh (c : Dev nD) : V m c main_v1 = rows (m ((c : Thread nD τ).loc main_arg0)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The padded branch A. -/
theorem V_pa (c : Dev nD) : V m c main_v4 = rows (m ((c : Thread nD τ).loc main_arg2)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The padded branch B. -/
theorem V_pb (c : Dev nD) : V m c main_v6 = rows (m ((c : Thread nD τ).loc main_arg3)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The padded projection in the version's columns. -/
theorem V_proj (c : Dev nD) : V m c main_v12 = cols (m ((c : Thread nD τ).loc main_arg1)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The weight, rounded, is itself. -/
theorem V_w (c : Dev nD) : V m c main_v2 = fun i => (m ((c : Thread nD τ).loc main_arg4) : FVec Ideal S1024x1024 .f32) i := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

end Cert.MergeIdeal.Value

end
-- ==== Proof.Merge.Tail.lean ====
module

public import proofs.«01_k».proof.Proof.Gen.MergeIdeal.Frame
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  (dats m 0 c).withArrays_arrAt sharedIn0 (V0 m c) (A_eq m c) w

/-- The gradient of branch A without the padding. -/
theorem W_v17 (c : Dev nD) (i : S8208x1024.Idx) : (Pipeline.afterTail₀ cfgs (dats m) 0 (V0 m) [hostOps1] c main_v17 : FVec Ideal S8208x1024 .f32) i =
    ((dats m 0 c).arrAt 6 (cfgs 0).N : FVec Ideal S8448x1024 .bf16) (ix2 ⟨240 + (i 0).val, by idx_bounds; omega⟩ (i 1)) := by
  unfold Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v13_0) = _ from found m c 6]
  pointwise
  try blk_ext

/-- The gradient of branch B without the padding. -/
theorem W_v19 (c : Dev nD) (i : S8208x1024.Idx) : (Pipeline.afterTail₀ cfgs (dats m) 0 (V0 m) [hostOps1] c main_v19 : FVec Ideal S8208x1024 .f32) i =
    ((dats m 0 c).arrAt 7 (cfgs 0).N : FVec Ideal S8448x1024 .bf16) (ix2 ⟨240 + (i 0).val, by idx_bounds; omega⟩ (i 1)) := by
  unfold Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v13_1) = _ from found m c 7]
  pointwise
  try blk_ext

/-- The first gate's columns without the padding. -/
theorem W_v21 (c : Dev nD) (i : S8208x1024.Idx) : (Pipeline.afterTail₀ cfgs (dats m) 0 (V0 m) [hostOps1] c main_v21 : FVec Ideal S8208x1024 .f32) i =
    ((dats m 0 c).arrAt 8 (cfgs 0).N : FVec Ideal S8448x8960 .bf16) (ix2 ⟨240 + (i 0).val, by idx_bounds; omega⟩ ⟨4096 + (i 1).val, by idx_bounds; omega⟩) := by
  unfold Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v13_2) = _ from found m c 8]
  pointwise
  try blk_ext

/-- The second gate's columns without the padding. -/
theorem W_v23 (c : Dev nD) (i : S8208x1024.Idx) : (Pipeline.afterTail₀ cfgs (dats m) 0 (V0 m) [hostOps1] c main_v23 : FVec Ideal S8208x1024 .f32) i =
    ((dats m 0 c).arrAt 8 (cfgs 0).N : FVec Ideal S8448x8960 .bf16) (ix2 ⟨240 + (i 0).val, by idx_bounds; omega⟩ ⟨5120 + (i 1).val, by idx_bounds; omega⟩) := by
  unfold Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v13_2) = _ from found m c 8]
  pointwise
  try blk_ext

end Cert.MergeIdeal.Value

end
-- ==== Proof.Merge.Results.lean ====
module

public import proofs.«01_k».proof.Proof.Merge.Gates
public import proofs.«01_k».proof.Proof.Merge.Entry
public import proofs.«01_k».proof.Proof.Merge.Tail

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Common

variable (m : (ℓ : Loc nD τ sig) → Buf (Elt Ideal) ℓ)

/-- The gradient of the merged branch: row `r` of the cotangent against row `k` of the weight. -/
def back (d : FVec Ideal S8208x1024 .f32) (w : FVec Ideal S1024x1024 .f32) (r : Fin 8208) (k : Fin 1024) : EReal :=
  ∑ x, d (ix2 r x) * w (ix2 k x)

/-- A row of the cotangent by the weight's transpose. -/
theorem dot_rows (d : FVec Ideal S8208x1024 .f32) (w : FVec Ideal S1024x1024 .f32) (r : Fin 8208) (k : Fin 1024) :
    dot (rows d) (fun i => w i) ⟨240 + r.val, by omega⟩ k = back d w r k := by
  unfold dot back
  exact Finset.sum_congr rfl fun x _ => by rw [rows_apply]

/-- A column of the projection as the kernel lays it out, read in the reference's order of columns. -/
theorem cols_at (x : FVec Ideal S8208x8704 .f32) (r : Fin 8208) (k : Fin 1024) (q : ℕ) (hq : q + 1024 ≤ 6144) :
    cols x (ix2 ⟨240 + r.val, by omega⟩ ⟨q + k.val, by omega⟩) = x (ix2 r ⟨2560 + q + k.val, by omega⟩) := by
  refine (cols_apply x r ⟨q + k.val, by omega⟩).trans (congrArg x (congrArg (ix2 r) (Fin.ext ?_)))
  show 2560 + (q + k.val) = 2560 + q + k.val
  omega

/-- The gate as the reference reads it: the logistic function of the projection's columns from `q` on. -/
def open_ (p : FVec Ideal S8208x8704 .f32) (q : ℕ) (hq : q + 1024 ≤ 8704) (r : Fin 8208) (k : Fin 1024) : EReal :=
  Ideal.logistic (p (ix2 r ⟨q + k.val, by omega⟩))

/-- The gradient of a gate, its factors in the reference's order. -/
theorem gate_eq (g d b : EReal) : gate g d b = d * b * Ideal.logistic g * (1 - Ideal.logistic g) := by
  rw [gate, sg_eq]

/-- The gradient of the first gate. -/
theorem gates_a (d : FVec Ideal S8448x1024 .bf16) (w : FVec Ideal S1024x1024 .bf16) (p : FVec Ideal S8448x8960 .bf16)
    (a b : FVec Ideal S8448x1024 .bf16) (r : Fin 8448) (k : Fin 1024) :
    gradGates d w p a b (ix2 r ⟨4096 + k.val, by omega⟩)
      = gate (p (ix2 r ⟨4096 + k.val, by omega⟩)) (dot d w r k) (a (ix2 r k)) := by
  unfold gradGates
  have e : (⟨4096 + k.val - 4096, by omega⟩ : Fin 1024) = k := Fin.ext (by show 4096 + k.val - 4096 = k.val; omega)
  refine (dif_pos (show 4096 + k.val - 4096 < 1024 by omega)).trans ?_
  show gate (p (ix2 r ⟨4096 + k.val, _⟩)) (dot d w r ⟨4096 + k.val - 4096, _⟩) (a (ix2 r ⟨4096 + k.val - 4096, _⟩)) = _
  rw [e]

/-- The gradient of the second gate. -/
theorem gates_b (d : FVec Ideal S8448x1024 .bf16) (w : FVec Ideal S1024x1024 .bf16) (p : FVec Ideal S8448x8960 .bf16)
    (a b : FVec Ideal S8448x1024 .bf16) (r : Fin 8448) (k : Fin 1024) :
    gradGates d w p a b (ix2 r ⟨5120 + k.val, by omega⟩)
      = gate (p (ix2 r ⟨5120 + k.val, by omega⟩)) (dot d w r k) (b (ix2 r k)) := by
  unfold gradGates
  have e : (⟨5120 + k.val - 5120, by omega⟩ : Fin 1024) = k := Fin.ext (by show 5120 + k.val - 5120 = k.val; omega)
  refine (dif_neg (show ¬ 5120 + k.val - 4096 < 1024 by omega)).trans ((dif_pos (show 5120 + k.val - 5120 < 1024 by omega)).trans ?_)
  show gate (p (ix2 r ⟨5120 + k.val, _⟩)) (dot d w r ⟨5120 + k.val - 5120, _⟩) (b (ix2 r ⟨5120 + k.val - 5120, _⟩)) = _
  rw [e]

variable (c : Dev nD) (r : Fin 8208) (k : Fin 1024)

/-- The cotangent, the projection, the two branches and the weight, as the kernel is given them. -/
abbrev argDh : FVec Ideal S8208x1024 .f32 := m ((c : Thread nD τ).loc main_arg0)
/-- The projection that the program is given. -/
abbrev argProj : FVec Ideal S8208x8704 .f32 := m ((c : Thread nD τ).loc main_arg1)
/-- Branch A that the program is given. -/
abbrev argPa : FVec Ideal S8208x1024 .f32 := m ((c : Thread nD τ).loc main_arg2)
/-- Branch B that the program is given. -/
abbrev argPb : FVec Ideal S8208x1024 .f32 := m ((c : Thread nD τ).loc main_arg3)
/-- The weight that the program is given. -/
abbrev argW : FVec Ideal S1024x1024 .f32 := m ((c : Thread nD τ).loc main_arg4)

/-- The kernel's result `b` after the host operations that follow its launch. -/
abbrev resultOf (b : Dev nD) := Pipeline.afterTail₀ cfgs (dats m) 0 (V0 m) [hostOps1] b

/-- The gradient of branch A. -/
theorem dpa : (resultOf m c main_v17 : FVec Ideal S8208x1024 .f32) (ix2 r k)
    = open_ (argProj m c) 6656 (by omega) r k * back (argDh m c) (argW m c) r k := by
  unfold resultOf
  rw [W_v17, final6, V_dh, V_w, V_proj]
  unfold gradBranch
  exact congrArg₂ (· * ·) ((congrArg sg (cols_at _ r k 4096 (by omega))).trans (sg_eq _)) (dot_rows _ _ r k)

/-- The gradient of branch B. -/
theorem dpb : (resultOf m c main_v19 : FVec Ideal S8208x1024 .f32) (ix2 r k)
    = open_ (argProj m c) 7680 (by omega) r k * back (argDh m c) (argW m c) r k := by
  unfold resultOf
  rw [W_v19, final7, V_dh, V_w, V_proj]
  unfold gradBranch
  exact congrArg₂ (· * ·) ((congrArg sg (cols_at _ r k 5120 (by omega))).trans (sg_eq _)) (dot_rows _ _ r k)

/-- The gradient of the first gate's logits. -/
theorem dga : (resultOf m c main_v21 : FVec Ideal S8208x1024 .f32) (ix2 r k)
    = back (argDh m c) (argW m c) r k * argPa m c (ix2 r k) * open_ (argProj m c) 6656 (by omega) r k
      * (1 - open_ (argProj m c) 6656 (by omega) r k) := by
  unfold resultOf
  rw [W_v21, final8 m c _ ⟨Nat.le_add_right 4096 k.val, by show 4096 + k.val < 6144; omega⟩, V_dh, V_w, V_proj, V_pa, V_pb]
  refine (gates_a _ _ _ _ _ ⟨240 + r.val, by omega⟩ k).trans ?_
  exact (congr (congrArg₂ gate (cols_at (argProj m c) r k 4096 (by omega)) (dot_rows (argDh m c) (argW m c) r k))
    (rows_apply (argPa m c) r k)).trans (gate_eq _ _ _)

/-- The gradient of the second gate's logits. -/
theorem dgb : (resultOf m c main_v23 : FVec Ideal S8208x1024 .f32) (ix2 r k)
    = back (argDh m c) (argW m c) r k * argPb m c (ix2 r k) * open_ (argProj m c) 7680 (by omega) r k
      * (1 - open_ (argProj m c) 7680 (by omega) r k) := by
  unfold resultOf
  rw [W_v23, final8 m c _ ⟨by show 4096 ≤ 5120 + k.val; omega, by show 5120 + k.val < 6144; omega⟩, V_dh, V_w, V_proj, V_pa, V_pb]
  refine (gates_b _ _ _ _ _ ⟨240 + r.val, by omega⟩ k).trans ?_
  exact (congr (congrArg₂ gate (cols_at (argProj m c) r k 5120 (by omega)) (dot_rows (argDh m c) (argW m c) r k))
    (rows_apply (argPb m c) r k)).trans (gate_eq _ _ _)

/-- The whole program: it ends with the four results as the lines after the launch leave them, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v17) = resultOf m c main_v17
      ∧ r.2.mem ((c.tc : Thread nD τ).loc main_v19) = resultOf m c main_v19
      ∧ r.2.mem ((c.tc : Thread nD τ).loc main_v21) = resultOf m c main_v21
      ∧ r.2.mem ((c.tc : Thread nD τ).loc main_v23) = resultOf m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h.1 c).2 main_v17 (by decide), (h.1 c).2 main_v19 (by decide), (h.1 c).2 main_v21 (by decide),
      (h.1 c).2 main_v23 (by decide), h.2 c⟩)
    (θ_run_and (run_main m ρ) (unchanged m ρ))

end Cert.MergeIdeal.Value

end
-- ==== Proof.Merge.Claim.lean ====
module

public import proofs.«01_k».proof.Defs
public import proofs.«01_k».proof.Proof.Merge.Results
public import proofs.«01_k».proof.Proof.Gen.MergeRefIdeal.Run
public import proofs.«01_k».proof.Proof.Gen.MergeRefIdeal.Read

@[expose] public section

set_option maxRecDepth 16384

noncomputable section

open Idealize.ShloMosaic Idealize.ShloMosaic.TcCoe Idealize.SL.Sem

namespace Cert.Merge

/-- The reference's frame: it runs on the host alone and declares no semaphore. -/
theorem frame_ref : Cert.quiescent_MergeRefIdeal (hMergeRefIdeal := Cert.MergeRefIdeal.Gen.facts) := fun m g _ =>
  (θ_run Cert.MergeRefIdeal.defs _ _).mono (fun r h => ⟨fun c => (h c).2.2.2.2, sem_eq_zero_of_no_sems (by decide) r.2⟩)
    (Cert.MergeRefIdeal.Value.run (F := Ideal) m g)

/-- The call and the vector-Jacobian product of the forward lines give the same four arrays over the extended reals. -/
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Value.run m g
  · run_from Cert.MergeRefIdeal.Value.run m' g'
    all_goals funext i
    all_goals idx_vars i
    · refine Eq.trans ?_ (Cert.MergeIdeal.Value.dpa m c i0 i1).symm
      pointwise
      unfold MergeIdeal.Value.open_ MergeIdeal.Value.back Ideal.logistic
      rfl
    · refine Eq.trans ?_ (Cert.MergeIdeal.Value.dpb m c i0 i1).symm
      pointwise
      unfold MergeIdeal.Value.open_ MergeIdeal.Value.back Ideal.logistic
      rfl
    · refine Eq.trans ?_ (Cert.MergeIdeal.Value.dga m c i0 i1).symm
      pointwise
      unfold MergeIdeal.Value.open_ MergeIdeal.Value.back Ideal.logistic
      exact (mul_assoc _ _ _).symm
    · refine Eq.trans ?_ (Cert.MergeIdeal.Value.dgb m c i0 i1).symm
      pointwise
      unfold MergeIdeal.Value.open_ MergeIdeal.Value.back Ideal.logistic
      exact (mul_assoc _ _ _).symm

end Cert.Merge

end
-- ==== Proof.Common.Finite.lean ====
module

public import Idealize.ShloMosaic.Lib.Pipeline.ValueKit
public import proofs.«01_k».proof.Proof.Common.Sigmoid

@[expose] public section

noncomputable section

open Idealize.ShloMosaic

namespace Cert.Common

/-- An extended real that is a real number. -/
def IsReal (x : EReal) : Prop := ∃ r : ℝ, x = (r : EReal)

/-- A real number is one. -/
theorem IsReal.coe (r : ℝ) : IsReal (r : EReal) := ⟨r, rfl⟩

/-- Zero is a real number. -/
theorem IsReal.zero : IsReal 0 := ⟨0, rfl⟩

/-- One is a real number. -/
theorem IsReal.one : IsReal 1 := ⟨1, rfl⟩

/-- Sums of real numbers are real numbers. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- Differences of real numbers are real numbers. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Products of real numbers are real numbers. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- The logistic function takes real numbers to real numbers. -/
theorem IsReal.logistic {x : EReal} (hx : IsReal x) : IsReal (Ideal.logistic x) := by
  obtain ⟨a, rfl⟩ := hx
  exact ⟨_, Ideal.logistic_coe a⟩

/-- The word 0x7F800000 is infinity. -/
theorem ofBits_inf : Ideal.ofBits .f32 2139095040#32 = ⊤ := by
  simp [Ideal.ofBits, Ideal.ieee]

/-- A number whose absolute value compares below infinity is real. -/
theorem isReal_of_abs {x : Ideal .f32} (h : FloatOps.cmpf .olt (FloatOps.hostAbsf x) (Ideal.ofBits .f32 2139095040#32 : Ideal .f32) = 1#1) : IsReal x := by
  rw [ofBits_inf] at h
  replace h : Ideal.cmp .olt (max x (-x)) ⊤ = 1#1 := h
  induction x using EReal.rec with
  | bot => simp [Ideal.cmp] at h
  | top => simp [Ideal.cmp] at h
  | coe r => exact ⟨r, rfl⟩

/-- An array of which every absolute value compares below infinity holds real numbers. -/
theorem isReal_of_finite {s t : Shape} {x : FVec Ideal s .f32} {b : Fin t.rank → Fin s.rank} {hb : t.BroadcastsInDim s b}
    (h : cmpf .olt (Host.absf x) (broadcastInDim s b hb (constant t .f32 0x7F800000#32)) = fun _ => 1#1) (i : s.Idx) : IsReal (x i) :=
  isReal_of_abs (congrFun h i)

end Cert.Common

end
-- ==== Proof.Act.Value.lean ====
module

public import proofs.«01_k».proof.Proof.Gen.ActIdeal.Frame
public import Idealize.ShloMosaic.Lib.Pipeline.ValueKit
public import proofs.«01_k».proof.Proof.Common.Sigmoid

@[expose] public section

set_option maxRecDepth 16384

noncomputable section

open Idealize.ShloMosaic Idealize.ShloMosaic.TcCoe Idealize.SL.Sem
open Idealize.ShloMosaic.Pipeline (Dat)

namespace Cert.ActIdeal.Value

open Cert.ActIdeal Cert.ActIdeal.Gen Cert.Common

variable (m : (ℓ : Loc nD τ sig) → Buf (Elt Ideal) ℓ)

/-- The blocks that a grid point works on: a row block, and one of the two halves of the hidden columns. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

/-- Row `r` of the cotangent against row `k` of the weight. -/
def dot (d : FVec Ideal S8448x1024 .bf16) (w : FVec Ideal S2816x1024 .bf16) (r : Fin 8448) (k : Fin 2816) : EReal :=
  ∑ x, d (ix2 r x) * w (ix2 k x)

/-- The gradient at a gate's logit `g`, where `d` arrives at the product and `u` is the other factor. -/
def gateGrad (d u g : EReal) : EReal := d * u * (sg g * (1 + g * (1 - sg g)))

/-- The gradient at the factor that the gate scales. -/
def factorGrad (d g : EReal) : EReal := d * (g * sg g)

/-- The gradient at column `l` of block `q` of the hidden columns: the block's gates come first, then its factors. -/
def grad (d : FVec Ideal S8448x1024 .bf16) (w : FVec Ideal S2816x1024 .bf16) (p : FVec Ideal S8448x5632 .bf16) : FVec Ideal S8448x5632 .bf16 := fun i =>
  if h : (i 1).val % 2816 < 1408 then
    gateGrad (dot d w (i 0) ⟨(i 1).val / 2816 * 1408 + (i 1).val % 2816, by idx_bounds; omega⟩) (p (ix2 (i 0) ⟨(i 1).val + 1408, by idx_bounds; omega⟩)) (p i)
  else
    factorGrad (dot d w (i 0) ⟨(i 1).val / 2816 * 1408 + ((i 1).val % 2816 - 1408), by idx_bounds; omega⟩) (p (ix2 (i 0) ⟨(i 1).val - 1408, by idx_bounds; omega⟩))

/-- What a grid point leaves in its block of the result. -/
theorem written (c : Dev nD) (t : Fin cfg0.N) (y : S384x2816.Idx) (i : S8448x5632.Idx) (h0 : (i 0).val = t.val / 2 * 384 + (y 0).val) (h1 : (i 1).val = t.val % 2 * 2816 + (y 1).val) :
    out0_3 (iblk m c 0 t) (iblk m c 1 t) (iblk m c 2 t) y = grad (V m c main_v1) (V m c main_v2) (V m c main_v9) i := by
  unfold out0_3
  canon_tiles x h
  · pointwise [k0_pay6, k0_pay1, k0_pay2, k0_pay3, k0_pay4]
    unfold grad factorGrad sg dot
    rw [dif_neg (by omega)]
    blk_point [iblk, V, idx t]
  · pointwise [k0_pay5, k0_pay1, k0_pay2, k0_pay3, k0_pay4]
    unfold grad gateGrad sg dot
    rw [dif_pos (by omega)]
    blk_point [iblk, V, idx t]

/-- The array that the call leaves. -/
theorem final3 (c : Dev nD) : (dats m 0 c).arrAt 3 (cfgs 0).N = grad (V m c main_v1) (V m c main_v2) (V m c main_v9) := by
  refine (dats m 0 c).arrAt_eq_of_covers 3 _ (by decide +kernel) fun t _ y => ?_
  blk_simp
  rw [after0_3]
  have e0 : (((win0_3.blk t).view.emb y) (0 : Fin 2)).val = t.val / 2 * 384 + (y (0 : Fin 2)).val := by blk_simp [idx t]
  have e1 : (((win0_3.blk t).view.emb y) (1 : Fin 2)).val = t.val % 2 * 2816 + (y (1 : Fin 2)).val := by blk_simp [idx t]
  exact written m c t _ _ e0 e1

end Cert.ActIdeal.Value

end
-- ==== Proof.Act.Entry.lean ====
module

public import proofs.«01_k».proof.Proof.Act.Value
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo
open Idealize.ShloMosaic.Pipeline (Dat)

namespace Cert.ActIdeal.Value

open Cert.ActIdeal Cert.ActIdeal.Gen Cert.Common

variable (m : (ℓ : Loc nD τ sig) → Buf (Elt Ideal) ℓ)

/-- The kernel's rows of the cotangent: 240 rows of zeros in front. -/
def rows (x : FVec Ideal S8208x1024 .f32) : FVec Ideal S8448x1024 .bf16 :=
  truncf .bf16 (pad S8448x1024 ![240, 0] ![0, 0] ![0, 0] x (sitofp .f32 (constantI S_ 32 0#32)) pads_S8208x1024_S8448x1024_24000_000 h_S_) bitsLt_bf16_f32

/-- The kernel's order of the hidden columns: the first half of the gates, the first half of the factors, then the second halves. -/
def blocks (x : FVec Ideal S8208x5632 .f32) : FVec Ideal S8208x5632 .f32 :=
  concatenate S8208x5632 1 [⟨S8208x1408, extractStridedSlice S8208x1408 ![0, 0] x slices_S8208x5632_S8208x1408_0_0⟩,
    ⟨S8208x1408, extractStridedSlice S8208x1408 ![0, 2816] x slices_S8208x5632_S8208x1408_0_2816⟩,
    ⟨S8208x1408, extractStridedSlice S8208x1408 ![0, 1408] x slices_S8208x5632_S8208x1408_0_1408⟩,
    ⟨S8208x1408, extractStridedSlice S8208x1408 ![0, 4224] x slices_S8208x5632_S8208x1408_0_4224⟩] concatenates_S8208x1408_S8208x1408_S8208x1408_S8208x1408_S8208x5632_d1

/-- The hidden columns in the kernel's order and rows. -/
def hidden (x : FVec Ideal S8208x5632 .f32) : FVec Ideal S8448x5632 .bf16 :=
  truncf .bf16 (pad S8448x5632 ![240, 0] ![0, 0] ![0, 0] (blocks x) (sitofp .f32 (constantI S_ 32 0#32)) pads_S8208x5632_S8448x5632_24000_000 h_S_) bitsLt_bf16_f32

/-- The place of the reference's column `k` in the kernel's order; the reordering is its own inverse. -/
def place (k : ℕ) : ℕ := if k < 1408 then k else if k < 2816 then k + 1408 else if k < 4224 then k - 1408 else k

/-- A column's place is again a column. -/
theorem place_lt {k : ℕ} (h : k < 5632) : place k < 5632 := by unfold place; split_ifs <;> omega

/-- The reordered array at a column holds the column's counterpart. -/
theorem blocks_apply (x : FVec Ideal S8208x5632 .f32) (r : Fin 8208) (k : Fin 5632) : blocks x (ix2 r k) = x (ix2 r ⟨place k.val, place_lt k.isLt⟩) := by
  pointwise [blocks]
  unfold place
  all_goals split_ifs <;> first | omega | blk_point
  all_goals split_ifs <;> omega

/-- Row `r` of the cotangent is row `240 + r` of the kernel's. -/
theorem rows_apply (x : FVec Ideal S8208x1024 .f32) (r : Fin 8208) (k : Fin 1024) : rows x (ix2 ⟨240 + r.val, by omega⟩ k) = x (ix2 r k) := by
  pointwise [rows]

/-- Row `r` of the hidden columns is row `240 + r` of the kernel's, at the columns' places. -/
theorem hidden_apply (x : FVec Ideal S8208x5632 .f32) (r : Fin 8208) (k : Fin 5632) : hidden x (ix2 ⟨240 + r.val, by omega⟩ k) = x (ix2 r ⟨place k.val, place_lt k.isLt⟩) := by
  refine Eq.trans ?_ (blocks_apply x r k)
  pointwise [hidden]

/-- The call's first argument is the cotangent. -/
theorem V_dh (c : Dev nD) : V m c main_v1 = rows (m ((c : Thread nD τ).loc main_arg0)) := by
  unfold V V0
  simp only [hostOps0, hostOps0_1, hostOps0_2, hostOps0_3, hostOps0_4, List.flatten_cons, List.flatten_nil, List.append_nil, List.cons_append, List.nil_append]
  after_reads_simp
  rfl

/-- The call's second argument is the weight as it is given. -/
theorem V_w (c : Dev nD) : V m c main_v2 = fun i => (m ((c : Thread nD τ).loc main_arg2) : FVec Ideal S2816x1024 .f32) i := by
  unfold V V0
  simp only [hostOps0, hostOps0_1, hostOps0_2, hostOps0_3, hostOps0_4, List.flatten_cons, List.flatten_nil, List.append_nil, List.cons_append, List.nil_append]
  after_reads_simp
  rfl

/-- The call's third argument is the hidden columns in the kernel's order. -/
theorem V_gu (c : Dev nD) : V m c main_v9 = hidden (m ((c : Thread nD τ).loc main_arg1)) := by
  unfold V V0
  simp only [hostOps0, hostOps0_1, hostOps0_2, hostOps0_3, hostOps0_4, List.flatten_cons, List.flatten_nil, List.append_nil, List.cons_append, List.nil_append]
  after_reads_simp
  rfl

end Cert.ActIdeal.Value

end
-- ==== Proof.Act.Tail.lean ====
module

public import proofs.«01_k».proof.Proof.Act.Entry

@[expose] public section

set_option maxRecDepth 16384

noncomputable section

open Idealize.ShloMosaic Idealize.ShloMosaic.TcCoe Idealize.SL.Sem Idealize.ShloMosaic.StableHlo
open Idealize.ShloMosaic.Pipeline (Dat)

namespace Cert.ActIdeal.Value

open Cert.ActIdeal Cert.ActIdeal.Gen Cert.Common

variable (m : (ℓ : Loc nD τ sig) → Buf (Elt Ideal) ℓ)

/-- The result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

/-- What the lines after the call make of its result: the rows after the padding, the columns put back in the reference's order. -/
def back (y : FVec Ideal S8448x5632 .bf16) : FVec Ideal S8208x5632 .f32 :=
  blocks (extf .f32 (extractStridedSlice S8208x5632 ![240, 0] y slices_S8448x5632_S8208x5632_240_0) bitsLt_bf16_f32)

/-- The lines after the call from any contents of the buffers. -/
theorem after_v17 (V : Valuation τ sig (Elt Ideal)) : after hostOps1 V (Proc.devRef .tc main_v17) = back (V (Proc.devRef .tc main_v10)) := by
  unfold hostOps1
  after_reads_simp
  rfl

/-- The program's result: the call's rows after the padding, with the columns put back in the reference's order. -/
theorem W_v17 (c : Dev nD) (r : Fin 8208) (k : Fin 5632) : (Pipeline.afterTail₀ cfgs (dats m) 0 (V0 m) [hostOps1] c main_v17 : FVec Ideal S8208x5632 .f32) (ix2 r k) =
    ((dats m 0 c).arrAt 3 (cfgs 0).N : FVec Ideal S8448x5632 .bf16) (ix2 ⟨240 + r.val, by omega⟩ ⟨place k.val, place_lt k.isLt⟩) := by
  unfold Pipeline.afterTail₀
  simp only [List.flatten_cons, List.flatten_nil, List.append_nil]
  rw [after_v17, show Pipeline.withArrays (cfgs 0).spec c (V0 m c) (fun w => (dats m 0 c).arrAt w (cfgs 0).N) (Proc.devRef .tc main_v10) = _ from found m c 3]
  unfold back
  rw [blocks_apply]
  pointwise

end Cert.ActIdeal.Value

end
-- ==== Proof.Act.Results.lean ====
module

public import proofs.«01_k».proof.Proof.Act.Tail

@[expose] public section

set_option maxRecDepth 16384

noncomputable section

open Idealize.ShloMosaic Idealize.ShloMosaic.TcCoe Idealize.SL.Sem Idealize.ShloMosaic.StableHlo
open Idealize.ShloMosaic.Pipeline (Dat)

namespace Cert.ActIdeal.Value

open Cert.ActIdeal Cert.ActIdeal.Gen Cert.Common

variable (m : (ℓ : Loc nD τ sig) → Buf (Elt Ideal) ℓ)

/-- The cotangent of the product at row `r` and hidden column `k`: row `r` of `dh` against row `k` of the weight. -/
def arrives (dh : FVec Ideal S8208x1024 .f32) (w : FVec Ideal S2816x1024 .f32) (r : Fin 8208) (k : Fin 2816) : EReal := ∑ x, dh (ix2 r x) * w (ix2 k x)

/-- The padded rows leave the product's sums as they are. -/
theorem dot_rows (dh : FVec Ideal S8208x1024 .f32) (w : FVec Ideal S2816x1024 .f32) (r : Fin 8208) (k : Fin 2816) :
    dot (rows dh) (fun i => w i) ⟨240 + r.val, by omega⟩ k = arrives dh w r k :=
  Finset.sum_congr rfl fun x _ => congrArg (· * w (ix2 k x)) (rows_apply dh r x)

/-- The program's result after the lines that follow the call. -/
abbrev resultOf (c : Dev nD) := Pipeline.afterTail₀ cfgs (dats m) 0 (V0 m) [hostOps1] c

/-- The gradient at a gate's logit. -/
theorem at_gate (c : Dev nD) (r : Fin 8208) (k : Fin 2816) :
    (resultOf m c main_v17 : FVec Ideal S8208x5632 .f32) (ix2 r ⟨k.val, by omega⟩) =
      gateGrad (arrives (m ((c : Thread nD τ).loc main_arg0)) (m ((c : Thread nD τ).loc main_arg2)) r k)
        ((m ((c : Thread nD τ).loc main_arg1) : FVec Ideal S8208x5632 .f32) (ix2 r ⟨2816 + k.val, by omega⟩))
        ((m ((c : Thread nD τ).loc main_arg1) : FVec Ideal S8208x5632 .f32) (ix2 r ⟨k.val, by omega⟩)) := by
  unfold resultOf
  rw [W_v17, final3, V_dh, V_w, V_gu, ← dot_rows]
  have hk := k.isLt
  have hp : place k.val = if k.val < 1408 then k.val else k.val + 1408 := by unfold place; split_ifs <;> omega
  unfold grad
  rw [dif_pos (by show place k.val % 2816 < 1408; rw [hp]; split_ifs <;> omega)]
  congr 1
  · refine congrArg (dot _ _ _) (Fin.ext ?_)
    show place k.val / 2816 * 1408 + place k.val % 2816 = k.val
    rw [hp]; split_ifs <;> omega
  · refine (hidden_apply _ r _).trans (congrArg _ (congrArg (ix2 r) (Fin.ext ?_)))
    show place (place k.val + 1408) = 2816 + k.val
    rw [hp]; unfold place; split_ifs <;> omega
  · refine (hidden_apply _ r _).trans (congrArg _ (congrArg (ix2 r) (Fin.ext ?_)))
    show place (place k.val) = k.val
    rw [hp]; unfold place; split_ifs <;> omega

/-- The gradient at the factor of a gate. -/
theorem at_factor (c : Dev nD) (r : Fin 8208) (k : Fin 2816) :
    (resultOf m c main_v17 : FVec Ideal S8208x5632 .f32) (ix2 r ⟨2816 + k.val, by omega⟩) =
      factorGrad (arrives (m ((c : Thread nD τ).loc main_arg0)) (m ((c : Thread nD τ).loc main_arg2)) r k)
        ((m ((c : Thread nD τ).loc main_arg1) : FVec Ideal S8208x5632 .f32) (ix2 r ⟨k.val, by omega⟩)) := by
  unfold resultOf
  rw [W_v17, final3, V_dh, V_w, V_gu, ← dot_rows]
  have hk := k.isLt
  have hp : place (2816 + k.val) = if k.val < 1408 then 1408 + k.val else 2816 + k.val := by unfold place; split_ifs <;> omega
  unfold grad
  rw [dif_neg (by show ¬ place (2816 + k.val) % 2816 < 1408; rw [hp]; split_ifs <;> omega)]
  congr 1
  · refine congrArg (dot _ _ _) (Fin.ext ?_)
    show place (2816 + k.val) / 2816 * 1408 + (place (2816 + k.val) % 2816 - 1408) = k.val
    rw [hp]; split_ifs <;> omega
  · refine (hidden_apply _ r _).trans (congrArg _ (congrArg (ix2 r) (Fin.ext ?_)))
    show place (place (2816 + k.val) - 1408) = k.val
    rw [hp]; unfold place; split_ifs <;> omega

/-- What the program leaves: its result and its arguments. -/
theorem run (ρ : Dev nD → PrngReg) : θ_run defs (onTc (τ := τ) (main (F := Ideal))) ⟨m, fun _ => 0, ρ⟩ fun r => ∀ c : Dev nD,
    r.2.mem ((c : Thread nD τ).loc main_v17) = resultOf m c main_v17
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).2 main_v17 (by decide), h.2 c⟩) (θ_run_and (run_main m ρ) (unchanged m ρ))

end Cert.ActIdeal.Value

end
-- ==== Proof.Act.Claim.lean ====
module

public import proofs.«01_k».proof.Defs
public import proofs.«01_k».proof.Proof.Common.Finite
public import proofs.«01_k».proof.Proof.Act.Results
public import proofs.«01_k».proof.Proof.Gen.Pre_act_finite
public import proofs.«01_k».proof.Proof.Gen.ActRefIdeal.Run
public import proofs.«01_k».proof.Proof.Gen.ActRefIdeal.Read

@[expose] public section

set_option maxRecDepth 16384

noncomputable section

open Idealize.ShloMosaic Idealize.ShloMosaic.TcCoe Idealize.SL.Sem Cert.Common

namespace Cert.Act

/-- The reference's frame: it runs on the host alone and declares no semaphore. -/
theorem frame_ref : Cert.quiescent_ActRefIdeal (hActRefIdeal := Cert.ActRefIdeal.Gen.facts) := fun m g _ =>
  (θ_run Cert.ActRefIdeal.defs _ _).mono (fun r h => ⟨fun c => (h c).2, sem_eq_zero_of_no_sems (by decide) r.2⟩)
    (Cert.ActRefIdeal.Value.run (F := Ideal) m g)

/-- The kernel's gradient at a gate's logit is the product rule's two terms, of real numbers. -/
theorem two_terms {d u g : EReal} (hd : IsReal d) (hu : IsReal u) (hg : IsReal g) :
    Cert.ActIdeal.Value.gateGrad d u g = d * u * Ideal.logistic g + g * (d * u) * (Ideal.logistic g * (1 - Ideal.logistic g)) := by
  unfold Cert.ActIdeal.Value.gateGrad
  rw [sg_eq]
  obtain ⟨s, hs⟩ := hg.logistic
  obtain ⟨d, rfl⟩ := hd
  obtain ⟨u, rfl⟩ := hu
  obtain ⟨g, rfl⟩ := hg
  rw [hs, ← EReal.coe_one]
  norm_cast
  ring

/-- A hidden column is a gate's or a factor's. -/
theorem gate_or_factor (i : Fin 5632) : (∃ k : Fin 2816, i = ⟨k.val, by omega⟩) ∨ ∃ k : Fin 2816, i = ⟨2816 + k.val, by omega⟩ := by
  by_cases h : i.val < 2816
  · exact .inl ⟨⟨i.val, h⟩, rfl⟩
  · exact .inr ⟨⟨i.val - 2816, by omega⟩, Fin.ext (show i.val = 2816 + (i.val - 2816) by omega)⟩

/-- The call and the vector-Jacobian product of the forward lines give the same array of real arguments. -/
theorem algebraic : Cert.algebraic_ActIdeal_ActRefIdeal_pre_act_finite (hActIdeal := Cert.ActIdeal.Gen.facts) (hActRefIdeal := Cert.ActRefIdeal.Gen.facts)
    (hPre_act_finite := Cert.Pre_act_finite.Gen.facts) := by
  pair_intro
  · run_from Cert.ActIdeal.Value.run m g
  · run_from Cert.ActRefIdeal.Value.run m' g'
    all_goals funext i
    all_goals idx_vars i
    rw [(hagree c).2.2]
    have hdh := isReal_of_finite (hpre c).1
    have hgu := isReal_of_finite (hpre c).2.1
    have hw := isReal_of_finite (hpre c).2.2
    obtain ⟨k, rfl⟩ | ⟨k, rfl⟩ := gate_or_factor i1
    · refine Eq.trans ?_ ((Cert.ActIdeal.Value.at_gate m c i0 k).trans
        (two_terms (.sum _ fun x => (hdh _).mul (hw _)) (hgu _) (hgu _))).symm
      pointwise
      unfold ActIdeal.Value.arrives Ideal.logistic
      blk_point
    · refine Eq.trans ?_ (Cert.ActIdeal.Value.at_factor m c i0 k).symm
      pointwise
      unfold ActIdeal.Value.factorGrad ActIdeal.Value.arrives
      rw [sg_eq, mul_comm]
      unfold Ideal.logistic
      blk_point

end Cert.Act

end
-- ==== Proof.Common.Norm.lean ====
module

public import proofs.«01_k».proof.Proof.Common.Finite

@[expose] public section

noncomputable section

open Idealize.ShloMosaic

namespace Cert.Common

/-- The width 1024 as both programs write it. -/
theorem ofBits_width : Ideal.ofBits .f32 1149239296#32 = ((1024 : ℝ) : EReal) := by
  simp [Ideal.ofBits, Ideal.ieee, -EReal.coe_mul]
  norm_num

/-- The norm's epsilon is a positive real number. -/
theorem ofBits_eps : ∃ e : ℝ, 0 < e ∧ Ideal.ofBits .f32 897988541#32 = (e : EReal) :=
  ⟨(8796093 : ℝ) * 2 ^ (-43 : ℤ), by norm_num, by simp [Ideal.ofBits, Ideal.ieee, -EReal.coe_mul]⟩

/-- Minus one half. -/
theorem ofBits_neg_half : Ideal.ofBits .f32 3204448256#32 = ((-(1 / 2) : ℝ) : EReal) := by
  simp [Ideal.ofBits, Ideal.ieee, -EReal.coe_mul]
  norm_num

/-- A sum of real numbers is that of the real numbers. -/
theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

/-- A sum over padded rows of which the 240 in front contribute nothing. -/
theorem sum_pad {f : Fin 8448 → EReal} {g : Fin 8208 → EReal} (h0 : ∀ r : Fin 8448, r.val < 240 → f r = 0) (h : ∀ r : Fin 8208, f ⟨240 + r.val, by omega⟩ = g r) :
    ∑ r, f r = ∑ r, g r := by
  refine (Fin.sum_univ_add (a := 240) (b := 8208) f).trans ?_
  rw [Finset.sum_eq_zero fun r _ => h0 _ r.isLt, zero_add]
  exact Finset.sum_congr rfl fun r _ => h r

/-- A row's mean square, with the epsilon added. -/
def meanSq (x : Fin 1024 → EReal) : EReal := Ideal.div (∑ j, x j * x j) (Ideal.ofBits .f32 1149239296#32) + Ideal.ofBits .f32 897988541#32

/-- The factor by which a row is normalised. -/
def rstd (x : Fin 1024 → EReal) : EReal := Ideal.rsqrt (meanSq x)

/-- The kernel's gradient of a normalised and scaled row: `d` arrives, `x` is the row and `g` the scale. -/
def normGrad (d x g : Fin 1024 → EReal) (k : Fin 1024) : EReal :=
  rstd x * (d k * g k - x k * rstd x * Ideal.div (∑ j, d j * g j * (x j * rstd x)) (Ideal.ofBits .f32 1149239296#32))

/-- The derivative by the row's mean square, shared out over the row. -/
def spread (d x g : Fin 1024 → EReal) : EReal :=
  Ideal.div ((∑ j, x j * (d j * g j)) * (Ideal.ofBits .f32 3204448256#32 * Ideal.div (rstd x) (meanSq x))) (Ideal.ofBits .f32 1149239296#32)

/-- A real row's mean square with the epsilon is a positive real number, and its inverse root a real number of which the square inverts it. -/
theorem rstd_real {x : Fin 1024 → EReal} (hx : ∀ j, IsReal (x j)) : ∃ v r : ℝ, 0 < v ∧ r * r * v = 1 ∧ meanSq x = (v : EReal) ∧ rstd x = (r : EReal) := by
  obtain ⟨e, he, hE⟩ := ofBits_eps
  choose y hy using hx
  have hv : meanSq x = (((∑ j, y j * y j) / 1024 + e : ℝ) : EReal) := by
    unfold meanSq
    rw [ofBits_width, hE]
    simp only [hy, ← EReal.coe_mul]
    rw [← coe_sum, Ideal.div_coe (by norm_num), ← EReal.coe_mul, mul_one_div, ← EReal.coe_add]
  have hp : 0 < (∑ j, y j * y j) / 1024 + e := add_pos_of_nonneg_of_pos (div_nonneg (Finset.sum_nonneg fun j _ => mul_self_nonneg _) (by norm_num)) he
  refine ⟨_, (√((∑ j, y j * y j) / 1024 + e))⁻¹, hp, ?_, hv, by unfold rstd; rw [hv, Ideal.rsqrt_coe, if_neg (not_lt.mpr hp.le), if_neg hp.ne']⟩
  have hs := Real.mul_self_sqrt hp.le
  have hq := (Real.sqrt_pos.mpr hp).ne'
  generalize √((∑ j, y j * y j) / 1024 + e) = q at hs hq
  rw [← hs]
  field_simp

/-- The kernel's gradient of a norm is the sum of the derivative's terms. -/
theorem norm_terms {d x g : Fin 1024 → EReal} (hd : ∀ j, IsReal (d j)) (hx : ∀ j, IsReal (x j)) (hg : ∀ j, IsReal (g j)) (k : Fin 1024) (e : EReal) :
    e + normGrad d x g k = e + d k * g k * rstd x + x k * spread d x g + spread d x g * x k := by
  obtain ⟨v, r, hv, hr, hV, hR⟩ := rstd_real hx
  choose a ha using hd
  choose y hy using hx
  choose b hb using hg
  have hn : normGrad d x g k = ((r * (a k * b k - y k * r * ((∑ j, a j * b j * (y j * r)) / 1024)) : ℝ) : EReal) := by
    unfold normGrad
    simp only [hR, ha, hy, hb, ofBits_width, ← EReal.coe_mul]
    rw [← coe_sum, Ideal.div_coe (by norm_num), ← EReal.coe_mul, mul_one_div]
    norm_cast
  have hs : spread d x g = (((∑ j, y j * (a j * b j)) * (-(1 / 2) * (r / v)) / 1024 : ℝ) : EReal) := by
    unfold spread
    simp only [hR, hV, ha, hy, hb, ofBits_width, ofBits_neg_half, ← EReal.coe_mul]
    rw [← coe_sum, Ideal.div_coe hv.ne', ← EReal.coe_mul, mul_one_div, ← EReal.coe_mul, ← EReal.coe_mul, Ideal.div_coe (by norm_num), ← EReal.coe_mul, mul_one_div]
  have hq : r / v = r * r * r := by field_simp; linear_combination (-r) * hr
  have hm : (∑ j, a j * b j * (y j * r)) = (∑ j, y j * (a j * b j)) * r := by rw [Finset.sum_mul]; exact Finset.sum_congr rfl fun j _ => by ring
  rw [hn, hs, hR, ha, hy, hb, add_assoc, add_assoc]
  refine congrArg (e + ·) ?_
  rw [hm, hq]
  norm_cast
  ring

end Cert.Common

end
-- ==== Proof.HnTwo.Value.lean ====
module

public import proofs.«01_k».proof.Proof.Gen.HnTwoIdeal.Frame
public import Idealize.ShloMosaic.Lib.Pipeline.ValueKit
public import Idealize.ShloMosaic.Lib.Pipeline.ReadBack
public import proofs.«01_k».proof.Proof.Common.Norm

@[expose] public section

set_option maxRecDepth 16384

noncomputable section

open Idealize.ShloMosaic Idealize.ShloMosaic.TcCoe Idealize.SL.Sem
open Idealize.ShloMosaic.Pipeline (Dat)

namespace Cert.HnTwoIdeal.Value

open Cert.HnTwoIdeal Cert.HnTwoIdeal.Gen Cert.Common

variable (m : (ℓ : Loc nD τ sig) → Buf (Elt Ideal) ℓ)

/-- The blocks that a grid point works on: a row block, and one of the four blocks of the product's columns. -/
theorem idx : ∀ t : Fin cfg0.N, win0_0.index t = ![t.val / 4, t.val % 4] ∧ win0_1.index t = ![0, t.val % 4] ∧ win0_2.index t = ![t.val / 4, 0]
    ∧ win0_3.index t = ![0, 0] ∧ win0_4.index t = ![t.val / 4, 0] ∧ win0_5.index t = ![t.val / 4, 0] ∧ win0_7.index t = ![0, 0] :=
  (by decide +kernel : ∀ t : Fin grid0.N, _)

/-- The call's arguments at their shapes: the cotangent's rows, the weight's, the norm's rows, its scale and the residual's gradient. -/
def cot (c : Dev nD) : FVec Ideal S8448x5632 .bf16 := V m c main_v6
/-- The weight that the call is given. -/
def wt (c : Dev nD) : FVec Ideal S1024x5632 .bf16 := V m c main_v12
/-- The residual rows that the call is given. -/
def hid (c : Dev nD) : FVec Ideal S8448x1024 .f32 := V m c main_v13
/-- The norm's scale that the call is given. -/
def gain (c : Dev nD) : FVec Ideal S1x1024 .f32 := V m c main_v14
/-- The residual's gradient that the call is given. -/
def res (c : Dev nD) : FVec Ideal S8448x1024 .f32 := V m c main_v15

/-- The blocks of a point at their shapes. -/
def b0 (c : Dev nD) (t : Fin cfg0.N) : FVec Ideal S768x1408 .bf16 := iblk m c 0 t
/-- The weight's block at a point. -/
def b1 (c : Dev nD) (t : Fin cfg0.N) : FVec Ideal S1024x1408 .bf16 := iblk m c 1 t

/-- A block's part of the product of the cotangent's rows with the weight's. -/
def part (c : Dev nD) (t : Fin cfg0.N) (y : S768x1024.Idx) : EReal := ∑ l : Fin 1408, b0 m c t (ix2 (y 0) l) * b1 m c t (ix2 (y 1) l)

/-- The running product after a row block's first point. -/
theorem acc_A (c : Dev nD) (t : Fin cfg0.N) (h : t.val % 4 = 0) (y : S768x1024.Idx) : (outsAt0 m c t.val t.isLt).2.2.2 y = 0 + part m c t y := by
  rw [outsAt0_A m c t h (by omega)]
  frame_out
  pointwise [k0_pay2, k0_pay1]
  rfl

/-- The running product after a later point. -/
theorem acc_step (c : Dev nD) (t : Fin cfg0.N) (h : ¬t.val % 4 = 0) (y : S768x1024.Idx) : (outsAt0 m c t.val t.isLt).2.2.2 y =
    (outsAt0 m c (t.val - 1) (Nat.lt_of_le_of_lt (Nat.sub_le _ _) t.isLt)).2.2.2 y + part m c t y := by
  by_cases h1 : t.val % 4 = 3
  · by_cases h2 : t.val < 4
    · rw [outsAt0_C m c t h h1 h2]
      frame_out
      simp only [read_unread_whole]
      pointwise [k0_pay2]
      rfl
    · rw [outsAt0_D m c t h h1 h2]
      frame_out
      simp only [read_unread_whole]
      pointwise [k0_pay2]
      rfl
  · rw [outsAt0_B m c t h h1]
    frame_out
    simp only [read_unread_whole]
    pointwise [k0_pay2]
    rfl

/-- The gradient that reaches the norm's result, at a row. -/
def dhn (c : Dev nD) (r : Fin 8448) (j : Fin 1024) : EReal := ∑ l : Fin 5632, cot m c (ix2 r l) * wt m c (ix2 j l)

/-- A point's block of the cotangent's rows. -/
theorem b0_apply (c : Dev nD) (t : Fin cfg0.N) (i : Fin 768) (l : Fin 1408) (r : Fin 8448) (k : Fin 5632) (hr : r.val = t.val / 4 * 768 + i.val)
    (hk : k.val = t.val % 4 * 1408 + l.val) : b0 m c t (ix2 i l) = cot m c (ix2 r k) := by
  unfold b0 cot
  blk_point [iblk, V, idx t]

/-- A point's block of the weight's rows. -/
theorem b1_apply (c : Dev nD) (t : Fin cfg0.N) (j : Fin 1024) (l : Fin 1408) (k : Fin 5632) (hk : k.val = t.val % 4 * 1408 + l.val) :
    b1 m c t (ix2 j l) = wt m c (ix2 j k) := by
  unfold b1 wt
  blk_point [iblk, V, idx t]

/-- The running product after a row block's last point is the whole product. -/
theorem acc_full (c : Dev nD) (t : Fin cfg0.N) (h : t.val % 4 = 3) (y : S768x1024.Idx) (r : Fin 8448) (hr : r.val = t.val / 4 * 768 + (y 0).val) :
    (outsAt0 m c t.val t.isLt).2.2.2 y = dhn m c r (y 1) := by
  refine (Pipeline.eq_sum_fin_of_reset_step_apply_of_flush (fun n h => (outsAt0 m c n h).2.2.2) 4 (fun _ => (0 : EReal)) (part m c) (acc_A m c) (acc_step m c) t h y).trans ?_
  rw [zero_add]
  unfold dhn part
  refine Fin.sum_mul_add_congr fun s l hl => ?_
  rw [b0_apply m c _ (y 0) l r ⟨s.val * 1408 + l.val, hl⟩ (by dsimp only; omega) (by dsimp only; omega), b1_apply m c _ (y 1) l ⟨s.val * 1408 + l.val, hl⟩ (by dsimp only; omega)]

/-- The blocks of the norm's side at their shapes. -/
def b2 (c : Dev nD) (t : Fin cfg0.N) : FVec Ideal S768x1024 .f32 := iblk m c 2 t
/-- The scale at a point. -/
def b3 (c : Dev nD) (t : Fin cfg0.N) : FVec Ideal S1x1024 .f32 := iblk m c 3 t
/-- The residual's gradient at a point. -/
def b4 (c : Dev nD) (t : Fin cfg0.N) : FVec Ideal S768x1024 .f32 := iblk m c 4 t

/-- What a row block's last point computes from the whole product. -/
theorem pay9_apply (a : FVec Ideal S768x1024 .f32) (x : FVec Ideal S768x1024 .f32) (g : FVec Ideal S1x1024 .f32) (e : FVec Ideal S768x1024 .f32) (i : Fin 768) (k : Fin 1024) :
    k0_pay9 a x g e (ix2 i k) = e (ix2 i k) + normGrad (fun j => a (ix2 i j)) (fun j => x (ix2 i j)) (fun j => g (ix2 0 j)) k := by
  unfold normGrad rstd meanSq
  pointwise [k0_pay9, k0_pay5, k0_pay6, k0_pay7]

/-- A row block's part of the gradient of the scale. -/
theorem pay8_apply (a : FVec Ideal S768x1024 .f32) (x : FVec Ideal S768x1024 .f32) (i : Fin 1) (k : Fin 1024) :
    k0_pay8 a x (ix2 i k) = ∑ r : Fin 768, a (ix2 r k) * (x (ix2 r k) * rstd fun j => x (ix2 r j)) := by
  unfold rstd meanSq
  pointwise [k0_pay8, k0_pay5, k0_pay6, k0_pay7]

/-- A row block's last point writes the gradient of the norm's rows. -/
theorem out_dh (c : Dev nD) (t : Fin cfg0.N) (h : t.val % 4 = 3) :
    (outsAt0 m c t.val t.isLt).1 = k0_pay9 (outsAt0 m c t.val t.isLt).2.2.2 (b2 m c t) (b3 m c t) (b4 m c t) := by
  by_cases h2 : t.val < 4
  · rw [outsAt0_C m c t (by omega) h h2]
    frame_out
    simp only [read_unread_whole]
    rfl
  · rw [outsAt0_D m c t (by omega) h h2]
    frame_out
    simp only [read_unread_whole]
    rfl

/-- The first row block's last point starts the gradient of the scale. -/
theorem dg_first (c : Dev nD) (t : Fin cfg0.N) (h : t.val % 4 = 3) (h2 : t.val < 4) :
    (outsAt0 m c t.val t.isLt).2.2.1 = k0_pay3 (k0_pay8 (outsAt0 m c t.val t.isLt).2.2.2 (b2 m c t)) (k0_pay4 (F := Ideal)) := by
  rw [outsAt0_C m c t (by omega) h h2]
  frame_out
  simp only [read_unread_whole]
  rfl

/-- A later row block's last point adds to it. -/
theorem dg_later (c : Dev nD) (t : Fin cfg0.N) (h : t.val % 4 = 3) (h2 : ¬t.val < 4) :
    (outsAt0 m c t.val t.isLt).2.2.1 = k0_pay3 (k0_pay8 (outsAt0 m c t.val t.isLt).2.2.2 (b2 m c t))
      (outsAt0 m c (t.val - 1) (Nat.lt_of_le_of_lt (Nat.sub_le _ _) t.isLt)).2.2.1 := by
  rw [outsAt0_D m c t (by omega) h h2]
  frame_out
  simp only [read_unread_whole]
  rfl

/-- Between row blocks' last points it stays. -/
theorem dg_keep (c : Dev nD) (t : Fin cfg0.N) (h : ¬t.val % 4 = 3) :
    (outsAt0 m c t.val t.isLt).2.2.1 = (outsAt0 m c (t.val - 1) (Nat.lt_of_le_of_lt (Nat.sub_le _ _) t.isLt)).2.2.1 := by
  by_cases h1 : t.val % 4 = 0
  · rw [outsAt0_A m c t h1 h]
    rfl
  · rw [outsAt0_B m c t h1 h]
    rfl

/-- The norm's rows at a point. -/
theorem b2_apply (c : Dev nD) (t : Fin cfg0.N) (i : Fin 768) (j : Fin 1024) (r : Fin 8448) (hr : r.val = t.val / 4 * 768 + i.val) : b2 m c t (ix2 i j) = hid m c (ix2 r j) := by
  unfold b2 hid
  blk_point [iblk, V, idx t]

/-- The scale, the same at each point. -/
theorem b3_apply (c : Dev nD) (t : Fin cfg0.N) (j : Fin 1024) : b3 m c t (ix2 0 j) = gain m c (ix2 0 j) := by
  unfold b3 gain
  blk_point [iblk, V, idx t]

/-- The residual's gradient at a point. -/
theorem b4_apply (c : Dev nD) (t : Fin cfg0.N) (i : Fin 768) (j : Fin 1024) (r : Fin 8448) (hr : r.val = t.val / 4 * 768 + i.val) : b4 m c t (ix2 i j) = res m c (ix2 r j) := by
  unfold b4 res
  blk_point [iblk, V, idx t]

/-- A row's part of the gradient of the scale. -/
def dgRow (c : Dev nD) (k : Fin 1024) (r : Fin 8448) : EReal := dhn m c r k * (hid m c (ix2 r k) * rstd fun j => hid m c (ix2 r j))

/-- A row block's part of the gradient of the scale. -/
def dgPart (c : Dev nD) (n : Fin 11) (k : Fin 1024) : EReal := ∑ r : Fin 768, dgRow m c k ⟨n.val * 768 + r.val, by omega⟩

/-- What a row block's last point adds to the gradient of the scale. -/
theorem dg_part (c : Dev nD) (n : Fin 11) (h : 4 * n.val + 3 < cfg0.N) (k : Fin 1024) :
    k0_pay8 (outsAt0 m c (4 * n.val + 3) h).2.2.2 (b2 m c ⟨4 * n.val + 3, h⟩) (ix2 0 k) = dgPart m c n k := by
  rw [pay8_apply]
  unfold dgPart dgRow
  refine Fin.sum_fin_congr fun r => ?_
  rw [acc_full m c ⟨4 * n.val + 3, h⟩ (by dsimp only; omega) (ix2 r k) ⟨n.val * 768 + r.val, by omega⟩ (by show n.val * 768 + r.val = (4 * n.val + 3) / 4 * 768 + r.val; omega)]
  simp only [b2_apply m c ⟨4 * n.val + 3, h⟩ r _ ⟨n.val * 768 + r.val, by omega⟩ (by show n.val * 768 + r.val = (4 * n.val + 3) / 4 * 768 + r.val; omega)]
  rfl

/-- What a point leaves depends on its number alone. -/
theorem outs_congr (c : Dev nD) {a b : ℕ} (ha : a < cfg0.N) (hb : b < cfg0.N) (h : a = b) : outsAt0 m c a ha = outsAt0 m c b hb := by
  subst h
  rfl

/-- The gradient of the scale after a row block. -/
def dgAt (c : Dev nD) (n : ℕ) (h : n < 11) : FVec Ideal S1x1024 .f32 := (outsAt0 m c (4 * n + 3) (by show 4 * n + 3 < 44; omega)).2.2.1

/-- The last point leaves the gradient of the scale after all row blocks. -/
theorem dgAt_last (c : Dev nD) (t : Fin cfg0.N) (ht : t.val = 43) : (outsAt0 m c t.val t.isLt).2.2.1 = dgAt m c 10 (by decide) := by
  unfold dgAt
  rw [outs_congr m c t.isLt _ ht]

/-- The gradient of the scale that the last point leaves is the sum over all rows. -/
theorem dg_total (c : Dev nD) (k : Fin 1024) : dgAt m c 10 (by decide) (ix2 0 k) = ∑ r : Fin 8448, dgRow m c k r := by
  refine (Pipeline.eq_sum_fin_of_reset_step_apply_last (fun n h k => dgAt m c n h (ix2 0 k)) 11 (fun _ => (0 : EReal)) (dgPart m c) ?_ ?_ le_rfl (10 : Fin 11) rfl k).trans ?_
  · intro n hn k
    obtain rfl : n = 0 := by ext; have := n.isLt; show n.val = 0; omega
    show dgAt m c 0 _ (ix2 0 k) = _
    rw [← dg_part m c 0 (by decide) k]
    unfold dgAt
    rw [dg_first m c ⟨3, by decide⟩ (by decide) (by decide)]
    pointwise [k0_pay3, k0_pay4]
  · intro n hn k
    have hN : 4 * n.val + 3 < cfg0.N := by show 4 * n.val + 3 < 44; omega
    have h0 : n.val ≠ 0 := fun h => hn (by rw [h])
    rw [← dg_part m c n hN k]
    have e1 := dg_keep m c ⟨4 * n.val + 2, by omega⟩ (by dsimp only; omega)
    have e2 := dg_keep m c ⟨4 * n.val + 1, by omega⟩ (by dsimp only; omega)
    have e3 := dg_keep m c ⟨4 * n.val, by omega⟩ (by dsimp only; omega)
    have e4 := dg_later m c ⟨4 * n.val + 3, hN⟩ (by dsimp only; omega) (by dsimp only; omega)
    unfold dgAt
    refine (congrFun e4 (ix2 0 k)).trans ?_
    have e6 : (outsAt0 m c (4 * n.val + 3 - 1) (by omega)).2.2.1 = (outsAt0 m c (4 * (n.val - 1) + 3) (by omega)).2.2.1 := by
      rw [outs_congr m c (b := 4 * n.val + 2) _ (by omega) (by omega), e1, outs_congr m c (b := 4 * n.val + 1) _ (by omega) (by dsimp only; omega), e2,
        outs_congr m c (b := 4 * n.val) _ (by omega) (by dsimp only; omega), e3, outs_congr m c (b := 4 * (n.val - 1) + 3) _ (by omega) (by dsimp only; omega)]
    rw [← e6]
    pointwise [k0_pay3]
  · rw [zero_add]
    exact Fin.sum_mul_add_congr fun n r hl => rfl

/-- What a row block's last point writes at an index of the array. -/
theorem written (c : Dev nD) (t : Fin cfg0.N) (h : t.val % 4 = 3) (y : S768x1024.Idx) (r : Fin 8448) (k : Fin 1024) (h0 : r.val = t.val / 4 * 768 + (y 0).val)
    (h1 : k.val = (y 1).val) : (outsAt0 m c t.val t.isLt).1 y = res m c (ix2 r k) + normGrad (dhn m c r) (fun j => hid m c (ix2 r j)) (fun j => gain m c (ix2 0 j)) k := by
  idx_vars y
  obtain rfl : k = y1 := Fin.ext h1
  rw [out_dh m c t h, pay9_apply, b4_apply m c t y0 k r h0]
  simp only [b2_apply m c t y0 _ r h0, b3_apply, fun j => acc_full m c t h (ix2 y0 j) r h0]
  rfl

/-- The array of the norm's rows' gradients that the call leaves. -/
theorem final5 (c : Dev nD) : (dats m 0 c).arrAt 5 (cfgs 0).N = fun i : S8448x1024.Idx =>
    res m c i + normGrad (dhn m c (i 0)) (fun j => hid m c (ix2 (i 0) j)) (fun j => gain m c (ix2 0 j)) (i 1) := by
  refine (dats m 0 c).arrAt_eq_of_covers 5 _ (by decide +kernel) fun t hf y => ?_
  have h := (flush0_5 t).mp hf
  blk_simp
  rw [after0_5]
  have e0 : (((win0_5.blk t).view.emb y) (0 : Fin 2)).val = t.val / 4 * 768 + (y (0 : Fin 2)).val := by blk_simp [idx t]
  have e1 : (((win0_5.blk t).view.emb y) (1 : Fin 2)).val = (y (1 : Fin 2)).val := by blk_simp [idx t]
  refine (written m c t h y _ _ e0 e1).trans ?_
  rw [← eq_ix2]

/-- The gradient of the scale that the call leaves. -/
theorem final7 (c : Dev nD) : (dats m 0 c).arrAt 7 (cfgs 0).N = fun i : S1x1024.Idx => ∑ r : Fin 8448, dgRow m c (i 1) r := by
  obtain ⟨t, ht, hw⟩ : ∃ t : Fin cfg0.N, t.val = 43 ∧ (cfg0.win 7).WholeAt t := ⟨⟨43, by decide⟩, rfl, by decide +kernel⟩
  refine (dats m 0 c).arrAt_eq_of_after_last 7 t hw _ fun j => ?_
  blk_simp
  rw [after0_7]
  have hj : j = ix2 0 (j 1) := (eq_ix2 j).trans (congrArg (ix2 · (j 1)) (Subsingleton.elim _ _))
  rw [dgAt_last m c t ht]
  exact (congrArg _ hj).trans (dg_total m c (j 1))

end Cert.HnTwoIdeal.Value

end
-- ==== Proof.HnTwo.Entry.lean ====
module

public import proofs.«01_k».proof.Proof.HnTwo.Value
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo
open Idealize.ShloMosaic.Pipeline (Dat)

namespace Cert.HnTwoIdeal.Value

open Cert.HnTwoIdeal Cert.HnTwoIdeal.Gen Cert.Common

variable (m : (ℓ : Loc nD τ sig) → Buf (Elt Ideal) ℓ)

/-- Rows of the model's width with 240 rows of zeros in front. -/
def padRows (x : FVec Ideal S8208x1024 .f32) : FVec Ideal S8448x1024 .f32 :=
  pad S8448x1024 ![240, 0] ![0, 0] ![0, 0] x (sitofp .f32 (constantI S_ 32 0#32)) pads_S8208x1024_S8448x1024_24000_000 h_S_

/-- The hidden columns of the cotangent in the kernel's order, two halves of gates and factors in turn. -/
def blocks (x : FVec Ideal S8208x5632 .f32) : FVec Ideal S8208x5632 .f32 :=
  concatenate S8208x5632 1 [⟨S8208x1408, extractStridedSlice S8208x1408 ![0, 0] x slices_S8208x5632_S8208x1408_0_0⟩,
    ⟨S8208x1408, extractStridedSlice S8208x1408 ![0, 2816] x slices_S8208x5632_S8208x1408_0_2816⟩,
    ⟨S8208x1408, extractStridedSlice S8208x1408 ![0, 1408] x slices_S8208x5632_S8208x1408_0_1408⟩,
    ⟨S8208x1408, extractStridedSlice S8208x1408 ![0, 4224] x slices_S8208x5632_S8208x1408_0_4224⟩] concatenates_S8208x1408_S8208x1408_S8208x1408_S8208x1408_S8208x5632_d1

/-- The cotangent in the kernel's columns and rows. -/
def cotOf (x : FVec Ideal S8208x5632 .f32) : FVec Ideal S8448x5632 .bf16 :=
  truncf .bf16 (pad S8448x5632 ![240, 0] ![0, 0] ![0, 0] (blocks x) (sitofp .f32 (constantI S_ 32 0#32)) pads_S8208x5632_S8448x5632_24000_000 h_S_) bitsLt_bf16_f32

/-- The weight in the kernel's columns. -/
def wtOf (x : FVec Ideal S1024x5632 .f32) : FVec Ideal S1024x5632 .bf16 :=
  truncf .bf16 (concatenate S1024x5632 1 [⟨S1024x1408, extractStridedSlice S1024x1408 ![0, 0] x slices_S1024x5632_S1024x1408_0_0⟩,
    ⟨S1024x1408, extractStridedSlice S1024x1408 ![0, 2816] x slices_S1024x5632_S1024x1408_0_2816⟩,
    ⟨S1024x1408, extractStridedSlice S1024x1408 ![0, 1408] x slices_S1024x5632_S1024x1408_0_1408⟩,
    ⟨S1024x1408, extractStridedSlice S1024x1408 ![0, 4224] x slices_S1024x5632_S1024x1408_0_4224⟩] concatenates_S1024x1408_S1024x1408_S1024x1408_S1024x1408_S1024x5632_d1) bitsLt_bf16_f32

/-- The reference's column at the kernel's column `k`: the two middle quarters change places. -/
def place (k : Fin 5632) : Fin 5632 :=
  ⟨if k.val < 1408 then k.val else if k.val < 2816 then k.val + 1408 else if k.val < 4224 then k.val - 1408 else k.val, by split_ifs <;> omega⟩

/-- Changing places twice changes nothing. -/
theorem place_place : Function.Involutive place := fun k => Fin.ext (by
  have hk := k.isLt
  unfold place
  dsimp only
  split_ifs <;> omega)

/-- The value in the padding. -/
theorem zero_word : (FloatOps.sitofp .f32 (0#32) : Ideal .f32) = 0 := by
  show (((0#32 : BitVec 32).toInt : ℝ) : EReal) = 0
  simp

/-- The cotangent's padding is zero. -/
theorem cotOf_pad (x : FVec Ideal S8208x5632 .f32) (r : Fin 8448) (h : r.val < 240) (k : Fin 5632) : cotOf x (ix2 r k) = 0 := by
  pointwise [cotOf]
  rw [dif_neg (by omega)]
  exact zero_word

/-- The cotangent's rows after the padding. -/
theorem cotOf_apply (x : FVec Ideal S8208x5632 .f32) (r : Fin 8208) (k : Fin 5632) : cotOf x (ix2 ⟨240 + r.val, by omega⟩ k) = x (ix2 r (place k)) := by
  have e : blocks x (ix2 r k) = x (ix2 r (place k)) := by
    pointwise [blocks]
    unfold place
    all_goals split_ifs <;> first | omega | blk_point
    all_goals split_ifs <;> omega
  refine Eq.trans ?_ e
  pointwise [cotOf]

/-- The weight's columns. -/
theorem wtOf_apply (x : FVec Ideal S1024x5632 .f32) (j : Fin 1024) (k : Fin 5632) : wtOf x (ix2 j k) = x (ix2 j (place k)) := by
  pointwise [wtOf]
  unfold place
  all_goals split_ifs <;> first | omega | blk_point
  all_goals split_ifs <;> omega

/-- The padding of rows is zero. -/
theorem padRows_pad (x : FVec Ideal S8208x1024 .f32) (r : Fin 8448) (h : r.val < 240) (k : Fin 1024) : padRows x (ix2 r k) = 0 := by
  pointwise [padRows]
  rw [dif_neg (by omega)]
  exact zero_word

/-- The rows after the padding. -/
theorem padRows_apply (x : FVec Ideal S8208x1024 .f32) (r : Fin 8208) (k : Fin 1024) : padRows x (ix2 ⟨240 + r.val, by omega⟩ k) = x (ix2 r k) := by
  pointwise [padRows]

/-- The call's first argument is the cotangent. -/
theorem cot_eq (c : Dev nD) : cot m c = cotOf (m ((c : Thread nD τ).loc main_arg0)) := by
  unfold cot V V0
  simp only [hostOps0, hostOps0_1, hostOps0_2, hostOps0_3, hostOps0_4, hostOps0_5, List.flatten_cons, List.flatten_nil, List.append_nil, List.cons_append, List.nil_append]
  after_reads_simp
  rfl

/-- The call's second argument is the weight. -/
theorem wt_eq (c : Dev nD) : wt m c = wtOf (m ((c : Thread nD τ).loc main_arg1)) := by
  unfold wt V V0
  simp only [hostOps0, hostOps0_1, hostOps0_2, hostOps0_3, hostOps0_4, hostOps0_5, List.flatten_cons, List.flatten_nil, List.append_nil, List.cons_append, List.nil_append]
  after_reads_simp
  rfl

/-- The call's third argument is the norm's rows. -/
theorem hid_eq (c : Dev nD) : hid m c = padRows (m ((c : Thread nD τ).loc main_arg2)) := by
  unfold hid V V0
  simp only [hostOps0, hostOps0_1, hostOps0_2, hostOps0_3, hostOps0_4, hostOps0_5, List.flatten_cons, List.flatten_nil, List.append_nil, List.cons_append, List.nil_append]
  after_reads_simp
  rfl

/-- The call's fourth argument is the norm's scale as one row. -/
theorem gain_eq (c : Dev nD) : gain m c = broadcastInDim S1x1024 ![1] bcast_S1024_S1x1024_1 (m ((c : Thread nD τ).loc main_arg3) : FVec Ideal S1024 .f32) := by
  unfold gain V V0
  simp only [hostOps0, hostOps0_1, hostOps0_2, hostOps0_3, hostOps0_4, hostOps0_5, List.flatten_cons, List.flatten_nil, List.append_nil, List.cons_append, List.nil_append]
  after_reads_simp

/-- The call's fifth argument is the residual's gradient. -/
theorem res_eq (c : Dev nD) : res m c = padRows (m ((c : Thread nD τ).loc main_arg4)) := by
  unfold res V V0
  simp only [hostOps0, hostOps0_1, hostOps0_2, hostOps0_3, hostOps0_4, hostOps0_5, List.flatten_cons, List.flatten_nil, List.append_nil, List.cons_append, List.nil_append]
  after_reads_simp
  rfl

end Cert.HnTwoIdeal.Value

end
-- ==== Proof.HnTwo.Tail.lean ====
module

public import proofs.«01_k».proof.Proof.HnTwo.Entry

@[expose] public section

set_option maxRecDepth 16384

noncomputable section

open Idealize.ShloMosaic Idealize.ShloMosaic.TcCoe Idealize.SL.Sem Idealize.ShloMosaic.StableHlo
open Idealize.ShloMosaic.Pipeline (Dat)

namespace Cert.HnTwoIdeal.Value

open Cert.HnTwoIdeal Cert.HnTwoIdeal.Gen Cert.Common

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

/-- The program's results after the lines that follow the call. -/
abbrev resultOf (c : Dev nD) := Pipeline.afterTail₀ cfgs (dats m) 0 (V0 m) [hostOps1] c

/-- The rows after the padding. -/
theorem after_v17 (V : Valuation τ sig (Elt Ideal)) : after hostOps1 V (Proc.devRef .tc main_v17) =
    extractStridedSlice S8208x1024 ![240, 0] (V (Proc.devRef .tc main_v16_0) : FVec Ideal S8448x1024 .f32) slices_S8448x1024_S8208x1024_240_0 := by
  unfold hostOps1
  after_reads_simp

/-- The scale's gradient as a vector. -/
theorem after_v18 (V : Valuation τ sig (Elt Ideal)) : after hostOps1 V (Proc.devRef .tc main_v18) =
    shapeCast S1024 (V (Proc.devRef .tc main_v16_2) : FVec Ideal S1x1024 .f32) shapeCasts_S1x1024_S1024 := by
  unfold hostOps1
  after_reads_simp
  rfl

/-- The gradient that reaches the norm's result: a row of the cotangent against a row of the weight. -/
def arrives (d : FVec Ideal S8208x5632 .f32) (w : FVec Ideal S1024x5632 .f32) (r : Fin 8208) (j : Fin 1024) : EReal := ∑ k, d (ix2 r k) * w (ix2 j k)

/-- The product in the kernel's columns is that in the reference's. -/
theorem dhn_eq (c : Dev nD) (r : Fin 8208) : dhn m c ⟨240 + r.val, by omega⟩ =
    arrives (m ((c : Thread nD τ).loc main_arg0)) (m ((c : Thread nD τ).loc main_arg1)) r := by
  funext j
  unfold dhn arrives
  rw [cot_eq, wt_eq]
  refine Eq.trans ?_ (Equiv.sum_comp place_place.toPerm _)
  exact Finset.sum_congr rfl fun k _ => congrArg₂ (· * ·) (cotOf_apply _ r k) (wtOf_apply _ j k)

/-- Nothing reaches the padded rows. -/
theorem dhn_pad (c : Dev nD) (r : Fin 8448) (h : r.val < 240) (j : Fin 1024) : dhn m c r j = 0 := by
  unfold dhn
  rw [cot_eq]
  exact Finset.sum_eq_zero fun k _ => by rw [cotOf_pad _ r h, zero_mul]

/-- The gradient of the norm's rows `h` with scale `g`, where `d` reaches the norm's result and `e` the rows themselves. -/
def dhAt (d : Fin 8208 → Fin 1024 → EReal) (h : FVec Ideal S8208x1024 .f32) (g : FVec Ideal S1024 .f32) (e : FVec Ideal S8208x1024 .f32) (r : Fin 8208) (k : Fin 1024) : EReal :=
  e (ix2 r k) + normGrad (d r) (fun j => h (ix2 r j)) (fun j => g (ix1 j)) k

/-- The gradient of the norm's scale. -/
def dgSum (d : Fin 8208 → Fin 1024 → EReal) (h : FVec Ideal S8208x1024 .f32) (k : Fin 1024) : EReal := ∑ r, d r k * (h (ix2 r k) * rstd fun j => h (ix2 r j))

/-- The program's first result: the gradient of the norm's rows, the residual's added. -/
theorem dh_at (c : Dev nD) (r : Fin 8208) (k : Fin 1024) : (resultOf m c main_v17 : FVec Ideal S8208x1024 .f32) (ix2 r k) =
    dhAt (arrives (m ((c : Thread nD τ).loc main_arg0)) (m ((c : Thread nD τ).loc main_arg1))) (m ((c : Thread nD τ).loc main_arg2))
      (m ((c : Thread nD τ).loc main_arg3)) (m ((c : Thread nD τ).loc main_arg4)) r k := by
  unfold resultOf Pipeline.afterTail₀
  simp only [List.flatten_cons, List.flatten_nil, List.append_nil]
  rw [after_v17, show Pipeline.withArrays (cfgs 0).spec c (V0 m c) (fun w => (dats m 0 c).arrAt w (cfgs 0).N) (Proc.devRef .tc main_v16_0) = _ from found m c 5, final5,
    ← funext (dhn_eq m c)]
  unfold dhAt
  rw [hid_eq, res_eq, gain_eq]
  pointwise
  simp only [padRows_apply]

/-- The program's second result: the gradient of the norm's scale. -/
theorem dg_at (c : Dev nD) (k : Fin 1024) : (resultOf m c main_v18 : FVec Ideal S1024 .f32) (ix1 k) =
    dgSum (arrives (m ((c : Thread nD τ).loc main_arg0)) (m ((c : Thread nD τ).loc main_arg1))) (m ((c : Thread nD τ).loc main_arg2)) k := by
  unfold resultOf Pipeline.afterTail₀
  simp only [List.flatten_cons, List.flatten_nil, List.append_nil]
  rw [after_v18, show Pipeline.withArrays (cfgs 0).spec c (V0 m c) (fun w => (dats m 0 c).arrAt w (cfgs 0).N) (Proc.devRef .tc main_v16_2) = _ from found m c 7, final7]
  pointwise
  refine sum_pad (fun r h => ?_) fun r => ?_
  · unfold dgRow
    rw [dhn_pad m c r h, zero_mul]
  · unfold dgRow
    rw [dhn_eq, hid_eq]
    simp only [padRows_apply]

/-- What the program leaves: its results and its arguments. -/
theorem run (ρ : Dev nD → PrngReg) : θ_run defs (onTc (τ := τ) (main (F := Ideal))) ⟨m, fun _ => 0, ρ⟩ fun r => ∀ c : Dev nD,
    r.2.mem ((c : Thread nD τ).loc main_v17) = resultOf m c main_v17
      ∧ r.2.mem ((c : Thread nD τ).loc main_v18) = resultOf m c main_v18
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).2 main_v17 (by decide), (h.1 c).2 main_v18 (by decide), h.2 c⟩) (θ_run_and (run_main m ρ) (unchanged m ρ))

end Cert.HnTwoIdeal.Value

end
-- ==== Proof.HnTwo.Claim.lean ====
module

public import proofs.«01_k».proof.Defs
public import proofs.«01_k».proof.Proof.Common.Finite
public import proofs.«01_k».proof.Proof.HnTwo.Tail
public import proofs.«01_k».proof.Proof.Gen.Pre_hn2_finite
public import proofs.«01_k».proof.Proof.Gen.HnTwoRefIdeal.Run
public import proofs.«01_k».proof.Proof.Gen.HnTwoRefIdeal.Read

@[expose] public section

set_option maxRecDepth 16384

noncomputable section

open Idealize.ShloMosaic Idealize.ShloMosaic.TcCoe Idealize.SL.Sem Cert.Common

namespace Cert.HnTwo

/-- The reference's frame: it runs on the host alone and declares no semaphore. -/
theorem frame_ref : Cert.quiescent_HnTwoRefIdeal (hHnTwoRefIdeal := Cert.HnTwoRefIdeal.Gen.facts) := fun m g _ =>
  (θ_run Cert.HnTwoRefIdeal.defs _ _).mono (fun r h => ⟨fun c => (h c).2.2, sem_eq_zero_of_no_sems (by decide) r.2⟩)
    (Cert.HnTwoRefIdeal.Value.run (F := Ideal) m g)

/-- The call and the vector-Jacobian product of the forward lines give the same arrays of real arguments. -/
theorem algebraic : Cert.algebraic_HnTwoIdeal_HnTwoRefIdeal_pre_hn2_finite (hHnTwoIdeal := Cert.HnTwoIdeal.Gen.facts) (hHnTwoRefIdeal := Cert.HnTwoRefIdeal.Gen.facts)
    (hPre_hn2_finite := Cert.Pre_hn2_finite.Gen.facts) := by
  pair_intro
  · run_from Cert.HnTwoIdeal.Value.run m g
  · run_from Cert.HnTwoRefIdeal.Value.run m' g'
    · unfold Cert.HnTwoRefIdeal.Value.res_main_v38
      funext i
      idx_vars i
      simp only [(hagree c).1, (hagree c).2.1, (hagree c).2.2.1, (hagree c).2.2.2.1, (hagree c).2.2.2.2]
      have hd := isReal_of_finite (hpre c).1
      have hw := isReal_of_finite (hpre c).2.1
      have hh := isReal_of_finite (hpre c).2.2.1
      have hg := isReal_of_finite (hpre c).2.2.2
      refine Eq.trans ?_ ((Cert.HnTwoIdeal.Value.dh_at m c i0 i1).trans
        (norm_terms (fun j => .sum _ fun x => (hd _).mul (hw _)) (fun j => hh _) (fun j => hg _) i1 _)).symm
      pointwise
      simp only [Finset.univ_unique, Finset.sum_singleton]
      rfl
    · funext i
      idx_vars i
      refine Eq.trans ?_ (Cert.HnTwoIdeal.Value.dg_at m c i0).symm
      pointwise
      simp only [Finset.univ_unique, Finset.sum_singleton]
      exact Fin.sum_fin_congr fun r => mul_comm _ _

end Cert.HnTwo

end
-- ==== Proof.HnOne.Value.lean ====
module

public import proofs.«01_k».proof.Proof.Gen.HnOneIdeal.Frame
public import Idealize.ShloMosaic.Lib.Pipeline.ValueKit
public import Idealize.ShloMosaic.Lib.Pipeline.ReadBack
public import proofs.«01_k».proof.Proof.Common.Norm

@[expose] public section

set_option maxRecDepth 16384

noncomputable section

open Idealize.ShloMosaic Idealize.ShloMosaic.TcCoe Idealize.SL.Sem
open Idealize.ShloMosaic.Pipeline (Dat)

namespace Cert.HnOneIdeal.Value

open Cert.HnOneIdeal Cert.HnOneIdeal.Gen Cert.Common

variable (m : (ℓ : Loc nD τ sig) → Buf (Elt Ideal) ℓ)

/-- The blocks that a grid point works on: a row block, and one of the five blocks of the product's columns. -/
theorem idx : ∀ t : Fin cfg0.N, win0_0.index t = ![t.val / 5, t.val % 5] ∧ win0_1.index t = ![0, t.val % 5] ∧ win0_2.index t = ![t.val / 5, 0]
    ∧ win0_3.index t = ![0, 0] ∧ win0_4.index t = ![t.val / 5, 0] ∧ win0_5.index t = ![t.val / 5, 0] ∧ win0_6.index t = ![0, 0] :=
  (by decide +kernel : ∀ t : Fin grid0.N, _)

/-- The call's arguments at their shapes: the cotangent's rows, the weight's, the norm's rows, its scale and the residual's gradient. -/
def cot (c : Dev nD) : FVec Ideal S8448x8960 .bf16 := V m c main_v5
/-- The weight that the call is given. -/
def wt (c : Dev nD) : FVec Ideal S1024x8960 .bf16 := V m c main_v10
/-- The residual rows that the call is given. -/
def hid (c : Dev nD) : FVec Ideal S8448x1024 .f32 := V m c main_v11
/-- The norm's scale that the call is given. -/
def gain (c : Dev nD) : FVec Ideal S1x1024 .f32 := V m c main_v12
/-- The residual's gradient that the call is given. -/
def res (c : Dev nD) : FVec Ideal S8448x1024 .f32 := V m c main_v13

/-- The blocks of a point at their shapes. -/
def b0 (c : Dev nD) (t : Fin cfg0.N) : FVec Ideal S768x1792 .bf16 := iblk m c 0 t
/-- The weight's block at a point. -/
def b1 (c : Dev nD) (t : Fin cfg0.N) : FVec Ideal S1024x1792 .bf16 := iblk m c 1 t

/-- A block's part of the product of the cotangent's rows with the weight's. -/
def part (c : Dev nD) (t : Fin cfg0.N) (y : S768x1024.Idx) : EReal := ∑ l : Fin 1792, b0 m c t (ix2 (y 0) l) * b1 m c t (ix2 (y 1) l)

/-- The running product after a row block's first point. -/
theorem acc_A (c : Dev nD) (t : Fin cfg0.N) (h : t.val % 5 = 0) (y : S768x1024.Idx) : (outsAt0 m c t.val t.isLt).2.2 y = 0 + part m c t y := by
  rw [outsAt0_A m c t h (by omega)]
  frame_out
  pointwise [k0_pay2, k0_pay1]
  rfl

/-- The running product after a later point. -/
theorem acc_step (c : Dev nD) (t : Fin cfg0.N) (h : ¬t.val % 5 = 0) (y : S768x1024.Idx) : (outsAt0 m c t.val t.isLt).2.2 y =
    (outsAt0 m c (t.val - 1) (Nat.lt_of_le_of_lt (Nat.sub_le _ _) t.isLt)).2.2 y + part m c t y := by
  by_cases h1 : t.val % 5 = 4
  · by_cases h2 : t.val < 5
    · rw [outsAt0_C m c t h h1 h2]
      frame_out
      simp only [read_unread_whole]
      pointwise [k0_pay2]
      rfl
    · rw [outsAt0_D m c t h h1 h2]
      frame_out
      simp only [read_unread_whole]
      pointwise [k0_pay2]
      rfl
  · rw [outsAt0_B m c t h h1]
    frame_out
    simp only [read_unread_whole]
    pointwise [k0_pay2]
    rfl

/-- The gradient that reaches the norm's result, at a row. -/
def dhn (c : Dev nD) (r : Fin 8448) (j : Fin 1024) : EReal := ∑ l : Fin 8960, cot m c (ix2 r l) * wt m c (ix2 j l)

/-- A point's block of the cotangent's rows. -/
theorem b0_apply (c : Dev nD) (t : Fin cfg0.N) (i : Fin 768) (l : Fin 1792) (r : Fin 8448) (k : Fin 8960) (hr : r.val = t.val / 5 * 768 + i.val)
    (hk : k.val = t.val % 5 * 1792 + l.val) : b0 m c t (ix2 i l) = cot m c (ix2 r k) := by
  unfold b0 cot
  blk_point [iblk, V, idx t]

/-- A point's block of the weight's rows. -/
theorem b1_apply (c : Dev nD) (t : Fin cfg0.N) (j : Fin 1024) (l : Fin 1792) (k : Fin 8960) (hk : k.val = t.val % 5 * 1792 + l.val) :
    b1 m c t (ix2 j l) = wt m c (ix2 j k) := by
  unfold b1 wt
  blk_point [iblk, V, idx t]

/-- The running product after a row block's last point is the whole product. -/
theorem acc_full (c : Dev nD) (t : Fin cfg0.N) (h : t.val % 5 = 4) (y : S768x1024.Idx) (r : Fin 8448) (hr : r.val = t.val / 5 * 768 + (y 0).val) :
    (outsAt0 m c t.val t.isLt).2.2 y = dhn m c r (y 1) := by
  refine (Pipeline.eq_sum_fin_of_reset_step_apply_of_flush (fun n h => (outsAt0 m c n h).2.2) 5 (fun _ => (0 : EReal)) (part m c) (acc_A m c) (acc_step m c) t h y).trans ?_
  rw [zero_add]
  unfold dhn part
  refine Fin.sum_mul_add_congr fun s l hl => ?_
  rw [b0_apply m c _ (y 0) l r ⟨s.val * 1792 + l.val, hl⟩ (by dsimp only; omega) (by dsimp only; omega), b1_apply m c _ (y 1) l ⟨s.val * 1792 + l.val, hl⟩ (by dsimp only; omega)]

/-- The blocks of the norm's side at their shapes. -/
def b2 (c : Dev nD) (t : Fin cfg0.N) : FVec Ideal S768x1024 .f32 := iblk m c 2 t
/-- The scale at a point. -/
def b3 (c : Dev nD) (t : Fin cfg0.N) : FVec Ideal S1x1024 .f32 := iblk m c 3 t
/-- The residual's gradient at a point. -/
def b4 (c : Dev nD) (t : Fin cfg0.N) : FVec Ideal S768x1024 .f32 := iblk m c 4 t

/-- What a row block's last point computes from the whole product. -/
theorem pay9_apply (a : FVec Ideal S768x1024 .f32) (x : FVec Ideal S768x1024 .f32) (g : FVec Ideal S1x1024 .f32) (e : FVec Ideal S768x1024 .f32) (i : Fin 768) (k : Fin 1024) :
    k0_pay9 a x g e (ix2 i k) = e (ix2 i k) + normGrad (fun j => a (ix2 i j)) (fun j => x (ix2 i j)) (fun j => g (ix2 0 j)) k := by
  unfold normGrad rstd meanSq
  pointwise [k0_pay9, k0_pay5, k0_pay6, k0_pay7]

/-- A row block's part of the gradient of the scale. -/
theorem pay8_apply (a : FVec Ideal S768x1024 .f32) (x : FVec Ideal S768x1024 .f32) (i : Fin 1) (k : Fin 1024) :
    k0_pay8 a x (ix2 i k) = ∑ r : Fin 768, a (ix2 r k) * (x (ix2 r k) * rstd fun j => x (ix2 r j)) := by
  unfold rstd meanSq
  pointwise [k0_pay8, k0_pay5, k0_pay6, k0_pay7]

/-- A row block's last point writes the gradient of the norm's rows. -/
theorem out_dh (c : Dev nD) (t : Fin cfg0.N) (h : t.val % 5 = 4) :
    (outsAt0 m c t.val t.isLt).1 = k0_pay9 (outsAt0 m c t.val t.isLt).2.2 (b2 m c t) (b3 m c t) (b4 m c t) := by
  by_cases h2 : t.val < 5
  · rw [outsAt0_C m c t (by omega) h h2]
    frame_out
    simp only [read_unread_whole]
    rfl
  · rw [outsAt0_D m c t (by omega) h h2]
    frame_out
    simp only [read_unread_whole]
    rfl

/-- The first row block's last point starts the gradient of the scale. -/
theorem dg_first (c : Dev nD) (t : Fin cfg0.N) (h : t.val % 5 = 4) (h2 : t.val < 5) :
    (outsAt0 m c t.val t.isLt).2.1 = k0_pay3 (k0_pay8 (outsAt0 m c t.val t.isLt).2.2 (b2 m c t)) (k0_pay4 (F := Ideal)) := by
  rw [outsAt0_C m c t (by omega) h h2]
  frame_out
  simp only [read_unread_whole]
  rfl

/-- A later row block's last point adds to it. -/
theorem dg_later (c : Dev nD) (t : Fin cfg0.N) (h : t.val % 5 = 4) (h2 : ¬t.val < 5) :
    (outsAt0 m c t.val t.isLt).2.1 = k0_pay3 (k0_pay8 (outsAt0 m c t.val t.isLt).2.2 (b2 m c t))
      (outsAt0 m c (t.val - 1) (Nat.lt_of_le_of_lt (Nat.sub_le _ _) t.isLt)).2.1 := by
  rw [outsAt0_D m c t (by omega) h h2]
  frame_out
  simp only [read_unread_whole]
  rfl

/-- Between row blocks' last points it stays. -/
theorem dg_keep (c : Dev nD) (t : Fin cfg0.N) (h : ¬t.val % 5 = 4) :
    (outsAt0 m c t.val t.isLt).2.1 = (outsAt0 m c (t.val - 1) (Nat.lt_of_le_of_lt (Nat.sub_le _ _) t.isLt)).2.1 := by
  by_cases h1 : t.val % 5 = 0
  · rw [outsAt0_A m c t h1 h]
    rfl
  · rw [outsAt0_B m c t h1 h]
    rfl

/-- The norm's rows at a point. -/
theorem b2_apply (c : Dev nD) (t : Fin cfg0.N) (i : Fin 768) (j : Fin 1024) (r : Fin 8448) (hr : r.val = t.val / 5 * 768 + i.val) : b2 m c t (ix2 i j) = hid m c (ix2 r j) := by
  unfold b2 hid
  blk_point [iblk, V, idx t]

/-- The scale, the same at each point. -/
theorem b3_apply (c : Dev nD) (t : Fin cfg0.N) (j : Fin 1024) : b3 m c t (ix2 0 j) = gain m c (ix2 0 j) := by
  unfold b3 gain
  blk_point [iblk, V, idx t]

/-- The residual's gradient at a point. -/
theorem b4_apply (c : Dev nD) (t : Fin cfg0.N) (i : Fin 768) (j : Fin 1024) (r : Fin 8448) (hr : r.val = t.val / 5 * 768 + i.val) : b4 m c t (ix2 i j) = res m c (ix2 r j) := by
  unfold b4 res
  blk_point [iblk, V, idx t]

/-- A row's part of the gradient of the scale. -/
def dgRow (c : Dev nD) (k : Fin 1024) (r : Fin 8448) : EReal := dhn m c r k * (hid m c (ix2 r k) * rstd fun j => hid m c (ix2 r j))

/-- A row block's part of the gradient of the scale. -/
def dgPart (c : Dev nD) (n : Fin 11) (k : Fin 1024) : EReal := ∑ r : Fin 768, dgRow m c k ⟨n.val * 768 + r.val, by omega⟩

/-- What a row block's last point adds to the gradient of the scale. -/
theorem dg_part (c : Dev nD) (n : Fin 11) (h : 5 * n.val + 4 < cfg0.N) (k : Fin 1024) :
    k0_pay8 (outsAt0 m c (5 * n.val + 4) h).2.2 (b2 m c ⟨5 * n.val + 4, h⟩) (ix2 0 k) = dgPart m c n k := by
  rw [pay8_apply]
  unfold dgPart dgRow
  refine Fin.sum_fin_congr fun r => ?_
  rw [acc_full m c ⟨5 * n.val + 4, h⟩ (by dsimp only; omega) (ix2 r k) ⟨n.val * 768 + r.val, by omega⟩ (by show n.val * 768 + r.val = (5 * n.val + 4) / 5 * 768 + r.val; omega)]
  simp only [b2_apply m c ⟨5 * n.val + 4, h⟩ r _ ⟨n.val * 768 + r.val, by omega⟩ (by show n.val * 768 + r.val = (5 * n.val + 4) / 5 * 768 + r.val; omega)]
  rfl

/-- What a point leaves depends on its number alone. -/
theorem outs_congr (c : Dev nD) {a b : ℕ} (ha : a < cfg0.N) (hb : b < cfg0.N) (h : a = b) : outsAt0 m c a ha = outsAt0 m c b hb := by
  subst h
  rfl

/-- The gradient of the scale after a row block. -/
def dgAt (c : Dev nD) (n : ℕ) (h : n < 11) : FVec Ideal S1x1024 .f32 := (outsAt0 m c (5 * n + 4) (by show 5 * n + 4 < 55; omega)).2.1

/-- The last point leaves the gradient of the scale after all row blocks. -/
theorem dgAt_last (c : Dev nD) (t : Fin cfg0.N) (ht : t.val = 54) : (outsAt0 m c t.val t.isLt).2.1 = dgAt m c 10 (by decide) := by
  unfold dgAt
  rw [outs_congr m c t.isLt _ ht]

/-- The gradient of the scale that the last point leaves is the sum over all rows. -/
theorem dg_total (c : Dev nD) (k : Fin 1024) : dgAt m c 10 (by decide) (ix2 0 k) = ∑ r : Fin 8448, dgRow m c k r := by
  refine (Pipeline.eq_sum_fin_of_reset_step_apply_last (fun n h k => dgAt m c n h (ix2 0 k)) 11 (fun _ => (0 : EReal)) (dgPart m c) ?_ ?_ le_rfl (10 : Fin 11) rfl k).trans ?_
  · intro n hn k
    obtain rfl : n = 0 := by ext; have := n.isLt; show n.val = 0; omega
    show dgAt m c 0 _ (ix2 0 k) = _
    rw [← dg_part m c 0 (by decide) k]
    unfold dgAt
    rw [dg_first m c ⟨4, by decide⟩ (by decide) (by decide)]
    pointwise [k0_pay3, k0_pay4]
  · intro n hn k
    have hN : 5 * n.val + 4 < cfg0.N := by show 5 * n.val + 4 < 55; omega
    have h0 : n.val ≠ 0 := fun h => hn (by rw [h])
    rw [← dg_part m c n hN k]
    have e0 := dg_keep m c ⟨5 * n.val + 3, by omega⟩ (by dsimp only; omega)
    have e1 := dg_keep m c ⟨5 * n.val + 2, by omega⟩ (by dsimp only; omega)
    have e2 := dg_keep m c ⟨5 * n.val + 1, by omega⟩ (by dsimp only; omega)
    have e3 := dg_keep m c ⟨5 * n.val, by omega⟩ (by dsimp only; omega)
    have e4 := dg_later m c ⟨5 * n.val + 4, hN⟩ (by dsimp only; omega) (by dsimp only; omega)
    unfold dgAt
    refine (congrFun e4 (ix2 0 k)).trans ?_
    have e6 : (outsAt0 m c (5 * n.val + 4 - 1) (by omega)).2.1 = (outsAt0 m c (5 * (n.val - 1) + 4) (by omega)).2.1 := by
      rw [outs_congr m c (b := 5 * n.val + 3) _ (by omega) (by omega), e0, outs_congr m c (b := 5 * n.val + 2) _ (by omega) (by dsimp only; omega), e1, outs_congr m c (b := 5 * n.val + 1) _ (by omega) (by dsimp only; omega), e2,
        outs_congr m c (b := 5 * n.val) _ (by omega) (by dsimp only; omega), e3, outs_congr m c (b := 5 * (n.val - 1) + 4) _ (by omega) (by dsimp only; omega)]
    rw [← e6]
    pointwise [k0_pay3]
  · rw [zero_add]
    exact Fin.sum_mul_add_congr fun n r hl => rfl

/-- What a row block's last point writes at an index of the array. -/
theorem written (c : Dev nD) (t : Fin cfg0.N) (h : t.val % 5 = 4) (y : S768x1024.Idx) (r : Fin 8448) (k : Fin 1024) (h0 : r.val = t.val / 5 * 768 + (y 0).val)
    (h1 : k.val = (y 1).val) : (outsAt0 m c t.val t.isLt).1 y = res m c (ix2 r k) + normGrad (dhn m c r) (fun j => hid m c (ix2 r j)) (fun j => gain m c (ix2 0 j)) k := by
  idx_vars y
  obtain rfl : k = y1 := Fin.ext h1
  rw [out_dh m c t h, pay9_apply, b4_apply m c t y0 k r h0]
  simp only [b2_apply m c t y0 _ r h0, b3_apply, fun j => acc_full m c t h (ix2 y0 j) r h0]
  rfl

/-- The array of the norm's rows' gradients that the call leaves. -/
theorem final5 (c : Dev nD) : (dats m 0 c).arrAt 5 (cfgs 0).N = fun i : S8448x1024.Idx =>
    res m c i + normGrad (dhn m c (i 0)) (fun j => hid m c (ix2 (i 0) j)) (fun j => gain m c (ix2 0 j)) (i 1) := by
  refine (dats m 0 c).arrAt_eq_of_covers 5 _ (by decide +kernel) fun t hf y => ?_
  have h := (flush0_5 t).mp hf
  blk_simp
  rw [after0_5]
  have e0 : (((win0_5.blk t).view.emb y) (0 : Fin 2)).val = t.val / 5 * 768 + (y (0 : Fin 2)).val := by blk_simp [idx t]
  have e1 : (((win0_5.blk t).view.emb y) (1 : Fin 2)).val = (y (1 : Fin 2)).val := by blk_simp [idx t]
  refine (written m c t h y _ _ e0 e1).trans ?_
  rw [← eq_ix2]

/-- The gradient of the scale that the call leaves. -/
theorem final6 (c : Dev nD) : (dats m 0 c).arrAt 6 (cfgs 0).N = fun i : S1x1024.Idx => ∑ r : Fin 8448, dgRow m c (i 1) r := by
  obtain ⟨t, ht, hw⟩ : ∃ t : Fin cfg0.N, t.val = 54 ∧ (cfg0.win 6).WholeAt t := ⟨⟨54, by decide⟩, rfl, by decide +kernel⟩
  refine (dats m 0 c).arrAt_eq_of_after_last 6 t hw _ fun j => ?_
  blk_simp
  rw [after0_6]
  have hj : j = ix2 0 (j 1) := (eq_ix2 j).trans (congrArg (ix2 · (j 1)) (Subsingleton.elim _ _))
  rw [dgAt_last m c t ht]
  exact (congrArg _ hj).trans (dg_total m c (j 1))

end Cert.HnOneIdeal.Value

end
-- ==== Proof.HnOne.Entry.lean ====
module

public import proofs.«01_k».proof.Proof.HnOne.Value
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo
open Idealize.ShloMosaic.Pipeline (Dat)

namespace Cert.HnOneIdeal.Value

open Cert.HnOneIdeal Cert.HnOneIdeal.Gen Cert.Common

variable (m : (ℓ : Loc nD τ sig) → Buf (Elt Ideal) ℓ)

/-- Rows of the model's width with 240 rows of zeros in front. -/
def padRows (x : FVec Ideal S8208x1024 .f32) : FVec Ideal S8448x1024 .f32 :=
  pad S8448x1024 ![240, 0] ![0, 0] ![0, 0] x (sitofp .f32 (constantI S_ 32 0#32)) pads_S8208x1024_S8448x1024_24000_000 h_S_

/-- The columns of the input projection in the kernel's order: the first 2560 behind the others, 256 columns of zeros between. -/
def columns (x : FVec Ideal S8208x8704 .f32) : FVec Ideal S8208x8960 .f32 :=
  concatenate S8208x8960 1 [⟨S8208x6144, extractStridedSlice S8208x6144 ![0, 2560] x slices_S8208x8704_S8208x6144_0_2560⟩,
    ⟨S8208x256, broadcastInDim S8208x256 ![] bcast_S_S8208x256 (constant S_ .f32 0x00000000#32)⟩,
    ⟨S8208x2560, extractStridedSlice S8208x2560 ![0, 0] x slices_S8208x8704_S8208x2560_0_0⟩] concatenates_S8208x6144_S8208x256_S8208x2560_S8208x8960_d1

/-- The cotangent in the kernel's columns and rows. -/
def cotOf (x : FVec Ideal S8208x8704 .f32) : FVec Ideal S8448x8960 .bf16 :=
  truncf .bf16 (pad S8448x8960 ![240, 0] ![0, 0] ![0, 0] (columns x) (sitofp .f32 (constantI S_ 32 0#32)) pads_S8208x8960_S8448x8960_24000_000 h_S_) bitsLt_bf16_f32

/-- The weight in the kernel's columns. -/
def wtOf (x : FVec Ideal S1024x8704 .f32) : FVec Ideal S1024x8960 .bf16 :=
  truncf .bf16 (concatenate S1024x8960 1 [⟨S1024x6144, extractStridedSlice S1024x6144 ![0, 2560] x slices_S1024x8704_S1024x6144_0_2560⟩,
    ⟨S1024x256, broadcastInDim S1024x256 ![] bcast_S_S1024x256 (constant S_ .f32 0x00000000#32)⟩,
    ⟨S1024x2560, extractStridedSlice S1024x2560 ![0, 0] x slices_S1024x8704_S1024x2560_0_0⟩] concatenates_S1024x6144_S1024x256_S1024x2560_S1024x8960_d1) bitsLt_bf16_f32

/-- A sum over the kernel's columns, of which the 256 in the middle contribute nothing, is that over the reference's. -/
theorem sum_columns {f : Fin 8960 → EReal} {g : Fin 8704 → EReal} (h0 : ∀ l : Fin 6144, f ⟨l.val, by omega⟩ = g ⟨2560 + l.val, by omega⟩)
    (h1 : ∀ l : Fin 256, f ⟨6144 + l.val, by omega⟩ = 0) (h2 : ∀ l : Fin 2560, f ⟨6400 + l.val, by omega⟩ = g ⟨l.val, by omega⟩) : ∑ l, f l = ∑ l, g l := by
  refine (Fin.sum_univ_add (a := 6400) (b := 2560) f).trans ((congrArg (· + _) (Fin.sum_univ_add (a := 6144) (b := 256) _)).trans ?_)
  refine Eq.trans ?_ (Fin.sum_univ_add (a := 2560) (b := 6144) g).symm
  rw [Finset.sum_eq_zero (f := fun l : Fin 256 => f (Fin.castAdd 2560 (Fin.natAdd 6144 l))) fun l _ => h1 l, add_zero, add_comm]
  exact congrArg₂ (· + ·) (Finset.sum_congr rfl fun l _ => h2 l) (Finset.sum_congr rfl fun l _ => h0 l)

/-- The value in the padding. -/
theorem zero_word : (FloatOps.sitofp .f32 (0#32) : Ideal .f32) = 0 := by
  show (((0#32 : BitVec 32).toInt : ℝ) : EReal) = 0
  simp

/-- The cotangent's padding is zero. -/
theorem cotOf_pad (x : FVec Ideal S8208x8704 .f32) (r : Fin 8448) (h : r.val < 240) (k : Fin 8960) : cotOf x (ix2 r k) = 0 := by
  pointwise [cotOf]
  rw [dif_neg (by omega)]
  exact zero_word

/-- A row of the cotangent against a row of the weight, in the kernel's columns and in the reference's. -/
theorem sum_cot_wt (x : FVec Ideal S8208x8704 .f32) (w : FVec Ideal S1024x8704 .f32) (r : Fin 8208) (j : Fin 1024) :
    ∑ l, cotOf x (ix2 ⟨240 + r.val, by omega⟩ l) * wtOf w (ix2 j l) = ∑ l, x (ix2 r l) * w (ix2 j l) := by
  have e : ∀ l, cotOf x (ix2 ⟨240 + r.val, by omega⟩ l) = columns x (ix2 r l) := fun l => by pointwise [cotOf]
  simp only [e]
  refine sum_columns (fun l => ?_) (fun l => ?_) fun l => ?_
  · pointwise [columns, wtOf]
  · refine Eq.trans (congrArg (_ * ·) (?_ : _ = (0 : EReal))) (mul_zero _)
    pointwise [wtOf]
  · pointwise [columns, wtOf]
    have h6 : ¬6400 + l.val < 6144 := by omega
    have h7 : ¬6400 + l.val - 6144 < 256 := by omega
    rw [dif_neg h6, dif_neg h7, dif_neg h6, dif_neg h7]
    blk_point

/-- The padding of rows is zero. -/
theorem padRows_pad (x : FVec Ideal S8208x1024 .f32) (r : Fin 8448) (h : r.val < 240) (k : Fin 1024) : padRows x (ix2 r k) = 0 := by
  pointwise [padRows]
  rw [dif_neg (by omega)]
  exact zero_word

/-- The rows after the padding. -/
theorem padRows_apply (x : FVec Ideal S8208x1024 .f32) (r : Fin 8208) (k : Fin 1024) : padRows x (ix2 ⟨240 + r.val, by omega⟩ k) = x (ix2 r k) := by
  pointwise [padRows]

/-- The call's first argument is the cotangent. -/
theorem cot_eq (c : Dev nD) : cot m c = cotOf (m ((c : Thread nD τ).loc main_arg0)) := by
  unfold cot V V0
  simp only [hostOps0, hostOps0_1, hostOps0_2, hostOps0_3, hostOps0_4, hostOps0_5, List.flatten_cons, List.flatten_nil, List.append_nil, List.cons_append, List.nil_append]
  after_reads_simp
  rfl

/-- The call's second argument is the weight. -/
theorem wt_eq (c : Dev nD) : wt m c = wtOf (m ((c : Thread nD τ).loc main_arg1)) := by
  unfold wt V V0
  simp only [hostOps0, hostOps0_1, hostOps0_2, hostOps0_3, hostOps0_4, hostOps0_5, List.flatten_cons, List.flatten_nil, List.append_nil, List.cons_append, List.nil_append]
  after_reads_simp
  rfl

/-- The call's third argument is the norm's rows. -/
theorem hid_eq (c : Dev nD) : hid m c = padRows (m ((c : Thread nD τ).loc main_arg2)) := by
  unfold hid V V0
  simp only [hostOps0, hostOps0_1, hostOps0_2, hostOps0_3, hostOps0_4, hostOps0_5, List.flatten_cons, List.flatten_nil, List.append_nil, List.cons_append, List.nil_append]
  after_reads_simp
  rfl

/-- The call's fourth argument is the norm's scale as one row. -/
theorem gain_eq (c : Dev nD) : gain m c = broadcastInDim S1x1024 ![1] bcast_S1024_S1x1024_1 (m ((c : Thread nD τ).loc main_arg3) : FVec Ideal S1024 .f32) := by
  unfold gain V V0
  simp only [hostOps0, hostOps0_1, hostOps0_2, hostOps0_3, hostOps0_4, hostOps0_5, List.flatten_cons, List.flatten_nil, List.append_nil, List.cons_append, List.nil_append]
  after_reads_simp

/-- The call's fifth argument is the residual's gradient. -/
theorem res_eq (c : Dev nD) : res m c = padRows (m ((c : Thread nD τ).loc main_arg4)) := by
  unfold res V V0
  simp only [hostOps0, hostOps0_1, hostOps0_2, hostOps0_3, hostOps0_4, hostOps0_5, List.flatten_cons, List.flatten_nil, List.append_nil, List.cons_append, List.nil_append]
  after_reads_simp
  rfl

end Cert.HnOneIdeal.Value

end
-- ==== Proof.HnOne.Tail.lean ====
module

public import proofs.«01_k».proof.Proof.HnOne.Entry

@[expose] public section

set_option maxRecDepth 16384

noncomputable section

open Idealize.ShloMosaic Idealize.ShloMosaic.TcCoe Idealize.SL.Sem Idealize.ShloMosaic.StableHlo
open Idealize.ShloMosaic.Pipeline (Dat)

namespace Cert.HnOneIdeal.Value

open Cert.HnOneIdeal Cert.HnOneIdeal.Gen Cert.Common

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

/-- The program's results after the lines that follow the call. -/
abbrev resultOf (c : Dev nD) := Pipeline.afterTail₀ cfgs (dats m) 0 (V0 m) [hostOps1] c

/-- The rows after the padding. -/
theorem after_v15 (V : Valuation τ sig (Elt Ideal)) : after hostOps1 V (Proc.devRef .tc main_v15) =
    extractStridedSlice S8208x1024 ![240, 0] (V (Proc.devRef .tc main_v14_0) : FVec Ideal S8448x1024 .f32) slices_S8448x1024_S8208x1024_240_0 := by
  unfold hostOps1
  after_reads_simp

/-- The scale's gradient as a vector. -/
theorem after_v16 (V : Valuation τ sig (Elt Ideal)) : after hostOps1 V (Proc.devRef .tc main_v16) =
    shapeCast S1024 (V (Proc.devRef .tc main_v14_1) : FVec Ideal S1x1024 .f32) shapeCasts_S1x1024_S1024 := by
  unfold hostOps1
  after_reads_simp
  rfl

/-- The gradient that reaches the norm's result: a row of the cotangent against a row of the weight. -/
def arrives (d : FVec Ideal S8208x8704 .f32) (w : FVec Ideal S1024x8704 .f32) (r : Fin 8208) (j : Fin 1024) : EReal := ∑ k, d (ix2 r k) * w (ix2 j k)

/-- The product in the kernel's columns is that in the reference's. -/
theorem dhn_eq (c : Dev nD) (r : Fin 8208) : dhn m c ⟨240 + r.val, by omega⟩ =
    arrives (m ((c : Thread nD τ).loc main_arg0)) (m ((c : Thread nD τ).loc main_arg1)) r := by
  funext j
  unfold dhn arrives
  rw [cot_eq, wt_eq]
  exact sum_cot_wt _ _ r j

/-- Nothing reaches the padded rows. -/
theorem dhn_pad (c : Dev nD) (r : Fin 8448) (h : r.val < 240) (j : Fin 1024) : dhn m c r j = 0 := by
  unfold dhn
  rw [cot_eq]
  exact Finset.sum_eq_zero fun k _ => by rw [cotOf_pad _ r h, zero_mul]

/-- The gradient of the norm's rows `h` with scale `g`, where `d` reaches the norm's result and `e` the rows themselves. -/
def dhAt (d : Fin 8208 → Fin 1024 → EReal) (h : FVec Ideal S8208x1024 .f32) (g : FVec Ideal S1024 .f32) (e : FVec Ideal S8208x1024 .f32) (r : Fin 8208) (k : Fin 1024) : EReal :=
  e (ix2 r k) + normGrad (d r) (fun j => h (ix2 r j)) (fun j => g (ix1 j)) k

/-- The gradient of the norm's scale. -/
def dgSum (d : Fin 8208 → Fin 1024 → EReal) (h : FVec Ideal S8208x1024 .f32) (k : Fin 1024) : EReal := ∑ r, d r k * (h (ix2 r k) * rstd fun j => h (ix2 r j))

/-- The program's first result: the gradient of the norm's rows, the residual's added. -/
theorem dh_at (c : Dev nD) (r : Fin 8208) (k : Fin 1024) : (resultOf m c main_v15 : FVec Ideal S8208x1024 .f32) (ix2 r k) =
    dhAt (arrives (m ((c : Thread nD τ).loc main_arg0)) (m ((c : Thread nD τ).loc main_arg1))) (m ((c : Thread nD τ).loc main_arg2))
      (m ((c : Thread nD τ).loc main_arg3)) (m ((c : Thread nD τ).loc main_arg4)) r k := by
  unfold resultOf Pipeline.afterTail₀
  simp only [List.flatten_cons, List.flatten_nil, List.append_nil]
  rw [after_v15, show Pipeline.withArrays (cfgs 0).spec c (V0 m c) (fun w => (dats m 0 c).arrAt w (cfgs 0).N) (Proc.devRef .tc main_v14_0) = _ from found m c 5, final5,
    ← funext (dhn_eq m c)]
  unfold dhAt
  rw [hid_eq, res_eq, gain_eq]
  pointwise
  simp only [padRows_apply]

/-- The program's second result: the gradient of the norm's scale. -/
theorem dg_at (c : Dev nD) (k : Fin 1024) : (resultOf m c main_v16 : FVec Ideal S1024 .f32) (ix1 k) =
    dgSum (arrives (m ((c : Thread nD τ).loc main_arg0)) (m ((c : Thread nD τ).loc main_arg1))) (m ((c : Thread nD τ).loc main_arg2)) k := by
  unfold resultOf Pipeline.afterTail₀
  simp only [List.flatten_cons, List.flatten_nil, List.append_nil]
  rw [after_v16, show Pipeline.withArrays (cfgs 0).spec c (V0 m c) (fun w => (dats m 0 c).arrAt w (cfgs 0).N) (Proc.devRef .tc main_v14_1) = _ from found m c 6, final6]
  pointwise
  refine sum_pad (fun r h => ?_) fun r => ?_
  · unfold dgRow
    rw [dhn_pad m c r h, zero_mul]
  · unfold dgRow
    rw [dhn_eq, hid_eq]
    simp only [padRows_apply]

/-- What the program leaves: its results and its arguments. -/
theorem run (ρ : Dev nD → PrngReg) : θ_run defs (onTc (τ := τ) (main (F := Ideal))) ⟨m, fun _ => 0, ρ⟩ fun r => ∀ c : Dev nD,
    r.2.mem ((c : Thread nD τ).loc main_v15) = resultOf m c main_v15
      ∧ r.2.mem ((c : Thread nD τ).loc main_v16) = resultOf m c main_v16
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).2 main_v15 (by decide), (h.1 c).2 main_v16 (by decide), h.2 c⟩) (θ_run_and (run_main m ρ) (unchanged m ρ))

end Cert.HnOneIdeal.Value

end
-- ==== Proof.HnOne.Claim.lean ====
module

public import proofs.«01_k».proof.Defs
public import proofs.«01_k».proof.Proof.Common.Finite
public import proofs.«01_k».proof.Proof.HnOne.Tail
public import proofs.«01_k».proof.Proof.Gen.Pre_hn1_finite
public import proofs.«01_k».proof.Proof.Gen.HnOneRefIdeal.Run
public import proofs.«01_k».proof.Proof.Gen.HnOneRefIdeal.Read

@[expose] public section

set_option maxRecDepth 16384

noncomputable section

open Idealize.ShloMosaic Idealize.ShloMosaic.TcCoe Idealize.SL.Sem Cert.Common

namespace Cert.HnOne

/-- The reference's frame: it runs on the host alone and declares no semaphore. -/
theorem frame_ref : Cert.quiescent_HnOneRefIdeal (hHnOneRefIdeal := Cert.HnOneRefIdeal.Gen.facts) := fun m g _ =>
  (θ_run Cert.HnOneRefIdeal.defs _ _).mono (fun r h => ⟨fun c => (h c).2.2, sem_eq_zero_of_no_sems (by decide) r.2⟩)
    (Cert.HnOneRefIdeal.Value.run (F := Ideal) m g)

/-- The call and the vector-Jacobian product of the forward lines give the same arrays of real arguments. -/
theorem algebraic : Cert.algebraic_HnOneIdeal_HnOneRefIdeal_pre_hn1_finite (hHnOneIdeal := Cert.HnOneIdeal.Gen.facts) (hHnOneRefIdeal := Cert.HnOneRefIdeal.Gen.facts)
    (hPre_hn1_finite := Cert.Pre_hn1_finite.Gen.facts) := by
  pair_intro
  · run_from Cert.HnOneIdeal.Value.run m g
  · run_from Cert.HnOneRefIdeal.Value.run m' g'
    · unfold Cert.HnOneRefIdeal.Value.res_main_v38
      funext i
      idx_vars i
      simp only [(hagree c).1, (hagree c).2.1, (hagree c).2.2.1, (hagree c).2.2.2.1, (hagree c).2.2.2.2]
      have hd := isReal_of_finite (hpre c).1
      have hw := isReal_of_finite (hpre c).2.1
      have hh := isReal_of_finite (hpre c).2.2.1
      have hg := isReal_of_finite (hpre c).2.2.2
      refine Eq.trans ?_ ((Cert.HnOneIdeal.Value.dh_at m c i0 i1).trans
        (norm_terms (fun j => .sum _ fun x => (hd _).mul (hw _)) (fun j => hh _) (fun j => hg _) i1 _)).symm
      pointwise
      simp only [Finset.univ_unique, Finset.sum_singleton]
      rfl
    · funext i
      idx_vars i
      refine Eq.trans ?_ (Cert.HnOneIdeal.Value.dg_at m c i0).symm
      pointwise
      simp only [Finset.univ_unique, Finset.sum_singleton]
      exact Fin.sum_fin_congr fun r => mul_comm _ _

end Cert.HnOne

end
-- ==== Proof.Loss.Value.lean ====
module

public import proofs.«01_k».proof.Proof.Gen.LossIdeal.Frame
public import Idealize.ShloMosaic.Lib.Pipeline.ValueKit
public import Idealize.ShloMosaic.Lib.Pipeline.ReadBack
public import proofs.«01_k».proof.Proof.Common.Norm

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen Cert.Common

variable (m : (ℓ : Loc nD τ sig) → Buf (Elt Ideal) ℓ)

/-- Which block each window stages at a point. -/
theorem idx : ∀ t : Fin cfg0.N, win0_0.index t = ![t.val, 0] ∧ win0_1.index t = ![0, 0] ∧ win0_2.index t = ![t.val, 0]
    ∧ win0_3.index t = ![0, 0] ∧ win0_4.index t = ![t.val * 3 + 0 - 1, 0] ∧ win0_5.index t = ![t.val * 3 + 1 - 1, 0]
    ∧ win0_6.index t = ![t.val * 3 + 2 - 1, 0] ∧ win0_7.index t = ![t.val, 0] ∧ win0_9.index t = ![0, 0] ∧ win0_10.index t = ![0, 0] :=
  (by decide +kernel : ∀ t : Fin grid0.N, _)

/-- The call's arguments at their shapes: the feed-forward's inner rows. -/
def act (c : Dev nD) : FVec Ideal S8448x2816 .bf16 := V m c main_v1
/-- The weight. -/
def wt (c : Dev nD) : FVec Ideal S2816x1024 .bf16 := V m c main_v2
/-- The residual rows. -/
def hid (c : Dev nD) : FVec Ideal S8448x1024 .f32 := V m c main_v3
/-- The norm's scale. -/
def gain (c : Dev nD) : FVec Ideal S1x1024 .f32 := V m c main_v4
/-- The target. -/
def tgt (c : Dev nD) : FVec Ideal S8192x1024 .f32 := V m c main_arg4

/-- The blocks of a point at their shapes: of the inner rows, the weight, the residual rows, the scale, and three of the target. -/
def b0 (c : Dev nD) (t : Fin cfg0.N) : FVec Ideal S768x2816 .bf16 := iblk m c 0 t
/-- The weight, the same at each point. -/
def b1 (c : Dev nD) (t : Fin cfg0.N) : FVec Ideal S2816x1024 .bf16 := iblk m c 1 t
/-- The residual rows of a point. -/
def b2 (c : Dev nD) (t : Fin cfg0.N) : FVec Ideal S768x1024 .f32 := iblk m c 2 t
/-- The scale, the same at each point. -/
def b3 (c : Dev nD) (t : Fin cfg0.N) : FVec Ideal S1x1024 .f32 := iblk m c 3 t
/-- The target's rows of a point's first part. -/
def b4 (c : Dev nD) (t : Fin cfg0.N) : FVec Ideal S256x1024 .f32 := iblk m c 4 t
/-- The target's rows of its second part. -/
def b5 (c : Dev nD) (t : Fin cfg0.N) : FVec Ideal S256x1024 .f32 := iblk m c 5 t
/-- The target's rows of its third part. -/
def b6 (c : Dev nD) (t : Fin cfg0.N) : FVec Ideal S256x1024 .f32 := iblk m c 6 t

/-- A row of the network's output before the last norm. -/
def row (c : Dev nD) (r : Fin 8448) (j : Fin 1024) : EReal := (∑ l : Fin 2816, act m c (ix2 r l) * wt m c (ix2 l j)) + hid m c (ix2 r j)

/-- A row's difference to the target; the rows in front of the sequence have none. -/
def err (c : Dev nD) (r : Fin 8448) (k : Fin 1024) : EReal :=
  if h : 256 ≤ r.val then row m c r k * rstd (row m c r) * gain m c (ix2 0 k) - tgt m c (ix2 ⟨r.val - 256, by omega⟩ k) else 0

/-- The three parts of a point's rows of the output. -/
def x0 (c : Dev nD) (t : Fin cfg0.N) : FVec Ideal S256x1024 .f32 :=
  k0_pay3 (F := Ideal) (b0 m c t) (b1 m c t) (View.ld (S := S768x1024) (Val := Elt Ideal) (e' := .f32) (b2 m c t) (Rect.unit ![0, 0] ![256, 1024] inb_S768x1024_S256x1024_0_0))
/-- The second part. -/
def x1 (c : Dev nD) (t : Fin cfg0.N) : FVec Ideal S256x1024 .f32 :=
  k0_pay16 (F := Ideal) (k0_pay2 (b0 m c t)) (b1 m c t) (View.ld (S := S768x1024) (Val := Elt Ideal) (e' := .f32) (b2 m c t) (Rect.unit ![256, 0] ![256, 1024] inb_S768x1024_S256x1024_256_0))
/-- The third part. -/
def x2 (c : Dev nD) (t : Fin cfg0.N) : FVec Ideal S256x1024 .f32 :=
  k0_pay27 (F := Ideal) (k0_pay2 (b0 m c t)) (b1 m c t) (View.ld (S := S768x1024) (Val := Elt Ideal) (e' := .f32) (b2 m c t) (Rect.unit ![512, 0] ![256, 1024] inb_S768x1024_S256x1024_512_0))

/-- The three parts of a point's differences to the target. -/
def e0 (c : Dev nD) (t : Fin cfg0.N) : FVec Ideal S256x1024 .f32 :=
  k0_pay7 (F := Ideal) (grid0.coords t) (b0 m c t) (b1 m c t) (View.ld (S := S768x1024) (Val := Elt Ideal) (e' := .f32) (b2 m c t) (Rect.unit ![0, 0] ![256, 1024] inb_S768x1024_S256x1024_0_0)) (b3 m c t) (b4 m c t)
/-- The second part. -/
def e1 (c : Dev nD) (t : Fin cfg0.N) : FVec Ideal S256x1024 .f32 :=
  k0_pay18 (F := Ideal) (BitVec.ofNat 32 (grid0.coords t 0).val) (k0_pay2 (b0 m c t)) (b1 m c t)
    (View.ld (S := S768x1024) (Val := Elt Ideal) (e' := .f32) (b2 m c t) (Rect.unit ![256, 0] ![256, 1024] inb_S768x1024_S256x1024_256_0)) (b3 m c t) (b5 m c t)
/-- The third part. -/
def e2 (c : Dev nD) (t : Fin cfg0.N) : FVec Ideal S256x1024 .f32 :=
  k0_pay29 (F := Ideal) (BitVec.ofNat 32 (grid0.coords t 0).val) (k0_pay2 (b0 m c t)) (b1 m c t)
    (View.ld (S := S768x1024) (Val := Elt Ideal) (e' := .f32) (b2 m c t) (Rect.unit ![512, 0] ![256, 1024] inb_S768x1024_S256x1024_512_0)) (b3 m c t) (b6 m c t)

/-- The first part of a point's rows, at the array's row. -/
theorem x0_apply (c : Dev nD) (t : Fin cfg0.N) (i : Fin 256) (k : Fin 1024) (r : Fin 8448) (hr : r.val = (t.val * 3 + 0) * 256 + i.val) :
    x0 m c t (ix2 i k) = row m c r k := by
  unfold x0 row b0 b1 b2 act wt hid
  pointwise [k0_pay3]
  blk_point [iblk, V, idx t]

/-- The second part of a point's rows, at the array's row. -/
theorem x1_apply (c : Dev nD) (t : Fin cfg0.N) (i : Fin 256) (k : Fin 1024) (r : Fin 8448) (hr : r.val = (t.val * 3 + 1) * 256 + i.val) :
    x1 m c t (ix2 i k) = row m c r k := by
  unfold x1 row b0 b1 b2 act wt hid
  pointwise [k0_pay16, k0_pay2]
  blk_point [iblk, V, idx t]

/-- The third part of a point's rows, at the array's row. -/
theorem x2_apply (c : Dev nD) (t : Fin cfg0.N) (i : Fin 256) (k : Fin 1024) (r : Fin 8448) (hr : r.val = (t.val * 3 + 2) * 256 + i.val) :
    x2 m c t (ix2 i k) = row m c r k := by
  unfold x2 row b0 b1 b2 act wt hid
  pointwise [k0_pay27, k0_pay2]
  blk_point [iblk, V, idx t]

/-- A part's differences: the normalised and scaled rows without the target's, or zeros. -/
def diff (x : FVec Ideal S256x1024 .f32) (g : FVec Ideal S1x1024 .f32) (y : FVec Ideal S256x1024 .f32) (s : BitVec 1) : FVec Ideal S256x1024 .f32 :=
  fun i => Scalar.select s (x i * rstd (fun j => x (ix2 (i 0) j)) * g (ix2 0 (i 1)) - y i) 0

/-- Whether a part of a point is compared with the target. -/
def on (t : Fin cfg0.N) (p : BitVec 32) : BitVec 1 := Scalar.cmpi .sgt (Scalar.addi (Scalar.muli (BitVec.ofNat 32 (grid0.coords t 0).val) 3#32) p) 0#32

/-- Every part but the first is. -/
theorem on_iff : ∀ (t : Fin cfg0.N) (p : Fin 3), on t (BitVec.ofNat 32 p.val) = 1 ↔ 0 < t.val * 3 + p.val := (by decide +kernel : ∀ (t : Fin grid0.N) (p : Fin 3), _)

/-- The scale, the same at each point. -/
theorem b3_apply (c : Dev nD) (t : Fin cfg0.N) (j : Fin 1024) : b3 m c t (ix2 0 j) = gain m c (ix2 0 j) := by
  unfold b3 gain
  blk_point [iblk, V, idx t]

/-- A part's differences at the array's row, from the part's rows and the target's. -/
theorem diff_row (c : Dev nD) (t : Fin cfg0.N) (p : Fin 3) (x y : FVec Ideal S256x1024 .f32) (i : Fin 256) (k : Fin 1024) (r : Fin 8448)
    (hr : r.val = (t.val * 3 + p.val) * 256 + i.val) (hx : ∀ j, x (ix2 i j) = row m c r j)
    (hy : ∀ h : 256 ≤ r.val, y (ix2 i k) = tgt m c (ix2 ⟨r.val - 256, by omega⟩ k)) :
    diff x (b3 m c t) y (on t (BitVec.ofNat 32 p.val)) (ix2 i k) = err m c r k := by
  show (if on t (BitVec.ofNat 32 p.val) = 1 then x (ix2 i k) * rstd (fun j => x (ix2 i j)) * b3 m c t (ix2 0 k) - y (ix2 i k) else 0) = _
  unfold err
  simp only [hx, b3_apply, on_iff]
  by_cases h : 256 ≤ r.val
  · rw [if_pos (by omega), dif_pos h, hy h]
  · rw [if_neg (by omega), dif_neg h]

/-- The first part's differences from its rows. -/
theorem e0_eq (c : Dev nD) (t : Fin cfg0.N) : e0 m c t = diff (x0 m c t) (b3 m c t) (b4 m c t) (on t 0#32) := by
  funext y
  idx_vars y
  unfold e0 x0 diff rstd meanSq
  pointwise [k0_pay7, k0_pay6]
  rfl

/-- The first part of a point's differences, at the array's row. -/
theorem e0_apply (c : Dev nD) (t : Fin cfg0.N) (i : Fin 256) (k : Fin 1024) (r : Fin 8448) (hr : r.val = (t.val * 3 + 0) * 256 + i.val) :
    e0 m c t (ix2 i k) = err m c r k := by
  rw [e0_eq]
  refine diff_row m c t 0 _ _ i k r hr (fun j => x0_apply m c t i j r hr) fun h => ?_
  unfold b4 tgt
  blk_point [iblk, V, idx t]

/-- The second part's differences from its rows. -/
theorem e1_eq (c : Dev nD) (t : Fin cfg0.N) : e1 m c t = diff (x1 m c t) (b3 m c t) (b5 m c t) (on t 1#32) := by
  funext y
  idx_vars y
  unfold e1 x1 diff rstd meanSq
  pointwise [k0_pay18, k0_pay17]
  rfl

/-- The second part of a point's differences, at the array's row. -/
theorem e1_apply (c : Dev nD) (t : Fin cfg0.N) (i : Fin 256) (k : Fin 1024) (r : Fin 8448) (hr : r.val = (t.val * 3 + 1) * 256 + i.val) :
    e1 m c t (ix2 i k) = err m c r k := by
  rw [e1_eq]
  refine diff_row m c t 1 _ _ i k r hr (fun j => x1_apply m c t i j r hr) fun h => ?_
  unfold b5 tgt
  blk_point [iblk, V, idx t]

/-- The third part's differences from its rows. -/
theorem e2_eq (c : Dev nD) (t : Fin cfg0.N) : e2 m c t = diff (x2 m c t) (b3 m c t) (b6 m c t) (on t 2#32) := by
  funext y
  idx_vars y
  unfold e2 x2 diff rstd meanSq
  pointwise [k0_pay29, k0_pay28]
  rfl

/-- The third part of a point's differences, at the array's row. -/
theorem e2_apply (c : Dev nD) (t : Fin cfg0.N) (i : Fin 256) (k : Fin 1024) (r : Fin 8448) (hr : r.val = (t.val * 3 + 2) * 256 + i.val) :
    e2 m c t (ix2 i k) = err m c r k := by
  rw [e2_eq]
  refine diff_row m c t 2 _ _ i k r hr (fun j => x2_apply m c t i j r hr) fun h => ?_
  unfold b6 tgt
  blk_point [iblk, V, idx t]

/-- One over the row's width, as the kernel writes it. -/
def inv : EReal := Ideal.ofBits .f32 981467136#32
/-- One half, as the kernel writes it. -/
def half : EReal := Ideal.ofBits .f32 1056964608#32

/-- A part's share of the loss, added to what is there. -/
theorem pay8_apply (e : FVec Ideal S256x1024 .f32) (l : FVec Ideal S8x128 .f32) (a : Fin 8) (b : Fin 128) :
    k0_pay8 e l (ix2 a b) = l (ix2 a b) + half * ∑ r : Fin 256, (∑ k : Fin 1024, e (ix2 r k) * e (ix2 r k)) * inv := by
  pointwise [k0_pay8]
  simp only [Finset.univ_unique, Finset.sum_singleton]
  rfl

/-- A part's gradient of its rows. -/
theorem pay12_apply (x : FVec Ideal S256x1024 .f32) (g : FVec Ideal S1x1024 .f32) (e : FVec Ideal S256x1024 .f32) (i : Fin 256) (k : Fin 1024) :
    k0_pay12 x g e (ix2 i k) = normGrad (fun j => e (ix2 i j) * inv) (fun j => x (ix2 i j)) (fun j => g (ix2 0 j)) k := by
  unfold normGrad rstd meanSq inv
  pointwise [k0_pay12, k0_pay9, k0_pay10, k0_pay11]

/-- A part's share of the gradient of the scale, added to what is there. -/
theorem pay15_apply (x e : FVec Ideal S256x1024 .f32) (l : FVec Ideal S1x1024 .f32) (k : Fin 1024) :
    k0_pay15 (k0_pay13 x e) l (ix2 0 k) = l (ix2 0 k) + ∑ r : Fin 256, e (ix2 r k) * inv * (x (ix2 r k) * rstd fun j => x (ix2 r j)) := by
  unfold rstd meanSq inv
  pointwise [k0_pay15, k0_pay13, k0_pay9, k0_pay10, k0_pay11]

/-- The first point starts the loss from zeros. -/
theorem loss_A (c : Dev nD) (t : Fin cfg0.N) (h : t.val % 11 = 0) :
    (outsAt0 m c t.val t.isLt).2.2.1 = k0_pay8 (F := Ideal) (e2 m c t) (k0_pay8 (e1 m c t) (k0_pay8 (e0 m c t) (k0_pay4 (F := Ideal)))) := by
  rw [outsAt0_A m c t h]
  frame_out
  rfl

/-- A later point adds to it. -/
theorem loss_B (c : Dev nD) (t : Fin cfg0.N) (h : ¬t.val % 11 = 0) :
    (outsAt0 m c t.val t.isLt).2.2.1 = k0_pay8 (F := Ideal) (e2 m c t) (k0_pay8 (e1 m c t) (k0_pay8 (e0 m c t)
      (outsAt0 m c (t.val - 1) (Nat.lt_of_le_of_lt (Nat.sub_le _ _) t.isLt)).2.2.1)) := by
  rw [outsAt0_B m c t h]
  frame_out
  rfl

/-- The first point starts the gradient of the scale from zeros. -/
theorem dg_A (c : Dev nD) (t : Fin cfg0.N) (h : t.val % 11 = 0) :
    (outsAt0 m c t.val t.isLt).2.2.2 = k0_pay15 (F := Ideal) (k0_pay13 (x2 m c t) (e2 m c t)) (k0_pay15 (k0_pay13 (x1 m c t) (e1 m c t))
      (k0_pay15 (k0_pay13 (x0 m c t) (e0 m c t)) (k0_pay5 (F := Ideal)))) := by
  rw [outsAt0_A m c t h]
  frame_out
  rfl

/-- A later point adds to it. -/
theorem dg_B (c : Dev nD) (t : Fin cfg0.N) (h : ¬t.val % 11 = 0) :
    (outsAt0 m c t.val t.isLt).2.2.2 = k0_pay15 (F := Ideal) (k0_pay13 (x2 m c t) (e2 m c t)) (k0_pay15 (k0_pay13 (x1 m c t) (e1 m c t))
      (k0_pay15 (k0_pay13 (x0 m c t) (e0 m c t)) (outsAt0 m c (t.val - 1) (Nat.lt_of_le_of_lt (Nat.sub_le _ _) t.isLt)).2.2.2)) := by
  rw [outsAt0_B m c t h]
  frame_out
  rfl

/-- The gradient of a row of the output. -/
def dRow (c : Dev nD) (r : Fin 8448) (k : Fin 1024) : EReal := normGrad (fun j => err m c r j * inv) (row m c r) (fun j => gain m c (ix2 0 j)) k

/-- A part's gradient at the array's row. -/
theorem tile (c : Dev nD) (t : Fin cfg0.N) (x e : FVec Ideal S256x1024 .f32) (i : Fin 256) (k : Fin 1024) (r : Fin 8448)
    (hx : ∀ j, x (ix2 i j) = row m c r j) (he : ∀ j, e (ix2 i j) = err m c r j) : k0_pay12 x (k0_pay6 (b3 m c t)) e (ix2 i k) = dRow m c r k := by
  rw [pay12_apply]
  simp only [hx, he]
  unfold dRow
  refine congrArg (fun g => normGrad _ _ g k) (funext fun j => ?_)
  rw [← b3_apply m c t j]
  pointwise [k0_pay6]

/-- What a point writes at an index of the array of gradients. -/
theorem written (c : Dev nD) (t : Fin cfg0.N) (y : S768x1024.Idx) (r : Fin 8448) (k : Fin 1024) (h0 : r.val = t.val * 768 + (y 0).val)
    (h1 : k.val = (y 1).val) : (outsAt0 m c t.val t.isLt).1 y = dRow m c r k := by
  have hc : (outsAt0 m c t.val t.isLt).1 = View.canon (Val := Elt Ideal) (s := S768x1024) (e := .f32)
      [⟨Rect.unit ![512, 0] ![256, 1024] inb_S768x1024_S256x1024_512_0, k0_pay12 (F := Ideal) (x2 m c t) (k0_pay6 (b3 m c t)) (e2 m c t)⟩,
        ⟨Rect.unit ![256, 0] ![256, 1024] inb_S768x1024_S256x1024_256_0, k0_pay12 (F := Ideal) (x1 m c t) (k0_pay6 (b3 m c t)) (e1 m c t)⟩,
        ⟨Rect.unit ![0, 0] ![256, 1024] inb_S768x1024_S256x1024_0_0, k0_pay12 (F := Ideal) (x0 m c t) (k0_pay6 (b3 m c t)) (e0 m c t)⟩] := by
    by_cases h : t.val % 11 = 0
    · rw [outsAt0_A m c t h]
      frame_out
      rfl
    · rw [outsAt0_B m c t h]
      frame_out
      rfl
  rw [hc]
  canon_tiles x hh
  · idx_vars x
    obtain rfl : k = x1 := Fin.ext (h1.trans hh1)
    exact tile m c t _ _ x0 k r (fun j => x2_apply m c t x0 j r (by omega)) (fun j => e2_apply m c t x0 j r (by omega))
  · idx_vars x
    obtain rfl : k = x1 := Fin.ext (h1.trans hh1)
    exact tile m c t _ _ x0 k r (fun j => x1_apply m c t x0 j r (by omega)) (fun j => e1_apply m c t x0 j r (by omega))
  · idx_vars x
    obtain rfl : k = x1 := Fin.ext (h1.trans hh1)
    exact tile m c t _ _ x0 k r (fun j => x0_apply m c t x0 j r (by omega)) (fun j => e0_apply m c t x0 j r (by omega))

/-- The array of the output's gradients that the call leaves. -/
theorem final7 (c : Dev nD) : (dats m 0 c).arrAt 7 (cfgs 0).N = fun i : S8448x1024.Idx => dRow m c (i 0) (i 1) := by
  refine (dats m 0 c).arrAt_eq_of_covers 7 _ (by decide +kernel) fun t hf y => ?_
  blk_simp
  rw [after0_7]
  have e0 : (((win0_7.blk t).view.emb y) (0 : Fin 2)).val = t.val * 768 + (y (0 : Fin 2)).val := by blk_simp [idx t]
  have e1 : (((win0_7.blk t).view.emb y) (1 : Fin 2)).val = (y (1 : Fin 2)).val := by blk_simp [idx t]
  exact written m c t y _ _ e0 e1

/-- A row's share of the loss, without the half. -/
def lossRow (c : Dev nD) (r : Fin 8448) : EReal := (∑ k : Fin 1024, err m c r k * err m c r k) * inv

/-- The share of the loss of a part, of the 33 of all points. -/
def lossPart (c : Dev nD) (q : Fin 33) : EReal := half * ∑ i : Fin 256, lossRow m c ⟨q.val * 256 + i.val, by omega⟩

/-- A row's share of the gradient of the scale. -/
def dgRow (c : Dev nD) (k : Fin 1024) (r : Fin 8448) : EReal := err m c r k * inv * (row m c r k * rstd (row m c r))

/-- The share of the gradient of the scale of a part. -/
def dgPart (c : Dev nD) (k : Fin 1024) (q : Fin 33) : EReal := ∑ i : Fin 256, dgRow m c k ⟨q.val * 256 + i.val, by omega⟩

/-- A part's share of the loss from its differences. -/
theorem loss_part (c : Dev nD) (e : FVec Ideal S256x1024 .f32) (q : Fin 33) (he : ∀ (i : Fin 256) (k : Fin 1024), e (ix2 i k) = err m c ⟨q.val * 256 + i.val, by omega⟩ k) :
    half * ∑ r : Fin 256, (∑ k : Fin 1024, e (ix2 r k) * e (ix2 r k)) * inv = lossPart m c q := by
  simp only [he]
  rfl

/-- A part's share of the gradient of the scale from its rows and differences. -/
theorem dg_part (c : Dev nD) (x e : FVec Ideal S256x1024 .f32) (q : Fin 33) (hx : ∀ (i : Fin 256) (k : Fin 1024), x (ix2 i k) = row m c ⟨q.val * 256 + i.val, by omega⟩ k)
    (he : ∀ (i : Fin 256) (k : Fin 1024), e (ix2 i k) = err m c ⟨q.val * 256 + i.val, by omega⟩ k) (k : Fin 1024) :
    ∑ r : Fin 256, e (ix2 r k) * inv * (x (ix2 r k) * rstd fun j => x (ix2 r j)) = dgPart m c k q := by
  simp only [hx, he]
  rfl

/-- A point adds the shares of its three parts to the loss. -/
theorem loss_three (c : Dev nD) (t : Fin cfg0.N) (n : Fin 11) (h : t.val = n.val) (l : FVec Ideal S8x128 .f32) (a : Fin 8) (b : Fin 128) :
    k0_pay8 (F := Ideal) (e2 m c t) (k0_pay8 (e1 m c t) (k0_pay8 (e0 m c t) l)) (ix2 a b) = l (ix2 a b) + ∑ p : Fin 3, lossPart m c ⟨n.val * 3 + p.val, by omega⟩ := by
  simp only [pay8_apply, Fin.sum_univ_three, ← add_assoc]
  rw [loss_part m c (e0 m c t) ⟨n.val * 3 + 0, by omega⟩ fun i k => e0_apply m c t i k _ (by rw [h]),
    loss_part m c (e1 m c t) ⟨n.val * 3 + 1, by omega⟩ fun i k => e1_apply m c t i k _ (by rw [h]),
    loss_part m c (e2 m c t) ⟨n.val * 3 + 2, by omega⟩ fun i k => e2_apply m c t i k _ (by rw [h])]
  rfl

/-- A point adds the shares of its three parts to the gradient of the scale. -/
theorem dg_three (c : Dev nD) (t : Fin cfg0.N) (n : Fin 11) (h : t.val = n.val) (l : FVec Ideal S1x1024 .f32) (k : Fin 1024) :
    k0_pay15 (F := Ideal) (k0_pay13 (x2 m c t) (e2 m c t)) (k0_pay15 (k0_pay13 (x1 m c t) (e1 m c t)) (k0_pay15 (k0_pay13 (x0 m c t) (e0 m c t)) l)) (ix2 0 k) =
      l (ix2 0 k) + ∑ p : Fin 3, dgPart m c k ⟨n.val * 3 + p.val, by omega⟩ := by
  simp only [pay15_apply, Fin.sum_univ_three, ← add_assoc]
  rw [dg_part m c (x0 m c t) (e0 m c t) ⟨n.val * 3 + 0, by omega⟩ (fun i k => x0_apply m c t i k _ (by rw [h])) (fun i k => e0_apply m c t i k _ (by rw [h])),
    dg_part m c (x1 m c t) (e1 m c t) ⟨n.val * 3 + 1, by omega⟩ (fun i k => x1_apply m c t i k _ (by rw [h])) (fun i k => e1_apply m c t i k _ (by rw [h])),
    dg_part m c (x2 m c t) (e2 m c t) ⟨n.val * 3 + 2, by omega⟩ (fun i k => x2_apply m c t i k _ (by rw [h])) (fun i k => e2_apply m c t i k _ (by rw [h]))]
  rfl

/-- The loss that the last point leaves is the sum over all parts. -/
theorem loss_total (c : Dev nD) (t : Fin cfg0.N) (ht : t.val = 10) (y : S8x128.Idx) : (outsAt0 m c t.val t.isLt).2.2.1 y = ∑ q : Fin 33, lossPart m c q := by
  refine (Pipeline.eq_sum_fin_of_reset_step_apply_of_flush (fun n h => (outsAt0 m c n h).2.2.1) 11 (fun _ => (0 : EReal))
    (fun t _ => ∑ p : Fin 3, lossPart m c ⟨t.val % 11 * 3 + p.val, by omega⟩) ?_ ?_ t (by omega) y).trans ?_
  · intro t h y
    idx_vars y
    rw [loss_A m c t h, loss_three m c t ⟨t.val % 11, by omega⟩ (Nat.mod_eq_of_lt t.isLt).symm]
    pointwise [k0_pay4]
  · intro t h y
    idx_vars y
    rw [loss_B m c t h, loss_three m c t ⟨t.val % 11, by omega⟩ (Nat.mod_eq_of_lt t.isLt).symm]
  · rw [zero_add]
    refine Fin.sum_mul_add_congr fun n p hl => ?_
    refine congrArg (lossPart m c) (Fin.ext ?_)
    dsimp only
    omega

/-- The gradient of the scale that the last point leaves is the sum over all parts. -/
theorem dg_total (c : Dev nD) (t : Fin cfg0.N) (ht : t.val = 10) (y : S1x1024.Idx) : (outsAt0 m c t.val t.isLt).2.2.2 y = ∑ q : Fin 33, dgPart m c (y 1) q := by
  refine (Pipeline.eq_sum_fin_of_reset_step_apply_of_flush (fun n h => (outsAt0 m c n h).2.2.2) 11 (fun _ => (0 : EReal))
    (fun t y => ∑ p : Fin 3, dgPart m c (y 1) ⟨t.val % 11 * 3 + p.val, by omega⟩) ?_ ?_ t (by omega) y).trans ?_
  · intro t h y
    idx_vars y
    obtain rfl : y0 = 0 := Subsingleton.elim _ _
    rw [dg_A m c t h, dg_three m c t ⟨t.val % 11, by omega⟩ (Nat.mod_eq_of_lt t.isLt).symm]
    pointwise [k0_pay5]
  · intro t h y
    idx_vars y
    obtain rfl : y0 = 0 := Subsingleton.elim _ _
    rw [dg_B m c t h, dg_three m c t ⟨t.val % 11, by omega⟩ (Nat.mod_eq_of_lt t.isLt).symm]
  · rw [zero_add]
    refine Fin.sum_mul_add_congr fun n p hl => ?_
    refine congrArg (dgPart m c (y 1)) (Fin.ext ?_)
    dsimp only
    omega

/-- The loss that the call leaves. -/
theorem final9 (c : Dev nD) : (dats m 0 c).arrAt 9 (cfgs 0).N = fun _ : S8x128.Idx => ∑ q : Fin 33, lossPart m c q := by
  obtain ⟨t, ht, hw⟩ : ∃ t : Fin cfg0.N, t.val = 10 ∧ (cfg0.win 9).WholeAt t := ⟨⟨10, by decide⟩, rfl, by decide +kernel⟩
  refine (dats m 0 c).arrAt_eq_of_after_last 9 t hw _ fun j => ?_
  blk_simp
  rw [after0_9]
  exact loss_total m c t ht j

/-- The gradient of the scale that the call leaves. -/
theorem final10 (c : Dev nD) : (dats m 0 c).arrAt 10 (cfgs 0).N = fun i : S1x1024.Idx => ∑ q : Fin 33, dgPart m c (i 1) q := by
  obtain ⟨t, ht, hw⟩ : ∃ t : Fin cfg0.N, t.val = 10 ∧ (cfg0.win 10).WholeAt t := ⟨⟨10, by decide⟩, rfl, by decide +kernel⟩
  refine (dats m 0 c).arrAt_eq_of_after_last 10 t hw _ fun j => ?_
  blk_simp
  rw [after0_10]
  exact dg_total m c t ht j

end Cert.LossIdeal.Value

end
-- ==== Proof.Loss.Entry.lean ====
module

public import proofs.«01_k».proof.Proof.Loss.Value
public import proofs.«01_k».proof.Proof.Common.Finite
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo
open Idealize.ShloMosaic.Pipeline (Dat)

namespace Cert.LossIdeal.Value

open Cert.LossIdeal Cert.LossIdeal.Gen Cert.Common

variable (m : (ℓ : Loc nD τ sig) → Buf (Elt Ideal) ℓ)

/-- The inner rows with 240 rows of zeros in front. -/
def actOf (x : FVec Ideal S8208x2816 .f32) : FVec Ideal S8448x2816 .bf16 :=
  truncf .bf16 (pad S8448x2816 ![240, 0] ![0, 0] ![0, 0] x (sitofp .f32 (constantI S_ 32 0#32)) pads_S8208x2816_S8448x2816_24000_000 h_S_) bitsLt_bf16_f32

/-- The residual rows with 240 rows of zeros in front. -/
def hidOf (x : FVec Ideal S8208x1024 .f32) : FVec Ideal S8448x1024 .f32 :=
  pad S8448x1024 ![240, 0] ![0, 0] ![0, 0] x (sitofp .f32 (constantI S_ 32 0#32)) pads_S8208x1024_S8448x1024_24000_000 h_S_

/-- The inner rows after the padding. -/
theorem actOf_apply (x : FVec Ideal S8208x2816 .f32) (r : Fin 8208) (k : Fin 2816) : actOf x (ix2 ⟨240 + r.val, by omega⟩ k) = x (ix2 r k) := by
  pointwise [actOf]

/-- The residual rows after the padding. -/
theorem hidOf_apply (x : FVec Ideal S8208x1024 .f32) (r : Fin 8208) (k : Fin 1024) : hidOf x (ix2 ⟨240 + r.val, by omega⟩ k) = x (ix2 r k) := by
  pointwise [hidOf]

/-- The call's first argument is the padded inner rows. -/
theorem act_eq (c : Dev nD) : act m c = actOf (m ((c : Thread nD τ).loc main_arg0)) := by
  unfold act V V0
  simp only [hostOps0, hostOps0_1, hostOps0_2, hostOps0_3, hostOps0_4, List.flatten_cons, List.flatten_nil, List.append_nil, List.cons_append, List.nil_append]
  after_reads_simp
  rfl

/-- The second is the weight. -/
theorem wt_eq (c : Dev nD) : wt m c = truncf .bf16 (m ((c : Thread nD τ).loc main_arg1) : FVec Ideal S2816x1024 .f32) bitsLt_bf16_f32 := by
  unfold wt V V0
  simp only [hostOps0, hostOps0_1, hostOps0_2, hostOps0_3, hostOps0_4, List.flatten_cons, List.flatten_nil, List.append_nil, List.cons_append, List.nil_append]
  after_reads_simp

/-- The third is the padded residual rows. -/
theorem hid_eq (c : Dev nD) : hid m c = hidOf (m ((c : Thread nD τ).loc main_arg2)) := by
  unfold hid V V0
  simp only [hostOps0, hostOps0_1, hostOps0_2, hostOps0_3, hostOps0_4, List.flatten_cons, List.flatten_nil, List.append_nil, List.cons_append, List.nil_append]
  after_reads_simp
  rfl

/-- The fourth is the norm's scale as one row. -/
theorem gain_eq (c : Dev nD) : gain m c = broadcastInDim S1x1024 ![1] bcast_S1024_S1x1024_1 (m ((c : Thread nD τ).loc main_arg3) : FVec Ideal S1024 .f32) := by
  unfold gain V V0
  simp only [hostOps0, hostOps0_1, hostOps0_2, hostOps0_3, hostOps0_4, List.flatten_cons, List.flatten_nil, List.append_nil, List.cons_append, List.nil_append]
  after_reads_simp

/-- The last is the target itself. -/
theorem tgt_eq (c : Dev nD) : tgt m c = (m ((c : Thread nD τ).loc main_arg4)) := by
  unfold tgt V V0
  simp only [hostOps0, hostOps0_1, hostOps0_2, hostOps0_3, hostOps0_4, List.flatten_cons, List.flatten_nil, List.append_nil, List.cons_append, List.nil_append]
  after_reads_simp

/-- A row of the network's output before the last norm, of inner rows `a`, weight `w` and residual rows `h`. -/
def out (a : FVec Ideal S8208x2816 .f32) (w : FVec Ideal S2816x1024 .f32) (h : FVec Ideal S8208x1024 .f32) (r : Fin 8208) (j : Fin 1024) : EReal :=
  h (ix2 r j) + ∑ l, a (ix2 r l) * w (ix2 l j)

/-- The difference of the normalised and scaled output `x` to the target `y`, past the 16 rows in front of the sequence. -/
def dif (x : Fin 8208 → Fin 1024 → EReal) (g : FVec Ideal S1024 .f32) (y : FVec Ideal S8192x1024 .f32) (r : Fin 8192) (k : Fin 1024) : EReal :=
  x ⟨16 + r.val, by omega⟩ k * rstd (x ⟨16 + r.val, by omega⟩) * g (ix1 k) - y (ix2 r k)

/-- The output's rows that the call computes. -/
theorem row_eq (c : Dev nD) (r : Fin 8208) : row m c ⟨240 + r.val, by omega⟩ = out (m ((c : Thread nD τ).loc main_arg0)) (m ((c : Thread nD τ).loc main_arg1)) (m ((c : Thread nD τ).loc main_arg2)) r := by
  funext j
  unfold row out
  rw [act_eq, wt_eq, hid_eq, add_comm, hidOf_apply]
  simp only [actOf_apply]
  rfl

/-- The differences that the call computes. -/
theorem err_eq (c : Dev nD) (r : Fin 8192) : err m c ⟨256 + r.val, by omega⟩ = dif (out (m ((c : Thread nD τ).loc main_arg0)) (m ((c : Thread nD τ).loc main_arg1)) (m ((c : Thread nD τ).loc main_arg2))) (m ((c : Thread nD τ).loc main_arg3)) (m ((c : Thread nD τ).loc main_arg4)) r := by
  funext k
  have hr : row m c ⟨256 + r.val, by omega⟩ = _ :=
    (congrArg (row m c) (Fin.ext (by dsimp only; omega) : (⟨256 + r.val, by omega⟩ : Fin 8448) = ⟨240 + (16 + r.val), by omega⟩)).trans (row_eq m c ⟨16 + r.val, by omega⟩)
  have ht : (⟨256 + r.val - 256, by omega⟩ : Fin 8192) = r := Fin.ext (by dsimp only; omega)
  unfold err dif
  dsimp only
  rw [dif_pos (Nat.le_add_right _ _), hr, ht, gain_eq, tgt_eq]
  pointwise

/-- The rows in front of the sequence have no difference. -/
theorem err_front (c : Dev nD) (r : Fin 8448) (h : r.val < 256) : err m c r = fun _ => 0 := by
  funext k
  exact dif_neg (by omega)

end Cert.LossIdeal.Value

end
-- ==== Proof.Loss.Tail.lean ====
module

public import proofs.«01_k».proof.Proof.Loss.Entry

@[expose] public section

set_option maxRecDepth 16384

noncomputable section

open Idealize.ShloMosaic Idealize.ShloMosaic.TcCoe Idealize.SL.Sem Idealize.ShloMosaic.StableHlo
open Idealize.ShloMosaic.Pipeline (Dat)

namespace Cert.LossIdeal.Value

open Cert.LossIdeal Cert.LossIdeal.Gen Cert.Common

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  (dats m 0 c).withArrays_arrAt sharedIn0 (V0 m c) (A_eq m c) w

/-- The program's results after the lines that follow the call. -/
abbrev resultOf (c : Dev nD) := Pipeline.afterTail₀ cfgs (dats m) 0 (V0 m) [hostOps1] c

/-- The loss as a number. -/
theorem after_v7 (V : Valuation τ sig (Elt Ideal)) : after hostOps1 V (Proc.devRef .tc main_v7) =
    shapeCast S_ (extractStridedSlice S1x1 ![0, 0] (V (Proc.devRef .tc main_v5_2) : FVec Ideal S8x128 .f32) slices_S8x128_S1x1_0_0) shapeCasts_S1x1_S_ := by
  unfold hostOps1
  after_reads_simp
  rfl

/-- The rows after the padding. -/
theorem after_v8 (V : Valuation τ sig (Elt Ideal)) : after hostOps1 V (Proc.devRef .tc main_v8) =
    extractStridedSlice S8208x1024 ![240, 0] (V (Proc.devRef .tc main_v5_0) : FVec Ideal S8448x1024 .f32) slices_S8448x1024_S8208x1024_240_0 := by
  unfold hostOps1
  after_reads_simp

/-- The scale's gradient as a vector. -/
theorem after_v9 (V : Valuation τ sig (Elt Ideal)) : after hostOps1 V (Proc.devRef .tc main_v9) =
    shapeCast S1024 (V (Proc.devRef .tc main_v5_3) : FVec Ideal S1x1024 .f32) shapeCasts_S1x1024_S1024 := by
  unfold hostOps1
  after_reads_simp
  rfl

/-- One over the row's width. -/
theorem inv_eq : inv = ((1 / 1024 : ℝ) : EReal) := by
  simp [inv, Ideal.ofBits, Ideal.ieee, -EReal.coe_mul]
  norm_num

/-- One half. -/
theorem half_eq : half = ((1 / 2 : ℝ) : EReal) := by
  simp [half, Ideal.ofBits, Ideal.ieee, -EReal.coe_mul]
  norm_num

/-- Two. -/
theorem two_eq : Ideal.ofBits .f32 1073741824#32 = ((2 : ℝ) : EReal) := by
  simp [Ideal.ofBits, Ideal.ieee, -EReal.coe_mul]
  norm_num

/-- The mean of a row's squares. -/
theorem mul_inv (x : EReal) : x * inv = Ideal.div x (Ideal.ofBits .f32 1149239296#32) := by
  rw [ofBits_width, Ideal.div_coe (by norm_num), inv_eq]

/-- The gradient that reaches a row's normalised output: that of half the square of the differences `e`, none in front of the sequence. -/
def cotAt (e : Fin 8192 → Fin 1024 → EReal) (r : Fin 8208) (k : Fin 1024) : EReal :=
  if h : 16 ≤ r.val ∧ r.val - 16 < 8192 then Ideal.div half (Ideal.ofBits .f32 1149239296#32) * (Ideal.ofBits .f32 1073741824#32 * e ⟨r.val - 16, h.2⟩ k) else 0

/-- A difference over the row's width is the gradient of half its square over the width. -/
theorem cot_term {x : EReal} (hx : IsReal x) : x * inv = Ideal.div half (Ideal.ofBits .f32 1149239296#32) * (Ideal.ofBits .f32 1073741824#32 * x) := by
  obtain ⟨y, rfl⟩ := hx
  rw [ofBits_width, Ideal.div_coe (by norm_num), inv_eq, half_eq, two_eq]
  norm_cast
  ring

/-- What the differences bring to the output's rows. -/
theorem cot_eq (c : Dev nD) {e : Fin 8192 → Fin 1024 → EReal} (he : ∀ r k, IsReal (e r k)) (h : ∀ r : Fin 8192, err m c ⟨256 + r.val, by omega⟩ = e r) (r : Fin 8208) (k : Fin 1024) :
    err m c ⟨240 + r.val, by omega⟩ k * inv = cotAt e r k := by
  unfold cotAt
  by_cases hr : 16 ≤ r.val
  · rw [dif_pos ⟨hr, by omega⟩, ← cot_term (he _ _), ← h]
    refine congrArg (fun r => err m c r k * inv) (Fin.ext ?_)
    dsimp only
    omega
  · rw [dif_neg fun h => hr h.1, err_front m c _ (by dsimp only; omega), zero_mul]

/-- A sum over padded rows of which the 256 in front contribute nothing. -/
theorem sum_front {f : Fin 8448 → EReal} {g : Fin 8192 → EReal} (h0 : ∀ r : Fin 8448, r.val < 256 → f r = 0) (h : ∀ r : Fin 8192, f ⟨256 + r.val, by omega⟩ = g r) :
    ∑ r, f r = ∑ r, g r := by
  refine (Fin.sum_univ_add (a := 256) (b := 8192) f).trans ?_
  rw [Finset.sum_eq_zero fun r _ => h0 _ r.isLt, zero_add]
  exact Finset.sum_congr rfl fun r _ => h r

/-- A real factor of all parts comes out of their sum. -/
theorem half_sum {f : Fin 33 → EReal} (hf : ∀ q, IsReal (f q)) : ∑ q, half * f q = half * ∑ q, f q := by
  choose g hg using hf
  simp only [hg, half_eq, ← EReal.coe_mul]
  rw [← coe_sum, ← coe_sum, ← EReal.coe_mul, Finset.mul_sum]

/-- The parts' losses are half the mean squares of all rows. -/
theorem loss_sum (c : Dev nD) {e : Fin 8192 → Fin 1024 → EReal} (he : ∀ r k, IsReal (e r k)) (h : ∀ r : Fin 8192, err m c ⟨256 + r.val, by omega⟩ = e r) :
    ∑ q : Fin 33, lossPart m c q = half * ∑ r, Ideal.div (∑ k, e r k * e r k) (Ideal.ofBits .f32 1149239296#32) := by
  have hrow (r : Fin 8192) : lossRow m c ⟨256 + r.val, by omega⟩ = Ideal.div (∑ k, e r k * e r k) (Ideal.ofBits .f32 1149239296#32) := by
    unfold lossRow
    rw [h, mul_inv]
  have hfront (r : Fin 8448) (hr : r.val < 256) : lossRow m c r = 0 := by
    unfold lossRow
    rw [err_front m c r hr]
    simp only [zero_mul, Finset.sum_const_zero]
  have hreal (r : Fin 8448) : IsReal (lossRow m c r) := by
    by_cases hr : r.val < 256
    · rw [hfront r hr]
      exact .zero
    · have hs : r = ⟨256 + (⟨r.val - 256, by omega⟩ : Fin 8192).val, by dsimp only; omega⟩ := Fin.ext (by dsimp only; omega)
      rw [hs]
      unfold lossRow
      rw [h, inv_eq]
      exact .mul (.sum _ fun k => (he _ k).mul (he _ k)) (.coe _)
  unfold lossPart
  rw [half_sum fun q => .sum _ fun i => hreal _]
  refine congrArg (half * ·) (Eq.trans ?_ (sum_front hfront hrow))
  exact Fin.sum_mul_add_congr fun q i hl => congrArg (lossRow m c) (Fin.ext (by omega))

/-- The parts' gradients of the scale are those of all rows. -/
theorem dg_sum (c : Dev nD) {e : Fin 8192 → Fin 1024 → EReal} (he : ∀ r k, IsReal (e r k)) (h : ∀ r : Fin 8192, err m c ⟨256 + r.val, by omega⟩ = e r)
    {x : Fin 8208 → Fin 1024 → EReal} (hx : ∀ r : Fin 8208, row m c ⟨240 + r.val, by omega⟩ = x r) (k : Fin 1024) :
    ∑ q : Fin 33, dgPart m c k q = ∑ r, x r k * rstd (x r) * cotAt e r k := by
  have hsum : ∑ q : Fin 33, dgPart m c k q = ∑ r, dgRow m c k r := by
    unfold dgPart
    exact Fin.sum_mul_add_congr fun q i hl => congrArg (dgRow m c k) (Fin.ext (by omega))
  rw [hsum]
  refine sum_pad (fun r hr => ?_) fun r => ?_
  · unfold dgRow
    rw [err_front m c r (by omega), zero_mul, zero_mul]
  · unfold dgRow
    rw [hx, cot_eq m c he h, mul_comm]

/-- The network's output before the last norm, of the program's arguments. -/
abbrev outAt (c : Dev nD) : Fin 8208 → Fin 1024 → EReal := out (m ((c : Thread nD τ).loc main_arg0)) (m ((c : Thread nD τ).loc main_arg1)) (m ((c : Thread nD τ).loc main_arg2))

/-- Its differences to the target. -/
abbrev difAt (c : Dev nD) : Fin 8192 → Fin 1024 → EReal := dif (outAt m c) (m ((c : Thread nD τ).loc main_arg3)) (m ((c : Thread nD τ).loc main_arg4))

/-- The program's first result: the loss. -/
theorem loss_at (c : Dev nD) (he : ∀ r k, IsReal (difAt m c r k)) (i : S_.Idx) : (resultOf m c main_v7 : FVec Ideal S_ .f32) i =
    half * ∑ r, Ideal.div (∑ k, difAt m c r k * difAt m c r k) (Ideal.ofBits .f32 1149239296#32) := by
  unfold resultOf Pipeline.afterTail₀
  simp only [List.flatten_cons, List.flatten_nil, List.append_nil]
  rw [after_v7, show Pipeline.withArrays (cfgs 0).spec c (V0 m c) (fun w => (dats m 0 c).arrAt w (cfgs 0).N) (Proc.devRef .tc main_v5_2) = _ from found m c 9, final9]
  pointwise
  exact loss_sum m c he (err_eq m c)

/-- The program's second result: the gradient of the output's rows. -/
theorem dh_at (c : Dev nD) (he : ∀ r k, IsReal (difAt m c r k)) (r : Fin 8208) (k : Fin 1024) : (resultOf m c main_v8 : FVec Ideal S8208x1024 .f32) (ix2 r k) =
    normGrad (cotAt (difAt m c) r) (outAt m c r) (fun j => (m ((c : Thread nD τ).loc main_arg3) : FVec Ideal S1024 .f32) (ix1 j)) k := by
  unfold resultOf Pipeline.afterTail₀
  simp only [List.flatten_cons, List.flatten_nil, List.append_nil]
  rw [after_v8, show Pipeline.withArrays (cfgs 0).spec c (V0 m c) (fun w => (dats m 0 c).arrAt w (cfgs 0).N) (Proc.devRef .tc main_v5_0) = _ from found m c 7, final7]
  pointwise
  unfold dRow
  rw [row_eq, gain_eq, funext fun j => cot_eq m c he (err_eq m c) r j]
  pointwise

/-- The program's third result: the gradient of the norm's scale. -/
theorem dg_at (c : Dev nD) (he : ∀ r k, IsReal (difAt m c r k)) (k : Fin 1024) : (resultOf m c main_v9 : FVec Ideal S1024 .f32) (ix1 k) =
    ∑ r, outAt m c r k * rstd (outAt m c r) * cotAt (difAt m c) r k := by
  unfold resultOf Pipeline.afterTail₀
  simp only [List.flatten_cons, List.flatten_nil, List.append_nil]
  rw [after_v9, show Pipeline.withArrays (cfgs 0).spec c (V0 m c) (fun w => (dats m 0 c).arrAt w (cfgs 0).N) (Proc.devRef .tc main_v5_3) = _ from found m c 10, final10]
  pointwise
  exact dg_sum m c he (err_eq m c) (row_eq m c) k

/-- What the program leaves: its results and its arguments. -/
theorem run (ρ : Dev nD → PrngReg) : θ_run defs (onTc (τ := τ) (main (F := Ideal))) ⟨m, fun _ => 0, ρ⟩ fun r => ∀ c : Dev nD,
    r.2.mem ((c : Thread nD τ).loc main_v7) = resultOf m c main_v7
      ∧ r.2.mem ((c : Thread nD τ).loc main_v8) = resultOf m c main_v8
      ∧ r.2.mem ((c : Thread nD τ).loc main_v9) = resultOf m c main_v9
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).2 main_v7 (by decide), (h.1 c).2 main_v8 (by decide), (h.1 c).2 main_v9 (by decide), h.2 c⟩) (θ_run_and (run_main m ρ) (unchanged m ρ))

end Cert.LossIdeal.Value

end
-- ==== Proof.Loss.Claim.lean ====
module

public import proofs.«01_k».proof.Defs
public import proofs.«01_k».proof.Proof.Common.Finite
public import proofs.«01_k».proof.Proof.Loss.Tail
public import proofs.«01_k».proof.Proof.Gen.Pre_loss_finite
public import proofs.«01_k».proof.Proof.Gen.LossRefIdeal.Run
public import proofs.«01_k».proof.Proof.Gen.LossRefIdeal.Read

@[expose] public section

set_option maxRecDepth 16384

noncomputable section

open Idealize.ShloMosaic Idealize.ShloMosaic.TcCoe Idealize.SL.Sem Cert.Common

namespace Cert.Loss

/-- The reference's frame: it runs on the host alone and declares no semaphore. -/
theorem frame_ref : Cert.quiescent_LossRefIdeal (hLossRefIdeal := Cert.LossRefIdeal.Gen.facts) := fun m g _ =>
  (θ_run Cert.LossRefIdeal.defs _ _).mono (fun r h => ⟨fun c => (h c).2.2.2, sem_eq_zero_of_no_sems (by decide) r.2⟩)
    (Cert.LossRefIdeal.Value.run (F := Ideal) m g)

/-- A real row's inverse root mean square is real. -/
theorem rstd_isReal {x : Fin 1024 → EReal} (hx : ∀ j, IsReal (x j)) : IsReal (rstd x) := by
  obtain ⟨_, r, _, _, _, h⟩ := rstd_real hx
  exact ⟨r, h⟩

/-- What arrives at a row of real differences is real. -/
theorem cot_isReal {e : Fin 8192 → Fin 1024 → EReal} (he : ∀ r k, IsReal (e r k)) (r : Fin 8208) (k : Fin 1024) : IsReal (Cert.LossIdeal.Value.cotAt e r k) := by
  unfold Cert.LossIdeal.Value.cotAt
  split
  · rw [← Cert.LossIdeal.Value.cot_term (he _ _), Cert.LossIdeal.Value.inv_eq]
    exact (he _ _).mul (.coe _)
  · exact .zero

/-- The call gives the loss of real arguments and its gradient by the residual rows and the norm's scale. -/
theorem algebraic : Cert.algebraic_LossIdeal_LossRefIdeal_pre_loss_finite (hLossIdeal := Cert.LossIdeal.Gen.facts) (hLossRefIdeal := Cert.LossRefIdeal.Gen.facts)
    (hPre_loss_finite := Cert.Pre_loss_finite.Gen.facts) := by
  pair_intro
  · run_from Cert.LossIdeal.Value.run m g
  · run_from Cert.LossRefIdeal.Value.run m' g'
    all_goals
      have ha := isReal_of_finite (hpre c).1
      have hw := isReal_of_finite (hpre c).2.1
      have hh := isReal_of_finite (hpre c).2.2.1
      have hg := isReal_of_finite (hpre c).2.2.2.1
      have hy := isReal_of_finite (hpre c).2.2.2.2
      have hx : ∀ r k, IsReal (Cert.LossIdeal.Value.outAt m c r k) := fun r k => (hh _).add (.sum _ fun l => (ha _).mul (hw _))
      have he : ∀ r k, IsReal (Cert.LossIdeal.Value.difAt m c r k) := fun r k => (((hx _ k).mul (rstd_isReal (hx _))).mul (hg _)).sub (hy _)
    · funext i
      refine Eq.trans ?_ (Cert.LossIdeal.Value.loss_at m c he i).symm
      pointwise
      rfl
    · unfold Cert.LossRefIdeal.Value.res_main_v54
      simp only [(hagree c).1, (hagree c).2.1, (hagree c).2.2.1, (hagree c).2.2.2.1, (hagree c).2.2.2.2]
      funext i
      idx_vars i
      refine Eq.trans ?_ (((Cert.LossIdeal.Value.dh_at m c he i0 i1).trans (@zero_add EReal _ _).symm).trans
        (norm_terms (cot_isReal he i0) (hx i0) (fun j => hg _) i1 0)).symm
      rw [zero_add]
      pointwise
      simp only [Finset.univ_unique, Finset.sum_singleton]
      rfl
    · funext i
      idx_vars i
      refine Eq.trans ?_ (Cert.LossIdeal.Value.dg_at m c he i0).symm
      pointwise
      simp only [Finset.univ_unique, Finset.sum_singleton]
      refine Fin.sum_fin_congr fun r => ?_
      rfl

end Cert.Loss

end
-- ==== Proof.Conv.Strip.lean ====
module

public import proofs.«01_k».proof.Proof.Gen.ConvIdeal.Loops
public import Idealize.ShloMosaic.Lib.Pipeline.ReadBack
public import Idealize.ShloMosaic.Lib.Pipeline.ValueKit

@[expose] public section

set_option maxRecDepth 16384
set_option maxHeartbeats 2000000

noncomputable section

namespace Cert.Conv

open Idealize.ShloMosaic Idealize.ShloMosaic.TcCoe Idealize.ShloMosaic.Tactic
open Cert.ConvIdeal Cert.ConvIdeal.Gen
open scoped Idealize.ShloMosaic.Ideal

/-! The convolution's gradient over one strip of sixteen rows. `D` is the cotangent and `P` the input by their rows, `P` counted from
    sixteen rows earlier, so row `r` of the strip's block is `P (16 + r)`. -/

variable (D P : ℕ → Fin 1280 → EReal) (W : Fin 4 → Fin 1280 → EReal)

/-- Row `r` of the input's gradient: the four taps at the row itself and the three rows after it. -/
def dx (r : ℕ) (c : Fin 1280) : EReal :=
  ((W 3 c * D r c + W 0 c * D (r + 3) c) + W 1 c * D (r + 2) c) + W 2 c * D (r + 1) c

/-- What row `r` adds to the gradient of tap `j`, and (`j = 4`) to the bias's. -/
def tap (j : Fin 5) (r : ℕ) (c : Fin 1280) : EReal :=
  if j.val = 4 then D r c else D r c * P (r + 13 + j.val) c

variable {D P W}

/-- A join of two sixteen-row strips, of rows `o` on: rows `16 * k + o` on of the sequence that the strips are. -/
theorem joined {k o l : ℕ} (Q : ℕ → Fin 1280 → EReal) (a b : FVec Ideal S16x1280 .f32) (c : Fin 1280)
    (ha : ∀ l c, a (ix2 l c) = Q (16 * k + l.val) c) (hb : ∀ l c, b (ix2 l c) = Q (16 * k + 16 + l.val) c) (ho : o + l - 16 < 16) :
    (if h : o + l < 16 then a (ix2 ⟨o + l, h⟩ c) else b (ix2 ⟨o + l - 16, ho⟩ c)) = Q (16 * k + (o + l)) c := by
  split
  · rw [ha]
  · rw [hb]; congr 1; dsimp only; omega

section

variable {k : ℕ} {prev x d after : FVec Ideal S16x1280 .f32}
  (hp : ∀ l c, prev (ix2 l c) = P (16 * k + l.val) c) (hx : ∀ l c, x (ix2 l c) = P (16 * k + 16 + l.val) c)
  (hd : ∀ l c, d (ix2 l c) = D (16 * k + l.val) c) (ha : ∀ l c, after (ix2 l c) = D (16 * k + 16 + l.val) c)

include hp hx hd in
/-- A strip's products with the input some rows earlier, rows 8 apart added. -/
theorem folded (j : Fin 5) (hj : j.val < 4) (o : ℕ) (ho : o = 13 + j.val) (s : Fin 8) (c : Fin 1280) (h1 : s.val < 16) (h2 : 8 + s.val < 16)
    (h3 : o + s.val - 16 < 16) (h4 : o + (8 + s.val) - 16 < 16) :
    (d (ix2 ⟨s.val, h1⟩ c) * (if h : o + s.val < 16 then prev (ix2 ⟨o + s.val, h⟩ c) else x (ix2 ⟨o + s.val - 16, h3⟩ c)))
        + d (ix2 ⟨8 + s.val, h2⟩ c)
          * (if h : o + (8 + s.val) < 16 then prev (ix2 ⟨o + (8 + s.val), h⟩ c) else x (ix2 ⟨o + (8 + s.val) - 16, h4⟩ c))
      = tap D P j (16 * k + s.val) c + tap D P j (16 * k + 8 + s.val) c := by
  rw [joined P prev x c hp hx, joined P prev x c hp hx, hd, hd]
  unfold tap
  rw [if_neg (by omega), if_neg (by omega)]
  subst ho
  dsimp only
  rw [show 16 * k + (13 + j.val + s.val) = 16 * k + s.val + 13 + j.val by omega, show 16 * k + (8 + s.val) = 16 * k + 8 + s.val by omega,
    show 16 * k + (13 + j.val + (8 + s.val)) = 16 * k + 8 + s.val + 13 + j.val by omega]

include hp hx hd in
/-- Tap 0's sum takes the strip's products with the input three rows earlier. -/
theorem pay6_at (v : Vec Ideal S1x8x1280 .f32) (x' d' : Vec Ideal S16x1280 .bf16) (hx' : x = k0_pay2 x') (hd' : d = k0_pay3 d')
    (z : Fin 1) (s : Fin 8) (c : Fin 1280) :
    k0_pay6 prev x' d' v (ix3 z s c) = v (ix3 0 s c) + (tap D P 0 (16 * k + s.val) c + tap D P 0 (16 * k + 8 + s.val) c) := by
  subst hx' hd'
  rw [← folded hp hx hd 0 (by decide) 13 rfl s c (by omega) (by omega) (by omega) (by omega)]
  pointwise [k0_pay6, k0_pay2, k0_pay3]

include hp hx hd in
/-- Tap 1's sum takes the strip's products with the input two rows earlier. -/
theorem pay8_at (v : Vec Ideal S1x8x1280 .f32) (z : Fin 1) (s : Fin 8) (c : Fin 1280) :
    k0_pay8 prev x d v (ix3 z s c) = v (ix3 0 s c) + (tap D P 1 (16 * k + s.val) c + tap D P 1 (16 * k + 8 + s.val) c) := by
  rw [← folded hp hx hd 1 (by decide) 14 rfl s c (by omega) (by omega) (by omega) (by omega)]
  pointwise [k0_pay8]

include hp hx hd in
/-- Tap 2's sum takes the strip's products with the input one row earlier. -/
theorem pay10_at (v : Vec Ideal S1x8x1280 .f32) (z : Fin 1) (s : Fin 8) (c : Fin 1280) :
    k0_pay10 prev x d v (ix3 z s c) = v (ix3 0 s c) + (tap D P 2 (16 * k + s.val) c + tap D P 2 (16 * k + 8 + s.val) c) := by
  rw [← folded hp hx hd 2 (by decide) 15 rfl s c (by omega) (by omega) (by omega) (by omega)]
  pointwise [k0_pay10]

include hx hd in
/-- Tap 3's sum takes the strip's products with the input at the same rows. -/
theorem pay17_at (v : Vec Ideal S1x8x1280 .f32) (z : Fin 1) (s : Fin 8) (c : Fin 1280) :
    k0_pay17 (k0_pay11 x d v) (ix3 z s c) = v (ix3 0 s c) + (tap D P 3 (16 * k + s.val) c + tap D P 3 (16 * k + 8 + s.val) c) := by
  have e : tap D P 3 (16 * k + s.val) c + tap D P 3 (16 * k + 8 + s.val) c
      = d (ix2 ⟨s.val, by omega⟩ c) * x (ix2 ⟨s.val, by omega⟩ c) + d (ix2 ⟨8 + s.val, by omega⟩ c) * x (ix2 ⟨8 + s.val, by omega⟩ c) := by
    rw [hd, hd, hx, hx]; unfold tap
    rw [if_neg (by decide), if_neg (by decide)]
    dsimp only
    rw [show 16 * k + 16 + s.val = 16 * k + s.val + 13 + 3 by omega, show 16 * k + (8 + s.val) = 16 * k + 8 + s.val by omega,
      show 16 * k + 16 + (8 + s.val) = 16 * k + 8 + s.val + 13 + 3 by omega]
    rfl
  rw [e]
  pointwise [k0_pay17, k0_pay11]

include hd in
/-- The bias's sum takes the strip's rows. -/
theorem pay18_at (v : Vec Ideal S1x8x1280 .f32) (z : Fin 1) (s : Fin 8) (c : Fin 1280) :
    k0_pay18 d v (ix3 z s c) = v (ix3 0 s c) + (tap D P 4 (16 * k + s.val) c + tap D P 4 (16 * k + 8 + s.val) c) := by
  have e : tap D P 4 (16 * k + s.val) c + tap D P 4 (16 * k + 8 + s.val) c = d (ix2 ⟨s.val, by omega⟩ c) + d (ix2 ⟨8 + s.val, by omega⟩ c) := by
    rw [hd, hd]; unfold tap
    rw [if_pos (by decide), if_pos (by decide)]
    dsimp only
    rw [show 16 * k + (8 + s.val) = 16 * k + 8 + s.val by omega]
  rw [e]
  pointwise [k0_pay18]

include hd ha in
/-- The strip of the input's gradient: each row the four taps at itself and the three rows after it. -/
theorem pay19_at (v7 : Vec Ideal S4x1280 .f32) (hw : ∀ j c, v7 (ix2 j c) = W j c) (k' : Fin k0_t1_loop.trips) (v19 : FVec Ideal S16x1280 .f32)
    (d' v76 : Vec Ideal S16x1280 .bf16) (hd' : d = k0_pay3 d') (ha' : after = k0_pay4 v19 0#32 1#32 k' v76) (l : Fin 16) (c : Fin 1280) :
    k0_pay19 (k0_pay9 v7 d after (k0_pay5 v7 v19 0#32 1#32 k' d' v76) (k0_pay7 v7 v19 0#32 1#32 k' d' v76)) (ix2 l c)
      = dx D W (16 * k + l.val) c := by
  unfold dx
  rw [← hw, ← hw, ← hw, ← hw, ← hd l c, Nat.add_assoc, Nat.add_assoc, Nat.add_assoc, Nat.add_comm l.val 3, Nat.add_comm l.val 2, Nat.add_comm l.val 1,
    ← joined D d after c hd ha (by omega), ← joined D d after c hd ha (by omega), ← joined D d after c hd ha (by omega)]
  subst hd' ha'
  pointwise [k0_pay19, k0_pay9, k0_pay5, k0_pay7]

end

end Cert.Conv

end
-- ==== Proof.Conv.Trip.lean ====
module

public import proofs.«01_k».proof.Proof.Conv.Strip
public import Idealize.ShloMosaic.Lib.WritesUnit

@[expose] public section

set_option maxRecDepth 16384
set_option maxHeartbeats 2000000

noncomputable section

namespace Cert.Conv

open Idealize.ShloMosaic Idealize.ShloMosaic.TcCoe Idealize.ShloMosaic.Tactic
open Cert.ConvIdeal Cert.ConvIdeal.Gen

section Trip

variable (𝒱 : Variants) (c : Dev nD) (bd : Option 𝒱.V) (i : grid0.Coords)
  (arg2 : Memref sig .tc .vmem S256x1280 .bf16) (harg2 : arg2.IsWhole) (arg3 : Memref sig .tc .vmem S16x1280 .bf16) (harg3 : arg3.IsWhole)
  (arg4 : Memref sig .tc .vmem S256x1280 .bf16) (harg4 : arg4.IsWhole) (arg5 : Memref sig .tc .vmem S16x1280 .bf16) (harg5 : arg5.IsWhole)
  (arg6 : Memref sig .tc .vmem S4x1280 .f32) (harg6 : arg6.IsWhole) (arg7 : Memref sig .tc .hbm S8448x8960 .bf16) (harg7 : arg7.IsWhole)
  (arg8 : Memref sig .tc .vmem S256x1280 .bf16) (harg8 : arg8.IsWhole) (arg9 : Memref sig .tc .vmem S4x1280 .f32) (harg9 : arg9.IsWhole)
  (arg10 : Memref sig .tc .vmem S1x1280 .f32) (harg10 : arg10.IsWhole) (arg11 : Memref sig .tc .vmem S5x8x1280 .f32) (harg11 : arg11.IsWhole)
  (v7 : Vec Ideal S4x1280 .f32) (v15 : Vec Ideal S16x1280 .bf16)
  (X2 : BufTy.Contents (Elt Ideal) arg2.view.ty) (X4 : BufTy.Contents (Elt Ideal) arg4.view.ty)

/-- One strip's run, with the arguments of the call fixed. -/
abbrev strip (k : Fin k0_t1_loop.trips) :=
  trip_k0_t1 (F := Ideal) 𝒱 c bd i arg2 harg2 arg3 harg3 arg4 harg4 arg5 harg5 arg6 harg6 arg7 harg7 arg8 harg8 arg9 harg9
    arg10 harg10 arg11 harg11 v7 v15 X2 X4 k

/-- A strip's rows in its block. -/
theorem off1_eq : ∀ k : Fin k0_t1_loop.trips, k0_off1 k = ![16 * k.val, 0] :=
  (by decide +kernel : ∀ k : Fin k0_t1_loop.trips, k0_off1 k = ![16 * k.val, 0])

/-- The rows read beside a strip: the next strip's, and the last strip's once more at the end. -/
theorem off2_eq : ∀ k : Fin k0_t1_loop.trips, k0_off2 k = ![if k.val = 15 then 240 else 16 * k.val + 16, 0] :=
  (by decide +kernel : ∀ k : Fin k0_t1_loop.trips, k0_off2 k = ![if k.val = 15 then 240 else 16 * k.val + 16, 0])

/-- The loop makes sixteen turns. -/
theorem trips_eq : k0_t1_loop.trips = 16 := by decide +kernel

/-- The last strip's next rows are the rows after the block. -/
theorem sel_eq : ∀ k : Fin k0_t1_loop.trips, Scalar.cmpi .eq (Scf.iv 0#32 1#32 k.val) 15#32 = if k.val = 15 then 1#1 else 0#1 :=
  (by decide +kernel : ∀ k : Fin k0_t1_loop.trips, Scalar.cmpi .eq (Scf.iv 0#32 1#32 k.val) 15#32 = if k.val = 15 then 1#1 else 0#1)

/-- A strip of rows `o` on of a block of 256 rows, read back at a row and a column. -/
theorem strip_apply (v : View sig .tc .vmem S256x1280 .bf16) (X : v.ty.Contents (Elt Ideal)) {off : Fin 2 → ℕ}
    (inb : ∀ a : Fin 2, off a + S16x1280.size a ≤ S256x1280.size a) {o : ℕ} (ho : off = ![o, 0]) (l : Fin 16) (c : Fin 1280) (h : o + l.val < 256) :
    (View.readAt (Elt Ideal) v (Rect.unit (s := S256x1280) off S16x1280.size inb).toLoadRect X) (ix2 l c)
      = v.read (Elt Ideal) X (ix2 ⟨o + l.val, h⟩ c) := by
  subst ho
  refine congrArg (v.read (Elt Ideal) X) (funext fun a => Fin.ext ?_)
  fin_cases a
  · show o + 1 * l.val = o + l.val; omega
  · show 0 + 1 * c.val = c.val; omega

/-- One of the five sums of eight rows, read back. -/
theorem sums_apply (v : View sig .tc .vmem S5x8x1280 .f32) (X : v.ty.Contents (Elt Ideal)) {j : ℕ} (hj : j < 5)
    (inb : ∀ a : Fin 3, (![j, 0, 0] : Fin 3 → ℕ) a + S1x8x1280.size a ≤ S5x8x1280.size a) (z : Fin 1) (s : Fin 8) (c : Fin 1280) :
    (View.readAt (Elt Ideal) v (Rect.unit (s := S5x8x1280) ![j, 0, 0] S1x8x1280.size inb).toLoadRect X) (ix3 z s c)
      = v.read (Elt Ideal) X (ix3 ⟨j, hj⟩ s c) := by
  refine congrArg (v.read (Elt Ideal) X) (funext fun a => Fin.ext ?_)
  fin_cases a
  · show j + 1 * z.val = j; omega
  · show 0 + 1 * s.val = s.val; omega
  · show 0 + 1 * c.val = c.val; omega

/-- The five sums after a write of one of them. -/
theorem sums_write (v : View sig .tc .vmem S5x8x1280 .f32) (f : v.ty.Contents (Elt Ideal)) (n : ℕ)
    (inb : ∀ a : Fin 3, (![n, 0, 0] : Fin 3 → ℕ) a + (![1, 8, 1280] : Fin 3 → ℕ) a ≤ S5x8x1280.size a)
    (w : (Rect.unit (s := S5x8x1280) ![n, 0, 0] ![1, 8, 1280] inb).shape.Idx → Elt Ideal .f32) (L : List (View.Piece (Elt Ideal) S5x8x1280 .f32))
    (j : Fin 5) (s : Fin 8) (c : Fin 1280) :
    v.read (Elt Ideal) (v.writes (Elt Ideal) f (⟨Rect.unit ![n, 0, 0] ![1, 8, 1280] inb, w⟩ :: L)) (ix3 j s c)
      = if j.val = n then w (ix3 (0 : Fin 1) s c) else v.read (Elt Ideal) (v.writes (Elt Ideal) f L) (ix3 j s c) := by
  split
  · rename_i h
    refine View.read_writes_cons_unit_of_mem v f inb w L (ix3 j s c) (ix3 (0 : Fin 1) s c) rfl fun a => ?_
    fin_cases a
    · show j.val = n + 0; omega
    · show s.val = 0 + s.val; omega
    · show c.val = 0 + c.val; omega
  · rename_i h
    refine View.read_writes_cons_unit_of_not_mem v f inb w L (ix3 j s c) rfl (0 : Fin 3) ?_
    show j.val < n ∨ n + 1 ≤ j.val
    omega

/-- The rows of a block after a write of sixteen of them. -/
theorem rows_write (v : View sig .tc .vmem S256x1280 .bf16) (f : v.ty.Contents (Elt Ideal)) {off : Fin 2 → ℕ} {o : ℕ}
    (inb : ∀ a : Fin 2, off a + (![16, 1280] : Fin 2 → ℕ) a ≤ S256x1280.size a)
    (w : (Rect.unit (s := S256x1280) off ![16, 1280] inb).shape.Idx → Elt Ideal .bf16) (L : List (View.Piece (Elt Ideal) S256x1280 .bf16))
    (ho : off = ![o, 0]) (r : Fin 256) (c : Fin 1280) :
    v.read (Elt Ideal) (v.writes (Elt Ideal) f (⟨Rect.unit off ![16, 1280] inb, w⟩ :: L)) (ix2 r c)
      = if h : o ≤ r.val ∧ r.val < o + 16 then w (ix2 (⟨r.val - o, by omega⟩ : Fin 16) c)
        else v.read (Elt Ideal) (v.writes (Elt Ideal) f L) (ix2 r c) := by
  split
  · rename_i h
    refine View.read_writes_cons_unit_of_mem v f inb w L (ix2 r c) (ix2 (⟨r.val - o, by omega⟩ : Fin 16) c) ho fun a => ?_
    fin_cases a
    · show r.val = o + (r.val - o); omega
    · show c.val = 0 + c.val; omega
  · rename_i h
    refine View.read_writes_cons_unit_of_not_mem v f inb w L (ix2 r c) ho (0 : Fin 2) ?_
    show r.val < o ∨ o + 16 ≤ r.val
    omega

variable {D P : ℕ → Fin 1280 → EReal} {W : Fin 4 → Fin 1280 → EReal}
  (hD : ∀ r c, arg2.view.read (Elt Ideal) X2 (ix2 r c) = D r.val c)
  (hL : ∀ l c, k0_pay16 i v15 (ix2 l c) = D (256 + l.val) c)
  (hP : ∀ r c, arg4.view.read (Elt Ideal) X4 (ix2 r c) = P (16 + r.val) c)
  (hW : ∀ j c, v7 (ix2 j c) = W j c)
  (k : Fin k0_t1_loop.trips) (acc : FVec Ideal S16x1280 .f32) (f8 : BufTy.Contents (Elt Ideal) arg8.view.ty)
  (f11 : BufTy.Contents (Elt Ideal) arg11.view.ty)
  (hacc : ∀ l c, acc (ix2 l c) = P (16 * k.val + l.val) c)

include hP in
/-- The strip's input, which the next strip is handed. -/
theorem strip_next (l : Fin 16) (c' : Fin 1280) : trip_k0_t1.sl.r arg4 X4 k (ix2 l c') = P (16 * k.val + 16 + l.val) c' := by
  have hk : k.val < 16 := Nat.lt_of_lt_of_eq k.isLt trips_eq
  unfold trip_k0_t1.sl.r
  pointwise [k0_pay2]
  rw [strip_apply arg4.view X4 _ (off1_eq k) l c' (by omega), hP]
  congr 1; dsimp only; omega

include hD in
/-- The strip's cotangent. -/
theorem strip_ct (l : Fin 16) (c' : Fin 1280) : trip_k0_t1.sl.r_1 arg2 X2 k (ix2 l c') = D (16 * k.val + l.val) c' := by
  have hk : k.val < 16 := Nat.lt_of_lt_of_eq k.isLt trips_eq
  unfold trip_k0_t1.sl.r_1
  pointwise [k0_pay3]
  rw [strip_apply arg2.view X2 _ (off1_eq k) l c' (by omega), hD]

include hD hL in
/-- The rows after the strip's. -/
theorem strip_after (l : Fin 16) (c' : Fin 1280) : trip_k0_t1.sl.r_2 i arg2 v15 X2 k (ix2 l c') = D (16 * k.val + 16 + l.val) c' := by
  have hk : k.val < 16 := Nat.lt_of_lt_of_eq k.isLt trips_eq
  unfold trip_k0_t1.sl.r_2
  pointwise [k0_pay4]
  rw [sel_eq]
  by_cases h : k.val = 15
  · rw [if_pos h]
    refine (if_pos rfl).trans ?_
    rw [hL]; congr 1; omega
  · rw [if_neg h]
    refine (if_neg (by decide)).trans ?_
    rw [strip_apply arg2.view X2 _ (off2_eq k) l c' (by rw [if_neg h]; omega), hD]
    congr 1; dsimp only; rw [if_neg h]

include hD hL hW in
/-- What one strip leaves in its rows of the input's gradient and adds to the five sums. -/
theorem strip_out (r : Fin 256) (c' : Fin 1280) :
    arg8.view.read (Elt Ideal) (arg8.view.writes (Elt Ideal) f8 ((strip 𝒱 c bd i arg2 harg2 arg3 harg3 arg4 harg4 arg5 harg5 arg6 harg6 arg7 harg7 arg8 harg8 arg9 harg9
      arg10 harg10 arg11 harg11 v7 v15 X2 X4 k).2.1 acc f8 f11)) (ix2 r c')
      = if 16 * k.val ≤ r.val ∧ r.val < 16 * k.val + 16 then dx D W r.val c' else arg8.view.read (Elt Ideal) f8 (ix2 r c') := by
  have hk : k.val < 16 := Nat.lt_of_lt_of_eq k.isLt trips_eq
  unfold strip trip_k0_t1
  dsimp only
  unfold trip_k0_t1.sl.r_5 trip_k0_t1.sl.r_3 trip_k0_t1.sl.r_4
  rw [rows_write _ _ _ _ _ (off1_eq k)]
  split
  · rename_i h
    rw [pay19_at (strip_ct arg2 X2 hD k) (strip_after i arg2 v15 X2 hD hL k) v7 hW k _ _ _ rfl rfl]
    congr 1; dsimp only; omega
  · rename_i h
    rfl

include hD hP hacc in
/-- What one strip adds to the five sums. -/
theorem strip_sums (j : Fin 5) (s : Fin 8) (c' : Fin 1280) :
    arg11.view.read (Elt Ideal) (arg11.view.writes (Elt Ideal) f11 ((strip 𝒱 c bd i arg2 harg2 arg3 harg3 arg4 harg4 arg5 harg5 arg6 harg6 arg7 harg7 arg8 harg8 arg9 harg9
      arg10 harg10 arg11 harg11 v7 v15 X2 X4 k).2.2.1 acc f8 f11)) (ix3 j s c')
      = arg11.view.read (Elt Ideal) f11 (ix3 j s c') + (tap D P j (16 * k.val + s.val) c' + tap D P j (16 * k.val + 8 + s.val) c') := by
  have hx := strip_next arg4 X4 hP k
  have hd := strip_ct arg2 X2 hD k
  unfold strip trip_k0_t1
  dsimp only
  unfold trip_k0_t1.sl.r_6
  rw [sums_write, sums_write, sums_write, sums_write, sums_write]
  split_ifs with h4 h3 h2 h1 h0
  · obtain rfl : j = 4 := Fin.ext h4
    rw [pay18_at hd, show trip_k0_t1.sl.v148 arg11 f11 (ix3 0 s c') = _ from sums_apply arg11.view f11 (by decide) _ 0 s c']
    rfl
  · obtain rfl : j = 3 := Fin.ext h3
    rw [pay17_at hx hd, show trip_k0_t1.sl.v138 arg11 f11 (ix3 0 s c') = _ from sums_apply arg11.view f11 (by decide) _ 0 s c']
    rfl
  · obtain rfl : j = 2 := Fin.ext h2
    rw [pay10_at hacc hx hd, show trip_k0_t1.sl.v126 arg11 f11 (ix3 0 s c') = _ from sums_apply arg11.view f11 (by decide) _ 0 s c']
    rfl
  · obtain rfl : j = 1 := Fin.ext h1
    rw [pay8_at hacc hx hd, show trip_k0_t1.sl.v108 arg11 f11 (ix3 0 s c') = _ from sums_apply arg11.view f11 (by decide) _ 0 s c']
    rfl
  · obtain rfl : j = 0 := Fin.ext h0
    rw [pay6_at hacc hx hd _ _ _ rfl rfl, sums_apply arg11.view f11 (by decide) _ 0 s c']
    rfl
  · exact absurd j.isLt (by omega)

/-- What one strip hands on. -/
theorem strip_res : (strip 𝒱 c bd i arg2 harg2 arg3 harg3 arg4 harg4 arg5 harg5 arg6 harg6 arg7 harg7 arg8 harg8 arg9 harg9
      arg10 harg10 arg11 harg11 v7 v15 X2 X4 k).1 acc f8 f11 = trip_k0_t1.sl.r arg4 X4 k := by
  unfold strip trip_k0_t1; rfl

/-! ### All strips -/

variable (G8 : BufTy.Contents (Elt Ideal) arg8.view.ty) (G11 : BufTy.Contents (Elt Ideal) arg11.view.ty) (init : FVec Ideal S16x1280 .f32)
  (hinit : ∀ l c, init (ix2 l c) = P l.val c)

/-- The loop's state before a trip, with the arguments of the call fixed. -/
abbrev state (n : ℕ) :=
  st_k0_t1 (F := Ideal) 𝒱 c bd i arg2 harg2 arg3 harg3 arg4 harg4 arg5 harg5 arg6 harg6 arg7 harg7 arg8 harg8 arg9 harg9
      arg10 harg10 arg11 harg11 v7 v15 X2 X4 G8 G11 init n

/-- What the strips before one have left: the input's gradient in their rows, the five sums of their products, and the input's rows before
    the strip handed on. -/
structure After (n : ℕ) : Prop where
  /-- the rows handed on -/
  prev : ∀ l c', (state 𝒱 c bd i arg2 harg2 arg3 harg3 arg4 harg4 arg5 harg5 arg6 harg6 arg7 harg7 arg8 harg8 arg9 harg9
      arg10 harg10 arg11 harg11 v7 v15 X2 X4 G8 G11 init n).1 (ix2 l c') = P (16 * n + l.val) c'
  /-- the input's gradient -/
  rows : ∀ (r : Fin 256) c', r.val < 16 * n →
    arg8.view.read (Elt Ideal) (arg8.view.writes (Elt Ideal) G8 (state 𝒱 c bd i arg2 harg2 arg3 harg3 arg4 harg4 arg5 harg5 arg6 harg6 arg7 harg7 arg8 harg8 arg9 harg9
      arg10 harg10 arg11 harg11 v7 v15 X2 X4 G8 G11 init n).2.1) (ix2 r c') = dx D W r.val c'
  /-- the five sums -/
  sums : ∀ j s c', arg11.view.read (Elt Ideal) (arg11.view.writes (Elt Ideal) G11 (state 𝒱 c bd i arg2 harg2 arg3 harg3 arg4 harg4 arg5 harg5 arg6 harg6 arg7 harg7 arg8 harg8 arg9 harg9
      arg10 harg10 arg11 harg11 v7 v15 X2 X4 G8 G11 init n).2.2) (ix3 j s c')
    = arg11.view.read (Elt Ideal) G11 (ix3 j s c') + ∑ q ∈ Finset.range n, (tap D P j (16 * q + s.val) c' + tap D P j (16 * q + 8 + s.val) c')

include hD hL hP hW hinit in
/-- The strips one after another. -/
theorem after_strips : ∀ n ≤ 16, After (D := D) (P := P) (W := W) 𝒱 c bd i arg2 harg2 arg3 harg3 arg4 harg4 arg5 harg5 arg6 harg6 arg7 harg7 arg8 harg8 arg9 harg9
      arg10 harg10 arg11 harg11 v7 v15 X2 X4 G8 G11 init n
  | 0, _ => by
    refine ⟨fun l c' => ?_, fun r c' h => absurd h (by omega), fun j s c' => ?_⟩
    · rw [st_k0_t1_zero, hinit]; congr 1; omega
    · rw [Finset.range_zero, Finset.sum_empty, add_zero]; rfl
  | n + 1, hn => by
    have ih := after_strips n (by omega)
    have e := st_k0_t1_succ (F := Ideal) 𝒱 c bd i arg2 harg2 arg3 harg3 arg4 harg4 arg5 harg5 arg6 harg6 arg7 harg7 arg8 harg8 arg9 harg9
      arg10 harg10 arg11 harg11 v7 v15 X2 X4 G8 G11 init ⟨n, Nat.lt_of_lt_of_eq (by omega) trips_eq.symm⟩
    dsimp only at e
    refine ⟨fun l c' => ?_, fun r c' h => ?_, fun j s c' => ?_⟩
    · show (st_k0_t1 (F := Ideal) 𝒱 c bd i arg2 harg2 arg3 harg3 arg4 harg4 arg5 harg5 arg6 harg6 arg7 harg7 arg8 harg8 arg9 harg9
      arg10 harg10 arg11 harg11 v7 v15 X2 X4 G8 G11 init (n + 1)).1 (ix2 l c') = _
      rw [e]; dsimp only; rw [tripR_k0_t1, strip_res, strip_next arg4 X4 hP]
      congr 1
    · show arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9
      arg10 harg10 arg11 harg11 v7 v15 X2 X4 G8 G11 init (n + 1)).2.1) (ix2 r c') = _
      rw [e]
      dsimp only
      rw [View.writes_append]
      refine (strip_out (hD := hD) (hL := hL) (hW := hW) ..).trans ?_
      dsimp only
      split
      · rfl
      · exact ih.rows r c' (by omega)
    · show arg11.view.read (Elt Ideal) (arg11.view.writes (Elt Ideal) G11 (st_k0_t1 (F := Ideal) 𝒱 c bd i arg2 harg2 arg3 harg3 arg4 harg4 arg5 harg5 arg6 harg6 arg7 harg7 arg8 harg8 arg9 harg9
      arg10 harg10 arg11 harg11 v7 v15 X2 X4 G8 G11 init (n + 1)).2.2) (ix3 j s c') = _
      rw [e]
      dsimp only
      rw [View.writes_append]
      refine (strip_sums (hD := hD) (hP := hP) (hacc := ih.prev) ..).trans ?_
      rw [ih.sums, Finset.sum_range_succ, add_assoc]

end Trip

end Cert.Conv

end
-- ==== Proof.Conv.Body.lean ====
module

public import proofs.«01_k».proof.Proof.Conv.Trip
public import proofs.«01_k».proof.Proof.Gen.ConvIdeal.Frame.Runs

@[expose] public section

set_option maxRecDepth 16384
set_option maxHeartbeats 2000000

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvIdeal Cert.ConvIdeal.Gen

local notation "𝕄" => MT nD τ sig Unit (Elt Ideal) ℕ (UR sig nD τ) ℕ

variable (c : Dev nD) (i : grid0.Coords)
  (arg2 : Memref sig .tc .vmem S256x1280 .bf16) (harg2 : arg2.IsWhole) (arg3 : Memref sig .tc .vmem S16x1280 .bf16) (harg3 : arg3.IsWhole)
  (arg4 : Memref sig .tc .vmem S256x1280 .bf16) (harg4 : arg4.IsWhole) (arg5 : Memref sig .tc .vmem S16x1280 .bf16) (harg5 : arg5.IsWhole)
  (arg6 : Memref sig .tc .vmem S4x1280 .f32) (harg6 : arg6.IsWhole) (arg8 : Memref sig .tc .vmem S256x1280 .bf16) (harg8 : arg8.IsWhole)
  (arg9 : Memref sig .tc .vmem S4x1280 .f32) (harg9 : arg9.IsWhole) (arg10 : Memref sig .tc .vmem S1x1280 .f32) (harg10 : arg10.IsWhole)
  (arg11 : Memref sig .tc .vmem S5x8x1280 .f32) (harg11 : arg11.IsWhole)
  (x0 : Vec Ideal S256x1280 .bf16) (x1 : Vec Ideal S16x1280 .bf16) (x2 : Vec Ideal S256x1280 .bf16) (x3 : Vec Ideal S16x1280 .bf16)
  (x4 : Vec Ideal S4x1280 .f32)

/-- The call's inputs in their buffers. -/
abbrev inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- The cotangent by its rows: the block's, and the sixteen after it. -/
def ctRows (r : ℕ) (c' : Fin 1280) : EReal :=
  if h : r < 256 then x0 (ix2 ⟨r, h⟩ c') else if h : r - 256 < 16 then k0_pay16 i x1 (ix2 ⟨r - 256, h⟩ c') else 0

/-- The input by its rows: the sixteen before the block, and the block's. -/
def inRows (r : ℕ) (c' : Fin 1280) : EReal :=
  if h : r < 16 then k0_pay15 i x3 (ix2 ⟨r, h⟩ c') else if h : r - 16 < 256 then x2 (ix2 ⟨r - 16, h⟩ c') else 0

/-- The block's rows of the input's gradient. -/
def dxBlock (y : S256x1280.Idx) : EReal :=
  dx (ctRows i x0 x1) (fun j c' => x4 (ix2 j c')) (y (0 : Fin 2)).val (y (1 : Fin 2))

/-- What the block adds to the gradient of tap `j`, and (`j = 4`) of the bias. -/
def tapBlock (j : Fin 5) (c' : Fin 1280) : EReal :=
  ∑ s : Fin 8, ∑ q ∈ Finset.range 16, (tap (ctRows i x0 x1) (inRows i x2 x3) j (16 * q + s.val) c'
    + tap (ctRows i x0 x1) (inRows i x2 x3) j (16 * q + 8 + s.val) c')

/-- The gradient of the taps after the block, from what it was before. -/
def dwNext (o6 : S4x1280.Idx → EReal) (y : S4x1280.Idx) : EReal :=
  o6 y + tapBlock i x0 x1 x2 x3 ((y (0 : Fin 2)).castSucc : Fin 5) (y (1 : Fin 2))

/-- The gradient of the bias after the block, from what it was before. -/
def dbNext (o7 : S1x1280.Idx → EReal) (y : S1x1280.Idx) : EReal :=
  o7 y + tapBlock i x0 x1 x2 x3 4 (y (1 : Fin 2))

variable {x0 x1 x2 x3 x4}

/-- A whole buffer's load. -/
theorem load16 (v : View sig .tc .vmem S16x1280 .bf16) (X : v.ty.Contents (Elt Ideal)) (x : Vec Ideal S16x1280 .bf16) (h : v.read (Elt Ideal) X = x)
    (inb : ∀ a : Fin 2, (![0, 0] : Fin 2 → ℕ) a + S16x1280.size a ≤ S16x1280.size a) :
    View.readAt (Elt Ideal) v (Rect.unit (s := S16x1280) ![0, 0] S16x1280.size inb).toLoadRect X = x := by
  subst h
  refine funext fun y => congrArg (v.read (Elt Ideal) X) (funext fun a => Fin.ext ?_)
  fin_cases a
  · show 0 + 1 * (y (0 : Fin 2)).val = (y (0 : Fin 2)).val; omega
  · show 0 + 1 * (y (1 : Fin 2)).val = (y (1 : Fin 2)).val; omega

/-- A whole buffer's load. -/
theorem load4 (v : View sig .tc .vmem S4x1280 .f32) (X : v.ty.Contents (Elt Ideal)) (x : Vec Ideal S4x1280 .f32) (h : v.read (Elt Ideal) X = x)
    (inb : ∀ a : Fin 2, (![0, 0] : Fin 2 → ℕ) a + S4x1280.size a ≤ S4x1280.size a) :
    View.readAt (Elt Ideal) v (Rect.unit (s := S4x1280) ![0, 0] S4x1280.size inb).toLoadRect X = x := by
  subst h
  refine funext fun y => congrArg (v.read (Elt Ideal) X) (funext fun a => Fin.ext ?_)
  fin_cases a
  · show 0 + 1 * (y (0 : Fin 2)).val = (y (0 : Fin 2)).val; omega
  · show 0 + 1 * (y (1 : Fin 2)).val = (y (1 : Fin 2)).val; omega

/-- A row of the taps' gradient, loaded. -/
theorem row_apply (v : View sig .tc .vmem S4x1280 .f32) (X : v.ty.Contents (Elt Ideal)) {n : ℕ} (hn : n < 4)
    (inb : ∀ a : Fin 2, (![n, 0] : Fin 2 → ℕ) a + S1x1280.size a ≤ S4x1280.size a) (z : Fin 1) (c' : Fin 1280) :
    View.readAt (Elt Ideal) v (Rect.unit (s := S4x1280) ![n, 0] S1x1280.size inb).toLoadRect X (ix2 z c') = v.read (Elt Ideal) X (ix2 ⟨n, hn⟩ c') := by
  refine congrArg (v.read (Elt Ideal) X) (funext fun a => Fin.ext ?_)
  fin_cases a
  · show n + 1 * z.val = n; omega
  · show 0 + 1 * c'.val = c'.val; omega

/-- The bias's gradient, loaded. -/
theorem bias_apply (v : View sig .tc .vmem S1x1280 .f32) (X : v.ty.Contents (Elt Ideal))
    (inb : ∀ a : Fin 2, (![0, 0] : Fin 2 → ℕ) a + S1x1280.size a ≤ S1x1280.size a) (z : Fin 1) (c' : Fin 1280) :
    View.readAt (Elt Ideal) v (Rect.unit (s := S1x1280) ![0, 0] S1x1280.size inb).toLoadRect X (ix2 z c') = v.read (Elt Ideal) X (ix2 z c') := by
  refine congrArg (v.read (Elt Ideal) X) (funext fun a => Fin.ext ?_)
  fin_cases a
  · show 0 + 1 * z.val = z.val; omega
  · show 0 + 1 * c'.val = c'.val; omega

/-- The taps' gradient after a write of one of its rows. -/
theorem row_write (v : View sig .tc .vmem S4x1280 .f32) (f : v.ty.Contents (Elt Ideal)) (n : ℕ)
    (inb : ∀ a : Fin 2, (![n, 0] : Fin 2 → ℕ) a + S1x1280.size a ≤ S4x1280.size a)
    (w : (Rect.unit (s := S4x1280) ![n, 0] S1x1280.size inb).shape.Idx → Elt Ideal .f32) (L : List (View.Piece (Elt Ideal) S4x1280 .f32))
    (j : Fin 4) (c' : Fin 1280) :
    v.read (Elt Ideal) (v.writes (Elt Ideal) f (⟨Rect.unit ![n, 0] S1x1280.size inb, w⟩ :: L)) (ix2 j c')
      = if j.val = n then w (ix2 (0 : Fin 1) c') else v.read (Elt Ideal) (v.writes (Elt Ideal) f L) (ix2 j c') := by
  split
  · rename_i h
    refine View.read_writes_cons_unit_of_mem v f inb w L (ix2 j c') (ix2 (0 : Fin 1) c') rfl fun a => ?_
    fin_cases a
    · show j.val = n + 0; omega
    · show c'.val = 0 + c'.val; omega
  · rename_i h
    refine View.read_writes_cons_unit_of_not_mem v f inb w L (ix2 j c') rfl (0 : Fin 2) ?_
    show j.val < n ∨ n + 1 ≤ j.val
    omega

/-- The row written. -/
theorem row_hit (v : View sig .tc .vmem S4x1280 .f32) (f : v.ty.Contents (Elt Ideal)) (n : ℕ) (hn : n < 4)
    (inb : ∀ a : Fin 2, (![n, 0] : Fin 2 → ℕ) a + S1x1280.size a ≤ S4x1280.size a)
    (w : (Rect.unit (s := S4x1280) ![n, 0] S1x1280.size inb).shape.Idx → Elt Ideal .f32) (L : List (View.Piece (Elt Ideal) S4x1280 .f32)) (c' : Fin 1280) :
    v.read (Elt Ideal) (v.writes (Elt Ideal) f (⟨Rect.unit ![n, 0] S1x1280.size inb, w⟩ :: L)) (ix2 ⟨n, hn⟩ c') = w (ix2 (0 : Fin 1) c') :=
  (row_write v f n inb w L ⟨n, hn⟩ c').trans (if_pos rfl)

/-- Another row. -/
theorem row_miss (v : View sig .tc .vmem S4x1280 .f32) (f : v.ty.Contents (Elt Ideal)) (n k : ℕ) (hk : k < 4) (h : k ≠ n)
    (inb : ∀ a : Fin 2, (![n, 0] : Fin 2 → ℕ) a + S1x1280.size a ≤ S4x1280.size a)
    (w : (Rect.unit (s := S4x1280) ![n, 0] S1x1280.size inb).shape.Idx → Elt Ideal .f32) (L : List (View.Piece (Elt Ideal) S4x1280 .f32)) (c' : Fin 1280) :
    v.read (Elt Ideal) (v.writes (Elt Ideal) f (⟨Rect.unit ![n, 0] S1x1280.size inb, w⟩ :: L)) (ix2 ⟨k, hk⟩ c')
      = v.read (Elt Ideal) (v.writes (Elt Ideal) f L) (ix2 ⟨k, hk⟩ c') :=
  (row_write v f n inb w L ⟨k, hk⟩ c').trans (if_neg h)

/-- The bias's gradient after a write. -/
theorem bias_write (v : View sig .tc .vmem S1x1280 .f32) (f : v.ty.Contents (Elt Ideal))
    (inb : ∀ a : Fin 2, (![0, 0] : Fin 2 → ℕ) a + (![1, 1280] : Fin 2 → ℕ) a ≤ S1x1280.size a)
    (w : (Rect.unit (s := S1x1280) ![0, 0] ![1, 1280] inb).shape.Idx → Elt Ideal .f32) (L : List (View.Piece (Elt Ideal) S1x1280 .f32))
    (z : Fin 1) (c' : Fin 1280) :
    v.read (Elt Ideal) (v.writes (Elt Ideal) f (⟨Rect.unit ![0, 0] ![1, 1280] inb, w⟩ :: L)) (ix2 z c') = w (ix2 z c') := by
  refine View.read_writes_cons_unit_of_mem v f inb w L (ix2 z c') (ix2 z c') rfl fun a => ?_
  fin_cases a
  · show z.val = 0 + z.val; omega
  · show c'.val = 0 + c'.val; omega

/-- The five sums start at zero. -/
theorem zero_sums (v : View sig .tc .vmem S5x8x1280 .f32) (f : v.ty.Contents (Elt Ideal))
    (inb : ∀ a : Fin 3, (![0, 0, 0] : Fin 3 → ℕ) a + (![5, 8, 1280] : Fin 3 → ℕ) a ≤ S5x8x1280.size a) (j : Fin 5) (s : Fin 8) (c' : Fin 1280) :
    v.read (Elt Ideal) (v.writes (Elt Ideal) f [⟨Rect.unit ![0, 0, 0] ![5, 8, 1280] inb, k0_pay14 (F := Ideal)⟩]) (ix3 j s c') = 0 := by
  rw [View.read_writes_cons_unit_of_mem v f inb (k0_pay14 (F := Ideal)) [] (ix3 j s c') (ix3 j s c') rfl fun a => by
    fin_cases a
    · show j.val = 0 + j.val; omega
    · show s.val = 0 + s.val; omega
    · show c'.val = 0 + c'.val; omega]
  pointwise [k0_pay14]

/-- The first tap's running sums, added up in pairs of eight, four, two and one. -/
theorem pay20_at (v22 : Vec Ideal S1x1280 .f32) (v24 : Vec Ideal S1x8x1280 .f32) (z : Fin 1) (c' : Fin 1280) :
    k0_pay20 v22 v24 (ix2 z c') = v22 (ix2 z c') + ∑ s : Fin 8, v24 (ix3 0 s c') := by
  pointwise [k0_pay20]

/-- The second tap's. -/
theorem pay21_at (v22 : Vec Ideal S1x1280 .f32) (v24 : Vec Ideal S1x8x1280 .f32) (z : Fin 1) (c' : Fin 1280) :
    k0_pay21 v22 v24 (ix2 z c') = v22 (ix2 z c') + ∑ s : Fin 8, v24 (ix3 0 s c') := pay20_at v22 v24 z c'

/-- The third tap's. -/
theorem pay22_at (v22 : Vec Ideal S1x1280 .f32) (v24 : Vec Ideal S1x8x1280 .f32) (z : Fin 1) (c' : Fin 1280) :
    k0_pay22 v22 v24 (ix2 z c') = v22 (ix2 z c') + ∑ s : Fin 8, v24 (ix3 0 s c') := pay20_at v22 v24 z c'

/-- The fourth tap's. -/
theorem pay23_at (v22 : Vec Ideal S1x1280 .f32) (v24 : Vec Ideal S1x8x1280 .f32) (z : Fin 1) (c' : Fin 1280) :
    k0_pay23 v22 v24 (ix2 z c') = v22 (ix2 z c') + ∑ s : Fin 8, v24 (ix3 0 s c') := pay20_at v22 v24 z c'

/-- The bias's. -/
theorem pay1_at (v55 : Vec Ideal S1x1280 .f32) (v24 : Vec Ideal S1x8x1280 .f32) (z : Fin 1) (c' : Fin 1280) :
    k0_pay1 (k0_pay24 v55) v24 (ix2 z c') = v55 (ix2 z c') + ∑ s : Fin 8, v24 (ix3 0 s c') := by
  pointwise [k0_pay1, k0_pay24]

/-- The taps' gradient starts at zero. -/
theorem zero_taps (v : View sig .tc .vmem S4x1280 .f32) (f : v.ty.Contents (Elt Ideal))
    (inb : ∀ a : Fin 2, (![0, 0] : Fin 2 → ℕ) a + (![4, 1280] : Fin 2 → ℕ) a ≤ S4x1280.size a) (j : Fin 4) (c' : Fin 1280) :
    v.read (Elt Ideal) (v.writes (Elt Ideal) f [⟨Rect.unit ![0, 0] ![4, 1280] inb, k0_pay12 (F := Ideal)⟩]) (ix2 j c') = 0 := by
  rw [View.read_writes_cons_unit_of_mem v f inb (k0_pay12 (F := Ideal)) [] (ix2 j c') (ix2 j c') rfl fun a => by
    fin_cases a
    · show j.val = 0 + j.val; omega
    · show c'.val = 0 + c'.val; omega]
  pointwise [k0_pay12]

/-- So does the bias's. -/
theorem zero_bias (z : Fin 1) (c' : Fin 1280) : k0_pay13 (F := Ideal) (ix2 z c') = 0 := by
  pointwise [k0_pay13]

section
variable {f0 : BufTy.Contents (Elt Ideal) arg2.view.ty} {f1 : BufTy.Contents (Elt Ideal) arg3.view.ty} {f2 : BufTy.Contents (Elt Ideal) arg4.view.ty}
  {f3 : BufTy.Contents (Elt Ideal) arg5.view.ty} {f4 : BufTy.Contents (Elt Ideal) arg6.view.ty}
  (hf0 : View.read (Elt Ideal) arg2.view f0 = x0) (hf1 : View.read (Elt Ideal) arg3.view f1 = x1) (hf2 : View.read (Elt Ideal) arg4.view f2 = x2)
  (hf3 : View.read (Elt Ideal) arg5.view f3 = x3) (hf4 : View.read (Elt Ideal) arg6.view f4 = x4)
  (f5 : BufTy.Contents (Elt Ideal) arg8.view.ty) (G11 : BufTy.Contents (Elt Ideal) arg11.view.ty)

include hf0 hf1 hf2 hf3 hf4

/-- What the sixteen strips of a block leave. -/
theorem all_strips : After (D := ctRows i x0 x1) (P := inRows i x2 x3) (W := fun j c' => x4 (ix2 j c')) Variants.none c none i
    arg2 harg2 arg3 harg3 arg4 harg4 arg5 harg5 arg6 harg6 (Memref.whole main_v8) (Memref.isWhole_whole _) arg8 harg8 arg9 harg9 arg10 harg10 arg11 harg11
    (View.readAt (Elt Ideal) arg6.view (Rect.unit (s := S4x1280) ![0, 0] S4x1280.size inb_S4x1280_S4x1280_0_0).toLoadRect f4)
    (View.readAt (Elt Ideal) arg3.view (Rect.unit (s := S16x1280) ![0, 0] S16x1280.size inb_S16x1280_S16x1280_0_0).toLoadRect f1)
    f0 f2 f5 G11 (k0_pay15 i (View.readAt (Elt Ideal) arg5.view (Rect.unit (s := S16x1280) ![0, 0] S16x1280.size inb_S16x1280_S16x1280_0_0).toLoadRect f3)) 16 := by
  rw [load4 arg6.view f4 x4 hf4, load16 arg3.view f1 x1 hf1, load16 arg5.view f3 x3 hf3]
  refine after_strips _ _ _ _ _ _ _ _ _ _ _ _ _ _ _ _ _ _ _ _ _ _ _ _ _ _ _ _ ?_ ?_ ?_ ?_ _ _ _ ?_ 16 le_rfl
  · intro r c'
    rw [hf0]; unfold ctRows; rw [dif_pos r.isLt]
  · intro l c'
    unfold ctRows
    rw [dif_neg (by omega), dif_pos (by omega : 256 + l.val - 256 < 16)]
    exact congrArg (fun l => k0_pay16 i x1 (ix2 l c')) (Fin.ext (by show l.val = 256 + l.val - 256; omega))
  · intro r c'
    rw [hf2]; unfold inRows
    rw [dif_neg (by omega), dif_pos (by omega : 16 + r.val - 16 < 256)]
    exact congrArg (fun l => x2 (ix2 l c')) (Fin.ext (by show r.val = 16 + r.val - 16; omega))
  · intro j c'; rfl
  · intro l c'
    unfold inRows
    rw [dif_pos l.isLt]

/-- The five sums of a block, added up over the eight rows that they are kept in. -/
theorem block_sum {n : ℕ} (hn : n < 5) (inb : ∀ a : Fin 3, (![n, 0, 0] : Fin 3 → ℕ) a + S1x8x1280.size a ≤ S5x8x1280.size a) (c' : Fin 1280) :
    ∑ s : Fin 8, View.readAt (Elt Ideal) arg11.view (Rect.unit (s := S5x8x1280) ![n, 0, 0] S1x8x1280.size inb).toLoadRect
      (arg11.view.writes (Elt Ideal) arg11.view.junk ((st_k0_t1 (F := Ideal) Variants.none c none i
    arg2 harg2 arg3 harg3 arg4 harg4 arg5 harg5 arg6 harg6 (Memref.whole main_v8) (Memref.isWhole_whole _) arg8 harg8 arg9 harg9 arg10 harg10 arg11 harg11
    (View.readAt (Elt Ideal) arg6.view (Rect.unit (s := S4x1280) ![0, 0] S4x1280.size inb_S4x1280_S4x1280_0_0).toLoadRect f4)
    (View.readAt (Elt Ideal) arg3.view (Rect.unit (s := S16x1280) ![0, 0] S16x1280.size inb_S16x1280_S16x1280_0_0).toLoadRect f1)
    f0 f2 f5 (arg11.view.writes (Elt Ideal) arg11.view.junk [⟨Rect.unit ![0, 0, 0] S5x8x1280.size inb_S5x8x1280_S5x8x1280_0_0_0, k0_pay14 (F := Ideal)⟩])
    (k0_pay15 i (View.readAt (Elt Ideal) arg5.view (Rect.unit (s := S16x1280) ![0, 0] S16x1280.size inb_S16x1280_S16x1280_0_0).toLoadRect f3))
    (Scf.trips k0_t1_loop.lb k0_t1_loop.ub k0_t1_loop.st)).2.2 ++ [⟨Rect.unit ![0, 0, 0] S5x8x1280.size inb_S5x8x1280_S5x8x1280_0_0_0, k0_pay14 (F := Ideal)⟩]))
      (ix3 0 s c') = tapBlock i x0 x1 x2 x3 ⟨n, hn⟩ c' := by
  refine Finset.sum_congr rfl fun s _ => ?_
  rw [sums_apply _ _ hn, View.writes_append, show Scf.trips k0_t1_loop.lb k0_t1_loop.ub k0_t1_loop.st = 16 from trips_eq]
  refine ((all_strips c i arg2 harg2 arg3 harg3 arg4 harg4 arg5 harg5 arg6 harg6 arg8 harg8 arg9 harg9 arg10 harg10 arg11 harg11
    hf0 hf1 hf2 hf3 hf4 f5 _).sums ⟨n, hn⟩ s c').trans ?_
  rw [zero_sums, zero_add]

end

/-- The body at the first point: it writes the block of dx, and starts the sums of the taps' and the bias's gradient. -/
theorem body_A (hc0 : cond0_0 i) (E : Set ℕ) (K : PUnit → sProp 𝕄) :
    iprop(inputs c arg2 arg3 arg4 arg5 arg6 x0 x1 x2 x3 x4 ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d)
        ∗ (iprop(inputs c arg2 arg3 arg4 arg5 arg6 x0 x1 x2 x3 x4 ∗ owns (c : Thread nD τ) arg8 fullShare (dxBlock i x0 x1 x4)
            ∗ owns (c : Thread nD τ) arg9 fullShare (dwNext i x0 x1 x2 x3 (fun _ => 0)) ∗ owns (c : Thread nD τ) arg10 fullShare (dbNext i x0 x1 x2 x3 (fun _ => 0))
            ∗ (∃ d, owns (c : Thread nD τ) arg11 fullShare d)) -∗ K ⟨⟩))
      ⊢ wp frame (wpE (defs₀ (F := Ideal)) Variants.none c none) E
        (cc0_conv_bwd i arg2 harg2 arg3 harg3 arg4 harg4 arg5 harg5 arg6 harg6 (Memref.whole main_v8) (Memref.isWhole_whole _) arg8 harg8
          arg9 harg9 arg10 harg10 arg11 harg11) K := by
  simp only [cc0_conv_bwd_eq_skeleton]; unfold cc0_conv_bwd_skel
  simp only [k0_part3_eq_skeleton, k0_part4_eq_skeleton]
  unfold inputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, ⟨%ds0, %fs0, -, HS0⟩, Hk⟩
  sl_exec (disch := first | sl_exact hc0)
  sl_step
  iapply Hk
  isplitl [H0 H1 H2 H3 H4]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    iexists _; isplitr; · ipureintro; exact hf4
    iexact H4
  isplitl [H5]
  · iexists _; isplitr; swap; · iexact H5
    ipureintro
    rw [show Scf.trips k0_t1_loop.lb k0_t1_loop.ub k0_t1_loop.st = 16 from trips_eq]
    refine funext fun y => ?_
    idx_vars y
    exact (all_strips c i arg2 harg2 arg3 harg3 arg4 harg4 arg5 harg5 arg6 harg6 arg8 harg8 arg9 harg9 arg10 harg10 arg11 harg11
      hf0 hf1 hf2 hf3 hf4 f5 _).rows y0 y1 (by omega)
  isplitl [H6]
  · iexists _; isplitr; swap; · iexact H6
    ipureintro
    refine funext fun y => ?_
    idx_vars y
    obtain ⟨y0, hy⟩ := y0
    unfold body_A.sl.v46 body_A.sl.v48 body_A.sl.H6_4 body_A.sl.v38 body_A.sl.v40 body_A.sl.H6_3 body_A.sl.v30 body_A.sl.v32 body_A.sl.H6_2 body_A.sl.r body_A.sl.v22 body_A.sl.v24 body_A.sl.H6_1 body_A.sl.HS0_1
    have hs := fun (n : ℕ) (hn : n < 5) inb => block_sum c i arg2 harg2 arg3 harg3 arg4 harg4 arg5 harg5 arg6 harg6 arg8 harg8 arg9 harg9 arg10 harg10 arg11 harg11 hf0 hf1 hf2 hf3 hf4 f5 (n := n) hn inb y1
    interval_cases y0
    · refine (row_miss _ _ 3 0 _ (by decide) _ _ _ _).trans ?_
      refine (row_miss _ _ 2 0 _ (by decide) _ _ _ _).trans ?_
      refine (row_miss _ _ 1 0 _ (by decide) _ _ _ _).trans ?_
      refine (row_hit _ _ 0 _ _ _ _ _).trans ((pay20_at _ _ _ _).trans (congrArg₂ (· + ·) ?_ (hs 0 (by decide) _)))
      refine (row_apply _ _ (n := 0) (by decide) _ _ _).trans ?_
      exact zero_taps _ _ _ _ _
    · refine (row_miss _ _ 3 1 _ (by decide) _ _ _ _).trans ?_
      refine (row_miss _ _ 2 1 _ (by decide) _ _ _ _).trans ?_
      refine (row_hit _ _ 1 _ _ _ _ _).trans ((pay21_at _ _ _ _).trans (congrArg₂ (· + ·) ?_ (hs 1 (by decide) _)))
      refine (row_apply _ _ (n := 1) (by decide) _ _ _).trans ?_
      refine (row_miss _ _ 0 1 _ (by decide) _ _ _ _).trans ?_
      exact zero_taps _ _ _ _ _
    · refine (row_miss _ _ 3 2 _ (by decide) _ _ _ _).trans ?_
      refine (row_hit _ _ 2 _ _ _ _ _).trans ((pay22_at _ _ _ _).trans (congrArg₂ (· + ·) ?_ (hs 2 (by decide) _)))
      refine (row_apply _ _ (n := 2) (by decide) _ _ _).trans ?_
      refine (row_miss _ _ 1 2 _ (by decide) _ _ _ _).trans ?_
      refine (row_miss _ _ 0 2 _ (by decide) _ _ _ _).trans ?_
      exact zero_taps _ _ _ _ _
    · refine (row_hit _ _ 3 _ _ _ _ _).trans ((pay23_at _ _ _ _).trans (congrArg₂ (· + ·) ?_ (hs 3 (by decide) _)))
      refine (row_apply _ _ (n := 3) (by decide) _ _ _).trans ?_
      refine (row_miss _ _ 2 3 _ (by decide) _ _ _ _).trans ?_
      refine (row_miss _ _ 1 3 _ (by decide) _ _ _ _).trans ?_
      refine (row_miss _ _ 0 3 _ (by decide) _ _ _ _).trans ?_
      exact zero_taps _ _ _ _ _
  isplitl [H7]
  · iexists _; isplitr; swap; · iexact H7
    ipureintro
    refine funext fun y => ?_
    idx_vars y
    unfold body_A.sl.r_1 body_A.sl.v54 body_A.sl.v56 body_A.sl.H7_1 body_A.sl.HS0_1
    exact (bias_write _ _ _ _ _ _ _).trans ((pay1_at _ _ _ _).trans (congrArg₂ (· + ·) ((bias_apply _ _ _ _ _).trans ((bias_write _ _ _ _ _ _ _).trans (zero_bias _ _))) (block_sum c i arg2 harg2 arg3 harg3 arg4 harg4 arg5 harg5 arg6 harg6 arg8 harg8 arg9 harg9 arg10 harg10 arg11 harg11 hf0 hf1 hf2 hf3 hf4 f5 (n := 4) (by decide) _ _)))
  iexists _, _; isplitr; swap; · iexact HS0
  ipureintro; rfl

/-- The body at a later point: it writes the block of dx, and adds to the sums of the taps' and the bias's gradient. -/
theorem body_B (hc0 : ¬cond0_0 i) (o6 : Vec Ideal S4x1280 .f32) (o7 : Vec Ideal S1x1280 .f32) (E : Set ℕ) (K : PUnit → sProp 𝕄) :
    iprop(inputs c arg2 arg3 arg4 arg5 arg6 x0 x1 x2 x3 x4 ∗ (∃ d, owns (c : Thread nD τ) arg8 fullShare d) ∗ owns (c : Thread nD τ) arg9 fullShare o6 ∗ owns (c : Thread nD τ) arg10 fullShare o7
        ∗ (∃ d, owns (c : Thread nD τ) arg11 fullShare d)
        ∗ (iprop(inputs c arg2 arg3 arg4 arg5 arg6 x0 x1 x2 x3 x4 ∗ owns (c : Thread nD τ) arg8 fullShare (dxBlock i x0 x1 x4)
            ∗ owns (c : Thread nD τ) arg9 fullShare (dwNext i x0 x1 x2 x3 o6) ∗ owns (c : Thread nD τ) arg10 fullShare (dbNext i x0 x1 x2 x3 o7)
            ∗ (∃ d, owns (c : Thread nD τ) arg11 fullShare d)) -∗ K ⟨⟩))
      ⊢ wp frame (wpE (defs₀ (F := Ideal)) Variants.none c none) E
        (cc0_conv_bwd i arg2 harg2 arg3 harg3 arg4 harg4 arg5 harg5 arg6 harg6 (Memref.whole main_v8) (Memref.isWhole_whole _) arg8 harg8
          arg9 harg9 arg10 harg10 arg11 harg11) K := by
  simp only [cc0_conv_bwd_eq_skeleton]; unfold cc0_conv_bwd_skel
  simp only [k0_part3_eq_skeleton, k0_part4_eq_skeleton]
  unfold inputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%f7, %hf7, H7⟩, ⟨%ds0, %fs0, -, HS0⟩, Hk⟩
  sl_exec (disch := first | sl_exact hc0)
  sl_step
  iapply Hk
  isplitl [H0 H1 H2 H3 H4]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    iexists _; isplitr; · ipureintro; exact hf4
    iexact H4
  isplitl [H5]
  · iexists _; isplitr; swap; · iexact H5
    ipureintro
    rw [show Scf.trips k0_t1_loop.lb k0_t1_loop.ub k0_t1_loop.st = 16 from trips_eq]
    refine funext fun y => ?_
    idx_vars y
    exact (all_strips c i arg2 harg2 arg3 harg3 arg4 harg4 arg5 harg5 arg6 harg6 arg8 harg8 arg9 harg9 arg10 harg10 arg11 harg11
      hf0 hf1 hf2 hf3 hf4 f5 _).rows y0 y1 (by omega)
  isplitl [H6]
  · iexists _; isplitr; swap; · iexact H6
    ipureintro
    refine funext fun y => ?_
    idx_vars y
    obtain ⟨y0, hy⟩ := y0
    have hs := fun (n : ℕ) (hn : n < 5) inb => block_sum c i arg2 harg2 arg3 harg3 arg4 harg4 arg5 harg5 arg6 harg6 arg8 harg8 arg9 harg9 arg10 harg10 arg11 harg11 hf0 hf1 hf2 hf3 hf4 f5 (n := n) hn inb y1
    interval_cases y0
    · refine (row_miss _ _ 3 0 _ (by decide) _ _ _ _).trans ?_
      refine (row_miss _ _ 2 0 _ (by decide) _ _ _ _).trans ?_
      refine (row_miss _ _ 1 0 _ (by decide) _ _ _ _).trans ?_
      refine (row_hit _ _ 0 _ _ _ _ _).trans ((pay20_at _ _ _ _).trans (congrArg₂ (· + ·) ?_ (hs 0 (by decide) _)))
      refine (row_apply _ _ (n := 0) (by decide) _ _ _).trans ?_
      exact congrFun hf6 _
    · refine (row_miss _ _ 3 1 _ (by decide) _ _ _ _).trans ?_
      refine (row_miss _ _ 2 1 _ (by decide) _ _ _ _).trans ?_
      refine (row_hit _ _ 1 _ _ _ _ _).trans ((pay21_at _ _ _ _).trans (congrArg₂ (· + ·) ?_ (hs 1 (by decide) _)))
      refine (row_apply _ _ (n := 1) (by decide) _ _ _).trans ?_
      exact congrFun hf6 _
    · refine (row_miss _ _ 3 2 _ (by decide) _ _ _ _).trans ?_
      refine (row_hit _ _ 2 _ _ _ _ _).trans ((pay22_at _ _ _ _).trans (congrArg₂ (· + ·) ?_ (hs 2 (by decide) _)))
      refine (row_apply _ _ (n := 2) (by decide) _ _ _).trans ?_
      exact congrFun hf6 _
    · refine (row_hit _ _ 3 _ _ _ _ _).trans ((pay23_at _ _ _ _).trans (congrArg₂ (· + ·) ?_ (hs 3 (by decide) _)))
      refine (row_apply _ _ (n := 3) (by decide) _ _ _).trans ?_
      exact congrFun hf6 _
  isplitl [H7]
  · iexists _; isplitr; swap; · iexact H7
    ipureintro
    refine funext fun y => ?_
    idx_vars y
    unfold body_B.sl.r_1 body_B.sl.v56 body_B.sl.HS0_1
    exact (bias_write _ _ _ _ _ _ _).trans ((pay1_at _ _ _ _).trans (congrArg₂ (· + ·) ((bias_apply _ _ _ _ _).trans (congrFun hf7 _)) (block_sum c i arg2 harg2 arg3 harg3 arg4 harg4 arg5 harg5 arg6 harg6 arg8 harg8 arg9 harg9 arg10 harg10 arg11 harg11 hf0 hf1 hf2 hf3 hf4 f5 (n := 4) (by decide) _ _)))
  iexists _, _; isplitr; swap; · iexact HS0
  ipureintro; rfl

end Cert.Conv

end
-- ==== Proof.Conv.Frame.lean ====
module

public import proofs.«01_k».proof.Proof.Conv.Body
public import Idealize.ShloMosaic.Lib.Claim

@[expose] public section

set_option maxRecDepth 16384
set_option maxHeartbeats 2000000

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal Cert.ConvIdeal.Gen

local notation "𝕄" => MT nD τ sig Unit (Elt Ideal) ℕ (UR sig nD τ) ℕ

variable (m : (ℓ : Loc nD τ sig) → Buf (Elt Ideal) ℓ) (ρ : Dev nD → PrngReg)

/-! ## What the outputs hold after each point -/

/-- The block of the cotangent. -/
def b0 (c : Dev nD) (t : Fin cfg0.N) : Vec Ideal S256x1280 .bf16 := iblk m c 0 t
/-- The sixteen rows of the cotangent after it. -/
def b1 (c : Dev nD) (t : Fin cfg0.N) : Vec Ideal S16x1280 .bf16 := iblk m c 1 t
/-- The block of the input. -/
def b2 (c : Dev nD) (t : Fin cfg0.N) : Vec Ideal S256x1280 .bf16 := iblk m c 2 t
/-- The sixteen rows of the input before it. -/
def b3 (c : Dev nD) (t : Fin cfg0.N) : Vec Ideal S16x1280 .bf16 := iblk m c 3 t
/-- The taps. -/
def b4 (c : Dev nD) (t : Fin cfg0.N) : Vec Ideal S4x1280 .f32 := iblk m c 4 t

/-- The input's gradient at a point. -/
def dxAt (c : Dev nD) (t : Fin cfg0.N) : Vec Ideal S256x1280 .bf16 := dxBlock (grid0.coords t) (b0 m c t) (b1 m c t) (b4 m c t)

/-- The gradient of the taps after a point. -/
def dwAt (c : Dev nD) : (n : ℕ) → n < cfg0.N → Vec Ideal S4x1280 .f32
  | 0, h => dwNext (grid0.coords ⟨0, h⟩) (b0 m c ⟨0, h⟩) (b1 m c ⟨0, h⟩) (b2 m c ⟨0, h⟩) (b3 m c ⟨0, h⟩) (fun _ => 0)
  | n + 1, h => dwNext (grid0.coords ⟨n + 1, h⟩) (b0 m c ⟨n + 1, h⟩) (b1 m c ⟨n + 1, h⟩) (b2 m c ⟨n + 1, h⟩) (b3 m c ⟨n + 1, h⟩)
      (dwAt c n (Nat.lt_of_succ_lt h))

/-- The gradient of the bias after a point. -/
def dbAt (c : Dev nD) : (n : ℕ) → n < cfg0.N → Vec Ideal S1x1280 .f32
  | 0, h => dbNext (grid0.coords ⟨0, h⟩) (b0 m c ⟨0, h⟩) (b1 m c ⟨0, h⟩) (b2 m c ⟨0, h⟩) (b3 m c ⟨0, h⟩) (fun _ => 0)
  | n + 1, h => dbNext (grid0.coords ⟨n + 1, h⟩) (b0 m c ⟨n + 1, h⟩) (b1 m c ⟨n + 1, h⟩) (b2 m c ⟨n + 1, h⟩) (b3 m c ⟨n + 1, h⟩)
      (dbAt c n (Nat.lt_of_succ_lt h))

/-- At the first point the sums start. -/
theorem at_first (c : Dev nD) (t : Fin cfg0.N) (h0 : t.val % 33 = 0) :
    dwAt m c t.val t.isLt = dwNext (grid0.coords t) (b0 m c t) (b1 m c t) (b2 m c t) (b3 m c t) (fun _ => 0)
    ∧ dbAt m c t.val t.isLt = dbNext (grid0.coords t) (b0 m c t) (b1 m c t) (b2 m c t) (b3 m c t) (fun _ => 0) := by
  obtain ⟨n, hn⟩ := t
  have hN : n < 33 := lt_of_lt_of_eq hn (show cfg0.N = 33 from N_0)
  cases n with
  | zero => exact ⟨rfl, rfl⟩
  | succ n => exact absurd h0 (by dsimp only; omega)

/-- At a later point they go on. -/
theorem at_later (c : Dev nD) (t : Fin cfg0.N) (h0 : ¬t.val % 33 = 0) :
    dwAt m c t.val t.isLt = dwNext (grid0.coords t) (b0 m c t) (b1 m c t) (b2 m c t) (b3 m c t)
      (dwAt m c (t.val - 1) (Nat.lt_of_le_of_lt (Nat.sub_le _ _) t.isLt))
    ∧ dbAt m c t.val t.isLt = dbNext (grid0.coords t) (b0 m c t) (b1 m c t) (b2 m c t) (b3 m c t)
      (dbAt m c (t.val - 1) (Nat.lt_of_le_of_lt (Nat.sub_le _ _) t.isLt)) := by
  obtain ⟨n, hn⟩ := t
  cases n with
  | zero => exact absurd rfl h0
  | succ n => exact ⟨rfl, rfl⟩

/-! ## The pipeline's proof data -/

/-- The proof data: the arrays as the region finds them, and each window's buffer after the body at a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => dwAt m c t.val t.isLt
    | ⟨7, _⟩ => dbAt m c t.val t.isLt
  Φ _ := Pipeline.ΦA spec0 c
  q w := Pipeline.shareOf spec0 w
  owed _ := 0

/-- The proof data's arrays. -/
theorem A_eq (c : Dev nD) (w : Fin cfg0.W) : (dats m 0 c).A w = V m c (Pipeline.arrRef spec0 w) := by
  dsimp only [dats]

/-! What the body leaves in each window's buffer, and what an input's buffer holds before it. -/

/-- Input 1 stays in its buffer. -/
theorem after0_0 (c : Dev nD) (t : Fin cfg0.N) : (dats m 0 c).after 0 t = iblk m c 0 t := by dsimp only [dats]
/-- Input 2 stays in its buffer. -/
theorem after0_1 (c : Dev nD) (t : Fin cfg0.N) : (dats m 0 c).after 1 t = iblk m c 1 t := by dsimp only [dats]
/-- Input 3 stays in its buffer. -/
theorem after0_2 (c : Dev nD) (t : Fin cfg0.N) : (dats m 0 c).after 2 t = iblk m c 2 t := by dsimp only [dats]
/-- Input 4 stays in its buffer. -/
theorem after0_3 (c : Dev nD) (t : Fin cfg0.N) : (dats m 0 c).after 3 t = iblk m c 3 t := by dsimp only [dats]
/-- Input 5 stays in its buffer. -/
theorem after0_4 (c : Dev nD) (t : Fin cfg0.N) : (dats m 0 c).after 4 t = iblk m c 4 t := by dsimp only [dats]
/-- The first output's buffer holds the input's gradient. -/
theorem after0_5 (c : Dev nD) (t : Fin cfg0.N) : (dats m 0 c).after 5 t = dxAt m c t := by dsimp only [dats]
/-- The second output's buffer holds the taps' gradient so far. -/
theorem after0_6 (c : Dev nD) (t : Fin cfg0.N) : (dats m 0 c).after 6 t = dwAt m c t.val t.isLt := by dsimp only [dats]
/-- The third output's buffer holds the bias's gradient so far. -/
theorem after0_7 (c : Dev nD) (t : Fin cfg0.N) : (dats m 0 c).after 7 t = dbAt m c t.val t.isLt := by dsimp only [dats]

/-- Input 1 is in its buffer before the point. -/
theorem before0_0 (c : Dev nD) (t : Fin cfg0.N) (d) : (dats m 0 c).before 0 t d = iblk m c 0 t :=
  before0_0_of m (dats m 0 c) (A_eq m c 0) (after0_0 m c) t d
/-- Input 2 is in its buffer before the point. -/
theorem before0_1 (c : Dev nD) (t : Fin cfg0.N) (d) : (dats m 0 c).before 1 t d = iblk m c 1 t :=
  before0_1_of m (dats m 0 c) (A_eq m c 1) (after0_1 m c) t d
/-- Input 3 is in its buffer before the point. -/
theorem before0_2 (c : Dev nD) (t : Fin cfg0.N) (d) : (dats m 0 c).before 2 t d = iblk m c 2 t :=
  before0_2_of m (dats m 0 c) (A_eq m c 2) (after0_2 m c) t d
/-- Input 4 is in its buffer before the point. -/
theorem before0_3 (c : Dev nD) (t : Fin cfg0.N) (d) : (dats m 0 c).before 3 t d = iblk m c 3 t :=
  before0_3_of m (dats m 0 c) (A_eq m c 3) (after0_3 m c) t d
/-- Input 5 is in its buffer before the point. -/
theorem before0_4 (c : Dev nD) (t : Fin cfg0.N) (d) : (dats m 0 c).before 4 t d = iblk m c 4 t :=
  before0_4_of m (dats m 0 c) (A_eq m c 4) (after0_4 m c) t d

/-- After the first point the buffer of output 6 holds what the point before left. -/
theorem before0_6_kept (c : Dev nD) (t : Fin cfg0.N) (h0 : ¬t.val % 33 = 0) (d) :
    (dats m 0 c).before 6 t d = dwAt m c (t.val - 1) (Nat.lt_of_le_of_lt (Nat.sub_le _ _) t.isLt) := by
  have hN : t.val < 33 := lt_of_lt_of_eq t.isLt (show cfg0.N = 33 from N_0)
  rw [Dat.before_out_kept _ 6 rfl t (by omega) (Bool.eq_false_iff.mpr fun h => by have := (flush0_6 _).mp h; dsimp only at this; omega)
    (fun _ => rfl) (fun _ _ => rfl)]
  dsimp only [dats]
/-- After the first point the buffer of output 7 holds what the point before left. -/
theorem before0_7_kept (c : Dev nD) (t : Fin cfg0.N) (h0 : ¬t.val % 33 = 0) (d) :
    (dats m 0 c).before 7 t d = dbAt m c (t.val - 1) (Nat.lt_of_le_of_lt (Nat.sub_le _ _) t.isLt) := by
  have hN : t.val < 33 := lt_of_lt_of_eq t.isLt (show cfg0.N = 33 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  by_cases h0 : t.val % 33 = 0
  · rw [(at_first m c t h0).1, (at_first m c t h0).2]
    unfold dxAt b0 b1 b2 b3 b4
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_A c (grid0.coords t) _ _ _ _ _ _ _ _ _ _ _ _ _ _ _ _ _ _ ((hcond0_0 t).mpr h0) Set.univ _)
    unfold inputs
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [HS0]; · iexact HS0
    iintro ⟨⟨H0, H1, H2, H3, H4⟩, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [(at_later m c t h0).1, (at_later m c t h0).2]
    simp only [before0_6_kept m c t h0, before0_7_kept m c t h0]
    unfold dxAt b0 b1 b2 b3 b4
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_B c (grid0.coords t) _ _ _ _ _ _ _ _ _ _ _ _ _ _ _ _ _ _ (fun h => h0 ((hcond0_0 t).mp h)) _ _ Set.univ _)
    unfold inputs
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [H7]; · iexact H7
    isplitl [HS0]; · iexact HS0
    iintro ⟨⟨H0, H1, H2, H3, H4⟩, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body there. -/
theorem defs₀_row (t : Fin cfg0.N) :
    defs₀ (F := Ideal) .tc cfg0.body (cfg0.bodyArgs t (cfg0.slots t)) = bodyAt0 t := by
  unfold defs₀; rw [Defs.onTc_tc]

/-- The pipeline's obligation of its body. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The program runs, and leaves its arrays at what the proof data say and every counter at zero. -/
theorem run_main_quiescent : θ_run defs (onTc (τ := τ) (main (F := Ideal))) (s₀ m ρ) (fun r =>
    (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program ends, with its arguments unchanged and every counter at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Conv

end
-- ==== Proof.Conv.Entry.lean ====
module

public import proofs.«01_k».proof.Proof.Conv.Frame
public import Idealize.ShloMosaic.Lib.StableHlo.RunRead
public import Idealize.ShloMosaic.Lib.StableHlo.ReadAt
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.Conv

open Cert.ConvIdeal Cert.ConvIdeal.Gen

variable (m : (ℓ : Loc nD τ sig) → Buf (Elt Ideal) ℓ)

/-! ## What the call is given -/

/-- The cotangent's array as the call finds it. -/
def ct (c : Dev nD) : FVec Ideal S8448x1280 .bf16 := V m c main_v1
/-- The array of the projection's columns. -/
def pr (c : Dev nD) : FVec Ideal S8448x8960 .bf16 := V m c main_v7
/-- The taps. -/
def tp (c : Dev nD) : FVec Ideal S4x1280 .f32 := V m c main_arg2

/-- The cotangent with 240 rows of zeros in front. -/
def ctOf (x : FVec Ideal S8208x1280 .f32) : FVec Ideal S8448x1280 .bf16 :=
  truncf .bf16 (pad S8448x1280 ![240, 0] ![0, 0] ![0, 0] x (sitofp .f32 (constantI S_ 32 0#32)) pads_S8208x1280_S8448x1280_24000_000 h_S_) bitsLt_bf16_f32

/-- The call's first argument is the padded cotangent. -/
theorem ct_eq (c : Dev nD) : ct m c = ctOf (m ((c : Thread nD τ).loc main_arg0)) := by
  unfold ct V V0
  simp only [hostOps0, hostOps0_1, hostOps0_2, hostOps0_3, hostOps0_4, List.flatten_cons, List.flatten_nil, List.append_nil, List.cons_append, List.nil_append]
  after_reads_simp
  rfl

/-- The taps are the program's argument. -/
theorem tp_eq (c : Dev nD) : tp m c = m ((c : Thread nD τ).loc main_arg2) := by
  unfold tp V V0
  simp only [hostOps0, hostOps0_1, hostOps0_2, hostOps0_3, hostOps0_4, List.flatten_cons, List.flatten_nil, List.append_nil, List.cons_append, List.nil_append]
  after_reads_simp

/-- The columns of the projection in the call's order, with 240 rows of zeros in front. -/
def prOf (x : FVec Ideal S8208x8704 .f32) : FVec Ideal S8448x8960 .bf16 :=
  truncf .bf16 (pad S8448x8960 ![240, 0] ![0, 0] ![0, 0] (concatenate S8208x8960 1
    [⟨S8208x6144, extractStridedSlice S8208x6144 ![0, 2560] x slices_S8208x8704_S8208x6144_0_2560⟩,
      ⟨S8208x256, broadcastInDim S8208x256 ![] bcast_S_S8208x256 (constant S_ .f32 0x00000000#32)⟩,
      ⟨S8208x2560, extractStridedSlice S8208x2560 ![0, 0] x slices_S8208x8704_S8208x2560_0_0⟩] concatenates_S8208x6144_S8208x256_S8208x2560_S8208x8960_d1)
    (sitofp .f32 (constantI S_ 32 0#32)) pads_S8208x8960_S8448x8960_24000_000 h_S_) bitsLt_bf16_f32

/-- The call's second argument is the padded and reordered projection. -/
theorem pr_eq (c : Dev nD) : pr m c = prOf (m ((c : Thread nD τ).loc main_arg1)) := by
  unfold pr V V0
  simp only [hostOps0, hostOps0_1, hostOps0_2, hostOps0_3, hostOps0_4, List.flatten_cons, List.flatten_nil, List.append_nil, List.cons_append, List.nil_append]
  after_reads_simp
  rfl

/-- The integer word of zero, as a number. -/
theorem zero_word : (FloatOps.sitofp .f32 (0#32) : Ideal .f32) = 0 := by
  show (((0#32 : BitVec 32).toInt : ℝ) : EReal) = 0
  simp

/-- The cotangent by its rows, with zeros around it. -/
def ctAll (x : FVec Ideal S8208x1280 .f32) (r : ℕ) (k : Fin 1280) : EReal :=
  if h : 240 ≤ r ∧ r - 240 < 8208 then x (ix2 ⟨r - 240, h.2⟩ k) else 0

/-- The convolution's input by its rows, 256 rows of zeros in front. -/
def inAll (x : FVec Ideal S8208x8704 .f32) (r : ℕ) (k : Fin 1280) : EReal :=
  if h : 256 ≤ r ∧ r - 256 < 8208 then x (ix2 ⟨r - 256, h.2⟩ ⟨k.val, by omega⟩) else 0

/-- The padded cotangent. -/
theorem ctOf_apply (x : FVec Ideal S8208x1280 .f32) (r : Fin 8448) (k : Fin 1280) : ctOf x (ix2 r k) = ctAll x r.val k := by
  pointwise [ctOf]
  rw [zero_word]
  unfold ctAll
  rfl

/-- The padded input, a column of the convolution's. -/
theorem prOf_apply (x : FVec Ideal S8208x8704 .f32) (r : Fin 8448) (k : Fin 1280) : prOf x (ix2 r ⟨6400 + k.val, by omega⟩) = inAll x (r.val + 16) k := by
  have h6 : ¬ 6400 + k.val < 6144 := by omega
  have h7 : ¬ 6400 + k.val < 6400 := by omega
  pointwise [prOf]
  rw [zero_word]
  unfold inAll
  by_cases h : 240 ≤ r.val ∧ r.val - 240 < 8208
  · have h' : 256 ≤ r.val + 16 ∧ r.val + 16 - 256 < 8208 := by omega
    have h8 : ¬ 6400 + k.val - 6144 < 256 := by omega
    rw [dif_pos ⟨h, by omega⟩, dif_neg h6, dif_neg h8, dif_pos h']
    exact congrArg₂ (fun a b => x (ix2 a b)) (Fin.ext (by show r.val - 240 = r.val + 16 - 256; omega)) (Fin.ext (by show 6400 + k.val - 6144 - 256 = k.val; omega))
  · have h' : ¬ (256 ≤ r.val + 16 ∧ r.val + 16 - 256 < 8208) := by omega
    rw [dif_neg fun hh => h hh.1, dif_neg h']

/-! ## The blocks -/

/-- Which block each window stages at a point. -/
theorem idx : ∀ t : Fin cfg0.N, win0_0.index t = ![t.val, 0] ∧ win0_1.index t = ![min (16 * (t.val + 1)) 527, 0] ∧ win0_2.index t = ![t.val, 5]
    ∧ win0_3.index t = ![16 * t.val - 1, 5] ∧ win0_4.index t = ![0, 0] ∧ win0_5.index t = ![t.val, 5] :=
  (by decide +kernel : ∀ t : Fin grid0.N, _)

/-- The first point's halo of the input is left out. -/
theorem first_eq : ∀ t : Fin cfg0.N, Scalar.cmpi .sgt (BitVec.ofNat 32 ((grid0.coords t) 1).val) 0#32 = if t.val = 0 then 0#1 else 1#1 :=
  (by decide +kernel : ∀ t : Fin grid0.N, _)

/-- The last point's halo of the cotangent is left out. -/
theorem last_eq : ∀ t : Fin cfg0.N, Scalar.cmpi .slt (BitVec.ofNat 32 ((grid0.coords t) 1).val) 32#32 = if t.val = 32 then 0#1 else 1#1 :=
  (by decide +kernel : ∀ t : Fin grid0.N, _)

/-- There are 33 points. -/
theorem lt33 (t : Fin cfg0.N) : t.val < 33 := lt_of_lt_of_eq t.isLt (show cfg0.N = 33 from N_0)

/-- The cotangent's block at a point. -/
theorem b0_apply (c : Dev nD) (t : Fin cfg0.N) (r : Fin 256) (k : Fin 1280) : b0 m c t (ix2 r k) = ct m c (ix2 ⟨256 * t.val + r.val, by have := lt33 t; omega⟩ k) := by
  unfold b0 ct
  blk_point [iblk, V, idx t]

/-- The sixteen rows of the cotangent after the block, the last rows again at the end. -/
theorem b1_apply (c : Dev nD) (t : Fin cfg0.N) (l : Fin 16) (k : Fin 1280) :
    b1 m c t (ix2 l k) = ct m c (ix2 ⟨16 * min (16 * (t.val + 1)) 527 + l.val, by omega⟩ k) := by
  unfold b1 ct
  blk_point [iblk, V, idx t]

/-- The input's block at a point. -/
theorem b2_apply (c : Dev nD) (t : Fin cfg0.N) (r : Fin 256) (k : Fin 1280) :
    b2 m c t (ix2 r k) = pr m c (ix2 ⟨256 * t.val + r.val, by have := lt33 t; omega⟩ ⟨6400 + k.val, by omega⟩) := by
  unfold b2 pr
  blk_point [iblk, V, idx t]

/-- The sixteen rows of the input before the block, the first rows again at the start. -/
theorem b3_apply (c : Dev nD) (t : Fin cfg0.N) (l : Fin 16) (k : Fin 1280) :
    b3 m c t (ix2 l k) = pr m c (ix2 ⟨16 * (16 * t.val - 1) + l.val, by have := lt33 t; omega⟩ ⟨6400 + k.val, by omega⟩) := by
  unfold b3 pr
  blk_point [iblk, V, idx t]

/-- The taps at a point. -/
theorem b4_apply (c : Dev nD) (t : Fin cfg0.N) (j : Fin 4) (k : Fin 1280) : b4 m c t (ix2 j k) = tp m c (ix2 j k) := by
  unfold b4 tp
  blk_point [iblk, V, idx t]

end Cert.Conv

end
-- ==== Proof.Conv.Sum.lean ====
module

public import proofs.«01_k».proof.Proof.Conv.Entry

@[expose] public section

set_option maxRecDepth 16384
set_option maxHeartbeats 2000000

noncomputable section

open Idealize.ShloMosaic Idealize.ShloMosaic.TcCoe Idealize.SL.Sem Idealize.ShloMosaic.StableHlo
open Idealize.ShloMosaic.Pipeline (Dat)

namespace Cert.Conv

open Cert.ConvIdeal Cert.ConvIdeal.Gen

variable (m : (ℓ : Loc nD τ sig) → Buf (Elt Ideal) ℓ)

/-! ## What the call is given -/

/-- The cotangent as the call is given it. -/
abbrev dxc (c : Dev nD) : FVec Ideal S8208x1280 .f32 := m ((c : Thread nD τ).loc main_arg0)

/-- The projection as the call is given it. -/
abbrev proj (c : Dev nD) : FVec Ideal S8208x8704 .f32 := m ((c : Thread nD τ).loc main_arg1)

/-- Above the sequence the cotangent is zero. -/
theorem ctAll_top (x : FVec Ideal S8208x1280 .f32) {r : ℕ} (h : r < 240) (k : Fin 1280) : ctAll x r k = 0 := dif_neg (by omega)

/-- Below the sequence the cotangent is zero. -/
theorem ctAll_end (x : FVec Ideal S8208x1280 .f32) {r : ℕ} (h : 8448 ≤ r) (k : Fin 1280) : ctAll x r k = 0 := dif_neg (by omega)

/-- The cotangent's rows that a point reads are the sequence's. -/
theorem ctRows_eq (c : Dev nD) (t : Fin cfg0.N) {r : ℕ} (hr : r < 272) (k : Fin 1280) :
    ctRows (grid0.coords t) (b0 m c t) (b1 m c t) r k = ctAll (dxc m c) (256 * t.val + r) k := by
  have ht := lt33 t
  unfold ctRows
  by_cases h : r < 256
  · rw [dif_pos h, b0_apply, ct_eq, ctOf_apply]
  · have h' : r - 256 < 16 := by omega
    rw [dif_neg h, dif_pos h']
    have e : k0_pay16 (grid0.coords t) (b1 m c t) (ix2 ⟨r - 256, h'⟩ k) = if t.val = 32 then 0 else b1 m c t (ix2 ⟨r - 256, h'⟩ k) := by
      pointwise [k0_pay16]
      rw [last_eq t]
      by_cases h32 : t.val = 32
      · simp [h32, Scalar.select]
      · simp [h32, Scalar.select]
    rw [e]
    by_cases h32 : t.val = 32
    · rw [if_pos h32, ctAll_end _ (by omega)]
    · rw [if_neg h32, b1_apply, ct_eq, ctOf_apply]
      exact congrArg (fun r => ctAll (dxc m c) r k) (by show 16 * min (16 * (t.val + 1)) 527 + (r - 256) = _; omega)

/-- The input's rows that a point reads are the sequence's. -/
theorem inRows_eq (c : Dev nD) (t : Fin cfg0.N) {r : ℕ} (hr : r < 272) (k : Fin 1280) :
    inRows (grid0.coords t) (b2 m c t) (b3 m c t) r k = inAll (proj m c) (256 * t.val + r) k := by
  have ht := lt33 t
  unfold inRows
  by_cases h : r < 16
  · rw [dif_pos h]
    have e : k0_pay15 (grid0.coords t) (b3 m c t) (ix2 ⟨r, h⟩ k) = if t.val = 0 then 0 else b3 m c t (ix2 ⟨r, h⟩ k) := by
      pointwise [k0_pay15]
      rw [first_eq t]
      by_cases h0 : t.val = 0
      · simp [h0, Scalar.select]
      · simp [h0, Scalar.select]
    rw [e]
    by_cases h0 : t.val = 0
    · rw [if_pos h0]
      unfold inAll
      rw [dif_neg (by omega)]
    · rw [if_neg h0, b3_apply, pr_eq, prOf_apply]
      exact congrArg (fun r => inAll (proj m c) r k) (by show 16 * (16 * t.val - 1) + r + 16 = _; omega)
  · have h' : r - 16 < 256 := by omega
    rw [dif_neg h, dif_pos h', b2_apply, pr_eq, prOf_apply]
    exact congrArg (fun r => inAll (proj m c) r k) (by show 256 * t.val + (r - 16) + 16 = _; omega)

/-- The taps as the call is given them. -/
abbrev taps (c : Dev nD) : FVec Ideal S4x1280 .f32 := m ((c : Thread nD τ).loc main_arg2)

/-- The input's gradient at a row of the padded sequence. -/
theorem dxAt_apply (c : Dev nD) (t : Fin cfg0.N) (r : Fin 256) (k : Fin 1280) :
    dxAt m c t (ix2 r k) = dx (ctAll (dxc m c)) (fun j k => taps m c (ix2 j k)) (256 * t.val + r.val) k := by
  have e (j : ℕ) (hj : j < 4) : ctRows (grid0.coords t) (b0 m c t) (b1 m c t) (r.val + j) k = ctAll (dxc m c) (256 * t.val + r.val + j) k := by
    rw [ctRows_eq m c t (by omega), Nat.add_assoc]
  have w (j : Fin 4) : b4 m c t (ix2 j k) = taps m c (ix2 j k) := by rw [b4_apply, tp_eq]
  show dx (ctRows (grid0.coords t) (b0 m c t) (b1 m c t)) (fun j k => b4 m c t (ix2 j k)) r.val k = _
  unfold dx
  have e0 := e 0 (by omega)
  simp only [Nat.add_zero] at e0
  rw [e0, e 1 (by omega), e 2 (by omega), e 3 (by omega)]
  simp only [w]

/-- Sixteen rows at a time are all the rows. -/
theorem sum_strips (f : ℕ → EReal) (n : ℕ) : ∑ q ∈ Finset.range n, ∑ l ∈ Finset.range 16, f (16 * q + l) = ∑ r ∈ Finset.range (16 * n), f r := by
  induction n with
  | zero => rfl
  | succ n ih => rw [Finset.sum_range_succ, ih, Nat.mul_succ, Finset.sum_range_add]

/-- The eight running sums together are the sum over a block's rows. -/
theorem sum_block (f : ℕ → EReal) : ∑ s : Fin 8, ∑ q ∈ Finset.range 16, (f (16 * q + s.val) + f (16 * q + 8 + s.val)) = ∑ r ∈ Finset.range 256, f r := by
  rw [Finset.sum_comm, show (256 : ℕ) = 16 * 16 from rfl, ← sum_strips]
  refine Finset.sum_congr rfl fun q _ => ?_
  rw [Finset.sum_add_distrib, show (16 : ℕ) = 8 + 8 from rfl, Finset.sum_range_add, Finset.sum_range, Finset.sum_range]
  simp only [Nat.add_assoc]

/-- What a point adds to a tap's gradient, by the sequence's rows. -/
theorem tapBlock_eq (c : Dev nD) (t : Fin cfg0.N) (j : Fin 5) (k : Fin 1280) :
    tapBlock (grid0.coords t) (b0 m c t) (b1 m c t) (b2 m c t) (b3 m c t) j k
      = ∑ r ∈ Finset.range 256, tap (ctAll (dxc m c)) (inAll (proj m c)) j (256 * t.val + r) k := by
  unfold tapBlock
  rw [sum_block fun r => tap (ctRows (grid0.coords t) (b0 m c t) (b1 m c t)) (inRows (grid0.coords t) (b2 m c t) (b3 m c t)) j r k]
  refine Finset.sum_congr rfl fun r hr => ?_
  have hr := Finset.mem_range.mp hr
  unfold tap
  rw [ctRows_eq m c t (by omega)]
  split
  · rfl
  · rw [inRows_eq m c t (by omega)]
    simp only [Nat.add_assoc]

/-- The gradient of a tap after a point: the sum over the rows so far. -/
theorem dwAt_apply (c : Dev nD) (n : ℕ) (h : n < cfg0.N) (j : Fin 4) (k : Fin 1280) :
    dwAt m c n h (ix2 j k) = ∑ r ∈ Finset.range (256 * (n + 1)), tap (ctAll (dxc m c)) (inAll (proj m c)) j.castSucc r k := by
  induction n with
  | zero =>
    show 0 + tapBlock (grid0.coords ⟨0, h⟩) (b0 m c ⟨0, h⟩) (b1 m c ⟨0, h⟩) (b2 m c ⟨0, h⟩) (b3 m c ⟨0, h⟩) j.castSucc k = _
    rw [tapBlock_eq]
    simp
  | succ n ih =>
    show dwAt m c n (Nat.lt_of_succ_lt h) (ix2 j k) + tapBlock (grid0.coords ⟨n + 1, h⟩) (b0 m c ⟨n + 1, h⟩) (b1 m c ⟨n + 1, h⟩) (b2 m c ⟨n + 1, h⟩) (b3 m c ⟨n + 1, h⟩) j.castSucc k = _
    rw [tapBlock_eq, ih, Nat.mul_succ 256 (n + 1), Finset.sum_range_add]

/-- The gradient of the bias after a point: the sum over the rows so far. -/
theorem dbAt_apply (c : Dev nD) (n : ℕ) (h : n < cfg0.N) (j : Fin 1) (k : Fin 1280) :
    dbAt m c n h (ix2 j k) = ∑ r ∈ Finset.range (256 * (n + 1)), tap (ctAll (dxc m c)) (inAll (proj m c)) 4 r k := by
  induction n with
  | zero =>
    show 0 + tapBlock (grid0.coords ⟨0, h⟩) (b0 m c ⟨0, h⟩) (b1 m c ⟨0, h⟩) (b2 m c ⟨0, h⟩) (b3 m c ⟨0, h⟩) 4 k = _
    rw [tapBlock_eq]
    simp
  | succ n ih =>
    show dbAt m c n (Nat.lt_of_succ_lt h) (ix2 j k) + tapBlock (grid0.coords ⟨n + 1, h⟩) (b0 m c ⟨n + 1, h⟩) (b1 m c ⟨n + 1, h⟩) (b2 m c ⟨n + 1, h⟩) (b3 m c ⟨n + 1, h⟩) 4 k = _
    rw [tapBlock_eq, ih, Nat.mul_succ 256 (n + 1), Finset.sum_range_add]

/-- Only the sequence's own rows count. -/
theorem sum_rows (x : FVec Ideal S8208x1280 .f32) (P : ℕ → Fin 1280 → EReal) (j : Fin 5) (k : Fin 1280) :
    ∑ r ∈ Finset.range 8448, tap (ctAll x) P j r k = ∑ r : Fin 8208, if j.val = 4 then x (ix2 r k) else x (ix2 r k) * P (r.val + 253 + j.val) k := by
  rw [show (8448 : ℕ) = 240 + 8208 from rfl, Finset.sum_range_add, Finset.sum_eq_zero, zero_add, Finset.sum_range]
  · refine Finset.sum_congr rfl fun r _ => ?_
    have e : ctAll x (240 + r.val) k = x (ix2 r k) :=
      (dif_pos (by omega)).trans (congrArg (fun r => x (ix2 r k)) (Fin.ext (by show 240 + r.val - 240 = r.val; omega)))
    unfold tap
    rw [e, show 240 + r.val + 13 + j.val = r.val + 253 + j.val by omega]
  · intro r hr
    unfold tap
    rw [ctAll_top x (Finset.mem_range.mp hr)]
    simp

end Cert.Conv

end
-- ==== Proof.Conv.Tail.lean ====
module

public import proofs.«01_k».proof.Proof.Conv.Sum

@[expose] public section

set_option maxRecDepth 16384
set_option maxHeartbeats 2000000

noncomputable section

open Idealize.ShloMosaic Idealize.ShloMosaic.TcCoe Idealize.SL.Sem Idealize.ShloMosaic.StableHlo
open Idealize.ShloMosaic.Pipeline (Dat)

namespace Cert.Conv

open Cert.ConvIdeal Cert.ConvIdeal.Gen

variable (m : (ℓ : Loc nD τ sig) → Buf (Elt Ideal) ℓ)

/-! ## What the call is given -/

/-- The padded rows of the input's gradient. -/
def dxOf (c : Dev nD) (i : S8448x8960.Idx) : EReal :=
  dx (ctAll (dxc m c)) (fun j k => taps m c (ix2 j k)) (i 0).val ⟨((i 1).val - 6400) % 1280, Nat.mod_lt _ (by decide)⟩

/-- The call's first output, in the convolution's columns. -/
theorem final5 (c : Dev nD) (i : S8448x8960.Idx) (hi : 6400 ≤ (i 1).val ∧ (i 1).val < 7680) : ((dats m 0 c).arrAt 5 (cfgs 0).N : FVec Ideal S8448x8960 .bf16) i = dxOf m c i := by
  refine ((dats m 0 c).arrAt_apply_of_coversWhere 5 (dxOf m c)
    (P := fun i => 6400 ≤ (i 1).val ∧ (i 1).val < 7680) (fun β => β (1 : Fin _) = 5) (by decide +kernel) (fun t hf y => ?_)
    (fun j => by blk_simp [Pipeline.Window.cell_apply]; omega) i).trans (if_pos hi)
  blk_simp
  rw [after0_5]
  have e0 : (((win0_5.blk t).view.emb y) (0 : Fin 2)).val = t.val * 256 + (y (0 : Fin 2)).val := by blk_simp [idx t]
  have e1 : (((win0_5.blk t).view.emb y) (1 : Fin 2)).val = 6400 + (y (1 : Fin 2)).val := by blk_simp [idx t]
  idx_vars y
  rw [dxAt_apply]
  unfold dxOf
  have h1 : y1 = ⟨((((win0_5.blk t).view.emb (ix2 y0 y1)) (1 : Fin 2)).val - 6400) % 1280, Nat.mod_lt _ (by decide)⟩ := Fin.ext (by
    have hy : (((win0_5.blk t).view.emb (ix2 y0 y1)) (1 : Fin 2)).val = 6400 + y1.val := e1
    show y1.val = (_ - 6400) % 1280
    rw [hy, Nat.add_sub_cancel_left, Nat.mod_eq_of_lt y1.isLt])
  exact congrArg₂ (dx (ctAll (dxc m c)) (fun j k => taps m c (ix2 j k))) ((Nat.mul_comm _ _ ▸ e0.symm :)) h1

/-- The gradients of the taps that the call leaves. -/
theorem final6 (c : Dev nD) : (dats m 0 c).arrAt 6 (cfgs 0).N =
    fun i : S4x1280.Idx => ∑ r ∈ Finset.range 8448, tap (ctAll (dxc m c)) (inAll (proj m c)) ((i 0).castSucc) r (i 1) := by
  obtain ⟨t, ht, hw⟩ : ∃ t : Fin cfg0.N, t.val = 32 ∧ (cfg0.win 6).WholeAt t := ⟨⟨32, by decide⟩, rfl, by decide +kernel⟩
  refine (dats m 0 c).arrAt_eq_of_after_last 6 t hw _ fun j => ?_
  blk_simp
  rw [after0_6]
  idx_vars j
  rw [dwAt_apply, ht]
  rfl

/-- The gradient of the bias that the call leaves. -/
theorem final7 (c : Dev nD) : (dats m 0 c).arrAt 7 (cfgs 0).N =
    fun i : S1x1280.Idx => ∑ r ∈ Finset.range 8448, tap (ctAll (dxc m c)) (inAll (proj m c)) 4 r (i 1) := by
  obtain ⟨t, ht, hw⟩ : ∃ t : Fin cfg0.N, t.val = 32 ∧ (cfg0.win 7).WholeAt t := ⟨⟨32, by decide⟩, rfl, by decide +kernel⟩
  refine (dats m 0 c).arrAt_eq_of_after_last 7 t hw _ fun j => ?_
  blk_simp
  rw [after0_7]
  idx_vars j
  rw [dbAt_apply, ht]

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  (dats m 0 c).withArrays_arrAt sharedIn0 (V0 m c) (A_eq m c) w

/-- The program's results after the lines that follow the call. -/
abbrev resultOf (c : Dev nD) := Pipeline.afterTail₀ cfgs (dats m) 0 (V0 m) [hostOps1] c

/-- The input's gradient without the padding, from the convolution's columns. -/
theorem after_v11 (V : Valuation τ sig (Elt Ideal)) : after hostOps1 V (Proc.devRef .tc main_v11) =
    extf (F := Ideal) .f32 (extractStridedSlice S8208x1280 ![240, 6400] (V (Proc.devRef .tc main_v9_0) : FVec Ideal S8448x8960 .bf16) slices_S8448x8960_S8208x1280_240_6400) bitsLt_bf16_f32 := by
  unfold hostOps1
  after_reads_simp

/-- The bias's gradient as a vector. -/
theorem after_v12 (V : Valuation τ sig (Elt Ideal)) : after hostOps1 V (Proc.devRef .tc main_v12) =
    shapeCast S1280 (V (Proc.devRef .tc main_v9_2) : FVec Ideal S1x1280 .f32) shapeCasts_S1x1280_S1280 := by
  unfold hostOps1
  after_reads_simp
  rfl

/-- The cotangent at a row of the sequence, zero after its end. -/
def ctRow (x : FVec Ideal S8208x1280 .f32) (r : ℕ) (k : Fin 1280) : EReal := if h : r < 8208 then x (ix2 ⟨r, h⟩ k) else 0

/-- The input's gradient: the cotangents of the row's own output and of the three after it, each by its tap. -/
theorem dx_at (c : Dev nD) (r : Fin 8208) (k : Fin 1280) : (resultOf m c main_v11 : FVec Ideal S8208x1280 .f32) (ix2 r k) =
    ((taps m c (ix2 3 k) * ctRow (dxc m c) r.val k + taps m c (ix2 2 k) * ctRow (dxc m c) (r.val + 1) k) + taps m c (ix2 1 k) * ctRow (dxc m c) (r.val + 2) k)
      + taps m c (ix2 0 k) * ctRow (dxc m c) (r.val + 3) k := by
  unfold resultOf Pipeline.afterTail₀
  simp only [List.flatten_cons, List.flatten_nil, List.append_nil]
  rw [after_v11, show Pipeline.withArrays (cfgs 0).spec c (V0 m c) (fun w => (dats m 0 c).arrAt w (cfgs 0).N) (Proc.devRef .tc main_v9_0) = _ from found m c 5]
  pointwise
  rw [final5 m c _ (by show 6400 ≤ 6400 + k.val ∧ 6400 + k.val < 7680; omega)]
  have e (j : ℕ) : ctAll (dxc m c) (240 + r.val + j) k = ctRow (dxc m c) (r.val + j) k := by
    unfold ctAll ctRow
    by_cases h : r.val + j < 8208
    · rw [dif_pos h, dif_pos (by omega)]
      exact congrArg (fun r => dxc m c (ix2 r k)) (Fin.ext (by show 240 + r.val + j - 240 = r.val + j; omega))
    · rw [dif_neg h, dif_neg (by omega)]
  have hk : (⟨(6400 + k.val - 6400) % 1280, Nat.mod_lt _ (by decide)⟩ : Fin 1280) = k := Fin.ext (by dsimp only; omega)
  show dx (ctAll (dxc m c)) (fun j k => taps m c (ix2 j k)) (240 + r.val) ⟨(6400 + k.val - 6400) % 1280, Nat.mod_lt _ (by decide)⟩ = _
  rw [hk]
  unfold dx
  have e0 := e 0
  simp only [Nat.add_zero] at e0
  rw [e0, e 1, e 2, e 3]
  abel

/-- The convolution's input at a row that its taps read: three rows of zeros in front of the sequence. -/
def before (x : FVec Ideal S8208x8704 .f32) (r : ℕ) (k : Fin 1280) : EReal :=
  if h : 3 ≤ r ∧ r - 3 < 8208 then x (ix2 ⟨r - 3, h.2⟩ ⟨k.val, by omega⟩) else 0

/-- The gradient of a tap: the sum over the rows of the cotangent by the input that the tap reads. -/
theorem dw_at (c : Dev nD) (j : Fin 4) (k : Fin 1280) : ((dats m 0 c).arrAt 6 (cfgs 0).N : FVec Ideal S4x1280 .f32) (ix2 j k) =
    ∑ r : Fin 8208, dxc m c (ix2 r k) * before (proj m c) (r.val + j.val) k := by
  rw [final6]
  show ∑ r ∈ Finset.range 8448, tap (ctAll (dxc m c)) (inAll (proj m c)) j.castSucc r k = _
  rw [sum_rows]
  refine Finset.sum_congr rfl fun r _ => ?_
  rw [if_neg (by show ¬ j.val = 4; omega)]
  refine congrArg (dxc m c (ix2 r k) * ·) ?_
  show inAll (proj m c) (r.val + 253 + j.val) k = _
  unfold inAll before
  by_cases h : 3 ≤ r.val + j.val ∧ r.val + j.val - 3 < 8208
  · rw [dif_pos h, dif_pos (by omega)]
    exact congrArg (fun r => proj m c (ix2 r _)) (Fin.ext (by show r.val + 253 + j.val - 256 = r.val + j.val - 3; omega))
  · rw [dif_neg h, dif_neg (by omega)]

/-- The gradient of the bias: the sum of the cotangent's rows. -/
theorem db_at (c : Dev nD) (k : Fin 1280) : (resultOf m c main_v12 : FVec Ideal S1280 .f32) (ix1 k) = ∑ r : Fin 8208, dxc m c (ix2 r k) := by
  unfold resultOf Pipeline.afterTail₀
  simp only [List.flatten_cons, List.flatten_nil, List.append_nil]
  rw [after_v12, show Pipeline.withArrays (cfgs 0).spec c (V0 m c) (fun w => (dats m 0 c).arrAt w (cfgs 0).N) (Proc.devRef .tc main_v9_2) = _ from found m c 7, final7]
  pointwise
  rw [sum_rows]
  rfl

/-- The program leaves its results and its arguments so. -/
theorem run (ρ : Dev nD → PrngReg) : θ_run defs (onTc (τ := τ) (main (F := Ideal))) ⟨m, fun _ => 0, ρ⟩ fun r => ∀ c : Dev nD,
    r.2.mem ((c : Thread nD τ).loc main_v11) = resultOf m c main_v11
      ∧ r.2.mem ((c : Thread nD τ).loc main_v9_1) = (dats m 0 c).arrAt 6 (cfgs 0).N
      ∧ r.2.mem ((c : Thread nD τ).loc main_v12) = resultOf m c main_v12
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).2 main_v11 (by decide), (h.1 c).1 6, (h.1 c).2 main_v12 (by decide), h.2 c⟩) (θ_run_and (run_main m ρ) (unchanged m ρ))

end Cert.Conv

end
-- ==== Proof.Conv.Claim.lean ====
module

public import proofs.«01_k».proof.Defs
public import proofs.«01_k».proof.Proof.Conv.Tail
public import proofs.«01_k».proof.Proof.Gen.ConvRefIdeal.Run
public import proofs.«01_k».proof.Proof.Gen.ConvRefIdeal.Read

@[expose] public section

set_option maxRecDepth 16384
set_option maxHeartbeats 2000000

noncomputable section

open Idealize.ShloMosaic Idealize.ShloMosaic.TcCoe Idealize.SL.Sem

namespace Cert.Conv

/-- The reference's frame: it runs on the host alone and declares no semaphore. -/
theorem frame_ref : Cert.quiescent_ConvRefIdeal (hConvRefIdeal := Cert.ConvRefIdeal.Gen.facts) := fun m g _ =>
  (θ_run Cert.ConvRefIdeal.defs _ _).mono (fun r h => ⟨fun c => (h c).2.2.2, sem_eq_zero_of_no_sems (by decide) r.2⟩)
    (Cert.ConvRefIdeal.Value.run (F := Ideal) m g)

/-- The last tap reads a row's own input. -/
theorem tap_own (d : FVec Ideal Cert.ConvIdeal.S8208x1280 .f32) (x : FVec Ideal Cert.ConvIdeal.S8208x8704 .f32) (k : Fin 1280) :
    ∑ r : Fin 8208, d (ix2 r k) * x (ix2 r ⟨k.val, by omega⟩) = ∑ r : Fin 8208, d (ix2 r k) * before x (r.val + 3) k := by
  refine Finset.sum_congr rfl fun r _ => congrArg (d (ix2 r k) * ·) ?_
  exact ((dif_pos (by omega)).trans (congrArg (fun r => x (ix2 r _)) (Fin.ext (Nat.add_sub_cancel r.val 3)))).symm

/-- A tap in the middle reads an earlier input. -/
theorem tap_mid (d : FVec Ideal Cert.ConvIdeal.S8208x1280 .f32) (x : FVec Ideal Cert.ConvIdeal.S8208x8704 .f32) (j : ℕ) (hj : j < 3) (k : Fin 1280) :
    ∑ r : Fin 8208, d (ix2 r k) * (if h : j + r.val < 3 then 0 else x (ix2 ⟨j + r.val - 3, by omega⟩ ⟨k.val, by omega⟩))
      = ∑ r : Fin 8208, d (ix2 r k) * before x (r.val + j) k := by
  refine Finset.sum_congr rfl fun r _ => congrArg (d (ix2 r k) * ·) ?_
  unfold before
  by_cases h : j + r.val < 3
  · rw [dif_pos h, dif_neg (by omega)]
  · rw [dif_neg h, dif_pos (by omega)]
    exact congrArg (fun r => x (ix2 r _)) (Fin.ext (by show j + r.val - 3 = r.val + j - 3; omega))

/-- The first tap reads the input three rows earlier, zeros for the first three rows. -/
theorem tap_first (d : FVec Ideal Cert.ConvIdeal.S8208x1280 .f32) (x : FVec Ideal Cert.ConvIdeal.S8208x8704 .f32) (k : Fin 1280) :
    ∑ r : Fin 3, d (ix2 ⟨r.val, by omega⟩ k) * 0 + ∑ r : Fin 8205, d (ix2 ⟨3 + r.val, by omega⟩ k) * x (ix2 ⟨r.val, by omega⟩ ⟨k.val, by omega⟩)
      = ∑ r : Fin 8208, d (ix2 r k) * before x (r.val + 0) k := by
  refine Eq.trans ?_ (Fin.sum_univ_add (a := 3) (b := 8205) fun r : Fin 8208 => d (ix2 r k) * before x (r.val + 0) k).symm
  refine congrArg₂ (· + ·) (Finset.sum_congr rfl fun r _ => ?_) (Finset.sum_congr rfl fun r _ => ?_)
  · show _ = d (ix2 ⟨r.val, _⟩ k) * before x (r.val + 0) k
    unfold before
    rw [dif_neg (by omega)]
  · show _ = d (ix2 ⟨3 + r.val, _⟩ k) * before x (3 + r.val + 0) k
    unfold before
    rw [dif_pos (by omega)]
    exact congrArg (fun s => d (ix2 ⟨3 + r.val, _⟩ k) * x (ix2 s _)) (Fin.ext (by show r.val = 3 + r.val + 0 - 3; omega))

/-- A row's own cotangent by a tap. -/
theorem row_own (w : EReal) (d : FVec Ideal Cert.ConvIdeal.S8208x1280 .f32) (r : Fin 8208) (k : Fin 1280) : w * d (ix2 r k) = w * ctRow d r.val k :=
  congrArg (w * ·) (show d (ix2 r k) = ctRow d r.val k by unfold ctRow; rw [dif_pos r.isLt])

/-- A later row's cotangent by a tap, none after the end. -/
theorem row_term (w : EReal) (d : FVec Ideal Cert.ConvIdeal.S8208x1280 .f32) {P : Prop} [Decidable P] {s : P → Fin 8208} {n : ℕ} (k : Fin 1280)
    (hP : P ↔ n < 8208) (hs : ∀ h : P, (s h).val = n) : (if h : P then w * d (ix2 (s h) k) else 0) = w * ctRow d n k := by
  unfold ctRow
  by_cases h : P
  · rw [dif_pos h, dif_pos (hP.mp h)]
    exact congrArg (fun r => w * d (ix2 r k)) (Fin.ext (hs h))
  · rw [dif_neg h, dif_neg fun hn => h (hP.mpr hn), mul_zero]

/-- The call gives the convolution's gradients by its input, its taps and its bias. -/
theorem algebraic : Cert.algebraic_ConvIdeal_ConvRefIdeal (hConvIdeal := Cert.ConvIdeal.Gen.facts) (hConvRefIdeal := Cert.ConvRefIdeal.Gen.facts) := by
  pair_intro
  · run_from Cert.Conv.run m g
  · refine (θ_run Cert.ConvRefIdeal.defs _ _).mono (fun r h c => ⟨(h c).1.trans ?_, (h c).2.1.trans ?_, (h c).2.2.1.trans ?_, (h c).2.2.2⟩) (Cert.ConvRefIdeal.Value.run (F := Ideal) m' g')
    · rw [(hagree c).1, (hagree c).2.2.1]
      funext i
      idx_vars i
      refine Eq.trans ?_ (Cert.Conv.dx_at m c i0 i1).symm
      pointwise
      refine congrArg₂ (· + ·) (congrArg₂ (· + ·) (congrArg₂ (· + ·) ?_ ?_) ?_) ?_
      · exact row_own _ _ i0 i1
      · exact row_term _ _ i1 (by omega) (fun _ => by dsimp only; omega)
      · exact row_term _ _ i1 (by omega) (fun _ => by dsimp only; omega)
      · exact row_term _ _ i1 (by omega) (fun _ => by dsimp only; omega)
    · rw [(hagree c).1, (hagree c).2.1]
      funext i
      idx_vars i
      refine Eq.trans ?_ (Cert.Conv.dw_at m c i0 i1).symm
      pointwise
      rcases (by omega : i0.val = 3 ∨ i0.val = 2 ∨ i0.val = 1 ∨ i0.val = 0) with h | h | h | h
      · rw [dif_pos (show (3 ≤ i0.val ∧ i0.val - 3 < 1) by omega), dif_neg (show ¬ (2 ≤ i0.val ∧ i0.val - 2 < 1) by omega), dif_neg (show ¬ (1 ≤ i0.val ∧ i0.val - 1 < 1) by omega), dif_neg (show ¬ (i0.val < 1) by omega), h]
        simp only [Finset.univ_unique, Finset.sum_singleton, zero_add, add_zero]
        exact tap_own _ _ i1
      · rw [dif_neg (show ¬ (3 ≤ i0.val ∧ i0.val - 3 < 1) by omega), dif_pos (show (2 ≤ i0.val ∧ i0.val - 2 < 1) by omega), dif_neg (show ¬ (1 ≤ i0.val ∧ i0.val - 1 < 1) by omega), dif_neg (show ¬ (i0.val < 1) by omega), h]
        simp only [Finset.univ_unique, Finset.sum_singleton, zero_add, add_zero]
        exact tap_mid _ _ 2 (by decide) i1
      · rw [dif_neg (show ¬ (3 ≤ i0.val ∧ i0.val - 3 < 1) by omega), dif_neg (show ¬ (2 ≤ i0.val ∧ i0.val - 2 < 1) by omega), dif_pos (show (1 ≤ i0.val ∧ i0.val - 1 < 1) by omega), dif_neg (show ¬ (i0.val < 1) by omega), h]
        simp only [Finset.univ_unique, Finset.sum_singleton, zero_add, add_zero]
        exact tap_mid _ _ 1 (by decide) i1
      · rw [dif_neg (show ¬ (3 ≤ i0.val ∧ i0.val - 3 < 1) by omega), dif_neg (show ¬ (2 ≤ i0.val ∧ i0.val - 2 < 1) by omega), dif_neg (show ¬ (1 ≤ i0.val ∧ i0.val - 1 < 1) by omega), dif_pos (show (i0.val < 1) by omega), h]
        simp only [Finset.univ_unique, Finset.sum_singleton, zero_add, add_zero]
        exact tap_first _ _ i1
    · rw [(hagree c).1]
      funext i
      idx_vars i
      refine Eq.trans ?_ (Cert.Conv.db_at m c i0).symm
      pointwise
      simp only [Finset.univ_unique, Finset.sum_singleton, zero_add, add_zero]

end Cert.Conv

end
-- ==== Proof.Conv.FrameBits.lean ====
module

public import proofs.«01_k».proof.Proof.Gen.Conv.Frame.Runs
public import proofs.«01_k».proof.Proof.Gen.Conv.Loops
public import Idealize.ShloMosaic.Lib.Claim

@[expose] public section

set_option maxRecDepth 16384
set_option maxHeartbeats 2000000

/-! The frame of the convolution's gradient on words: the program ends, its arguments are unchanged and every counter is at zero. Nothing is said of what
its outputs hold. -/

noncomputable section

namespace Cert.ConvFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Conv Cert.Conv.Gen

variable {F : FTy → Type} [FloatOps F]

local notation "𝕄" => MT nD τ sig Unit (Elt F) ℕ (UR sig nD τ) ℕ

section Body

variable (c : Dev nD) (i : grid0.Coords)
  (arg2 : Memref sig .tc .vmem S256x1280 .bf16) (harg2 : arg2.IsWhole)
  (arg3 : Memref sig .tc .vmem S16x1280 .bf16) (harg3 : arg3.IsWhole)
  (arg4 : Memref sig .tc .vmem S256x1280 .bf16) (harg4 : arg4.IsWhole)
  (arg5 : Memref sig .tc .vmem S16x1280 .bf16) (harg5 : arg5.IsWhole)
  (arg6 : Memref sig .tc .vmem S4x1280 .f32) (harg6 : arg6.IsWhole)
  (arg8 : Memref sig .tc .vmem S256x1280 .bf16) (harg8 : arg8.IsWhole)
  (arg9 : Memref sig .tc .vmem S4x1280 .f32) (harg9 : arg9.IsWhole)
  (arg10 : Memref sig .tc .vmem S1x1280 .f32) (harg10 : arg10.IsWhole)
  (arg11 : Memref sig .tc .vmem S5x8x1280 .f32) (harg11 : arg11.IsWhole)
  (x0 : Vec F S256x1280 .bf16) (x1 : Vec F S16x1280 .bf16) (x2 : Vec F S256x1280 .bf16) (x3 : Vec F S16x1280 .bf16) (x4 : Vec F S4x1280 .f32)

/-- The call's inputs in their buffers. -/
abbrev inputs : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4)

/-- The call's outputs and scratch, whatever they hold. -/
abbrev others : sProp 𝕄 :=
  iprop((∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d))

/-- The body runs: it keeps its inputs, and leaves its outputs and scratch at something. -/
theorem body (E : Set ℕ) (K : PUnit → sProp 𝕄) :
    iprop(inputs c arg2 arg3 arg4 arg5 arg6 x0 x1 x2 x3 x4 ∗ others (F := F) c arg8 arg9 arg10 arg11
        ∗ (iprop(inputs c arg2 arg3 arg4 arg5 arg6 x0 x1 x2 x3 x4 ∗ others (F := F) c arg8 arg9 arg10 arg11) -∗ K ⟨⟩))
      ⊢ wp frame (wpE (defs₀ (F := F)) Variants.none c none) E
        (cc0_conv_bwd i arg2 harg2 arg3 harg3 arg4 harg4 arg5 harg5 arg6 harg6 (Memref.whole main_v8) (Memref.isWhole_whole _)
          arg8 harg8 arg9 harg9 arg10 harg10 arg11 harg11) K := by
  simp only [cc0_conv_bwd_eq_skeleton]; unfold cc0_conv_bwd_skel
  simp only [k0_part3_eq_skeleton, k0_part4_eq_skeleton]
  unfold inputs others owns
  iintro ⟨⟨⟨%f0, %hf0, H0⟩, ⟨%f1, %hf1, H1⟩, ⟨%f2, %hf2, H2⟩, ⟨%f3, %hf3, H3⟩, ⟨%f4, %hf4, H4⟩⟩,
    ⟨⟨%d5, %f5, -, H5⟩, ⟨%d6, %f6, -, H6⟩, ⟨%d7, %f7, -, H7⟩, ⟨%d8, %f8, -, H8⟩⟩, Hk⟩
  by_cases hc0 : (Scalar.cmpi .ne (Scalar.extui (Scalar.cmpi .eq (BitVec.ofNat 32 (i 1).val) 0#32)) 0#32) = 1#1
  · sl_exec (disch := first | sl_exact hc0)
    sl_step
    iapply Hk
    isplitl [H0 H1 H2 H3 H4]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      iexists _; isplitr; · ipureintro; exact hf4
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl
  · sl_exec (disch := first | sl_exact hc0)
    sl_step
    iapply Hk
    isplitl [H0 H1 H2 H3 H4]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      iexists _; isplitr; · ipureintro; exact hf4
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Body

variable (m : (ℓ : Loc nD τ sig) → Buf (Elt F) ℓ) (ρ : Dev nD → PrngReg)

/-- The proof data: the arrays as the region finds them; an input stays in its buffer, an output's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | w => Dat.unnamed (cfg := cfg0) w t
  Φ _ := Pipeline.ΦA spec0 c
  q w := Pipeline.shareOf spec0 w
  owed _ := 0

/-- The outputs are the windows nothing is said of. -/
def forgets (w : Fin cfg0.W) : Bool := decide (5 ≤ w.val)

/-- The proof data's arrays. -/
theorem A_eq (c : Dev nD) (w : Fin cfg0.W) : (dats m 0 c).A w = V m c (Pipeline.arrRef spec0 w) := by
  dsimp only [dats]

/-- Input 0 stays in its buffer. -/
theorem after0_0 (c : Dev nD) (t : Fin cfg0.N) : (dats m 0 c).after 0 t = iblk m c 0 t := rfl
/-- Input 0 is in its buffer before the point. -/
theorem before0_0 (c : Dev nD) (t : Fin cfg0.N) (d) : (dats m 0 c).before 0 t d = iblk m c 0 t :=
  before0_0_of m (dats m 0 c) (A_eq m c 0) (after0_0 m c) t d
/-- Input 1 stays in its buffer. -/
theorem after0_1 (c : Dev nD) (t : Fin cfg0.N) : (dats m 0 c).after 1 t = iblk m c 1 t := rfl
/-- Input 1 is in its buffer before the point. -/
theorem before0_1 (c : Dev nD) (t : Fin cfg0.N) (d) : (dats m 0 c).before 1 t d = iblk m c 1 t :=
  before0_1_of m (dats m 0 c) (A_eq m c 1) (after0_1 m c) t d
/-- Input 2 stays in its buffer. -/
theorem after0_2 (c : Dev nD) (t : Fin cfg0.N) : (dats m 0 c).after 2 t = iblk m c 2 t := rfl
/-- Input 2 is in its buffer before the point. -/
theorem before0_2 (c : Dev nD) (t : Fin cfg0.N) (d) : (dats m 0 c).before 2 t d = iblk m c 2 t :=
  before0_2_of m (dats m 0 c) (A_eq m c 2) (after0_2 m c) t d
/-- Input 3 stays in its buffer. -/
theorem after0_3 (c : Dev nD) (t : Fin cfg0.N) : (dats m 0 c).after 3 t = iblk m c 3 t := rfl
/-- Input 3 is in its buffer before the point. -/
theorem before0_3 (c : Dev nD) (t : Fin cfg0.N) (d) : (dats m 0 c).before 3 t d = iblk m c 3 t :=
  before0_3_of m (dats m 0 c) (A_eq m c 3) (after0_3 m c) t d
/-- Input 4 stays in its buffer. -/
theorem after0_4 (c : Dev nD) (t : Fin cfg0.N) : (dats m 0 c).after 4 t = iblk m c 4 t := rfl
/-- Input 4 is in its buffer before the point. -/
theorem before0_4 (c : Dev nD) (t : Fin cfg0.N) (d) : (dats m 0 c).before 4 t d = iblk m c 4 t :=
  before0_4_of m (dats m 0 c) (A_eq m c 4) (after0_4 m c) t d
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ X, owns (c : Thread nD τ) ((cfg0.win 5).stage (cfg0.slots t 5)) fullShare X)
    ∗ (∃ X, owns (c : Thread nD τ) ((cfg0.win 6).stage (cfg0.slots t 6)) fullShare X)
    ∗ (∃ X, owns (c : Thread nD τ) ((cfg0.win 7).stage (cfg0.slots t 7)) fullShare X))

/-- What it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ (∃ X, owns (c : Thread nD τ) ((cfg0.win 5).stage (cfg0.slots t 5)) fullShare X)
    ∗ (∃ X, owns (c : Thread nD τ) ((cfg0.win 6).stage (cfg0.slots t 6)) fullShare X)
    ∗ (∃ X, owns (c : Thread nD τ) ((cfg0.win 7).stage (cfg0.slots t 7)) fullShare X))

/-- The scratch between two points, whatever it holds, and the generator's register. -/
theorem scratch_eq (c : Dev nD) : (Pipeline.ΦA spec0 c : sProp 𝕄)
    = iprop(iprop((∃ d, owns (c : Thread nD τ) (Memref.whole cc0_scratch0 : Memref sig .tc .vmem S5x8x1280 .f32) fullShare d)) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, scratch_eq]
  iintro ⟨⟨⟨HS0⟩, Hg⟩, Ho, ⟨%d0, H0⟩, ⟨%d1, H1⟩, ⟨%d2, H2⟩, ⟨%d3, H3⟩, ⟨%d4, H4⟩, H5, H6, H7⟩
  iapply (body c (grid0.coords t) _ _ _ _ _ _ _ _ _ _ _ _ _ _ _ _ _ _ _ _ _ _ _ Set.univ _)
  unfold inputs others
  isplitl [H0 H1 H2 H3 H4]
  · isplitl [H0]; · iexact H0
    isplitl [H1]; · iexact H1
    isplitl [H2]; · iexact H2
    isplitl [H3]; · iexact H3
    iexact H4
  isplitl [H5 H6 H7 HS0]
  · isplitl [H5]; · iexact H5
    isplitl [H6]; · iexact H6
    isplitl [H7]; · iexact H7
    iexact HS0
  iintro ⟨⟨H0, H1, H2, H3, H4⟩, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation of its body. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- What the operations after the region write. -/
def T0 : Finset (Ref sig .tc) := {main_v10, main_v11, main_v12}

/-- They write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, StableHlo.binary_writes, StableHlo.reshape_writes, Finset.mem_singleton] at hb
    cases Proc.devRef_injective _ hb; decide

/-- What the run leaves: its inputs' arrays and every other buffer that nothing writes. -/
abbrev Post : PUnit × MemSt nD τ sig (Elt F) → Prop :=
  RDat.FramePostR cfg0 (fun c => (dats m 0 c).toRForget forgets) T0 (fun c b => V0 m c (Proc.devRef .tc b))

set_option backward.isDefEq.respectTransparency.types false in
/-- The program runs, with every counter at zero. -/
theorem run_main : θ_run defs (onTc (τ := τ) (main (F := F))) (s₀ m ρ) (fun r => Post m r ∧ r.2.sem = fun _ => 0) :=
  Pipeline.θ_run_frame_around_T_forget_shared (Q' := _) cfgs (dats m) (0 : Fin 1) launch₀0 defs₀ Variants.none forgets T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)
    (hQ' := fun _ h => h)

/-- The program ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r ⟨h, hs⟩ => ⟨fun c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (RDat.FramePostR.arr_in h c 4 rfl).trans ((A_eq m c 4).trans (V_main_arg2 m c)),
      ((h c).2 main_arg3 (Finset.mem_sdiff.mpr ⟨Pipeline.mem_restRefs_of main_arg3 (by decide) (by decide), by decide⟩)).trans (V_main_arg3 m c)⟩, hs⟩) (run_main m ρ)

end Cert.ConvFrame

end
-- ==== Proof.RgBwd.Frame.lean ====
module

public import proofs.«01_k».proof.Proof.Gen.RgBwdIdeal.Frame
public import proofs.«01_k».proof.Proof.Gen.RgBwdIdeal.Loops
public import Idealize.ShloMosaic.Lib.Claim

@[expose] public section

set_option maxRecDepth 16384
set_option maxHeartbeats 2000000

/-! The frame of the RG-LRU recurrence's gradient: the program ends, its arguments are unchanged and every counter is at zero. Nothing is said of what
its outputs hold. -/

noncomputable section

namespace Cert.RgFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.RgBwdIdeal Cert.RgBwdIdeal.Gen

variable {F : FTy → Type} [FloatOps F]

local notation "𝕄" => MT nD τ sig Unit (Elt F) ℕ (UR sig nD τ) ℕ

section Body

variable (c : Dev nD) (i : grid0.Coords)
  (arg2 : Memref sig .tc .vmem S256x1280 .bf16) (harg2 : arg2.IsWhole)
  (arg3 : Memref sig .tc .vmem S256x1280 .f32) (harg3 : arg3.IsWhole)
  (arg4 : Memref sig .tc .vmem S8x1280 .f32) (harg4 : arg4.IsWhole)
  (arg5 : Memref sig .tc .vmem S256x1280 .bf16) (harg5 : arg5.IsWhole)
  (arg6 : Memref sig .tc .vmem S256x1280 .bf16) (harg6 : arg6.IsWhole)
  (arg7 : Memref sig .tc .vmem S256x1280 .bf16) (harg7 : arg7.IsWhole)
  (arg8 : Memref sig .tc .vmem S256x1280 .bf16) (harg8 : arg8.IsWhole)
  (arg9 : Memref sig .tc .vmem S1x1280 .f32) (harg9 : arg9.IsWhole)
  (arg10 : Memref sig .tc .vmem S1x1280 .f32) (harg10 : arg10.IsWhole)
  (arg11 : Memref sig .tc .vmem S1x1280 .f32) (harg11 : arg11.IsWhole)
  (arg13 : Memref sig .tc .vmem S256x2560 .bf16) (harg13 : arg13.IsWhole)
  (arg14 : Memref sig .tc .vmem S256x1280 .bf16) (harg14 : arg14.IsWhole)
  (arg15 : Memref sig .tc .vmem S256x1280 .bf16) (harg15 : arg15.IsWhole)
  (arg16 : Memref sig .tc .vmem S1x1280 .f32) (harg16 : arg16.IsWhole)
  (arg17 : Memref sig .tc .vmem S1x1280 .f32) (harg17 : arg17.IsWhole)
  (arg18 : Memref sig .tc .vmem S1x1280 .f32) (harg18 : arg18.IsWhole)
  (arg19 : Memref sig .tc .vmem S24x1280 .f32) (harg19 : arg19.IsWhole)
  (arg20 : Memref sig .tc .vmem S3x8x1280 .f32) (harg20 : arg20.IsWhole)
  (arg21 : Memref sig .tc .vmem S1x1280 .f32) (harg21 : arg21.IsWhole)
  (x0 : Vec F S256x1280 .bf16) (x1 : Vec F S256x1280 .f32) (x2 : Vec F S8x1280 .f32) (x3 : Vec F S256x1280 .bf16) (x4 : Vec F S256x1280 .bf16) (x5 : Vec F S256x1280 .bf16) (x6 : Vec F S256x1280 .bf16) (x7 : Vec F S1x1280 .f32) (x8 : Vec F S1x1280 .f32) (x9 : Vec F S1x1280 .f32)

/-- The call's inputs in their buffers. -/
abbrev inputs : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare x9)

/-- The call's outputs and scratch, whatever they hold. -/
abbrev others : sProp 𝕄 :=
  iprop((∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d))

/-- The body runs: it keeps its inputs, and leaves its outputs and scratch at something. -/
theorem body (E : Set ℕ) (K : PUnit → sProp 𝕄) :
    iprop(inputs c arg2 arg3 arg4 arg5 arg6 arg7 arg8 arg9 arg10 arg11 x0 x1 x2 x3 x4 x5 x6 x7 x8 x9 ∗ others (F := F) c arg13 arg14 arg15 arg16 arg17 arg18 arg19 arg20 arg21
        ∗ (iprop(inputs c arg2 arg3 arg4 arg5 arg6 arg7 arg8 arg9 arg10 arg11 x0 x1 x2 x3 x4 x5 x6 x7 x8 x9 ∗ others (F := F) c arg13 arg14 arg15 arg16 arg17 arg18 arg19 arg20 arg21) -∗ K ⟨⟩))
      ⊢ wp frame (wpE (defs₀ (F := F)) Variants.none c none) E
        (cc0_rg_bwd i arg2 harg2 arg3 harg3 arg4 harg4 arg5 harg5 arg6 harg6 arg7 harg7 arg8 harg8 arg9 harg9 arg10 harg10 arg11 harg11 (Memref.whole main_arg8) (Memref.isWhole_whole _)
          arg13 harg13 arg14 harg14 arg15 harg15 arg16 harg16 arg17 harg17 arg18 harg18 arg19 harg19 arg20 harg20 arg21 harg21) K := by
  simp only [cc0_rg_bwd_eq_skeleton]; unfold cc0_rg_bwd_skel
  simp only [k0_part8_eq_skeleton, k0_part9_eq_skeleton]
  unfold inputs others owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
  by_cases hc0 : (Scalar.cmpi .ne (Scalar.extui (Scalar.cmpi .eq (BitVec.ofNat 32 (i 1).val) 0#32)) 0#32) = 1#1
  · sl_exec (disch := first | sl_exact hc0)
    sl_step
    iapply Hk
    isplitl [H0 H1 H2 H3 H4 H5 H6 H7 H8 H9]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      iexists _; isplitr; · ipureintro; exact hf9
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl
  · sl_exec (disch := first | sl_exact hc0)
    sl_step
    iapply Hk
    isplitl [H0 H1 H2 H3 H4 H5 H6 H7 H8 H9]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr; · ipureintro; exact hf6
        iexact H6
      isplitl [H7]
      · iexists _; isplitr; · ipureintro; exact hf7
        iexact H7
      isplitl [H8]
      · iexists _; isplitr; · ipureintro; exact hf8
        iexact H8
      iexists _; isplitr; · ipureintro; exact hf9
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Body

variable (m : (ℓ : Loc nD τ sig) → Buf (Elt F) ℓ) (ρ : Dev nD → PrngReg)

/-- The proof data: the arrays as the region finds them; an input stays in its buffer, an output's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | w => Dat.unnamed (cfg := cfg0) w t
  Φ _ := Pipeline.ΦA spec0 c
  q w := Pipeline.shareOf spec0 w
  owed _ := 0

/-- The outputs are the windows nothing is said of. -/
def forgets (w : Fin cfg0.W) : Bool := decide (10 ≤ w.val)

/-- The proof data's arrays. -/
theorem A_eq (c : Dev nD) (w : Fin cfg0.W) : (dats m 0 c).A w = V m c (Pipeline.arrRef spec0 w) := by
  dsimp only [dats]

/-- Input 0 stays in its buffer. -/
theorem after0_0 (c : Dev nD) (t : Fin cfg0.N) : (dats m 0 c).after 0 t = iblk m c 0 t := rfl
/-- Input 0 is in its buffer before the point. -/
theorem before0_0 (c : Dev nD) (t : Fin cfg0.N) (d) : (dats m 0 c).before 0 t d = iblk m c 0 t :=
  before0_0_of m (dats m 0 c) (A_eq m c 0) (after0_0 m c) t d
/-- Input 1 stays in its buffer. -/
theorem after0_1 (c : Dev nD) (t : Fin cfg0.N) : (dats m 0 c).after 1 t = iblk m c 1 t := rfl
/-- Input 1 is in its buffer before the point. -/
theorem before0_1 (c : Dev nD) (t : Fin cfg0.N) (d) : (dats m 0 c).before 1 t d = iblk m c 1 t :=
  before0_1_of m (dats m 0 c) (A_eq m c 1) (after0_1 m c) t d
/-- Input 2 stays in its buffer. -/
theorem after0_2 (c : Dev nD) (t : Fin cfg0.N) : (dats m 0 c).after 2 t = iblk m c 2 t := rfl
/-- Input 2 is in its buffer before the point. -/
theorem before0_2 (c : Dev nD) (t : Fin cfg0.N) (d) : (dats m 0 c).before 2 t d = iblk m c 2 t :=
  before0_2_of m (dats m 0 c) (A_eq m c 2) (after0_2 m c) t d
/-- Input 3 stays in its buffer. -/
theorem after0_3 (c : Dev nD) (t : Fin cfg0.N) : (dats m 0 c).after 3 t = iblk m c 3 t := rfl
/-- Input 3 is in its buffer before the point. -/
theorem before0_3 (c : Dev nD) (t : Fin cfg0.N) (d) : (dats m 0 c).before 3 t d = iblk m c 3 t :=
  before0_3_of m (dats m 0 c) (A_eq m c 3) (after0_3 m c) t d
/-- Input 4 stays in its buffer. -/
theorem after0_4 (c : Dev nD) (t : Fin cfg0.N) : (dats m 0 c).after 4 t = iblk m c 4 t := rfl
/-- Input 4 is in its buffer before the point. -/
theorem before0_4 (c : Dev nD) (t : Fin cfg0.N) (d) : (dats m 0 c).before 4 t d = iblk m c 4 t :=
  before0_4_of m (dats m 0 c) (A_eq m c 4) (after0_4 m c) t d
/-- Input 5 stays in its buffer. -/
theorem after0_5 (c : Dev nD) (t : Fin cfg0.N) : (dats m 0 c).after 5 t = iblk m c 5 t := rfl
/-- Input 5 is in its buffer before the point. -/
theorem before0_5 (c : Dev nD) (t : Fin cfg0.N) (d) : (dats m 0 c).before 5 t d = iblk m c 5 t :=
  before0_5_of m (dats m 0 c) (A_eq m c 5) (after0_5 m c) t d
/-- Input 6 stays in its buffer. -/
theorem after0_6 (c : Dev nD) (t : Fin cfg0.N) : (dats m 0 c).after 6 t = iblk m c 6 t := rfl
/-- Input 6 is in its buffer before the point. -/
theorem before0_6 (c : Dev nD) (t : Fin cfg0.N) (d) : (dats m 0 c).before 6 t d = iblk m c 6 t :=
  before0_6_of m (dats m 0 c) (A_eq m c 6) (after0_6 m c) t d
/-- Input 7 stays in its buffer. -/
theorem after0_7 (c : Dev nD) (t : Fin cfg0.N) : (dats m 0 c).after 7 t = iblk m c 7 t := rfl
/-- Input 7 is in its buffer before the point. -/
theorem before0_7 (c : Dev nD) (t : Fin cfg0.N) (d) : (dats m 0 c).before 7 t d = iblk m c 7 t :=
  before0_7_of m (dats m 0 c) (A_eq m c 7) (after0_7 m c) t d
/-- Input 8 stays in its buffer. -/
theorem after0_8 (c : Dev nD) (t : Fin cfg0.N) : (dats m 0 c).after 8 t = iblk m c 8 t := rfl
/-- Input 8 is in its buffer before the point. -/
theorem before0_8 (c : Dev nD) (t : Fin cfg0.N) (d) : (dats m 0 c).before 8 t d = iblk m c 8 t :=
  before0_8_of m (dats m 0 c) (A_eq m c 8) (after0_8 m c) t d
/-- Input 9 stays in its buffer. -/
theorem after0_9 (c : Dev nD) (t : Fin cfg0.N) : (dats m 0 c).after 9 t = iblk m c 9 t := rfl
/-- Input 9 is in its buffer before the point. -/
theorem before0_9 (c : Dev nD) (t : Fin cfg0.N) (d) : (dats m 0 c).before 9 t d = iblk m c 9 t :=
  before0_9_of m (dats m 0 c) (A_eq m c 9) (after0_9 m c) t d
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ X, owns (c : Thread nD τ) ((cfg0.win 10).stage (cfg0.slots t 10)) fullShare X)
    ∗ (∃ X, owns (c : Thread nD τ) ((cfg0.win 11).stage (cfg0.slots t 11)) fullShare X)
    ∗ (∃ X, owns (c : Thread nD τ) ((cfg0.win 12).stage (cfg0.slots t 12)) fullShare X)
    ∗ (∃ X, owns (c : Thread nD τ) ((cfg0.win 13).stage (cfg0.slots t 13)) fullShare X)
    ∗ (∃ X, owns (c : Thread nD τ) ((cfg0.win 14).stage (cfg0.slots t 14)) fullShare X)
    ∗ (∃ X, owns (c : Thread nD τ) ((cfg0.win 15).stage (cfg0.slots t 15)) fullShare X))

/-- What it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ (∃ X, owns (c : Thread nD τ) ((cfg0.win 10).stage (cfg0.slots t 10)) fullShare X)
    ∗ (∃ X, owns (c : Thread nD τ) ((cfg0.win 11).stage (cfg0.slots t 11)) fullShare X)
    ∗ (∃ X, owns (c : Thread nD τ) ((cfg0.win 12).stage (cfg0.slots t 12)) fullShare X)
    ∗ (∃ X, owns (c : Thread nD τ) ((cfg0.win 13).stage (cfg0.slots t 13)) fullShare X)
    ∗ (∃ X, owns (c : Thread nD τ) ((cfg0.win 14).stage (cfg0.slots t 14)) fullShare X)
    ∗ (∃ X, owns (c : Thread nD τ) ((cfg0.win 15).stage (cfg0.slots t 15)) fullShare X))

/-- The scratch between two points, whatever it holds, and the generator's register. -/
theorem scratch_eq (c : Dev nD) : (Pipeline.ΦA spec0 c : sProp 𝕄)
    = iprop(iprop((∃ d, owns (c : Thread nD τ) (Memref.whole cc0_scratch0 : Memref sig .tc .vmem S24x1280 .f32) fullShare d) ∗ (∃ d, owns (c : Thread nD τ) (Memref.whole cc0_scratch1 : Memref sig .tc .vmem S3x8x1280 .f32) fullShare d) ∗ (∃ d, owns (c : Thread nD τ) (Memref.whole cc0_scratch2 : Memref sig .tc .vmem S1x1280 .f32) fullShare d)) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14, H15⟩
  iapply (body c (grid0.coords t) _ _ _ _ _ _ _ _ _ _ _ _ _ _ _ _ _ _ _ _ _ _ _ _ _ _ _ _ _ _ _ _ _ _ _ _ _ _ _ _ _ _ _ _ _ _ _ _ Set.univ _)
  unfold inputs others
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10 H11 H12 H13 H14 H15 HS0 HS1 HS2]
  · isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    iexact HS2
  iintro ⟨⟨H0, H1, H2, H3, H4, H5, H6, H7, H8, H9⟩, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation of its body. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- What the run leaves: its inputs' arrays and every other buffer that nothing writes. -/
abbrev Post : PUnit × MemSt nD τ sig (Elt F) → Prop :=
  RDat.FramePost cfg0 (fun c => (dats m 0 c).toRForget forgets) (V m)

set_option backward.isDefEq.respectTransparency.types false in
/-- The program runs, with every counter at zero. -/
theorem run_main : θ_run defs (onTc (τ := τ) (main (F := F))) (s₀ m ρ) (fun r => Post m r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

/-- The program ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r ⟨h, hs⟩ => ⟨fun c => ⟨(RDat.FramePost.arr_in h c 0 rfl).trans ((A_eq m c 0).trans (V_main_arg0 m c)),
      (RDat.FramePost.arr_in h c 1 rfl).trans ((A_eq m c 1).trans (V_main_arg1 m c)),
      (RDat.FramePost.arr_in h c 3 rfl).trans ((A_eq m c 3).trans (V_main_arg2 m c)),
      (RDat.FramePost.arr_in h c 5 rfl).trans ((A_eq m c 5).trans (V_main_arg3 m c)),
      (RDat.FramePost.arr_in h c 6 rfl).trans ((A_eq m c 6).trans (V_main_arg4 m c)),
      (RDat.FramePost.arr_in h c 7 rfl).trans ((A_eq m c 7).trans (V_main_arg5 m c)),
      (RDat.FramePost.arr_in h c 8 rfl).trans ((A_eq m c 8).trans (V_main_arg6 m c)),
      (RDat.FramePost.arr_in h c 9 rfl).trans ((A_eq m c 9).trans (V_main_arg7 m c)),
      ((h c).2 main_arg8 (Pipeline.mem_restRefs_of main_arg8 (by decide) (by decide))).trans (V_main_arg8 m c)⟩, hs⟩) (run_main m ρ)

end Cert.RgFrame

end
-- ==== Proof.RgBwd.Words.lean ====
module

public import proofs.«01_k».proof.Defs
public import proofs.«01_k».proof.Proof.Gen.RgBwd
public import proofs.«01_k».proof.Proof.RgBwd.Frame

@[expose] public section

set_option maxRecDepth 16384

/-! The program on words is, name for name, the one whose frame `RgBwd.Frame` proves over any floats. -/

noncomputable section

namespace Cert.RgFrame

open Idealize.ShloMosaic Idealize.SL.Sem

attribute [local instance] Cert.RgBwdIdeal.Gen.facts Cert.RgBwd.Gen.facts

/-- The two programs' bodies are one. -/
theorem bodies : Cert.RgBwd.defs₀ (F := Bits) = Cert.RgBwdIdeal.defs₀ := by
  unfold Cert.RgBwd.defs₀ Cert.RgBwdIdeal.defs₀
  refine congrArg Defs.onTc (funext fun l => funext fun x => ?_)
  match l, x with
  | 0, (t, s) => rfl
  | ⟨_ + 1, h⟩, _ => exact absurd h (Nat.not_lt.2 (Nat.le_add_left _ _))

/-- So are their tables of launches. -/
theorem launches : Cert.RgBwd.defs (F := Bits) = Cert.RgBwdIdeal.defs := by
  unfold Cert.RgBwd.defs Cert.RgBwdIdeal.defs
  exact congrArg (Pipeline.defs _) bodies

/-- The program on words ends, with its arguments unchanged and every counter at zero. -/
theorem frame_words : Cert.quiescent_RgBwd (hRgBwd := Cert.RgBwd.Gen.facts) := fun m g _ =>
  Eq.mpr (congrArg (fun d => θ_run d _ _ _) launches) (frame (F := Bits) m g)

end Cert.RgFrame

end
-- ==== Proof.Out.Value.lean ====
module

public import proofs.«01_k».proof.Proof.Common.Sigmoid
public import proofs.«01_k».proof.Proof.Gen.OutIdeal.Frame
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

/-! What the forward pass's merging call computes: the two branches through their sigmoid gates, and the residual stream plus
that row by `w_out`. -/

namespace Cert.OutIdeal.Value

open Cert.OutIdeal Cert.OutIdeal.Gen Cert.Common

variable (m : (ℓ : Loc nD τ sig) → Buf (Elt Ideal) ℓ)

/-- The kernel's rows of an array of the reference: 240 rows of zeros in front. -/
def padded (x : FVec Ideal S8208x1024 .f32) : FVec Ideal S8448x1024 .f32 :=
  pad S8448x1024 ![240, 0] ![0, 0] ![0, 0] x (sitofp .f32 (constantI S_ 32 0#32)) pads_S8208x1024_S8448x1024_24000_000 h_S_

/-- The same, rounded. -/
def rows (x : FVec Ideal S8208x1024 .f32) : FVec Ideal S8448x1024 .bf16 := truncf .bf16 (padded x) bitsLt_bf16_f32

/-- The kernel's order of the projection's columns, in the kernel's rows. -/
def cols (x : FVec Ideal S8208x8704 .f32) : FVec Ideal S8448x8960 .bf16 :=
  truncf .bf16 (pad S8448x8960 ![240, 0] ![0, 0] ![0, 0] (concatenate S8208x8960 1 [⟨S8208x6144, extractStridedSlice S8208x6144 ![0, 2560] x slices_S8208x8704_S8208x6144_0_2560⟩,
     ⟨S8208x256, broadcastInDim S8208x256 ![] bcast_S_S8208x256 (constant S_ .f32 0x00000000#32)⟩, ⟨S8208x2560, extractStridedSlice S8208x2560 ![0, 0] x slices_S8208x8704_S8208x2560_0_0⟩] concatenates_S8208x6144_S8208x256_S8208x2560_S8208x8960_d1)
    (sitofp .f32 (constantI S_ 32 0#32)) pads_S8208x8960_S8448x8960_24000_000 h_S_) bitsLt_bf16_f32

/-- A row of the sequence after the padding. -/
theorem padded_apply (x : FVec Ideal S8208x1024 .f32) (r : Fin 8208) (k : Fin 1024) : padded x (ix2 ⟨240 + r.val, by omega⟩ k) = x (ix2 r k) := by
  pointwise [padded]

/-- The same of the rounded rows. -/
theorem rows_apply (x : FVec Ideal S8208x1024 .f32) (r : Fin 8208) (k : Fin 1024) : rows x (ix2 ⟨240 + r.val, by omega⟩ k) = x (ix2 r k) := by
  pointwise [rows, padded]

/-- A row of the projection after the padding, in the kernel's columns from `q` on. -/
theorem cols_at (x : FVec Ideal S8208x8704 .f32) (r : Fin 8208) (k : Fin 1024) (q : ℕ) (hq : q + 1024 ≤ 6144) :
    cols x (ix2 ⟨240 + r.val, by omega⟩ ⟨q + k.val, by omega⟩) = x (ix2 r ⟨2560 + q + k.val, by omega⟩) := by
  have h (j : Fin 6144) : cols x (ix2 ⟨240 + r.val, by omega⟩ ⟨j.val, by omega⟩) = x (ix2 r ⟨2560 + j.val, by omega⟩) := by
    pointwise [cols]
    rw [dif_pos (by omega)]
  refine (h ⟨q + k.val, by omega⟩).trans (congrArg x (congrArg (ix2 r) (Fin.ext ?_)))
  show 2560 + (q + k.val) = 2560 + q + k.val
  omega

/-- Branch A, padded and rounded. -/
theorem V_pa (c : Dev nD) : V m c main_v1 = rows (m ((c : Thread nD τ).loc main_arg2)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- Branch B, padded and rounded. -/
theorem V_pb (c : Dev nD) : V m c main_v5 = rows (m ((c : Thread nD τ).loc main_arg3)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The residual stream, padded. -/
theorem V_h (c : Dev nD) : V m c main_v3 = padded (m ((c : Thread nD τ).loc main_arg0)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The projection in the kernel's rows and columns. -/
theorem V_proj (c : Dev nD) : V m c main_v11 = cols (m ((c : Thread nD τ).loc main_arg1)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The weight, rounded, is itself. -/
theorem V_w (c : Dev nD) : V m c main_v2 = fun i => (m ((c : Thread nD τ).loc main_arg4) : FVec Ideal S1024x1024 .f32) i := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- Which block each window stages at a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 4] ∧ win0_5.index t = ![t.val, 5]
    ∧ win0_6.index t = ![t.val, 0] ∧ win0_7.index t = ![t.val, 0] :=
  (by decide +kernel : ∀ t : Fin grid0.N, _)

/-- The two branches through their gates. -/
def merged (p : FVec Ideal S8448x8960 .bf16) (a b : FVec Ideal S8448x1024 .bf16) : FVec Ideal S8448x1024 .bf16 := fun i =>
  sg (p (ix2 (i 0) ⟨4096 + (i 1).val, by idx_bounds; omega⟩)) * a (ix2 (i 0) (i 1)) + sg (p (ix2 (i 0) ⟨5120 + (i 1).val, by idx_bounds; omega⟩)) * b (ix2 (i 0) (i 1))

/-- A row of `x` by the weight, plus the residual stream. -/
def projected (x : FVec Ideal S8448x1024 .bf16) (w : FVec Ideal S1024x1024 .bf16) (h : FVec Ideal S8448x1024 .f32) : FVec Ideal S8448x1024 .f32 := fun i =>
  (∑ k, x (ix2 (i 0) k) * w (ix2 k (i 1))) + h (ix2 (i 0) (i 1))

/-- The block of gate A's logits that a point stages. -/
theorem X4 (c : Dev nD) (t : Fin cfg0.N) (y : S768x1024.Idx) :
    X0_4 m c t y = (V m c main_v11 : FVec Ideal S8448x8960 .bf16) (ix2 ⟨t.val * 768 + (y 0).val, by idx_bounds; omega⟩ ⟨4096 + (y 1).val, by idx_bounds; omega⟩) := by
  unfold X0_4 Pipeline.Window.fill
  rw [dif_pos (moved0_4 t y)]
  blk_ext [iblk, V, idx t]

/-- The block of gate B's logits that a point stages. -/
theorem X5 (c : Dev nD) (t : Fin cfg0.N) (y : S768x1024.Idx) :
    X0_5 m c t y = (V m c main_v11 : FVec Ideal S8448x8960 .bf16) (ix2 ⟨t.val * 768 + (y 0).val, by idx_bounds; omega⟩ ⟨5120 + (y 1).val, by idx_bounds; omega⟩) := by
  unfold X0_5 Pipeline.Window.fill
  rw [dif_pos (moved0_5 t y)]
  blk_ext [iblk, V, idx t]

/-- The block of the merged rows that a point keeps. -/
theorem gates (c : Dev nD) (t : Fin cfg0.N) (y : S768x1024.Idx) :
    k0_pay1 (F := Ideal) (iblk m c 0 t) (iblk m c 3 t) (X0_4 m c t) (X0_5 m c t) y
      = merged (V m c main_v11) (V m c main_v1) (V m c main_v5) (ix2 ⟨t.val * 768 + (y 0).val, by idx_bounds; omega⟩ (y 1)) := by
  pointwise [k0_pay1]
  rw [X4, X5]
  unfold merged sg
  blk_point [iblk, V, idx t]

/-- The call's second output: the merged rows. -/
theorem final7 (c : Dev nD) : (dats m 0 c).arrAt 7 (cfgs 0).N = merged (V m c main_v11) (V m c main_v1) (V m c main_v5) := by
  refine (dats m 0 c).arrAt_eq_of_covers 7 _ (by decide +kernel) fun t _ y => ?_
  blk_simp
  rw [after0_7]
  unfold outsAt0
  dsimp only
  frame_out
  refine (gates m c t y).trans (congrArg _ ?_)
  blk_ext [idx t]

/-- The call's first output: the merged rows by the weight, plus the residual stream. -/
theorem final6 (c : Dev nD) : (dats m 0 c).arrAt 6 (cfgs 0).N =
    projected (merged (V m c main_v11) (V m c main_v1) (V m c main_v5)) (V m c main_v2) (V m c main_v3) := by
  refine (dats m 0 c).arrAt_eq_of_covers 6 _ (by decide +kernel) fun t _ y => ?_
  blk_simp
  rw [after0_6]
  unfold outsAt0
  dsimp only
  frame_out
  pointwise [k0_pay2]
  unfold projected
  refine congrArg₂ (· + ·) (Finset.sum_congr rfl fun k _ => congrArg₂ (· * ·) ((gates m c t _).trans (congrArg _ ?_)) ?_) ?_
  · blk_ext [idx t]
  · blk_point [iblk, V, idx t]
  · blk_point [iblk, V, idx t]

end Cert.OutIdeal.Value

end
-- ==== Proof.Out.Results.lean ====
module

public import proofs.«01_k».proof.Proof.Out.Value

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen Cert.Common

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  (dats m 0 c).withArrays_arrAt sharedIn0 (V0 m c) (A_eq m c) w

/-- The kernel's result `b` after the host operations that follow its launch. -/
abbrev resultOf (b : Dev nD) := Pipeline.afterTail₀ cfgs (dats m) 0 (V0 m) [hostOps1] b

/-- The rows after the padding of the first output. -/
theorem W_v13 (c : Dev nD) (r : Fin 8208) (k : Fin 1024) : (resultOf m c main_v13 : FVec Ideal S8208x1024 .f32) (ix2 r k) =
    ((dats m 0 c).arrAt 6 (cfgs 0).N : FVec Ideal S8448x1024 .f32) (ix2 ⟨240 + r.val, by omega⟩ k) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v12_0) = _ from found m c 6]
  pointwise
  try blk_ext

/-- The rows after the padding of the second output. -/
theorem W_v15 (c : Dev nD) (r : Fin 8208) (k : Fin 1024) : (resultOf m c main_v15 : FVec Ideal S8208x1024 .f32) (ix2 r k) =
    ((dats m 0 c).arrAt 7 (cfgs 0).N : FVec Ideal S8448x1024 .bf16) (ix2 ⟨240 + r.val, by omega⟩ k) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v12_1) = _ from found m c 7]
  pointwise
  try blk_ext

variable (c : Dev nD) (r : Fin 8208) (k : Fin 1024)

/-- The residual stream that the program is given. -/
abbrev argH : FVec Ideal S8208x1024 .f32 := m ((c : Thread nD τ).loc main_arg0)
/-- The projection that the program is given. -/
abbrev argProj : FVec Ideal S8208x8704 .f32 := m ((c : Thread nD τ).loc main_arg1)
/-- Branch A that the program is given. -/
abbrev argPa : FVec Ideal S8208x1024 .f32 := m ((c : Thread nD τ).loc main_arg2)
/-- Branch B that the program is given. -/
abbrev argPb : FVec Ideal S8208x1024 .f32 := m ((c : Thread nD τ).loc main_arg3)
/-- The weight that the program is given. -/
abbrev argW : FVec Ideal S1024x1024 .f32 := m ((c : Thread nD τ).loc main_arg4)

/-- The merged row as the reference writes it. -/
def mix (p : FVec Ideal S8208x8704 .f32) (a b : FVec Ideal S8208x1024 .f32) (r : Fin 8208) (k : Fin 1024) : EReal :=
  Ideal.logistic (p (ix2 r ⟨6656 + k.val, by omega⟩)) * a (ix2 r k) + Ideal.logistic (p (ix2 r ⟨7680 + k.val, by omega⟩)) * b (ix2 r k)

/-- The kernel's merged row is the reference's. -/
theorem merged_rows (p : FVec Ideal S8208x8704 .f32) (a b : FVec Ideal S8208x1024 .f32) :
    merged (cols p) (rows a) (rows b) (ix2 ⟨240 + r.val, by omega⟩ k) = mix p a b r k := by
  unfold merged mix
  exact congrArg₂ (· + ·)
    (congrArg₂ (· * ·) ((congrArg sg (cols_at p r k 4096 (by omega))).trans (sg_eq _)) (rows_apply a r k))
    (congrArg₂ (· * ·) ((congrArg sg (cols_at p r k 5120 (by omega))).trans (sg_eq _)) (rows_apply b r k))

/-- The second result: the merged rows. -/
theorem second : (resultOf m c main_v15 : FVec Ideal S8208x1024 .f32) (ix2 r k) = mix (argProj m c) (argPa m c) (argPb m c) r k := by
  rw [W_v15, final7, V_pa, V_pb, V_proj]
  exact merged_rows r k _ _ _

/-- The first result: the residual stream plus the merged rows by the weight. -/
theorem first : (resultOf m c main_v13 : FVec Ideal S8208x1024 .f32) (ix2 r k)
    = argH m c (ix2 r k) + ∑ x, mix (argProj m c) (argPa m c) (argPb m c) r x * argW m c (ix2 x k) := by
  rw [W_v13, final6, V_pa, V_pb, V_proj, V_w, V_h]
  unfold projected
  refine (add_comm (G := EReal) _ _).trans (congrArg₂ (fun a b : EReal => a + b) (padded_apply (argH m c) r k) ?_)
  exact Finset.sum_congr (M := EReal) rfl fun x _ => congrArg (fun a : EReal => a * argW m c (ix2 x k)) (merged_rows r x _ _ _)

/-- The whole program: it ends with the two results as the lines after the launch leave them, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v13) = resultOf m c main_v13
      ∧ r.2.mem ((c.tc : Thread nD τ).loc main_v15) = resultOf m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).2 main_v13 (by decide), (h.1 c).2 main_v15 (by decide), h.2 c⟩)
    (θ_run_and (run_main m ρ) (unchanged m ρ))

end Cert.OutIdeal.Value

end
-- ==== Proof.Out.Claim.lean ====
module

public import proofs.«01_k».proof.Defs
public import proofs.«01_k».proof.Proof.Out.Results
public import proofs.«01_k».proof.Proof.Gen.OutRefIdeal.Run
public import proofs.«01_k».proof.Proof.Gen.OutRefIdeal.Read

@[expose] public section

set_option maxRecDepth 16384

noncomputable section

open Idealize.ShloMosaic Idealize.ShloMosaic.TcCoe Idealize.SL.Sem

namespace Cert.Out

/-- The reference's frame: it runs on the host alone and declares no semaphore. -/
theorem frame_ref : Cert.quiescent_OutRefIdeal (hOutRefIdeal := Cert.OutRefIdeal.Gen.facts) := fun m g _ =>
  (θ_run Cert.OutRefIdeal.defs _ _).mono (fun r h => ⟨fun c => (h c).2.2, sem_eq_zero_of_no_sems (by decide) r.2⟩)
    (Cert.OutRefIdeal.Value.run (F := Ideal) m g)

/-- The call and the forward lines give the same two arrays over the extended reals. -/
theorem algebraic : Cert.algebraic_OutIdeal_OutRefIdeal (hOutIdeal := Cert.OutIdeal.Gen.facts) (hOutRefIdeal := Cert.OutRefIdeal.Gen.facts) := by
  pair_intro
  · run_from Cert.OutIdeal.Value.run m g
  · run_from Cert.OutRefIdeal.Value.run m' g'
    all_goals funext i
    all_goals idx_vars i
    · refine Eq.trans ?_ (Cert.OutIdeal.Value.first m c i0 i1).symm
      pointwise
      unfold OutIdeal.Value.mix Ideal.logistic
      rfl
    · refine Eq.trans ?_ (Cert.OutIdeal.Value.second m c i0 i1).symm
      pointwise
      unfold OutIdeal.Value.mix Ideal.logistic
      rfl

end Cert.Out

end
-- ==== Proof.Common.Rows.lean ====
module

public import Idealize.ShloMosaic.Lib.Pipeline.ValueKit
public import Idealize.ShloMosaic.Lib.WritesUnit

@[expose] public section

set_option maxRecDepth 16384

noncomputable section

namespace Cert.Common

open Idealize.ShloMosaic Idealize.ShloMosaic.TcCoe

variable {sig : RefSig} {R C : ℕ}

/-- Sixteen rows, `o` on, of a block, read back at a row and a column. -/
theorem rows_read {e : EltTy} (v : View sig .tc .vmem (⟨2, ![R, C]⟩ : Shape) e) (X : v.ty.Contents (Elt Ideal)) {off : Fin 2 → ℕ}
    (inb : ∀ a : Fin 2, off a + (![16, C] : Fin 2 → ℕ) a ≤ (![R, C] : Fin 2 → ℕ) a) {o : ℕ} (ho : off = ![o, 0]) (l : Fin 16) (c : Fin C) (h : o + l.val < R) :
    (View.readAt (Elt Ideal) v (Rect.unit (s := (⟨2, ![R, C]⟩ : Shape)) off ![16, C] inb).toLoadRect X) (ix2 l c)
      = v.read (Elt Ideal) X (ix2 ⟨o + l.val, h⟩ c) := by
  subst ho
  refine congrArg (v.read (Elt Ideal) X) (funext fun a => Fin.ext ?_)
  fin_cases a
  · show o + 1 * l.val = o + l.val; omega
  · show 0 + 1 * c.val = c.val; omega

/-- The rows of a block after a write of sixteen of them, `o` on. -/
theorem rows_written {e : EltTy} (v : View sig .tc .vmem (⟨2, ![R, C]⟩ : Shape) e) (f : v.ty.Contents (Elt Ideal)) {off : Fin 2 → ℕ} {o : ℕ}
    (inb : ∀ a : Fin 2, off a + (![16, C] : Fin 2 → ℕ) a ≤ (![R, C] : Fin 2 → ℕ) a)
    (w : (Rect.unit (s := (⟨2, ![R, C]⟩ : Shape)) off ![16, C] inb).shape.Idx → Elt Ideal e) (L : List (View.Piece (Elt Ideal) (⟨2, ![R, C]⟩ : Shape) e))
    (ho : off = ![o, 0]) (r : Fin R) (c : Fin C) :
    v.read (Elt Ideal) (v.writes (Elt Ideal) f (⟨Rect.unit off ![16, C] inb, w⟩ :: L)) (ix2 r c)
      = if h : o ≤ r.val ∧ r.val < o + 16 then w (ix2 (⟨r.val - o, by omega⟩ : Fin 16) c)
        else v.read (Elt Ideal) (v.writes (Elt Ideal) f L) (ix2 r c) := by
  split
  · rename_i h
    refine View.read_writes_cons_unit_of_mem v f inb w L (ix2 r c) (ix2 (⟨r.val - o, by omega⟩ : Fin 16) c) ho fun a => ?_
    fin_cases a
    · show r.val = o + (r.val - o); omega
    · show c.val = 0 + c.val; omega
  · rename_i h
    refine View.read_writes_cons_unit_of_not_mem v f inb w L (ix2 r c) ho (0 : Fin 2) ?_
    show r.val < o ∨ o + 16 ≤ r.val
    omega

end Cert.Common

end
-- ==== Proof.ConvF.Strip.lean ====
module

public import proofs.«01_k».proof.Proof.Common.Rows
public import proofs.«01_k».proof.Proof.Gen.ConvFIdeal.Loops
public import Idealize.ShloMosaic.Lib.StableHlo.ReadAt

@[expose] public section

set_option maxRecDepth 16384

noncomputable section

/-! The convolution over one block, strip by strip of sixteen rows. `P` is the input by its rows, counted from sixteen rows before the
block, so row `r` of the block is `P (16 + r)`. -/

namespace Cert.ConvF

open Idealize.ShloMosaic Idealize.ShloMosaic.TcCoe Idealize.ShloMosaic.Tactic
open Cert.ConvFIdeal Cert.ConvFIdeal.Gen Cert.Common

/-- Row `r` of the block: the bias and the four taps at the row itself and the three before it. -/
def conv (P : ℕ → Fin 1280 → EReal) (W : Fin 4 → Fin 1280 → EReal) (B : Fin 1280 → EReal) (r : ℕ) (c : Fin 1280) : EReal :=
  B c + W 3 c * P (16 + r) c + W 0 c * P (13 + r) c + W 1 c * P (14 + r) c + W 2 c * P (15 + r) c

/-- A join of two strips, read `o` rows on. -/
theorem joined {k o l : ℕ} (Q : ℕ → Fin 1280 → EReal) (a b : FVec Ideal S16x1280 .f32) (c : Fin 1280)
    (ha : ∀ l c, a (ix2 l c) = Q (16 * k + l.val) c) (hb : ∀ l c, b (ix2 l c) = Q (16 * k + 16 + l.val) c) (ho : o + l - 16 < 16) :
    (if h : o + l < 16 then a (ix2 ⟨o + l, h⟩ c) else b (ix2 ⟨o + l - 16, ho⟩ c)) = Q (o + (16 * k + l)) c := by
  split
  · rw [ha]; congr 1; dsimp only; omega
  · rw [hb]; congr 1; dsimp only; omega

/-- A strip of the result, from its rows and the sixteen before them. -/
theorem pay3_at {P : ℕ → Fin 1280 → EReal} {W : Fin 4 → Fin 1280 → EReal} {B : Fin 1280 → EReal} {k : ℕ} {prev : FVec Ideal S16x1280 .f32}
    {x : Vec Ideal S16x1280 .bf16} {v0 : Vec Ideal S4x1280 .f32} {v1 : Vec Ideal S1x1280 .f32}
    (hp : ∀ l c, prev (ix2 l c) = P (16 * k + l.val) c) (hx : ∀ l c, k0_pay2 x (ix2 l c) = P (16 * k + 16 + l.val) c)
    (hw : ∀ j c, v0 (ix2 j c) = W j c) (hb : ∀ z c, v1 (ix2 z c) = B c) (l : Fin 16) (c : Fin 1280) :
    k0_pay3 v0 v1 prev x (ix2 l c) = conv P W B (16 * k + l.val) c := by
  unfold conv
  rw [← joined P prev (k0_pay2 x) c hp hx (o := 13) (by omega), ← joined P prev (k0_pay2 x) c hp hx (o := 14) (by omega),
    ← joined P prev (k0_pay2 x) c hp hx (o := 15) (by omega), show 16 + (16 * k + l.val) = 16 * k + 16 + l.val by omega, ← hx l c,
    ← hw, ← hw, ← hw, ← hw, ← hb 0 c]
  pointwise [k0_pay3]

section Trip

variable (𝒱 : Variants) (c : Dev nD) (bd : Option 𝒱.V) (i : grid0.Coords)
  (arg2 : Memref sig .tc .vmem S256x1280 .bf16) (harg2 : arg2.IsWhole) (arg3 : Memref sig .tc .vmem S16x1280 .bf16) (harg3 : arg3.IsWhole)
  (arg4 : Memref sig .tc .vmem S4x1280 .f32) (harg4 : arg4.IsWhole) (arg5 : Memref sig .tc .vmem S1x1280 .f32) (harg5 : arg5.IsWhole)
  (arg6 : Memref sig .tc .vmem S256x1280 .bf16) (harg6 : arg6.IsWhole)
  (v0 : Vec Ideal S4x1280 .f32) (v1 : Vec Ideal S1x1280 .f32) (X2 : BufTy.Contents (Elt Ideal) arg2.view.ty)

/-- A strip's rows in its block. -/
theorem off1_eq : ∀ k : Fin k0_t1_loop.trips, k0_off1 k = ![16 * k.val, 0] :=
  (by decide +kernel : ∀ k : Fin k0_t1_loop.trips, k0_off1 k = ![16 * k.val, 0])

/-- The loop makes sixteen turns. -/
theorem trips_eq : k0_t1_loop.trips = 16 := by decide +kernel

/-- The loop's state before a trip, with the arguments of the call fixed. -/
abbrev state (init : FVec Ideal S16x1280 .f32) (n : ℕ) :=
  st_k0_t1 (F := Ideal) 𝒱 c bd i arg2 harg2 arg3 harg3 arg4 harg4 arg5 harg5 arg6 harg6 v0 v1 X2 init n

variable {P : ℕ → Fin 1280 → EReal} {W : Fin 4 → Fin 1280 → EReal} {B : Fin 1280 → EReal}
  (hP : ∀ r c, arg2.view.read (Elt Ideal) X2 (ix2 r c) = P (16 + r.val) c)
  (hW : ∀ j c, v0 (ix2 j c) = W j c) (hB : ∀ z c, v1 (ix2 z c) = B c)
  (init : FVec Ideal S16x1280 .f32) (hinit : ∀ l c, init (ix2 l c) = P l.val c) (V6 : View sig .tc .vmem S256x1280 .bf16) (G : V6.ty.Contents (Elt Ideal))

include hP in
/-- The strip's input, which the next strip is handed. -/
theorem strip_next (k : Fin k0_t1_loop.trips) (acc : FVec Ideal S16x1280 .f32) (l : Fin 16) (c' : Fin 1280) :
    tripR_k0_t1 (F := Ideal) 𝒱 c bd i arg2 harg2 arg3 harg3 arg4 harg4 arg5 harg5 arg6 harg6 v0 v1 X2 k acc (ix2 l c') = P (16 * k.val + 16 + l.val) c' := by
  have hk : k.val < 16 := Nat.lt_of_lt_of_eq k.isLt trips_eq
  unfold tripR_k0_t1 trip_k0_t1
  dsimp only
  pointwise [k0_pay2]
  refine (rows_read arg2.view X2 _ (off1_eq k) l c' (by omega)).trans ((hP _ _).trans ?_)
  congr 1; dsimp only; omega

include hP hW hB in
/-- What one strip leaves of the result. -/
theorem strip_out (k : Fin k0_t1_loop.trips) (acc : FVec Ideal S16x1280 .f32) (hacc : ∀ l c, acc (ix2 l c) = P (16 * k.val + l.val) c) (f : V6.ty.Contents (Elt Ideal)) (r : Fin 256) (c' : Fin 1280) :
    V6.read (Elt Ideal) (V6.writes (Elt Ideal) f (tripL_k0_t1 (F := Ideal) 𝒱 c bd i arg2 harg2 arg3 harg3 arg4 harg4 arg5 harg5 arg6 harg6 v0 v1 X2 k acc)) (ix2 r c')
      = if 16 * k.val ≤ r.val ∧ r.val < 16 * k.val + 16 then conv P W B r.val c' else V6.read (Elt Ideal) f (ix2 r c') := by
  have hk : k.val < 16 := Nat.lt_of_lt_of_eq k.isLt trips_eq
  unfold tripL_k0_t1 trip_k0_t1
  dsimp only
  refine (rows_written V6 f _ _ _ (off1_eq k) r c').trans ?_
  split
  · rename_i h
    refine (pay3_at (P := P) (k := k.val) hacc (fun l c' => ?_) hW hB _ _).trans ?_
    · pointwise [k0_pay2]
      refine (rows_read arg2.view X2 _ (off1_eq k) l c' (by omega)).trans ((hP _ _).trans ?_)
      congr 1; dsimp only; omega
    · congr 1; dsimp only; omega
  · rfl

include hP hW hB hinit in
/-- The strips before one: the rows handed on, and the result's rows so far. -/
theorem after_strips : ∀ n ≤ 16,
    (∀ l c', (state 𝒱 c bd i arg2 harg2 arg3 harg3 arg4 harg4 arg5 harg5 arg6 harg6 v0 v1 X2 init n).1 (ix2 l c') = P (16 * n + l.val) c')
    ∧ ∀ (r : Fin 256) c', r.val < 16 * n →
      V6.read (Elt Ideal) (V6.writes (Elt Ideal) G (state 𝒱 c bd i arg2 harg2 arg3 harg3 arg4 harg4 arg5 harg5 arg6 harg6 v0 v1 X2 init n).2) (ix2 r c') = conv P W B r.val c'
  | 0, _ => ⟨fun l c' => by rw [st_k0_t1_zero, hinit]; congr 1; omega, fun r c' h => absurd h (by omega)⟩
  | n + 1, hn => by
    have ih := after_strips n (by omega)
    have e := st_k0_t1_succ (F := Ideal) 𝒱 c bd i arg2 harg2 arg3 harg3 arg4 harg4 arg5 harg5 arg6 harg6 v0 v1 X2 init ⟨n, Nat.lt_of_lt_of_eq (by omega) trips_eq.symm⟩
    dsimp only at e
    refine ⟨fun l c' => ?_, fun r c' h => ?_⟩
    · show (st_k0_t1 (F := Ideal) 𝒱 c bd i arg2 harg2 arg3 harg3 arg4 harg4 arg5 harg5 arg6 harg6 v0 v1 X2 init (n + 1)).1 (ix2 l c') = _
      rw [e]; dsimp only; rw [strip_next (hP := hP)]
      congr 1
    · show V6.read (Elt Ideal) (V6.writes (Elt Ideal) G (st_k0_t1 (F := Ideal) 𝒱 c bd i arg2 harg2 arg3 harg3 arg4 harg4 arg5 harg5 arg6 harg6 v0 v1 X2 init (n + 1)).2) (ix2 r c') = _
      rw [e]
      dsimp only
      rw [View.writes_append]
      refine (strip_out (hP := hP) (hW := hW) (hB := hB) (hacc := ih.1) ..).trans ?_
      dsimp only
      split
      · rfl
      · exact ih.2 r c' (by omega)

end Trip

end Cert.ConvF

end
-- ==== Proof.ConvF.Value.lean ====
module

public import proofs.«01_k».proof.Proof.ConvF.Strip
public import proofs.«01_k».proof.Proof.Gen.ConvFIdeal.Frame
public import Idealize.ShloMosaic.Lib.StableHlo.RunRead

@[expose] public section

set_option maxRecDepth 16384

noncomputable section

/-! What the convolution's call computes: every row, from the projection's rows in the kernel's layout. -/

namespace Cert.ConvF

open Idealize.ShloMosaic Idealize.ShloMosaic.TcCoe Idealize.SL.Sem
open Idealize.ShloMosaic.Pipeline (Dat)
open Cert.ConvFIdeal Cert.ConvFIdeal.Gen Cert.Common

variable (m : (ℓ : Loc nD τ sig) → Buf (Elt Ideal) ℓ)

/-- The kernel's order of the projection's columns, in the kernel's rows. -/
def cols (x : FVec Ideal S8208x8704 .f32) : FVec Ideal S8448x8960 .bf16 :=
  truncf .bf16 (pad S8448x8960 ![240, 0] ![0, 0] ![0, 0] (concatenate S8208x8960 1 [⟨S8208x6144, extractStridedSlice S8208x6144 ![0, 2560] x slices_S8208x8704_S8208x6144_0_2560⟩,
     ⟨S8208x256, broadcastInDim S8208x256 ![] bcast_S_S8208x256 (constant S_ .f32 0x00000000#32)⟩, ⟨S8208x2560, extractStridedSlice S8208x2560 ![0, 0] x slices_S8208x8704_S8208x2560_0_0⟩] concatenates_S8208x6144_S8208x256_S8208x2560_S8208x8960_d1)
    (sitofp .f32 (constantI S_ 32 0#32)) pads_S8208x8960_S8448x8960_24000_000 h_S_) bitsLt_bf16_f32

/-- The integer word of zero, as a number. -/
theorem sitofp_zero : (FloatOps.sitofp .f32 (0#32) : Ideal .f32) = 0 := by
  show (((0#32 : BitVec 32).toInt : ℝ) : EReal) = 0
  simp

/-- The convolution's input as the kernel is given it: zeros in front of the sequence. -/
theorem cols_at (x : FVec Ideal S8208x8704 .f32) (r : Fin 8448) (k : Fin 1280) :
    cols x (ix2 r ⟨6400 + k.val, by omega⟩) = if h : 240 ≤ r.val then x (ix2 ⟨r.val - 240, by omega⟩ ⟨k.val, by omega⟩) else 0 := by
  pointwise [cols]
  have hk := k.isLt
  have hr := r.isLt
  by_cases h : 240 ≤ r.val
  · rw [dif_pos ⟨⟨h, by omega⟩, by omega⟩, dif_neg (by omega), dif_neg (by omega), dif_pos h]
    exact congrArg₂ (fun a b => x (ix2 a b)) rfl (Fin.ext (by show 6400 + k.val - 6144 - 256 = k.val; omega))
  · rw [dif_neg (by omega), dif_neg h]
    exact sitofp_zero

/-- The projection as the kernel is given it. -/
theorem V_proj (c : Dev nD) : V m c main_v5 = cols (m ((c : Thread nD τ).loc main_arg0)) := by
  unfold V V0
  simp only [hostOps0, hostOps0_1, hostOps0_2, List.flatten_cons, List.flatten_nil, List.append_nil, List.cons_append, List.nil_append]
  after_reads_simp
  rfl

/-- The taps are an argument. -/
theorem V_w (c : Dev nD) : V m c main_arg1 = m ((c : Thread nD τ).loc main_arg1) := by
  unfold V V0
  simp only [hostOps0, hostOps0_1, hostOps0_2, List.flatten_cons, List.flatten_nil, List.append_nil, List.cons_append, List.nil_append]
  after_reads_simp

/-- The bias as one row. -/
theorem V_b (c : Dev nD) : V m c main_v6 = broadcastInDim S1x1280 ![1] bcast_S1280_S1x1280_1 (m ((c : Thread nD τ).loc main_arg2)) := by
  unfold V V0
  simp only [hostOps0, hostOps0_1, hostOps0_2, List.flatten_cons, List.flatten_nil, List.append_nil, List.cons_append, List.nil_append]
  after_reads_simp

/-- Which block each window stages at a point. -/
theorem idx : ∀ t : Fin cfg0.N, win0_0.index t = ![t.val, 5] ∧ win0_1.index t = ![16 * t.val - 1, 5] ∧ win0_2.index t = ![0, 0]
    ∧ win0_3.index t = ![0, 0] ∧ win0_4.index t = ![t.val, 0] ∧ ((grid0.coords t) 1).val = t.val :=
  (by decide +kernel : ∀ t : Fin grid0.N, _)

/-- Whether a point is the first. -/
theorem first_eq : ∀ t : Fin cfg0.N, Scalar.cmpi .sgt (BitVec.ofNat 32 ((grid0.coords t) 1).val) 0#32 = if t.val = 0 then 0#1 else 1#1 :=
  (by decide +kernel : ∀ t : Fin grid0.N, _)

/-- The convolution of rows further on. -/
theorem conv_add (P : ℕ → Fin 1280 → EReal) (W : Fin 4 → Fin 1280 → EReal) (B : Fin 1280 → EReal) (o r : ℕ) (c : Fin 1280) :
    conv (fun r c => P (o + r) c) W B r c = conv P W B (o + r) c := by
  unfold conv
  dsimp only
  rw [show o + (16 + r) = 16 + (o + r) by omega, show o + (13 + r) = 13 + (o + r) by omega, show o + (14 + r) = 14 + (o + r) by omega,
    show o + (15 + r) = 15 + (o + r) by omega]

/-- The rows that a point reads: sixteen before its block, then the block. -/
def rows (p : FVec Ideal S8448x8960 .bf16) (r : ℕ) (c : Fin 1280) : EReal :=
  if h : 16 ≤ r ∧ r - 16 < 8448 then p (ix2 ⟨r - 16, h.2⟩ ⟨6400 + c.val, by omega⟩) else 0

/-- The block's rows. -/
theorem block_at (c : Dev nD) (t : Fin cfg0.N) (r : Fin 256) (k : Fin 1280) :
    iblk m c 0 t (ix2 r k) = rows (V m c main_v5) (256 * t.val + (16 + r.val)) k := by
  have ht : t.val < 33 := t.isLt
  unfold rows
  rw [dif_pos ⟨by omega, by omega⟩]
  blk_point [iblk, idx t]

/-- The rows before the block. -/
theorem halo_at (c : Dev nD) (t : Fin cfg0.N) (l : Fin 16) (k : Fin 1280) :
    k0_pay1 (grid0.coords t) (iblk m c 1 t) (ix2 l k) = rows (V m c main_v5) (256 * t.val + l.val) k := by
  have ht : t.val < 33 := t.isLt
  pointwise [k0_pay1]
  rw [first_eq t]
  unfold rows
  by_cases h0 : t.val = 0
  · rw [dif_neg (by omega)]
    simp [h0, Scalar.select]
  · rw [dif_pos ⟨by omega, by omega⟩]
    simp [h0, Scalar.select]
    blk_point [iblk, idx t]
/-- The taps. -/
theorem taps_at (c : Dev nD) (t : Fin cfg0.N) (j : Fin 4) (k : Fin 1280) : iblk m c 2 t (ix2 j k) = V m c main_arg1 (ix2 j k) := by
  blk_point [iblk, idx t]

/-- The bias. -/
theorem bias_at (c : Dev nD) (t : Fin cfg0.N) (z : Fin 1) (k : Fin 1280) : iblk m c 3 t (ix2 z k) = V m c main_v6 (ix2 0 k) := by
  blk_point [iblk, idx t]

/-- The convolution of the rows that the kernel is given. -/
def result (p : FVec Ideal S8448x8960 .bf16) (w : FVec Ideal S4x1280 .f32) (b : FVec Ideal S1x1280 .f32) : FVec Ideal S8448x1280 .bf16 := fun i =>
  conv (rows p) (fun j c => w (ix2 j c)) (fun c => b (ix2 0 c)) (i 0).val (i 1)

/-- A load of all of a block. -/
theorem load_at {sp : Space} {n k : ℕ} {e : EltTy} {mr : Memref sig .tc sp ⟨2, ![n, k]⟩ e} (h : mr.IsWhole) (X : Shape.Idx ⟨2, ![n, k]⟩ → Elt Ideal e)
    (inb : ∀ a : Fin 2, (![0, 0] : Fin 2 → ℕ) a + (![n, k] : Fin 2 → ℕ) a ≤ (![n, k] : Fin 2 → ℕ) a) :
    View.readAt (Elt Ideal) mr.view (Rect.unit (s := ⟨2, ![n, k]⟩) ![0, 0] ![n, k] inb).toLoadRect (h.unread X) = X := by
  refine funext fun y => (congrFun (h.read_unread X) _).trans (congrArg X (funext fun a => Fin.ext ?_))
  fin_cases a
  · show 0 + 1 * (y (0 : Fin 2)).val = (y (0 : Fin 2)).val; omega
  · show 0 + 1 * (y (1 : Fin 2)).val = (y (1 : Fin 2)).val; omega

/-- The call's output. -/
theorem final4 (c : Dev nD) : (dats m 0 c).arrAt 4 (cfgs 0).N = result (V m c main_v5) (V m c main_arg1) (V m c main_v6) := by
  refine (dats m 0 c).arrAt_eq_of_covers 4 _ (by decide +kernel) fun t _ y => ?_
  have e0 : (((win0_4.blk t).view.emb y) (0 : Fin 2)).val = 256 * t.val + (y (0 : Fin 2)).val := by
    have e : (((win0_4.blk t).view.emb y) (0 : Fin 2)).val = t.val * 256 + (y (0 : Fin 2)).val := by blk_simp [idx t]
    omega
  have e1 : (((win0_4.blk t).view.emb y) (1 : Fin 2)).val = (y (1 : Fin 2)).val := by blk_simp [idx t]
  blk_simp
  rw [after0_4]
  unfold outsAt0 out0_A_4 kernelRun0_A
  dsimp only
  idx_vars y
  refine ((after_strips (P := fun r c' => rows (V m c main_v5) (256 * t.val + r) c') (W := fun j c' => V m c main_arg1 (ix2 j c')) (B := fun c' => V m c main_v6 (ix2 0 c'))
    _ _ _ _ _ _ _ _ _ _ _ _ _ _ _ _ _ ?_ ?_ ?_ _ ?_ _ _ 16 le_rfl).2 y0 y1 (by have hy : y0.val < 256 := y0.isLt; omega)).trans ?_
  · intro r c'
    exact (congrFun ((hs0_0 t).read_unread _) _).trans (block_at m c t r c')
  · intro j c'
    exact (congrFun (load_at (hs0_2 t) _ _) _).trans (taps_at m c t j c')
  · intro z c'
    exact (congrFun (load_at (hs0_3 t) _ _) _).trans (bias_at m c t z c')
  · intro l c'
    refine Eq.trans (congrArg (fun v => k0_pay1 (grid0.coords t) v (ix2 l c')) (load_at (hs0_1 t) _ _)) (halo_at m c t l c')
  · rw [conv_add]
    exact congrArg₂ (conv _ _ _) e0.symm (Fin.ext e1.symm)

end Cert.ConvF

end
-- ==== Proof.ConvF.Results.lean ====
module

public import proofs.«01_k».proof.Proof.ConvF.Value

@[expose] public section

set_option maxRecDepth 16384

noncomputable section

/-! What the program with the convolution's call returns, in the arrays of reference.py. -/

namespace Cert.ConvF

open Idealize.ShloMosaic Idealize.ShloMosaic.TcCoe Idealize.SL.Sem
open Idealize.ShloMosaic.Pipeline (Dat)
open Cert.ConvFIdeal Cert.ConvFIdeal.Gen Cert.Common

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  (dats m 0 c).withArrays_arrAt sharedIn0 (V0 m c) (A_eq m c) w

/-- The kernel's result `b` after the host operations that follow its launch. -/
abbrev resultOf (b : Dev nD) := Pipeline.afterTail₀ cfgs (dats m) 0 (V0 m) [hostOps1] b

/-- The rows after the padding of the output. -/
theorem W_v9 (c : Dev nD) (r : Fin 8208) (k : Fin 1280) : (resultOf m c main_v9 : FVec Ideal S8208x1280 .f32) (ix2 r k) =
    ((dats m 0 c).arrAt 4 (cfgs 0).N : FVec Ideal S8448x1280 .bf16) (ix2 ⟨240 + r.val, by omega⟩ k) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v7) = _ from found m c 4]
  pointwise
  try blk_ext

/-- The convolution's input, `n` rows after three rows of zeros. -/
def before (x : FVec Ideal S8208x8704 .f32) (n : ℕ) (k : Fin 1280) : EReal :=
  if h : 3 ≤ n ∧ n - 3 < 8208 then x (ix2 ⟨n - 3, h.2⟩ ⟨k.val, by omega⟩) else 0

/-- The convolution as the reference writes it. -/
def taps (x : FVec Ideal S8208x8704 .f32) (w : FVec Ideal S4x1280 .f32) (b : FVec Ideal S1280 .f32) (r : Fin 8208) (k : Fin 1280) : EReal :=
  w (ix2 0 k) * before x r.val k + w (ix2 1 k) * before x (1 + r.val) k + w (ix2 2 k) * before x (2 + r.val) k + w (ix2 3 k) * before x (3 + r.val) k
    + b (ix1 k)

/-- The kernel's rows are the reference's. -/
theorem rows_cols (x : FVec Ideal S8208x8704 .f32) (j : ℕ) (hj : j ≤ 3) (r : Fin 8208) (k : Fin 1280) :
    rows (cols x) (13 + j + (240 + r.val)) k = before x (j + r.val) k := by
  have hr := r.isLt
  unfold rows before
  rw [dif_pos ⟨by omega, by omega⟩, cols_at]
  by_cases h : 3 ≤ j + r.val
  · rw [dif_pos (show 240 ≤ 13 + j + (240 + r.val) - 16 by omega), dif_pos ⟨h, by omega⟩]
    exact congrArg₂ (fun a b => x (ix2 a b)) (Fin.ext (by show 13 + j + (240 + r.val) - 16 - 240 = j + r.val - 3; omega)) rfl
  · rw [dif_neg (show ¬ 240 ≤ 13 + j + (240 + r.val) - 16 by omega), dif_neg (by omega)]

/-- The two orders of the sum. -/
theorem order (b a0 a1 a2 a3 : EReal) : b + a3 + a0 + a1 + a2 = a0 + a1 + a2 + a3 + b := by ac_rfl

/-- The result: the convolution's rows. -/
theorem output (c : Dev nD) (r : Fin 8208) (k : Fin 1280) : (resultOf m c main_v9 : FVec Ideal S8208x1280 .f32) (ix2 r k)
    = taps (m ((c : Thread nD τ).loc main_arg0)) (m ((c : Thread nD τ).loc main_arg1)) (m ((c : Thread nD τ).loc main_arg2)) r k := by
  rw [W_v9, final4, V_proj, V_w, V_b]
  unfold result conv taps
  dsimp only
  have e0 := rows_cols (m ((c : Thread nD τ).loc main_arg0)) 0 (by omega) r k
  have e1 := rows_cols (m ((c : Thread nD τ).loc main_arg0)) 1 (by omega) r k
  have e2 := rows_cols (m ((c : Thread nD τ).loc main_arg0)) 2 (by omega) r k
  have e3 := rows_cols (m ((c : Thread nD τ).loc main_arg0)) 3 (by omega) r k
  rw [Nat.zero_add] at e0
  refine (congrArg₂ (fun a b : EReal => a + b) (congrArg₂ (fun a b : EReal => a + b) (congrArg₂ (fun a b : EReal => a + b) (congrArg₂ (fun a b : EReal => a + b)
    (show _ = m ((c : Thread nD τ).loc main_arg2) (ix1 k) from ?_) (congrArg (fun a : EReal => _ * a) e3)) (congrArg (fun a : EReal => _ * a) e0))
    (congrArg (fun a : EReal => _ * a) e1)) (congrArg (fun a : EReal => _ * a) e2)).trans ?_
  · pointwise
  · exact order _ _ _ _ _

/-- The whole program: it ends with the result as the lines after the launch leave it, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v9) = resultOf m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).2 main_v9 (by decide), h.2 c⟩) (θ_run_and (run_main m ρ) (unchanged m ρ))

end Cert.ConvF

end
-- ==== Proof.ConvF.Claim.lean ====
module

public import proofs.«01_k».proof.Defs
public import proofs.«01_k».proof.Proof.ConvF.Results
public import proofs.«01_k».proof.Proof.Gen.ConvFRefIdeal.Run
public import proofs.«01_k».proof.Proof.Gen.ConvFRefIdeal.Read

@[expose] public section

set_option maxRecDepth 16384

noncomputable section

open Idealize.ShloMosaic Idealize.ShloMosaic.TcCoe Idealize.SL.Sem

namespace Cert.ConvF

/-- The reference's frame: it runs on the host alone and declares no semaphore. -/
theorem frame_ref : Cert.quiescent_ConvFRefIdeal (hConvFRefIdeal := Cert.ConvFRefIdeal.Gen.facts) := fun m g _ =>
  (θ_run Cert.ConvFRefIdeal.defs _ _).mono (fun r h => ⟨fun c => (h c).2, sem_eq_zero_of_no_sems (by decide) r.2⟩)
    (Cert.ConvFRefIdeal.Value.run (F := Ideal) m g)

/-- A row of the input in the reference, with its three rows of zeros. -/
theorem before_ref (x : FVec Ideal Cert.ConvFIdeal.S8208x8704 .f32) (n : ℕ) (k : Fin 1280) (h1 : ¬ n < 3 → n - 3 < 8208) (h2 : k.val < 8704) :
    (if h : n < 3 then (0 : EReal) else x (ix2 ⟨n - 3, h1 h⟩ ⟨k.val, h2⟩)) = before x n k := by
  unfold before
  by_cases h : n < 3
  · rw [dif_pos h, dif_neg (by omega)]
  · rw [dif_neg h, dif_pos ⟨by omega, h1 h⟩]

/-- A row of the input at the last tap. -/
theorem before_last (x : FVec Ideal Cert.ConvFIdeal.S8208x8704 .f32) (r : Fin 8208) (k : Fin 1280) (h2 : k.val < 8704) :
    x (ix2 r ⟨k.val, h2⟩) = before x (3 + r.val) k := by
  unfold before
  rw [dif_pos ⟨by omega, by omega⟩]
  exact congrArg₂ (fun a b => x (ix2 a b)) (Fin.ext (by show r.val = 3 + r.val - 3; omega)) rfl

/-- The call and the forward lines give the same array over the extended reals. -/
theorem algebraic : Cert.algebraic_ConvFIdeal_ConvFRefIdeal (hConvFIdeal := Cert.ConvFIdeal.Gen.facts) (hConvFRefIdeal := Cert.ConvFRefIdeal.Gen.facts) := by
  pair_intro
  · run_from Cert.ConvF.run m g
  · run_from Cert.ConvFRefIdeal.Value.run m' g'
    all_goals funext i
    all_goals idx_vars i
    refine Eq.trans ?_ (Cert.ConvF.output m c i0 i1).symm
    pointwise
    unfold taps
    let x : FVec Ideal Cert.ConvFIdeal.S8208x8704 .f32 := (m ((c.tc : Thread Cert.ConvFIdeal.nD Cert.ConvFIdeal.τ).loc Cert.ConvFIdeal.main_arg0))
    exact congrArg₂ (fun a b : EReal => a + b) (congrArg₂ (fun a b : EReal => a + b) (congrArg₂ (fun a b : EReal => a + b) (congrArg₂ (fun a b : EReal => a + b)
      (congrArg (fun a : EReal => _ * a) (before_ref x i0.val i1 (fun _ => by omega) (by omega))) (congrArg (fun a : EReal => _ * a) (before_ref x (1 + i0.val) i1 (fun _ => by omega) (by omega))))
      (congrArg (fun a : EReal => _ * a) (before_ref x (2 + i0.val) i1 (fun _ => by omega) (by omega)))) (congrArg (fun a : EReal => _ * a) (before_last x i0 i1 (by omega)))) rfl

end Cert.ConvF

end
-- ==== Proof.Common.Whole.lean ====
module

public import Idealize.ShloMosaic.Lib.Pipeline.ValueKit
public import Idealize.ShloMosaic.Lib.WritesUnit

@[expose] public section

set_option maxRecDepth 16384

noncomputable section

namespace Cert.Common

open Idealize.ShloMosaic Idealize.ShloMosaic.TcCoe

variable {F : FTy → Type} {sig : RefSig} {R C : ℕ}

/-- A load of all of a block. -/
theorem load_all {e : EltTy} (v : View sig .tc .vmem (⟨2, ![R, C]⟩ : Shape) e) (X : v.ty.Contents (Elt F))
    (inb : ∀ a : Fin 2, (![0, 0] : Fin 2 → ℕ) a + (![R, C] : Fin 2 → ℕ) a ≤ (![R, C] : Fin 2 → ℕ) a) :
    View.readAt (Elt F) v (Rect.unit (s := (⟨2, ![R, C]⟩ : Shape)) ![0, 0] ![R, C] inb).toLoadRect X = v.read (Elt F) X := by
  refine funext fun y => congrArg (v.read (Elt F) X) (funext fun a => Fin.ext ?_)
  fin_cases a
  · show 0 + 1 * (y (0 : Fin 2)).val = (y (0 : Fin 2)).val; omega
  · show 0 + 1 * (y (1 : Fin 2)).val = (y (1 : Fin 2)).val; omega

/-- A block after a write of all of it. -/
theorem read_write_all {e : EltTy} (v : View sig .tc .vmem (⟨2, ![R, C]⟩ : Shape) e) (f : v.ty.Contents (Elt F))
    (inb : ∀ a : Fin 2, (![0, 0] : Fin 2 → ℕ) a + (![R, C] : Fin 2 → ℕ) a ≤ (![R, C] : Fin 2 → ℕ) a)
    (w : (Rect.unit (s := (⟨2, ![R, C]⟩ : Shape)) ![0, 0] ![R, C] inb).shape.Idx → Elt F e) (L : List (View.Piece (Elt F) (⟨2, ![R, C]⟩ : Shape) e)) :
    v.read (Elt F) (v.writes (Elt F) f (⟨Rect.unit ![0, 0] ![R, C] inb, w⟩ :: L)) = w := by
  refine funext fun y => View.read_writes_cons_unit_of_mem v f inb w L y y rfl fun a => ?_
  fin_cases a
  · show (y (0 : Fin 2)).val = 0 + (y (0 : Fin 2)).val; omega
  · show (y (1 : Fin 2)).val = 0 + (y (1 : Fin 2)).val; omega

end Cert.Common

end
-- ==== Proof.Ffn.Frame.lean ====
module

public import proofs.«01_k».proof.Proof.Gen.FfnIdeal.Frame
public import proofs.«01_k».proof.Proof.Gen.FfnIdeal.Skeleton
public import proofs.«01_k».proof.Proof.Common.Whole
public import Idealize.ShloMosaic.Lib.Pipeline.TableIdle
public import Idealize.ShloMosaic.Lib.Claim
public import Idealize.ShloMosaic.Lib.Tactic

@[expose] public section

set_option maxRecDepth 16384
set_option maxHeartbeats 2000000

noncomputable section

/-! The frame of the call `mm_ffn_in`, over any floats, with what each of its outputs holds: the norm's rows are computed at the first column block of
a row block, kept in scratch, and multiplied by every column block of the weight. -/

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen Cert.Common

variable {F : FTy → Type} [FloatOps F]

local notation "𝕄" => MT nD τ sig Unit (Elt F) ℕ (UR sig nD τ) ℕ

/-! ## The body -/

section Body

variable (c : Dev nD) (i : grid0.Coords) (arg3 : Memref sig .tc .vmem S384x1024 .f32) (harg3 : arg3.IsWhole)
  (arg4 : Memref sig .tc .vmem S1024x2816 .bf16) (harg4 : arg4.IsWhole)
  (arg5 : Memref sig .tc .vmem S1x1024 .f32) (harg5 : arg5.IsWhole)
  (arg6 : Memref sig .tc .vmem S384x2816 .bf16) (harg6 : arg6.IsWhole)
  (arg7 : Memref sig .tc .vmem S384x1408 .bf16) (harg7 : arg7.IsWhole)
  (arg8 : Memref sig .tc .vmem S384x1024 .bf16) (harg8 : arg8.IsWhole)
  (arg9 : Memref sig .tc .vmem S384x1024 .bf16) (harg9 : arg9.IsWhole)
  (x0 : Vec F S384x1024 .f32) (x1 : Vec F S1024x2816 .bf16) (x2 : Vec F S1x1024 .f32)

/-- The body at a row block's first column block: it computes the norm's rows. -/
theorem body_A (hc0 : k0_cond1 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k0_pay3 (k0_pay1 x0 x2) x1) ∗ owns (c : Thread nD τ) arg7 fullShare (k0_pay4 (k0_pay1 x0 x2) x1) ∗ owns (c : Thread nD τ) arg8 fullShare (k0_pay1 x0 x2) ∗ owns (c : Thread nD τ) arg9 fullShare (k0_pay1 x0 x2)) -∗ K ⟨⟩))
      ⊢ wp frame (wpE (defs₀ (F := F)) Variants.none c none) E (cc0_mm_ffn_in i arg3 harg3 arg4 harg4 arg5 harg5 arg6 harg6 arg7 harg7 arg8 harg8 arg9 harg9) K := by
  simp only [cc0_mm_ffn_in_eq_skeleton]; unfold cc0_mm_ffn_in_skel
  unfold owns
  iintro ⟨⟨%f0, %hf0, H0⟩, ⟨%f1, %hf1, H1⟩, ⟨%f2, %hf2, H2⟩, ⟨%e0, %g0, -, O0⟩, ⟨%e1, %g1, -, O1⟩, ⟨%dh, %fh, -, HH⟩, ⟨%ds, %fs, -, HS⟩, Hk⟩
  sl_exec (disch := first | sl_exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [O0]
  · iexists _; isplitr; swap; · iexact O0
    ipureintro
    exact (read_write_all _ _ _ _ _).trans (congrArg₂ k0_pay3 ((load_all _ _ _).trans ((read_write_all _ _ _ _ _).trans (congrArg₂ k0_pay1 ((load_all _ _ _).trans hf0) ((load_all _ _ _).trans hf2)))) ((load_all _ _ _).trans hf1))
  isplitl [O1]
  · iexists _; isplitr; swap; · iexact O1
    ipureintro
    exact (read_write_all _ _ _ _ _).trans (congrArg₂ k0_pay4 ((load_all _ _ _).trans ((read_write_all _ _ _ _ _).trans (congrArg₂ k0_pay1 ((load_all _ _ _).trans hf0) ((load_all _ _ _).trans hf2)))) ((load_all _ _ _).trans hf1))
  isplitl [HH]
  · iexists _; isplitr; swap; · iexact HH
    ipureintro
    exact (read_write_all _ _ _ _ _).trans ((load_all _ _ _).trans ((read_write_all _ _ _ _ _).trans (congrArg₂ k0_pay1 ((load_all _ _ _).trans hf0) ((load_all _ _ _).trans hf2))))
  iexists _; isplitr; swap; · iexact HS
  ipureintro
  exact (read_write_all _ _ _ _ _).trans (congrArg₂ k0_pay1 ((load_all _ _ _).trans hf0) ((load_all _ _ _).trans hf2))

/-- The body at a later column block: it multiplies the rows that it finds. -/
theorem body_B (hc0 : ¬k0_cond1 i = 1#1) (xs : Vec F S384x1024 .bf16) (xh : Vec F S384x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xh ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k0_pay3 xs x1) ∗ owns (c : Thread nD τ) arg7 fullShare (k0_pay4 xs x1) ∗ owns (c : Thread nD τ) arg8 fullShare xh ∗ owns (c : Thread nD τ) arg9 fullShare xs) -∗ K ⟨⟩))
      ⊢ wp frame (wpE (defs₀ (F := F)) Variants.none c none) E (cc0_mm_ffn_in i arg3 harg3 arg4 harg4 arg5 harg5 arg6 harg6 arg7 harg7 arg8 harg8 arg9 harg9) K := by
  simp only [cc0_mm_ffn_in_eq_skeleton]; unfold cc0_mm_ffn_in_skel
  unfold owns
  iintro ⟨⟨%f0, %hf0, H0⟩, ⟨%f1, %hf1, H1⟩, ⟨%f2, %hf2, H2⟩, ⟨%e0, %g0, -, O0⟩, ⟨%e1, %g1, -, O1⟩, ⟨%fh, %hfh, HH⟩, ⟨%fs, %hfs, HS⟩, Hk⟩
  sl_exec (disch := first | sl_exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [O0]
  · iexists _; isplitr; swap; · iexact O0
    ipureintro
    exact (read_write_all _ _ _ _ _).trans (congrArg₂ k0_pay3 ((load_all _ _ _).trans hfs) ((load_all _ _ _).trans hf1))
  isplitl [O1]
  · iexists _; isplitr; swap; · iexact O1
    ipureintro
    exact (read_write_all _ _ _ _ _).trans (congrArg₂ k0_pay4 ((load_all _ _ _).trans hfs) ((load_all _ _ _).trans hf1))
  isplitl [HH]; · iexists _; isplitr; · ipureintro; exact hfh
                  iexact HH
  iexists _; isplitr; · ipureintro; exact hfs
  iexact HS

end Body

/-! ## What the buffers hold after each point -/

variable (m : (ℓ : Loc nD τ sig) → Buf (Elt F) ℓ) (ρ : Dev nD → PrngReg)

/-- The norm's rows that the scratch holds after a point. -/
def normAt (c : Dev nD) : (n : ℕ) → n < cfg0.N → Vec F S384x1024 .bf16
  | 0, h => k0_pay1 (iblk m c 0 ⟨0, h⟩) (iblk m c 2 ⟨0, h⟩)
  | n + 1, h => if (n + 1) % 2 = 0 then k0_pay1 (iblk m c 0 ⟨n + 1, h⟩) (iblk m c 2 ⟨n + 1, h⟩) else normAt c n (Nat.lt_of_succ_lt h)

/-- At the first column block they are computed. -/
theorem normAt_first (c : Dev nD) (t : Fin cfg0.N) (h0 : t.val % 2 = 0) :
    normAt m c t.val t.isLt = k0_pay1 (iblk m c 0 t) (iblk m c 2 t) := by
  obtain ⟨n, hn⟩ := t
  cases n with
  | zero => rfl
  | succ n => exact if_pos h0

/-- At a later one they are kept. -/
theorem normAt_later (c : Dev nD) (t : Fin cfg0.N) (h0 : ¬t.val % 2 = 0) :
    normAt m c t.val t.isLt = normAt m c (t.val - 1) (Nat.lt_of_le_of_lt (Nat.sub_le _ _) t.isLt) := by
  obtain ⟨n, hn⟩ := t
  cases n with
  | zero => exact absurd rfl h0
  | succ n => exact if_neg h0

/-- The scratch. -/
abbrev scr : Memref sig .tc .vmem S384x1024 .bf16 := Memref.whole cc0_scratch0

/-- The invariant that the launch hands over, with the scratch at anything. -/
theorem start_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before a point: after the first the scratch holds the norm's rows. -/
def Inv (c : Dev nD) : (n : ℕ) → n ≤ cfg0.N → sProp 𝕄
  | 0, _ => Pipeline.ΦA spec0 c
  | n + 1, hn => iprop(iprop(owns (c : Thread nD τ) scr fullShare (normAt m c n hn)) ∗ (∃ r, prngReg c r))

/-- Before the first point. -/
theorem Inv_zero (c : Dev nD) (n : ℕ) (h : n ≤ cfg0.N) (hz : n = 0) : Inv m c n h = Pipeline.ΦA spec0 c := by
  subst hz; rfl

/-- After a point. -/
theorem Inv_succ (c : Dev nD) (n : ℕ) (hn : n < cfg0.N) :
    Inv m c (n + 1) hn = iprop(iprop(owns (c : Thread nD τ) scr fullShare (normAt m c n hn)) ∗ (∃ r, prngReg c r)) := rfl

/-- Before a point that is not the first. -/
theorem Inv_pos (c : Dev nD) (n : ℕ) (h : n ≤ cfg0.N) (hz : n ≠ 0) :
    Inv m c n h = iprop(iprop(owns (c : Thread nD τ) scr fullShare (normAt m c (n - 1) (by omega))) ∗ (∃ r, prngReg c r)) := by
  cases n with
  | zero => exact absurd rfl hz
  | succ n => rfl

/-! ## The pipeline's proof data -/

/-- The proof data: the arrays as the region finds them, and each window's buffer after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (normAt m c t.val t.isLt) (iblk m c 1 t)
    | ⟨4, _⟩ => k0_pay4 (normAt m c t.val t.isLt) (iblk m c 1 t)
    | ⟨5, _⟩ => normAt m c t.val t.isLt
  Φ t := Inv m c t.val (Nat.le_of_lt_succ t.isLt)
  q _ := fullShare
  owed _ := 0

/-- The proof data's arrays. -/
theorem A_eq (c : Dev nD) (w : Fin cfg0.W) : (dats m 0 c).A w = V m c (Pipeline.arrRef spec0 w) := by
  dsimp only [dats]

/-- The invariant at a point's start. -/
theorem Inv_castSucc (c : Dev nD) (t : Fin cfg0.N) : (dats m 0 c).Φ t.castSucc = Inv m c t.val (Nat.le_of_lt t.isLt) := by
  dsimp only [dats]; exact Pipeline.Dat.Φ_castSucc (Inv m c) t

/-- Input 1 stays in its buffer. -/
theorem after0_0 (c : Dev nD) (t : Fin cfg0.N) : (dats m 0 c).after 0 t = iblk m c 0 t := by dsimp only [dats]
/-- Input 2 stays in its buffer. -/
theorem after0_1 (c : Dev nD) (t : Fin cfg0.N) : (dats m 0 c).after 1 t = iblk m c 1 t := by dsimp only [dats]
/-- Input 3 stays in its buffer. -/
theorem after0_2 (c : Dev nD) (t : Fin cfg0.N) : (dats m 0 c).after 2 t = iblk m c 2 t := by dsimp only [dats]
/-- Output 1's buffer. -/
theorem after0_3 (c : Dev nD) (t : Fin cfg0.N) : (dats m 0 c).after 3 t = k0_pay3 (normAt m c t.val t.isLt) (iblk m c 1 t) := by dsimp only [dats]
/-- Output 2's buffer. -/
theorem after0_4 (c : Dev nD) (t : Fin cfg0.N) : (dats m 0 c).after 4 t = k0_pay4 (normAt m c t.val t.isLt) (iblk m c 1 t) := by dsimp only [dats]
/-- The norm's buffer. -/
theorem after0_5 (c : Dev nD) (t : Fin cfg0.N) : (dats m 0 c).after 5 t = normAt m c t.val t.isLt := by dsimp only [dats]
/-- Input 1 is in its buffer before the point. -/
theorem before0_0 (c : Dev nD) (t : Fin cfg0.N) (d) : (dats m 0 c).before 0 t d = iblk m c 0 t :=
  before0_0_of m (dats m 0 c) (A_eq m c 0) (after0_0 m c) t d
/-- Input 2 is in its buffer before the point. -/
theorem before0_1 (c : Dev nD) (t : Fin cfg0.N) (d) : (dats m 0 c).before 1 t d = iblk m c 1 t :=
  before0_1_of m (dats m 0 c) (A_eq m c 1) (after0_1 m c) t d
/-- Input 3 is in its buffer before the point. -/
theorem before0_2 (c : Dev nD) (t : Fin cfg0.N) (d) : (dats m 0 c).before 2 t d = iblk m c 2 t :=
  before0_2_of m (dats m 0 c) (A_eq m c 2) (after0_2 m c) t d

/-- When the condition of the norm holds. -/
theorem first_iff : ∀ t : Fin cfg0.N, k0_cond1 (grid0.coords t) = 1#1 ↔ t.val % 2 = 0 :=
  (by decide +kernel : ∀ t : Fin grid0.N, _)

/-- The norm's window is stored into at the first column block alone. -/
theorem idle_iff : ∀ t : Fin cfg0.N, cfg0.idle 5 (grid0.coords t) = !decide (t.val % 2 = 0) :=
  (by decide +kernel : ∀ t : Fin grid0.N, _)

/-- Its buffer is fresh at the first column block alone. -/
theorem fresh_iff (t : Fin cfg0.N) : cfg0.fresh 5 t.val = decide (t.val % 2 = 0) :=
  Pipeline.Cfg.fresh_tab cfg0 5 (fun n => decide (n % 2 = 0)) rfl (by decide +kernel) t.val (Nat.le_of_lt t.isLt)

/-- The rows are kept where the window is not stored into. -/
theorem kept (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ _ hf
  rw [fresh_iff t] at hf
  rw [after0_5, after0_5]
  exact normAt_later m c t (of_decide_eq_false hf)

/-- At a later column block the norm's window still holds the rows. -/
theorem before0_5_kept (c : Dev nD) (t : Fin cfg0.N) (h0 : ¬t.val % 2 = 0) (d) :
    (dats m 0 c).before 5 t d = normAt m c (t.val - 1) (Nat.lt_of_le_of_lt (Nat.sub_le _ _) t.isLt) := by
  rw [Dat.before_out_traj _ 5 rfl (fun _ _ => rfl) (kept m c) t.val t rfl d,
    if_neg (by rw [fresh_iff t, decide_eq_false h0]; exact Bool.false_ne_true)]
  dsimp only [dats]

/-! ## The body at a point -/

/-- The buffer of window 1 at a point. -/
abbrev ms0_0 (t : Fin cfg0.N) : Memref sig .tc .vmem S384x1024 .f32 := win0_0.stage (cfg0.slots t 0)
/-- The buffer of window 2 at a point. -/
abbrev ms0_1 (t : Fin cfg0.N) : Memref sig .tc .vmem S1024x2816 .bf16 := win0_1.stage (cfg0.slots t 1)
/-- The buffer of window 3 at a point. -/
abbrev ms0_2 (t : Fin cfg0.N) : Memref sig .tc .vmem S1x1024 .f32 := win0_2.stage (cfg0.slots t 2)
/-- The buffer of window 4 at a point. -/
abbrev ms0_3 (t : Fin cfg0.N) : Memref sig .tc .vmem S384x2816 .bf16 := win0_3.stage (cfg0.slots t 3)
/-- The buffer of window 5 at a point. -/
abbrev ms0_4 (t : Fin cfg0.N) : Memref sig .tc .vmem S384x1408 .bf16 := win0_4.stage (cfg0.slots t 4)
/-- The buffer of window 6 at a point. -/
abbrev ms0_5 (t : Fin cfg0.N) : Memref sig .tc .vmem S384x1024 .bf16 := win0_5.stage (cfg0.slots t 5)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The norm's window is handed back with the rows. -/
theorem leaves_rows (c : Dev nD) (t : Fin cfg0.N) :
    owns (c : Thread nD τ) (ms0_5 t) fullShare (normAt m c t.val t.isLt) ⊢ ((dats m 0 c).leavesExact 5 t : sProp 𝕄) := by
  by_cases h : cfg0.idle 5 (grid0.coords t) = true ∧ (cfg0.win 5).flush t = false
  · rw [Dat.leavesExact_idle (dats m 0 c) 5 t h.1 h.2]
    have h0 : ¬t.val % 2 = 0 := by have := h.1; rw [idle_iff t] at this; exact of_decide_eq_false (by simpa using this)
    rw [normAt_later m c t h0]
    iintro H
    iexists (fun _ => Classical.choice inferInstance)
    rw [before0_5_kept m c t h0]
    iexact H
  · have e : (dats m 0 c).leavesExact 5 t = owns (c : Thread nD τ) (ms0_5 t) fullShare ((dats m 0 c).after 5 t) := by
      unfold Dat.leavesExact
      cases hi : cfg0.idle 5 (grid0.coords t) <;> cases hf : (cfg0.win 5).flush t <;> first | rfl | exact absurd ⟨hi, hf⟩ h
    rw [e, after0_5]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Inv m c (t.val + 1) t.isLt from rfl, Inv_succ]
  rw [show (dats m 0 c).leavesExact 0 t = owns (c : Thread nD τ) (ms0_0 t) fullShare ((dats m 0 c).after 0 t) from rfl, after0_0,
    show (dats m 0 c).leavesExact 1 t = owns (c : Thread nD τ) (ms0_1 t) fullShare ((dats m 0 c).after 1 t) from rfl, after0_1,
    show (dats m 0 c).leavesExact 2 t = owns (c : Thread nD τ) (ms0_2 t) fullShare ((dats m 0 c).after 2 t) from rfl, after0_2,
    show (dats m 0 c).leavesExact 3 t = owns (c : Thread nD τ) (ms0_3 t) fullShare ((dats m 0 c).after 3 t) from rfl, after0_3,
    show (dats m 0 c).leavesExact 4 t = owns (c : Thread nD τ) (ms0_4 t) fullShare ((dats m 0 c).after 4 t) from rfl, after0_4]
  by_cases h0 : t.val % 2 = 0
  · have hs : (dats m 0 c).Φ t.castSucc ⊢ (iprop((∃ d, owns (c : Thread nD τ) scr fullShare d) ∗ (∃ r, prngReg c r)) : sProp 𝕄) := by
      rw [Inv_castSucc m c t]
      by_cases hz : t.val = 0
      · rw [Inv_zero m c _ _ hz, start_eq]
      · rw [Inv_pos m c _ _ hz]
        iintro ⟨HS, Hg⟩
        isplitl [HS]; · iexists _; iexact HS
        iexact Hg
    refine (sep_mono_l hs : _ ⊢ _).trans ?_
    show iprop(iprop((∃ d, owns (c : Thread nD τ) scr fullShare d) ∗ (∃ r, prngReg c r)) ∗ _) ⊢ _
    iintro ⟨⟨HS, Hg⟩, Ho, ⟨%d0, H0⟩, ⟨%d1, H1⟩, ⟨%d2, H2⟩, ⟨%d3, O0⟩, ⟨%d4, O1⟩, ⟨%dh, HH⟩⟩
    iapply (body_A c (grid0.coords t) _ _ _ _ _ _ _ _ _ _ _ _ _ _ _ _ _ ((first_iff t).mpr h0) Set.univ _)
    isplitl [H0]; · iexact H0
    isplitl [H1]; · iexact H1
    isplitl [H2]; · iexact H2
    isplitl [O0]; · iexists _; iexact O0
    isplitl [O1]; · iexists _; iexact O1
    isplitl [HH]; · iexists _; iexact HH
    isplitl [HS]; · iexact HS
    iintro ⟨H0, H1, H2, O0, O1, HH, HS⟩
    isplitl [HS Hg]
    · isplitl [HS]; · rw [normAt_first m c t h0]; iexact HS
      iexact Hg
    isplitl [Ho]; · iexact Ho
    isplitl [H0]; · iexact H0
    isplitl [H1]; · iexact H1
    isplitl [H2]; · iexact H2
    isplitl [O0]; · rw [normAt_first m c t h0]; iexact O0
    isplitl [O1]; · rw [normAt_first m c t h0]; iexact O1
    iapply (leaves_rows m c t)
    rw [normAt_first m c t h0]; iexact HH
  · rw [Inv_castSucc m c t, Inv_pos m c _ _ (fun hz => h0 (by rw [hz]))]
    simp only [before0_5_kept m c t h0]
    iintro ⟨⟨HS, Hg⟩, Ho, ⟨%d0, H0⟩, ⟨%d1, H1⟩, ⟨%d2, H2⟩, ⟨%d3, O0⟩, ⟨%d4, O1⟩, ⟨%dh, HH⟩⟩
    iapply (body_B c (grid0.coords t) _ _ _ _ _ _ _ _ _ _ _ _ _ _ _ _ _ (fun h => h0 ((first_iff t).mp h)) _ _ Set.univ _)
    isplitl [H0]; · iexact H0
    isplitl [H1]; · iexact H1
    isplitl [H2]; · iexact H2
    isplitl [O0]; · iexists _; iexact O0
    isplitl [O1]; · iexists _; iexact O1
    isplitl [HH]; · iexact HH
    isplitl [HS]; · iexact HS
    iintro ⟨H0, H1, H2, O0, O1, HH, HS⟩
    isplitl [HS Hg]
    · isplitl [HS]; · rw [normAt_later m c t h0]; iexact HS
      iexact Hg
    isplitl [Ho]; · iexact Ho
    isplitl [H0]; · iexact H0
    isplitl [H1]; · iexact H1
    isplitl [H2]; · iexact H2
    isplitl [O0]; · rw [normAt_later m c t h0]; iexact O0
    isplitl [O1]; · rw [normAt_later m c t h0]; iexact O1
    iapply (leaves_rows m c t)
    rw [normAt_later m c t h0]; iexact HH

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The pipeline's obligation of its body. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

/-- What the launch hands over is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]

/-- After the last point the scratch's contents are forgotten. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 44 := N_0; omega), start_eq]
  iintro ⟨HS, Hg⟩
  isplitl [HS]; · iexists _; iexact HS
  iexact Hg

set_option backward.isDefEq.respectTransparency.types false in
/-- The program runs, and leaves its arrays at what the proof data say and every counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The program ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Ffn

end
-- ==== Proof.Ffn.Value.lean ====
module

public import proofs.«01_k».proof.Proof.Common.Norm
public import proofs.«01_k».proof.Proof.Common.Sigmoid
public import proofs.«01_k».proof.Proof.Ffn.Frame
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

/-! What the feed-forward block's first call computes: the normalised rows, those by its first weight, and the gate of
their two halves. -/

namespace Cert.Ffn.Value

open Cert.FfnIdeal Cert.FfnIdeal.Gen Cert.Common Cert.Ffn

variable (m : (ℓ : Loc nD τ sig) → Buf (Elt Ideal) ℓ)

/-- The kernel's rows of the residual stream: 240 rows of zeros in front. -/
def padded (x : FVec Ideal S8208x1024 .f32) : FVec Ideal S8448x1024 .f32 :=
  pad S8448x1024 ![240, 0] ![0, 0] ![0, 0] x (sitofp .f32 (constantI S_ 32 0#32)) pads_S8208x1024_S8448x1024_24000_000 h_S_

/-- The weight in the kernel's order of columns, rounded: each column block holds its columns of both halves. -/
def cols (w : FVec Ideal S1024x5632 .f32) : FVec Ideal S1024x5632 .bf16 :=
  truncf .bf16 (concatenate S1024x5632 1 [⟨S1024x1408, extractStridedSlice S1024x1408 ![0, 0] w slices_S1024x5632_S1024x1408_0_0⟩,
     ⟨S1024x1408, extractStridedSlice S1024x1408 ![0, 2816] w slices_S1024x5632_S1024x1408_0_2816⟩,
     ⟨S1024x1408, extractStridedSlice S1024x1408 ![0, 1408] w slices_S1024x5632_S1024x1408_0_1408⟩,
     ⟨S1024x1408, extractStridedSlice S1024x1408 ![0, 4224] w slices_S1024x5632_S1024x1408_0_4224⟩] concatenates_S1024x1408_S1024x1408_S1024x1408_S1024x1408_S1024x5632_d1) bitsLt_bf16_f32

/-- Where a column goes: the second quarter and the third change places. -/
def exch (j : ℕ) : ℕ := if j < 1408 then j else if j < 2816 then j + 1408 else if j < 4224 then j - 1408 else j

/-- The same within the array. -/
def swap (j : Fin 5632) : Fin 5632 := ⟨exch j.val, by unfold exch; split_ifs <;> omega⟩

/-- Twice is not at all. -/
theorem swap_swap (j : Fin 5632) : swap (swap j) = j := by
  refine Fin.ext ?_
  show exch (exch j.val) = j.val
  unfold exch
  split_ifs <;> omega

/-- A row of the sequence after the padding. -/
theorem padded_apply (x : FVec Ideal S8208x1024 .f32) (r : Fin 8208) (k : Fin 1024) : padded x (ix2 ⟨240 + r.val, by omega⟩ k) = x (ix2 r k) := by
  pointwise [padded]

/-- The kernel's columns are the weight's, exchanged. -/
theorem cols_apply (w : FVec Ideal S1024x5632 .f32) (k : Fin 1024) (j : Fin 5632) : cols w (ix2 k j) = w (ix2 k (swap j)) := by
  pointwise [cols]
  have e : (swap j).val = exch j.val := rfl
  unfold exch at e
  split_ifs at e ⊢
  all_goals try omega
  all_goals refine congrArg w (congrArg (ix2 k) (Fin.ext ?_))
  all_goals rw [e]
  all_goals dsimp only
  all_goals split_ifs <;> omega

/-- The residual stream, padded. -/
theorem V_h (c : Dev nD) : V m c main_v0 = padded (m ((c : Thread nD τ).loc main_arg0)) := by
  unfold V V0
  simp only [hostOps0, hostOps0_1, hostOps0_2, List.flatten_cons, List.flatten_nil, List.append_nil, List.cons_append, List.nil_append]
  after_reads_simp
  rfl

/-- The weight in the kernel's columns. -/
theorem V_w (c : Dev nD) : V m c main_v6 = cols (m ((c : Thread nD τ).loc main_arg1)) := by
  unfold V V0
  simp only [hostOps0, hostOps0_1, hostOps0_2, List.flatten_cons, List.flatten_nil, List.append_nil, List.cons_append, List.nil_append]
  after_reads_simp
  rfl

/-- The norm's scale, as a row. -/
theorem V_g (c : Dev nD) : V m c main_v7 = fun i => (m ((c : Thread nD τ).loc main_arg2) : FVec Ideal S1024 .f32) (ix1 (i 1)) := by
  unfold V V0
  simp only [hostOps0, hostOps0_1, hostOps0_2, List.flatten_cons, List.flatten_nil, List.append_nil, List.cons_append, List.nil_append]
  after_reads_simp
  funext i
  pointwise
  try blk_ext

/-- Which block each window stages at a point. -/
theorem idx : ∀ t : Fin cfg0.N, win0_0.index t = ![t.val / 2, 0] ∧ win0_1.index t = ![0, t.val % 2] ∧ win0_2.index t = ![0, 0]
    ∧ win0_3.index t = ![t.val / 2, t.val % 2] ∧ win0_4.index t = ![t.val / 2, t.val % 2] ∧ win0_5.index t = ![t.val / 2, 0] :=
  (by decide +kernel : ∀ t : Fin grid0.N, _)

/-- A row of an array. -/
def row (x : FVec Ideal S8448x1024 .f32) (r : Fin 8448) (k : Fin 1024) : EReal := x (ix2 r k)

/-- The normalised rows. -/
def normed (x : FVec Ideal S8448x1024 .f32) (g : FVec Ideal S1x1024 .f32) : FVec Ideal S8448x1024 .bf16 := fun i =>
  x (ix2 (i 0) (i 1)) * rstd (row x (i 0)) * g (ix2 0 (i 1))

/-- The norm's rows that are computed at a point. -/
theorem norm_point (c : Dev nD) (t : Fin cfg0.N) (y : S384x1024.Idx) :
    k0_pay1 (F := Ideal) (iblk m c 0 t) (iblk m c 2 t) y
      = normed (V m c main_v0) (V m c main_v7) (ix2 ⟨t.val / 2 * 384 + (y 0).val, by idx_bounds; omega⟩ (y 1)) := by
  pointwise [k0_pay1]
  unfold normed rstd meanSq row
  blk_point [iblk, V, idx t]

/-- The norm's rows that the scratch holds after a point. -/
theorem norm_rows (c : Dev nD) : ∀ (n : ℕ) (h : n < cfg0.N) (y : S384x1024.Idx),
    normAt (F := Ideal) m c n h y = normed (V m c main_v0) (V m c main_v7) (ix2 ⟨n / 2 * 384 + (y 0).val, by have hn : n < 44 := lt_of_lt_of_eq h N_0; idx_bounds; omega⟩ (y 1))
  | n, h, y => by
    by_cases h0 : n % 2 = 0
    · rw [normAt_first m c ⟨n, h⟩ h0]
      exact norm_point m c ⟨n, h⟩ y
    · have hn : n - 1 < n := by omega
      rw [normAt_later m c ⟨n, h⟩ h0, norm_rows c (n - 1) (Nat.lt_of_le_of_lt (Nat.sub_le _ _) h) y]
      refine congrArg _ (congrArg₂ ix2 (Fin.ext ?_) rfl)
      show (n - 1) / 2 * 384 + (y 0).val = n / 2 * 384 + (y 0).val
      omega

/-- Rows by the weight. -/
def projected (x : FVec Ideal S8448x1024 .bf16) (w : FVec Ideal S1024x5632 .bf16) : FVec Ideal S8448x5632 .bf16 := fun i =>
  ∑ k, x (ix2 (i 0) k) * w (ix2 k (i 1))

/-- The gate as the kernel writes it. -/
def gate (g u : EReal) : EReal := g * sg g * u

/-- The gate of the two halves of each column block. -/
def gated (p : FVec Ideal S8448x5632 .bf16) : FVec Ideal S8448x2816 .bf16 := fun i =>
  gate (p (ix2 (i 0) ⟨(i 1).val / 1408 * 2816 + (i 1).val % 1408, by idx_bounds; omega⟩))
    (p (ix2 (i 0) ⟨(i 1).val / 1408 * 2816 + (1408 + (i 1).val % 1408), by idx_bounds; omega⟩))

/-- The call's third output: the normalised rows. -/
theorem final5 (c : Dev nD) : (dats (F := Ideal) m 0 c).arrAt 5 (cfgs 0).N = normed (V m c main_v0) (V m c main_v7) := by
  refine (dats m 0 c).arrAt_eq_of_covers 5 _ (by decide +kernel) fun t _ y => ?_
  blk_simp
  rw [after0_5]
  refine (norm_rows m c t.val t.isLt y).trans (congrArg _ ?_)
  blk_ext [idx t]

/-- The product that a point computes. -/
theorem product (c : Dev nD) (t : Fin cfg0.N) (y : S384x2816.Idx) :
    k0_pay2 (F := Ideal) (normAt m c t.val t.isLt) (iblk m c 1 t) y
      = projected (normed (V m c main_v0) (V m c main_v7)) (V m c main_v6)
          (ix2 ⟨t.val / 2 * 384 + (y 0).val, by idx_bounds; omega⟩ ⟨t.val % 2 * 2816 + (y 1).val, by idx_bounds; omega⟩) := by
  pointwise [k0_pay2]
  unfold projected
  refine Finset.sum_congr (M := EReal) rfl fun k _ => congrArg₂ (fun a b : EReal => a * b) (norm_rows m c t.val t.isLt _) ?_
  have hw : iblk m c 1 t (ix2 k (y 1)) = V m c main_v6 (ix2 k ⟨t.val % 2 * 2816 + (y (1 : Fin 2)).val, by idx_bounds; omega⟩) := by
    blk_point [iblk, idx t]
  exact hw

/-- The call's first output: the normalised rows by the weight. -/
theorem final3 (c : Dev nD) : (dats (F := Ideal) m 0 c).arrAt 3 (cfgs 0).N =
    projected (normed (V m c main_v0) (V m c main_v7)) (V m c main_v6) := by
  refine (dats m 0 c).arrAt_eq_of_covers 3 _ (by decide +kernel) fun t _ y => ?_
  have e0 : (((win0_3.blk t).view.emb y) (0 : Fin 2)).val = t.val / 2 * 384 + (y (0 : Fin 2)).val := by blk_simp [idx t]
  have e1 : (((win0_3.blk t).view.emb y) (1 : Fin 2)).val = t.val % 2 * 2816 + (y (1 : Fin 2)).val := by blk_simp [idx t]
  blk_simp
  rw [after0_3]
  refine (product m c t y).trans (congrArg _ ?_)
  blk_ext [idx t]

/-- The gate that a point computes. -/
theorem gate_point (n : Vec Ideal S384x1024 .bf16) (w : Vec Ideal S1024x2816 .bf16) (y : S384x1408.Idx) :
    k0_pay4 (F := Ideal) n w y = gate (k0_pay2 n w (ix2 (y 0) ⟨(y 1).val, by idx_bounds; omega⟩)) (k0_pay2 n w (ix2 (y 0) ⟨1408 + (y 1).val, by idx_bounds; omega⟩)) := by
  unfold k0_pay4
  generalize k0_pay2 n w = p
  pointwise
  unfold gate sg
  rfl

/-- The call's second output: the gate. -/
theorem final4 (c : Dev nD) : (dats (F := Ideal) m 0 c).arrAt 4 (cfgs 0).N =
    gated (projected (normed (V m c main_v0) (V m c main_v7)) (V m c main_v6)) := by
  refine (dats m 0 c).arrAt_eq_of_covers 4 _ (by decide +kernel) fun t _ y => ?_
  have e0 : (((win0_4.blk t).view.emb y) (0 : Fin 2)).val = t.val / 2 * 384 + (y (0 : Fin 2)).val := by blk_simp [idx t]
  have e1 : (((win0_4.blk t).view.emb y) (1 : Fin 2)).val = t.val % 2 * 1408 + (y (1 : Fin 2)).val := by blk_simp [idx t]
  have hy : (y (1 : Fin 2)).val < 1408 := (y (1 : Fin 2)).isLt
  blk_simp
  rw [after0_4]
  refine (gate_point _ _ y).trans ?_
  rw [product, product]
  unfold gated
  refine congrArg₂ gate (congrArg _ (congrArg₂ ix2 (Fin.ext e0.symm) (Fin.ext ?_))) (congrArg _ (congrArg₂ ix2 (Fin.ext e0.symm) (Fin.ext ?_)))
  · show t.val % 2 * 2816 + (y (1 : Fin 2)).val = (((win0_4.blk t).view.emb y) (1 : Fin 2)).val / 1408 * 2816 + (((win0_4.blk t).view.emb y) (1 : Fin 2)).val % 1408
    rw [e1]; omega
  · show t.val % 2 * 2816 + (1408 + (y (1 : Fin 2)).val) = (((win0_4.blk t).view.emb y) (1 : Fin 2)).val / 1408 * 2816 + (1408 + (((win0_4.blk t).view.emb y) (1 : Fin 2)).val % 1408)
    rw [e1]; omega

end Cert.Ffn.Value

end
-- ==== Proof.Ffn.Results.lean ====
module

public import proofs.«01_k».proof.Proof.Ffn.Value

@[expose] public section

set_option maxRecDepth 16384

noncomputable section

open Idealize.ShloMosaic Idealize.ShloMosaic.TcCoe Idealize.SL.Sem
open Idealize.ShloMosaic.Pipeline (Dat)

/-! The results of the program around the feed-forward block's first call, and its run. -/

namespace Cert.Ffn.Value

open Cert.FfnIdeal Cert.FfnIdeal.Gen Cert.Common Cert.Ffn

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

/-- The kernel's result `b` after the host operations that follow its launch. -/
abbrev resultOf (b : Dev nD) := Pipeline.afterTail₀ cfgs (dats (F := Ideal) m) 0 (V0 m) [hostOps1] b

/-- The rows after the padding of the second output. -/
theorem W_v17 (c : Dev nD) (r : Fin 8208) (k : Fin 2816) : (resultOf m c main_v17 : FVec Ideal S8208x2816 .f32) (ix2 r k) =
    ((dats m 0 c).arrAt 4 (cfgs 0).N : FVec Ideal S8448x2816 .bf16) (ix2 ⟨240 + r.val, by omega⟩ k) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v8_1) = _ from found m c 4]
  pointwise
  try blk_ext

/-- The rows after the padding of the third output. -/
theorem W_v19 (c : Dev nD) (r : Fin 8208) (k : Fin 1024) : (resultOf m c main_v19 : FVec Ideal S8208x1024 .f32) (ix2 r k) =
    ((dats m 0 c).arrAt 5 (cfgs 0).N : FVec Ideal S8448x1024 .bf16) (ix2 ⟨240 + r.val, by omega⟩ k) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v8_2) = _ from found m c 5]
  pointwise
  try blk_ext

/-- The lines that put the columns of the first output back, from the output on. -/
def back (x : FVec Ideal S8448x5632 .bf16) : FVec Ideal S8208x5632 .f32 :=
  let y : FVec Ideal S8208x5632 .f32 := extf .f32 (extractStridedSlice S8208x5632 ![240, 0] x slices_S8448x5632_S8208x5632_240_0) bitsLt_bf16_f32
  concatenate S8208x5632 1 [⟨S8208x1408, extractStridedSlice S8208x1408 ![0, 0] y slices_S8208x5632_S8208x1408_0_0⟩,
    ⟨S8208x1408, extractStridedSlice S8208x1408 ![0, 2816] y slices_S8208x5632_S8208x1408_0_2816⟩,
    ⟨S8208x1408, extractStridedSlice S8208x1408 ![0, 1408] y slices_S8208x5632_S8208x1408_0_1408⟩,
    ⟨S8208x1408, extractStridedSlice S8208x1408 ![0, 4224] y slices_S8208x5632_S8208x1408_0_4224⟩] concatenates_S8208x1408_S8208x1408_S8208x1408_S8208x1408_S8208x5632_d1

/-- The rows after the padding, the columns exchanged. -/
theorem back_apply (x : FVec Ideal S8448x5632 .bf16) (r : Fin 8208) (k : Fin 5632) : back x (ix2 r k) = x (ix2 ⟨240 + r.val, by omega⟩ (swap k)) := by
  pointwise [back]
  have e : (swap k).val = exch k.val := rfl
  unfold exch at e
  split_ifs at e ⊢
  all_goals try omega
  all_goals refine congrArg x (congrArg (ix2 ⟨240 + r.val, by omega⟩) (Fin.ext ?_))
  all_goals rw [e]
  all_goals dsimp only
  all_goals split_ifs <;> omega

/-- The lines after the call from any contents of the buffers. -/
theorem after_v15 (V : Valuation τ sig (Elt Ideal)) : StableHlo.after hostOps1 V (Proc.devRef .tc main_v15) = back (V (Proc.devRef .tc main_v8_0)) := by
  unfold hostOps1
  after_reads_simp
  rfl

/-- The rows after the padding of the first output, its columns exchanged. -/
theorem W_v15 (c : Dev nD) (r : Fin 8208) (k : Fin 5632) : (resultOf m c main_v15 : FVec Ideal S8208x5632 .f32) (ix2 r k) =
    ((dats m 0 c).arrAt 3 (cfgs 0).N : FVec Ideal S8448x5632 .bf16) (ix2 ⟨240 + r.val, by omega⟩ (swap k)) := by
  unfold resultOf Pipeline.afterTail₀
  simp only [List.flatten_cons, List.flatten_nil, List.append_nil]
  rw [after_v15, show Pipeline.withArrays (cfgs 0).spec c (V0 m c) (fun w => (dats m 0 c).arrAt w (cfgs 0).N) (Proc.devRef .tc main_v8_0) = _ from found m c 3]
  exact back_apply _ r k

variable (c : Dev nD) (r : Fin 8208)

/-- The residual stream that the program is given. -/
abbrev argH : FVec Ideal S8208x1024 .f32 := m ((c : Thread nD τ).loc main_arg0)
/-- The weight that the program is given. -/
abbrev argW : FVec Ideal S1024x5632 .f32 := m ((c : Thread nD τ).loc main_arg1)
/-- The norm's scale that the program is given. -/
abbrev argG : FVec Ideal S1024 .f32 := m ((c : Thread nD τ).loc main_arg2)

/-- The normalised row as the reference writes it. -/
def rmsnorm (x : FVec Ideal S8208x1024 .f32) (g : FVec Ideal S1024 .f32) (r : Fin 8208) (k : Fin 1024) : EReal :=
  x (ix2 r k) * rstd (fun j => x (ix2 r j)) * g (ix1 k)

/-- The kernel's normalised row is the reference's. -/
theorem normed_row (x : FVec Ideal S8208x1024 .f32) (g : FVec Ideal S1024 .f32) (k : Fin 1024) :
    normed (padded x) (fun i => g (ix1 (i 1))) (ix2 ⟨240 + r.val, by omega⟩ k) = rmsnorm x g r k := by
  unfold normed rmsnorm
  exact congrArg₂ (· * ·) (congrArg₂ (· * ·) (padded_apply x r k) (congrArg rstd (funext fun j => padded_apply x r j))) rfl

/-- The third result: the normalised rows. -/
theorem third (k : Fin 1024) : (resultOf m c main_v19 : FVec Ideal S8208x1024 .f32) (ix2 r k) = rmsnorm (argH m c) (argG m c) r k := by
  rw [W_v19, final5, V_h, V_g]
  exact normed_row r _ _ k

/-- The normalised rows by the weight. -/
def product_row (x : FVec Ideal S8208x1024 .f32) (w : FVec Ideal S1024x5632 .f32) (g : FVec Ideal S1024 .f32) (r : Fin 8208) (j : Fin 5632) : EReal :=
  ∑ k, rmsnorm x g r k * w (ix2 k j)

/-- The kernel's product at a column is the reference's at the column that it comes from. -/
theorem product_at (x : FVec Ideal S8208x1024 .f32) (w : FVec Ideal S1024x5632 .f32) (g : FVec Ideal S1024 .f32) (q j : Fin 5632) (h : swap q = j) :
    projected (normed (padded x) (fun i => g (ix1 (i 1)))) (cols w) (ix2 ⟨240 + r.val, by omega⟩ q) = product_row x w g r j :=
  Finset.sum_congr (M := EReal) rfl fun k _ => congrArg₂ (fun a b : EReal => a * b) (normed_row r x g k)
    ((cols_apply w k q).trans (congrArg (fun j => w (ix2 k j)) h))

/-- The first result: the normalised rows by the weight. -/
theorem first (k : Fin 5632) : (resultOf m c main_v15 : FVec Ideal S8208x5632 .f32) (ix2 r k) = product_row (argH m c) (argW m c) (argG m c) r k := by
  rw [W_v15, final3, V_h, V_g, V_w]
  exact product_at r _ _ _ _ _ (swap_swap k)

/-- Where the kernel keeps the first half's columns. -/
theorem swap_gate (k : Fin 2816) : swap ⟨k.val / 1408 * 2816 + k.val % 1408, by omega⟩ = ⟨k.val, by omega⟩ := by
  refine Fin.ext ?_
  show exch (k.val / 1408 * 2816 + k.val % 1408) = k.val
  unfold exch
  split_ifs <;> omega

/-- Where it keeps the second half's. -/
theorem swap_up (k : Fin 2816) : swap ⟨k.val / 1408 * 2816 + (1408 + k.val % 1408), by omega⟩ = ⟨2816 + k.val, by omega⟩ := by
  refine Fin.ext ?_
  show exch (k.val / 1408 * 2816 + (1408 + k.val % 1408)) = 2816 + k.val
  unfold exch
  split_ifs <;> omega

/-- The gate as the reference writes it. -/
def silu (g u : EReal) : EReal := g * Ideal.logistic g * u

/-- The two gates are one. -/
theorem gate_eq (g u : EReal) : gate g u = silu g u := by
  unfold gate silu; rw [sg_eq]

/-- The second result: the gate of the product's two halves. -/
theorem second (k : Fin 2816) : (resultOf m c main_v17 : FVec Ideal S8208x2816 .f32) (ix2 r k)
    = silu (product_row (argH m c) (argW m c) (argG m c) r ⟨k.val, by omega⟩) (product_row (argH m c) (argW m c) (argG m c) r ⟨2816 + k.val, by omega⟩) := by
  rw [W_v17, final4, V_h, V_g, V_w]
  exact (congrArg₂ gate (product_at r _ _ _ _ _ (swap_gate k)) (product_at r _ _ _ _ _ (swap_up k))).trans (gate_eq _ _)

/-- The whole program: it ends with the three results as the lines after the launch leave them, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v15) = resultOf m c main_v15
      ∧ r.2.mem ((c.tc : Thread nD τ).loc main_v17) = resultOf m c main_v17
      ∧ r.2.mem ((c.tc : Thread nD τ).loc main_v19) = resultOf m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).2 main_v15 (by decide), (h.1 c).2 main_v17 (by decide), (h.1 c).2 main_v19 (by decide), h.2 c⟩)
    (θ_run_and (run_main m ρ) (unchanged m ρ))

end Cert.Ffn.Value

end
-- ==== Proof.Ffn.Claim.lean ====
module

public import proofs.«01_k».proof.Defs
public import proofs.«01_k».proof.Proof.Ffn.Results
public import proofs.«01_k».proof.Proof.Gen.FfnRefIdeal.Run
public import proofs.«01_k».proof.Proof.Gen.FfnRefIdeal.Read

@[expose] public section

set_option maxRecDepth 16384

noncomputable section

open Idealize.ShloMosaic Idealize.ShloMosaic.TcCoe Idealize.SL.Sem

namespace Cert.Ffn

/-- The reference's frame: it runs on the host alone and declares no semaphore. -/
theorem frame_ref : Cert.quiescent_FfnRefIdeal (hFfnRefIdeal := Cert.FfnRefIdeal.Gen.facts) := fun m g _ =>
  (θ_run Cert.FfnRefIdeal.defs _ _).mono (fun r h => ⟨fun c => (h c).2.2.2, sem_eq_zero_of_no_sems (by decide) r.2⟩)
    (Cert.FfnRefIdeal.Value.run (F := Ideal) m g)

/-- The call and the forward lines give the same three arrays over the extended reals. -/
theorem algebraic : Cert.algebraic_FfnIdeal_FfnRefIdeal (hFfnIdeal := Cert.FfnIdeal.Gen.facts) (hFfnRefIdeal := Cert.FfnRefIdeal.Gen.facts) := by
  pair_intro
  · run_from Cert.Ffn.Value.run m g
  · run_from Cert.FfnRefIdeal.Value.run m' g'
    all_goals funext i
    all_goals idx_vars i
    · refine Eq.trans ?_ (Cert.Ffn.Value.first m c i0 i1).symm
      pointwise
      try unfold Ffn.Value.silu Ideal.logistic
      try unfold Ffn.Value.product_row
      unfold Ffn.Value.rmsnorm Common.rstd Common.meanSq
      rfl
    · refine Eq.trans ?_ (Cert.Ffn.Value.second m c i0 i1).symm
      pointwise
      try unfold Ffn.Value.silu Ideal.logistic
      try unfold Ffn.Value.product_row
      unfold Ffn.Value.rmsnorm Common.rstd Common.meanSq
      rfl
    · refine Eq.trans ?_ (Cert.Ffn.Value.third m c i0 i1).symm
      pointwise
      try unfold Ffn.Value.silu Ideal.logistic
      try unfold Ffn.Value.product_row
      unfold Ffn.Value.rmsnorm Common.rstd Common.meanSq
      rfl

end Cert.Ffn

end
-- ==== Proof.Ffn.Words.lean ====
module

public import proofs.«01_k».proof.Defs
public import proofs.«01_k».proof.Proof.Gen.Ffn
public import proofs.«01_k».proof.Proof.Ffn.Frame

@[expose] public section

set_option maxRecDepth 16384

/-! The program on words is, name for name, the one whose frame `Ffn.Frame` proves over any floats. -/

noncomputable section

namespace Cert.Ffn

open Idealize.ShloMosaic Idealize.SL.Sem

attribute [local instance] Cert.FfnIdeal.Gen.facts Cert.Ffn.Gen.facts

/-- The two programs' bodies are one. -/
theorem bodies : Cert.Ffn.defs₀ (F := Bits) = Cert.FfnIdeal.defs₀ := by
  unfold Cert.Ffn.defs₀ Cert.FfnIdeal.defs₀
  refine congrArg Defs.onTc (funext fun l => funext fun x => ?_)
  match l, x with
  | 0, (t, s) => rfl
  | ⟨_ + 1, h⟩, _ => exact absurd h (Nat.not_lt.2 (Nat.le_add_left _ _))

/-- So are their tables of launches. -/
theorem launches : Cert.Ffn.defs (F := Bits) = Cert.FfnIdeal.defs := by
  unfold Cert.Ffn.defs Cert.FfnIdeal.defs
  exact congrArg (Pipeline.defs _) bodies

/-- The program on words ends, with its arguments unchanged and every counter at zero. -/
theorem frame_words : Cert.quiescent_Ffn (hFfn := Cert.Ffn.Gen.facts) := fun m g _ =>
  Eq.mpr (congrArg (fun d => θ_run d _ _ _) launches) (frame (F := Bits) m g)

end Cert.Ffn

end
-- ==== Proof.Proj.Frame.lean ====
module

public import proofs.«01_k».proof.Proof.Gen.ProjIdeal.Frame
public import proofs.«01_k».proof.Proof.Gen.ProjIdeal.Skeleton
public import proofs.«01_k».proof.Proof.Common.Whole
public import Idealize.ShloMosaic.Lib.Pipeline.TableIdle
public import Idealize.ShloMosaic.Lib.Claim
public import Idealize.ShloMosaic.Lib.Tactic

@[expose] public section

set_option maxRecDepth 16384
set_option maxHeartbeats 2000000

noncomputable section

/-! The frame of the call `mm_proj`, over any floats, with what each of its outputs holds: the norm's rows are computed at the first column block of
a row block, kept in scratch, and multiplied by every column block of the weight. -/

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen Cert.Common

variable {F : FTy → Type} [FloatOps F]

local notation "𝕄" => MT nD τ sig Unit (Elt F) ℕ (UR sig nD τ) ℕ

/-! ## The body -/

section Body

variable (c : Dev nD) (i : grid0.Coords) (arg3 : Memref sig .tc .vmem S768x1024 .f32) (harg3 : arg3.IsWhole)
  (arg4 : Memref sig .tc .vmem S1024x1792 .bf16) (harg4 : arg4.IsWhole)
  (arg5 : Memref sig .tc .vmem S1x1024 .f32) (harg5 : arg5.IsWhole)
  (arg6 : Memref sig .tc .vmem S768x1792 .bf16) (harg6 : arg6.IsWhole)
  (arg7 : Memref sig .tc .vmem S768x1024 .bf16) (harg7 : arg7.IsWhole)
  (arg8 : Memref sig .tc .vmem S768x1024 .bf16) (harg8 : arg8.IsWhole)
  (x0 : Vec F S768x1024 .f32) (x1 : Vec F S1024x1792 .bf16) (x2 : Vec F S1x1024 .f32)

/-- The body at a row block's first column block: it computes the norm's rows. -/
theorem body_A (hc0 : k0_cond1 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k0_pay2 (k0_pay1 x0 x2) x1) ∗ owns (c : Thread nD τ) arg7 fullShare (k0_pay1 x0 x2) ∗ owns (c : Thread nD τ) arg8 fullShare (k0_pay1 x0 x2)) -∗ K ⟨⟩))
      ⊢ wp frame (wpE (defs₀ (F := F)) Variants.none c none) E (cc0_mm_proj i arg3 harg3 arg4 harg4 arg5 harg5 arg6 harg6 arg7 harg7 arg8 harg8) K := by
  simp only [cc0_mm_proj_eq_skeleton]; unfold cc0_mm_proj_skel
  unfold owns
  iintro ⟨⟨%f0, %hf0, H0⟩, ⟨%f1, %hf1, H1⟩, ⟨%f2, %hf2, H2⟩, ⟨%e0, %g0, -, O0⟩, ⟨%dh, %fh, -, HH⟩, ⟨%ds, %fs, -, HS⟩, Hk⟩
  sl_exec (disch := first | sl_exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [O0]
  · iexists _; isplitr; swap; · iexact O0
    ipureintro
    exact (read_write_all _ _ _ _ _).trans (congrArg₂ k0_pay2 ((load_all _ _ _).trans ((read_write_all _ _ _ _ _).trans (congrArg₂ k0_pay1 ((load_all _ _ _).trans hf0) ((load_all _ _ _).trans hf2)))) ((load_all _ _ _).trans hf1))
  isplitl [HH]
  · iexists _; isplitr; swap; · iexact HH
    ipureintro
    exact (read_write_all _ _ _ _ _).trans ((load_all _ _ _).trans ((read_write_all _ _ _ _ _).trans (congrArg₂ k0_pay1 ((load_all _ _ _).trans hf0) ((load_all _ _ _).trans hf2))))
  iexists _; isplitr; swap; · iexact HS
  ipureintro
  exact (read_write_all _ _ _ _ _).trans (congrArg₂ k0_pay1 ((load_all _ _ _).trans hf0) ((load_all _ _ _).trans hf2))

/-- The body at a later column block: it multiplies the rows that it finds. -/
theorem body_B (hc0 : ¬k0_cond1 i = 1#1) (xs : Vec F S768x1024 .bf16) (xh : Vec F S768x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xh ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k0_pay2 xs x1) ∗ owns (c : Thread nD τ) arg7 fullShare xh ∗ owns (c : Thread nD τ) arg8 fullShare xs) -∗ K ⟨⟩))
      ⊢ wp frame (wpE (defs₀ (F := F)) Variants.none c none) E (cc0_mm_proj i arg3 harg3 arg4 harg4 arg5 harg5 arg6 harg6 arg7 harg7 arg8 harg8) K := by
  simp only [cc0_mm_proj_eq_skeleton]; unfold cc0_mm_proj_skel
  unfold owns
  iintro ⟨⟨%f0, %hf0, H0⟩, ⟨%f1, %hf1, H1⟩, ⟨%f2, %hf2, H2⟩, ⟨%e0, %g0, -, O0⟩, ⟨%fh, %hfh, HH⟩, ⟨%fs, %hfs, HS⟩, Hk⟩
  sl_exec (disch := first | sl_exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [O0]
  · iexists _; isplitr; swap; · iexact O0
    ipureintro
    exact (read_write_all _ _ _ _ _).trans (congrArg₂ k0_pay2 ((load_all _ _ _).trans hfs) ((load_all _ _ _).trans hf1))
  isplitl [HH]; · iexists _; isplitr; · ipureintro; exact hfh
                  iexact HH
  iexists _; isplitr; · ipureintro; exact hfs
  iexact HS

end Body

/-! ## What the buffers hold after each point -/

variable (m : (ℓ : Loc nD τ sig) → Buf (Elt F) ℓ) (ρ : Dev nD → PrngReg)

/-- The norm's rows that the scratch holds after a point. -/
def normAt (c : Dev nD) : (n : ℕ) → n < cfg0.N → Vec F S768x1024 .bf16
  | 0, h => k0_pay1 (iblk m c 0 ⟨0, h⟩) (iblk m c 2 ⟨0, h⟩)
  | n + 1, h => if (n + 1) % 5 = 0 then k0_pay1 (iblk m c 0 ⟨n + 1, h⟩) (iblk m c 2 ⟨n + 1, h⟩) else normAt c n (Nat.lt_of_succ_lt h)

/-- At the first column block they are computed. -/
theorem normAt_first (c : Dev nD) (t : Fin cfg0.N) (h0 : t.val % 5 = 0) :
    normAt m c t.val t.isLt = k0_pay1 (iblk m c 0 t) (iblk m c 2 t) := by
  obtain ⟨n, hn⟩ := t
  cases n with
  | zero => rfl
  | succ n => exact if_pos h0

/-- At a later one they are kept. -/
theorem normAt_later (c : Dev nD) (t : Fin cfg0.N) (h0 : ¬t.val % 5 = 0) :
    normAt m c t.val t.isLt = normAt m c (t.val - 1) (Nat.lt_of_le_of_lt (Nat.sub_le _ _) t.isLt) := by
  obtain ⟨n, hn⟩ := t
  cases n with
  | zero => exact absurd rfl h0
  | succ n => exact if_neg h0

/-- The scratch. -/
abbrev scr : Memref sig .tc .vmem S768x1024 .bf16 := Memref.whole cc0_scratch0

/-- The invariant that the launch hands over, with the scratch at anything. -/
theorem start_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before a point: after the first the scratch holds the norm's rows. -/
def Inv (c : Dev nD) : (n : ℕ) → n ≤ cfg0.N → sProp 𝕄
  | 0, _ => Pipeline.ΦA spec0 c
  | n + 1, hn => iprop(iprop(owns (c : Thread nD τ) scr fullShare (normAt m c n hn)) ∗ (∃ r, prngReg c r))

/-- Before the first point. -/
theorem Inv_zero (c : Dev nD) (n : ℕ) (h : n ≤ cfg0.N) (hz : n = 0) : Inv m c n h = Pipeline.ΦA spec0 c := by
  subst hz; rfl

/-- After a point. -/
theorem Inv_succ (c : Dev nD) (n : ℕ) (hn : n < cfg0.N) :
    Inv m c (n + 1) hn = iprop(iprop(owns (c : Thread nD τ) scr fullShare (normAt m c n hn)) ∗ (∃ r, prngReg c r)) := rfl

/-- Before a point that is not the first. -/
theorem Inv_pos (c : Dev nD) (n : ℕ) (h : n ≤ cfg0.N) (hz : n ≠ 0) :
    Inv m c n h = iprop(iprop(owns (c : Thread nD τ) scr fullShare (normAt m c (n - 1) (by omega))) ∗ (∃ r, prngReg c r)) := by
  cases n with
  | zero => exact absurd rfl hz
  | succ n => rfl

/-! ## The pipeline's proof data -/

/-- The proof data: the arrays as the region finds them, and each window's buffer after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normAt m c t.val t.isLt) (iblk m c 1 t)
    | ⟨4, _⟩ => normAt m c t.val t.isLt
  Φ t := Inv m c t.val (Nat.le_of_lt_succ t.isLt)
  q _ := fullShare
  owed _ := 0

/-- The proof data's arrays. -/
theorem A_eq (c : Dev nD) (w : Fin cfg0.W) : (dats m 0 c).A w = V m c (Pipeline.arrRef spec0 w) := by
  dsimp only [dats]

/-- The invariant at a point's start. -/
theorem Inv_castSucc (c : Dev nD) (t : Fin cfg0.N) : (dats m 0 c).Φ t.castSucc = Inv m c t.val (Nat.le_of_lt t.isLt) := by
  dsimp only [dats]; exact Pipeline.Dat.Φ_castSucc (Inv m c) t

/-- Input 1 stays in its buffer. -/
theorem after0_0 (c : Dev nD) (t : Fin cfg0.N) : (dats m 0 c).after 0 t = iblk m c 0 t := by dsimp only [dats]
/-- Input 2 stays in its buffer. -/
theorem after0_1 (c : Dev nD) (t : Fin cfg0.N) : (dats m 0 c).after 1 t = iblk m c 1 t := by dsimp only [dats]
/-- Input 3 stays in its buffer. -/
theorem after0_2 (c : Dev nD) (t : Fin cfg0.N) : (dats m 0 c).after 2 t = iblk m c 2 t := by dsimp only [dats]
/-- Output 1's buffer. -/
theorem after0_3 (c : Dev nD) (t : Fin cfg0.N) : (dats m 0 c).after 3 t = k0_pay2 (normAt m c t.val t.isLt) (iblk m c 1 t) := by dsimp only [dats]
/-- The norm's buffer. -/
theorem after0_4 (c : Dev nD) (t : Fin cfg0.N) : (dats m 0 c).after 4 t = normAt m c t.val t.isLt := by dsimp only [dats]
/-- Input 1 is in its buffer before the point. -/
theorem before0_0 (c : Dev nD) (t : Fin cfg0.N) (d) : (dats m 0 c).before 0 t d = iblk m c 0 t :=
  before0_0_of m (dats m 0 c) (A_eq m c 0) (after0_0 m c) t d
/-- Input 2 is in its buffer before the point. -/
theorem before0_1 (c : Dev nD) (t : Fin cfg0.N) (d) : (dats m 0 c).before 1 t d = iblk m c 1 t :=
  before0_1_of m (dats m 0 c) (A_eq m c 1) (after0_1 m c) t d
/-- Input 3 is in its buffer before the point. -/
theorem before0_2 (c : Dev nD) (t : Fin cfg0.N) (d) : (dats m 0 c).before 2 t d = iblk m c 2 t :=
  before0_2_of m (dats m 0 c) (A_eq m c 2) (after0_2 m c) t d

/-- When the condition of the norm holds. -/
theorem first_iff : ∀ t : Fin cfg0.N, k0_cond1 (grid0.coords t) = 1#1 ↔ t.val % 5 = 0 :=
  (by decide +kernel : ∀ t : Fin grid0.N, _)

/-- The norm's window is stored into at the first column block alone. -/
theorem idle_iff : ∀ t : Fin cfg0.N, cfg0.idle 4 (grid0.coords t) = !decide (t.val % 5 = 0) :=
  (by decide +kernel : ∀ t : Fin grid0.N, _)

/-- Its buffer is fresh at the first column block alone. -/
theorem fresh_iff (t : Fin cfg0.N) : cfg0.fresh 4 t.val = decide (t.val % 5 = 0) :=
  Pipeline.Cfg.fresh_tab cfg0 4 (fun n => decide (n % 5 = 0)) rfl (by decide +kernel) t.val (Nat.le_of_lt t.isLt)

/-- The rows are kept where the window is not stored into. -/
theorem kept (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ _ hf
  rw [fresh_iff t] at hf
  rw [after0_4, after0_4]
  exact normAt_later m c t (of_decide_eq_false hf)

/-- At a later column block the norm's window still holds the rows. -/
theorem before0_4_kept (c : Dev nD) (t : Fin cfg0.N) (h0 : ¬t.val % 5 = 0) (d) :
    (dats m 0 c).before 4 t d = normAt m c (t.val - 1) (Nat.lt_of_le_of_lt (Nat.sub_le _ _) t.isLt) := by
  rw [Dat.before_out_traj _ 4 rfl (fun _ _ => rfl) (kept m c) t.val t rfl d,
    if_neg (by rw [fresh_iff t, decide_eq_false h0]; exact Bool.false_ne_true)]
  dsimp only [dats]

/-! ## The body at a point -/

/-- The buffer of window 1 at a point. -/
abbrev ms0_0 (t : Fin cfg0.N) : Memref sig .tc .vmem S768x1024 .f32 := win0_0.stage (cfg0.slots t 0)
/-- The buffer of window 2 at a point. -/
abbrev ms0_1 (t : Fin cfg0.N) : Memref sig .tc .vmem S1024x1792 .bf16 := win0_1.stage (cfg0.slots t 1)
/-- The buffer of window 3 at a point. -/
abbrev ms0_2 (t : Fin cfg0.N) : Memref sig .tc .vmem S1x1024 .f32 := win0_2.stage (cfg0.slots t 2)
/-- The buffer of window 4 at a point. -/
abbrev ms0_3 (t : Fin cfg0.N) : Memref sig .tc .vmem S768x1792 .bf16 := win0_3.stage (cfg0.slots t 3)
/-- The buffer of window 5 at a point. -/
abbrev ms0_4 (t : Fin cfg0.N) : Memref sig .tc .vmem S768x1024 .bf16 := win0_4.stage (cfg0.slots t 4)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The norm's window is handed back with the rows. -/
theorem leaves_rows (c : Dev nD) (t : Fin cfg0.N) :
    owns (c : Thread nD τ) (ms0_4 t) fullShare (normAt m c t.val t.isLt) ⊢ ((dats m 0 c).leavesExact 4 t : sProp 𝕄) := by
  by_cases h : cfg0.idle 4 (grid0.coords t) = true ∧ (cfg0.win 4).flush t = false
  · rw [Dat.leavesExact_idle (dats m 0 c) 4 t h.1 h.2]
    have h0 : ¬t.val % 5 = 0 := by have := h.1; rw [idle_iff t] at this; exact of_decide_eq_false (by simpa using this)
    rw [normAt_later m c t h0]
    iintro H
    iexists (fun _ => Classical.choice inferInstance)
    rw [before0_4_kept m c t h0]
    iexact H
  · have e : (dats m 0 c).leavesExact 4 t = owns (c : Thread nD τ) (ms0_4 t) fullShare ((dats m 0 c).after 4 t) := by
      unfold Dat.leavesExact
      cases hi : cfg0.idle 4 (grid0.coords t) <;> cases hf : (cfg0.win 4).flush t <;> first | rfl | exact absurd ⟨hi, hf⟩ h
    rw [e, after0_4]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Inv m c (t.val + 1) t.isLt from rfl, Inv_succ]
  rw [show (dats m 0 c).leavesExact 0 t = owns (c : Thread nD τ) (ms0_0 t) fullShare ((dats m 0 c).after 0 t) from rfl, after0_0,
    show (dats m 0 c).leavesExact 1 t = owns (c : Thread nD τ) (ms0_1 t) fullShare ((dats m 0 c).after 1 t) from rfl, after0_1,
    show (dats m 0 c).leavesExact 2 t = owns (c : Thread nD τ) (ms0_2 t) fullShare ((dats m 0 c).after 2 t) from rfl, after0_2,
    show (dats m 0 c).leavesExact 3 t = owns (c : Thread nD τ) (ms0_3 t) fullShare ((dats m 0 c).after 3 t) from rfl, after0_3]
  by_cases h0 : t.val % 5 = 0
  · have hs : (dats m 0 c).Φ t.castSucc ⊢ (iprop((∃ d, owns (c : Thread nD τ) scr fullShare d) ∗ (∃ r, prngReg c r)) : sProp 𝕄) := by
      rw [Inv_castSucc m c t]
      by_cases hz : t.val = 0
      · rw [Inv_zero m c _ _ hz, start_eq]
      · rw [Inv_pos m c _ _ hz]
        iintro ⟨HS, Hg⟩
        isplitl [HS]; · iexists _; iexact HS
        iexact Hg
    refine (sep_mono_l hs : _ ⊢ _).trans ?_
    show iprop(iprop((∃ d, owns (c : Thread nD τ) scr fullShare d) ∗ (∃ r, prngReg c r)) ∗ _) ⊢ _
    iintro ⟨⟨HS, Hg⟩, Ho, ⟨%d0, H0⟩, ⟨%d1, H1⟩, ⟨%d2, H2⟩, ⟨%d3, O0⟩, ⟨%dh, HH⟩⟩
    iapply (body_A c (grid0.coords t) _ _ _ _ _ _ _ _ _ _ _ _ _ _ _ ((first_iff t).mpr h0) Set.univ _)
    isplitl [H0]; · iexact H0
    isplitl [H1]; · iexact H1
    isplitl [H2]; · iexact H2
    isplitl [O0]; · iexists _; iexact O0
    isplitl [HH]; · iexists _; iexact HH
    isplitl [HS]; · iexact HS
    iintro ⟨H0, H1, H2, O0, HH, HS⟩
    isplitl [HS Hg]
    · isplitl [HS]; · rw [normAt_first m c t h0]; iexact HS
      iexact Hg
    isplitl [Ho]; · iexact Ho
    isplitl [H0]; · iexact H0
    isplitl [H1]; · iexact H1
    isplitl [H2]; · iexact H2
    isplitl [O0]; · rw [normAt_first m c t h0]; iexact O0
    iapply (leaves_rows m c t)
    rw [normAt_first m c t h0]; iexact HH
  · rw [Inv_castSucc m c t, Inv_pos m c _ _ (fun hz => h0 (by rw [hz]))]
    simp only [before0_4_kept m c t h0]
    iintro ⟨⟨HS, Hg⟩, Ho, ⟨%d0, H0⟩, ⟨%d1, H1⟩, ⟨%d2, H2⟩, ⟨%d3, O0⟩, ⟨%dh, HH⟩⟩
    iapply (body_B c (grid0.coords t) _ _ _ _ _ _ _ _ _ _ _ _ _ _ _ (fun h => h0 ((first_iff t).mp h)) _ _ Set.univ _)
    isplitl [H0]; · iexact H0
    isplitl [H1]; · iexact H1
    isplitl [H2]; · iexact H2
    isplitl [O0]; · iexists _; iexact O0
    isplitl [HH]; · iexact HH
    isplitl [HS]; · iexact HS
    iintro ⟨H0, H1, H2, O0, HH, HS⟩
    isplitl [HS Hg]
    · isplitl [HS]; · rw [normAt_later m c t h0]; iexact HS
      iexact Hg
    isplitl [Ho]; · iexact Ho
    isplitl [H0]; · iexact H0
    isplitl [H1]; · iexact H1
    isplitl [H2]; · iexact H2
    isplitl [O0]; · rw [normAt_later m c t h0]; iexact O0
    iapply (leaves_rows m c t)
    rw [normAt_later m c t h0]; iexact HH

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The pipeline's obligation of its body. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

/-- What the launch hands over is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]

/-- After the last point the scratch's contents are forgotten. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 55 := N_0; omega), start_eq]
  iintro ⟨HS, Hg⟩
  isplitl [HS]; · iexists _; iexact HS
  iexact Hg

set_option backward.isDefEq.respectTransparency.types false in
/-- The program runs, and leaves its arrays at what the proof data say and every counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The program ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proj

end
-- ==== Proof.Proj.Value.lean ====
module

public import proofs.«01_k».proof.Proof.Common.Norm
public import proofs.«01_k».proof.Proof.Proj.Frame
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

/-! What the forward pass's first call computes: the normalised rows, and those by the input projection. -/

namespace Cert.Proj.Value

open Cert.ProjIdeal Cert.ProjIdeal.Gen Cert.Common Cert.Proj

variable (m : (ℓ : Loc nD τ sig) → Buf (Elt Ideal) ℓ)

/-- The kernel's rows of the residual stream: 240 rows of zeros in front. -/
def padded (x : FVec Ideal S8208x1024 .f32) : FVec Ideal S8448x1024 .f32 :=
  pad S8448x1024 ![240, 0] ![0, 0] ![0, 0] x (sitofp .f32 (constantI S_ 32 0#32)) pads_S8208x1024_S8448x1024_24000_000 h_S_

/-- The weight in the kernel's order of columns, rounded. -/
def cols (w : FVec Ideal S1024x8704 .f32) : FVec Ideal S1024x8960 .bf16 :=
  truncf .bf16 (concatenate S1024x8960 1 [⟨S1024x6144, extractStridedSlice S1024x6144 ![0, 2560] w slices_S1024x8704_S1024x6144_0_2560⟩,
     ⟨S1024x256, broadcastInDim S1024x256 ![] bcast_S_S1024x256 (constant S_ .f32 0x00000000#32)⟩, ⟨S1024x2560, extractStridedSlice S1024x2560 ![0, 0] w slices_S1024x8704_S1024x2560_0_0⟩]
     concatenates_S1024x6144_S1024x256_S1024x2560_S1024x8960_d1) bitsLt_bf16_f32

/-- A row of the sequence after the padding. -/
theorem padded_apply (x : FVec Ideal S8208x1024 .f32) (r : Fin 8208) (k : Fin 1024) : padded x (ix2 ⟨240 + r.val, by omega⟩ k) = x (ix2 r k) := by
  pointwise [padded]

/-- The kernel's first columns are the weight's from 2560 on. -/
theorem cols_low (w : FVec Ideal S1024x8704 .f32) (k : Fin 1024) (j : Fin 6144) : cols w (ix2 k ⟨j.val, by omega⟩) = w (ix2 k ⟨2560 + j.val, by omega⟩) := by
  pointwise [cols]

/-- The kernel's last columns are the weight's first. -/
theorem cols_high (w : FVec Ideal S1024x8704 .f32) (k : Fin 1024) (j : Fin 2560) : cols w (ix2 k ⟨6400 + j.val, by omega⟩) = w (ix2 k ⟨j.val, by omega⟩) := by
  pointwise [cols]
  rw [dif_neg (by omega), dif_neg (by omega)]
  refine congrArg w (congrArg (ix2 k) (Fin.ext ?_))
  show 6400 + j.val - 6144 - 256 = j.val
  omega

/-- The residual stream, padded. -/
theorem V_h (c : Dev nD) : V m c main_v0 = padded (m ((c : Thread nD τ).loc main_arg0)) := by
  unfold V V0
  simp only [hostOps0, hostOps0_1, hostOps0_2, List.flatten_cons, List.flatten_nil, List.append_nil, List.cons_append, List.nil_append]
  after_reads_simp
  rfl

/-- The weight in the kernel's columns. -/
theorem V_w (c : Dev nD) : V m c main_v5 = cols (m ((c : Thread nD τ).loc main_arg1)) := by
  unfold V V0
  simp only [hostOps0, hostOps0_1, hostOps0_2, List.flatten_cons, List.flatten_nil, List.append_nil, List.cons_append, List.nil_append]
  after_reads_simp
  rfl

/-- The norm's scale, as a row. -/
theorem V_g (c : Dev nD) : V m c main_v6 = fun i => (m ((c : Thread nD τ).loc main_arg2) : FVec Ideal S1024 .f32) (ix1 (i 1)) := by
  unfold V V0
  simp only [hostOps0, hostOps0_1, hostOps0_2, List.flatten_cons, List.flatten_nil, List.append_nil, List.cons_append, List.nil_append]
  after_reads_simp
  funext i
  pointwise
  try blk_ext

/-- Which block each window stages at a point. -/
theorem idx : ∀ t : Fin cfg0.N, win0_0.index t = ![t.val / 5, 0] ∧ win0_1.index t = ![0, t.val % 5] ∧ win0_2.index t = ![0, 0]
    ∧ win0_3.index t = ![t.val / 5, t.val % 5] ∧ win0_4.index t = ![t.val / 5, 0] :=
  (by decide +kernel : ∀ t : Fin grid0.N, _)

/-- A row of an array. -/
def row (x : FVec Ideal S8448x1024 .f32) (r : Fin 8448) (k : Fin 1024) : EReal := x (ix2 r k)

/-- The normalised rows. -/
def normed (x : FVec Ideal S8448x1024 .f32) (g : FVec Ideal S1x1024 .f32) : FVec Ideal S8448x1024 .bf16 := fun i =>
  x (ix2 (i 0) (i 1)) * rstd (row x (i 0)) * g (ix2 0 (i 1))

/-- The norm's rows that are computed at a point. -/
theorem norm_point (c : Dev nD) (t : Fin cfg0.N) (y : S768x1024.Idx) :
    k0_pay1 (F := Ideal) (iblk m c 0 t) (iblk m c 2 t) y
      = normed (V m c main_v0) (V m c main_v6) (ix2 ⟨t.val / 5 * 768 + (y 0).val, by idx_bounds; omega⟩ (y 1)) := by
  pointwise [k0_pay1]
  unfold normed rstd meanSq row
  blk_point [iblk, V, idx t]

/-- The norm's rows that the scratch holds after a point. -/
theorem norm_rows (c : Dev nD) : ∀ (n : ℕ) (h : n < cfg0.N) (y : S768x1024.Idx),
    normAt (F := Ideal) m c n h y = normed (V m c main_v0) (V m c main_v6) (ix2 ⟨n / 5 * 768 + (y 0).val, by have hn : n < 55 := lt_of_lt_of_eq h N_0; idx_bounds; omega⟩ (y 1))
  | n, h, y => by
    by_cases h0 : n % 5 = 0
    · rw [normAt_first m c ⟨n, h⟩ h0]
      exact norm_point m c ⟨n, h⟩ y
    · have hn : n - 1 < n := by omega
      rw [normAt_later m c ⟨n, h⟩ h0, norm_rows c (n - 1) (Nat.lt_of_le_of_lt (Nat.sub_le _ _) h) y]
      refine congrArg _ (congrArg₂ ix2 (Fin.ext ?_) rfl)
      show (n - 1) / 5 * 768 + (y 0).val = n / 5 * 768 + (y 0).val
      omega

/-- Rows by the weight. -/
def projected (x : FVec Ideal S8448x1024 .bf16) (w : FVec Ideal S1024x8960 .bf16) : FVec Ideal S8448x8960 .bf16 := fun i =>
  ∑ k, x (ix2 (i 0) k) * w (ix2 k (i 1))

/-- The call's second output: the normalised rows. -/
theorem final4 (c : Dev nD) : (dats (F := Ideal) m 0 c).arrAt 4 (cfgs 0).N = normed (V m c main_v0) (V m c main_v6) := by
  refine (dats m 0 c).arrAt_eq_of_covers 4 _ (by decide +kernel) fun t _ y => ?_
  blk_simp
  rw [after0_4]
  refine (norm_rows m c t.val t.isLt y).trans (congrArg _ ?_)
  blk_ext [idx t]

/-- The call's first output: the normalised rows by the weight. -/
theorem final3 (c : Dev nD) : (dats (F := Ideal) m 0 c).arrAt 3 (cfgs 0).N =
    projected (normed (V m c main_v0) (V m c main_v6)) (V m c main_v5) := by
  refine (dats m 0 c).arrAt_eq_of_covers 3 _ (by decide +kernel) fun t _ y => ?_
  have e0 : (((win0_3.blk t).view.emb y) (0 : Fin 2)).val = t.val / 5 * 768 + (y (0 : Fin 2)).val := by blk_simp [idx t]
  have e1 : (((win0_3.blk t).view.emb y) (1 : Fin 2)).val = t.val % 5 * 1792 + (y (1 : Fin 2)).val := by blk_simp [idx t]
  blk_simp
  rw [after0_3]
  pointwise [k0_pay2]
  unfold projected
  refine Finset.sum_congr (M := EReal) rfl fun k _ => congrArg₂ (fun a b : EReal => a * b) ((norm_rows m c t.val t.isLt _).trans (congrArg _ (congrArg₂ ix2 (Fin.ext e0.symm) rfl))) ?_
  have hw : iblk m c 1 t (ix2 k (y 1)) = V m c main_v5 (ix2 k ⟨t.val % 5 * 1792 + (y (1 : Fin 2)).val, by idx_bounds; omega⟩) := by
    blk_point [iblk, idx t]
  exact hw.trans (congrArg _ (congrArg (ix2 k) (Fin.ext e1.symm)))

end Cert.Proj.Value

end
-- ==== Proof.Proj.Results.lean ====
module

public import proofs.«01_k».proof.Proof.Proj.Value

@[expose] public section

set_option maxRecDepth 16384

noncomputable section

open Idealize.ShloMosaic Idealize.ShloMosaic.TcCoe Idealize.SL.Sem
open Idealize.ShloMosaic.Pipeline (Dat)

/-! The results of the program around the first call, and its run. -/

namespace Cert.Proj.Value

open Cert.ProjIdeal Cert.ProjIdeal.Gen Cert.Common Cert.Proj

variable (m : (ℓ : Loc nD τ sig) → Buf (Elt Ideal) ℓ)

/-- A result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

/-- The kernel's result `b` after the host operations that follow its launch. -/
abbrev resultOf (b : Dev nD) := Pipeline.afterTail₀ cfgs (dats (F := Ideal) m) 0 (V0 m) [hostOps1] b

/-- The last columns of the first output. -/
theorem W_v9 (c : Dev nD) (r : Fin 8208) (k : Fin 2560) : (resultOf m c main_v9 : FVec Ideal S8208x2560 .f32) (ix2 r k) =
    ((dats m 0 c).arrAt 3 (cfgs 0).N : FVec Ideal S8448x8960 .bf16) (ix2 ⟨240 + r.val, by omega⟩ ⟨6400 + k.val, by omega⟩) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v7_0) = _ from found m c 3]
  pointwise
  try blk_ext

/-- The first columns of the first output. -/
theorem W_v11 (c : Dev nD) (r : Fin 8208) (k : Fin 6144) : (resultOf m c main_v11 : FVec Ideal S8208x6144 .f32) (ix2 r k) =
    ((dats m 0 c).arrAt 3 (cfgs 0).N : FVec Ideal S8448x8960 .bf16) (ix2 ⟨240 + r.val, by omega⟩ ⟨k.val, by omega⟩) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v7_0) = _ from found m c 3]
  pointwise
  try blk_ext

/-- The rows after the padding of the second output. -/
theorem W_v13 (c : Dev nD) (r : Fin 8208) (k : Fin 1024) : (resultOf m c main_v13 : FVec Ideal S8208x1024 .f32) (ix2 r k) =
    ((dats m 0 c).arrAt 4 (cfgs 0).N : FVec Ideal S8448x1024 .bf16) (ix2 ⟨240 + r.val, by omega⟩ k) := by
  unfold resultOf Pipeline.afterTail₀
  simp only [hostOps1, List.flatten_cons, List.flatten_nil, List.append_nil, List.cons_append, List.nil_append]
  after_reads_simp
  rw [show Pipeline.withArrays (cfgs 0).spec c (V0 m c) (fun w => (dats m 0 c).arrAt w (cfgs 0).N) (Proc.devRef .tc main_v7_1) = _ from found m c 4]
  pointwise
  try blk_ext

variable (c : Dev nD) (r : Fin 8208)

/-- The residual stream that the program is given. -/
abbrev argH : FVec Ideal S8208x1024 .f32 := m ((c : Thread nD τ).loc main_arg0)
/-- The weight that the program is given. -/
abbrev argW : FVec Ideal S1024x8704 .f32 := m ((c : Thread nD τ).loc main_arg1)
/-- The norm's scale that the program is given. -/
abbrev argG : FVec Ideal S1024 .f32 := m ((c : Thread nD τ).loc main_arg2)

/-- The normalised row as the reference writes it. -/
def rmsnorm (x : FVec Ideal S8208x1024 .f32) (g : FVec Ideal S1024 .f32) (r : Fin 8208) (k : Fin 1024) : EReal :=
  x (ix2 r k) * rstd (fun j => x (ix2 r j)) * g (ix1 k)

/-- The kernel's normalised row is the reference's. -/
theorem normed_row (x : FVec Ideal S8208x1024 .f32) (g : FVec Ideal S1024 .f32) (k : Fin 1024) :
    normed (padded x) (fun i => g (ix1 (i 1))) (ix2 ⟨240 + r.val, by omega⟩ k) = rmsnorm x g r k := by
  unfold normed rmsnorm
  exact congrArg₂ (· * ·) (congrArg₂ (· * ·) (padded_apply x r k) (congrArg rstd (funext fun j => padded_apply x r j))) rfl

/-- The third result: the normalised rows. -/
theorem third (k : Fin 1024) : (resultOf m c main_v13 : FVec Ideal S8208x1024 .f32) (ix2 r k) = rmsnorm (argH m c) (argG m c) r k := by
  rw [W_v13, final4, V_h, V_g]
  exact normed_row r _ _ k

/-- The first result: the normalised rows by the weight's first columns. -/
theorem first (k : Fin 2560) : (resultOf m c main_v9 : FVec Ideal S8208x2560 .f32) (ix2 r k)
    = ∑ x, rmsnorm (argH m c) (argG m c) r x * argW m c (ix2 x ⟨k.val, by omega⟩) := by
  rw [W_v9, final3, V_h, V_g, V_w]
  exact Finset.sum_congr (M := EReal) rfl fun x _ => congrArg₂ (fun a b : EReal => a * b) (normed_row r _ _ x) (cols_high (argW m c) x k)

/-- The second result: the normalised rows by the weight's other columns. -/
theorem second (k : Fin 6144) : (resultOf m c main_v11 : FVec Ideal S8208x6144 .f32) (ix2 r k)
    = ∑ x, rmsnorm (argH m c) (argG m c) r x * argW m c (ix2 x ⟨2560 + k.val, by omega⟩) := by
  rw [W_v11, final3, V_h, V_g, V_w]
  exact Finset.sum_congr (M := EReal) rfl fun x _ => congrArg₂ (fun a b : EReal => a * b) (normed_row r _ _ x) (cols_low (argW m c) x k)

/-- The whole program: it ends with the three results as the lines after the launch leave them, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v9) = resultOf m c main_v9
      ∧ r.2.mem ((c.tc : Thread nD τ).loc main_v11) = resultOf m c main_v11
      ∧ r.2.mem ((c.tc : Thread nD τ).loc main_v13) = resultOf m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).2 main_v9 (by decide), (h.1 c).2 main_v11 (by decide), (h.1 c).2 main_v13 (by decide), h.2 c⟩)
    (θ_run_and (run_main m ρ) (unchanged m ρ))

end Cert.Proj.Value

end
-- ==== Proof.Proj.Claim.lean ====
module

public import proofs.«01_k».proof.Defs
public import proofs.«01_k».proof.Proof.Proj.Results
public import proofs.«01_k».proof.Proof.Gen.ProjRefIdeal.Run
public import proofs.«01_k».proof.Proof.Gen.ProjRefIdeal.Read

@[expose] public section

set_option maxRecDepth 16384

noncomputable section

open Idealize.ShloMosaic Idealize.ShloMosaic.TcCoe Idealize.SL.Sem

namespace Cert.Proj

/-- The reference's frame: it runs on the host alone and declares no semaphore. -/
theorem frame_ref : Cert.quiescent_ProjRefIdeal (hProjRefIdeal := Cert.ProjRefIdeal.Gen.facts) := fun m g _ =>
  (θ_run Cert.ProjRefIdeal.defs _ _).mono (fun r h => ⟨fun c => (h c).2.2.2, sem_eq_zero_of_no_sems (by decide) r.2⟩)
    (Cert.ProjRefIdeal.Value.run (F := Ideal) m g)

/-- The call and the forward lines give the same three arrays over the extended reals. -/
theorem algebraic : Cert.algebraic_ProjIdeal_ProjRefIdeal (hProjIdeal := Cert.ProjIdeal.Gen.facts) (hProjRefIdeal := Cert.ProjRefIdeal.Gen.facts) := by
  pair_intro
  · run_from Cert.Proj.Value.run m g
  · run_from Cert.ProjRefIdeal.Value.run m' g'
    all_goals funext i
    all_goals idx_vars i
    · refine Eq.trans ?_ (Cert.Proj.Value.first m c i0 i1).symm
      pointwise
      unfold Proj.Value.rmsnorm Common.rstd Common.meanSq
      rfl
    · refine Eq.trans ?_ (Cert.Proj.Value.second m c i0 i1).symm
      pointwise
      unfold Proj.Value.rmsnorm Common.rstd Common.meanSq
      rfl
    · refine Eq.trans ?_ (Cert.Proj.Value.third m c i0 i1).symm
      pointwise
      unfold Proj.Value.rmsnorm Common.rstd Common.meanSq
      rfl

end Cert.Proj

end
-- ==== Proof.Proj.Words.lean ====
module

public import proofs.«01_k».proof.Defs
public import proofs.«01_k».proof.Proof.Gen.Proj
public import proofs.«01_k».proof.Proof.Proj.Frame

@[expose] public section

set_option maxRecDepth 16384

/-! The program on words is, name for name, the one whose frame `Proj.Frame` proves over any floats. -/

noncomputable section

namespace Cert.Proj

open Idealize.ShloMosaic Idealize.SL.Sem

attribute [local instance] Cert.ProjIdeal.Gen.facts Cert.Proj.Gen.facts

/-- The two programs' bodies are one. -/
theorem bodies : Cert.Proj.defs₀ (F := Bits) = Cert.ProjIdeal.defs₀ := by
  unfold Cert.Proj.defs₀ Cert.ProjIdeal.defs₀
  refine congrArg Defs.onTc (funext fun l => funext fun x => ?_)
  match l, x with
  | 0, (t, s) => rfl
  | ⟨_ + 1, h⟩, _ => exact absurd h (Nat.not_lt.2 (Nat.le_add_left _ _))

/-- So are their tables of launches. -/
theorem launches : Cert.Proj.defs (F := Bits) = Cert.ProjIdeal.defs := by
  unfold Cert.Proj.defs Cert.ProjIdeal.defs
  exact congrArg (Pipeline.defs _) bodies

/-- The program on words ends, with its arguments unchanged and every counter at zero. -/
theorem frame_words : Cert.quiescent_Proj (hProj := Cert.Proj.Gen.facts) := fun m g _ =>
  Eq.mpr (congrArg (fun d => θ_run d _ _ _) launches) (frame (F := Bits) m g)

end Cert.Proj

end
-- ==== Proof.RgF.Frame.lean ====
module

public import proofs.«01_k».proof.Proof.Gen.RgFIdeal.Frame
public import proofs.«01_k».proof.Proof.Gen.RgFIdeal.Loops
public import Idealize.ShloMosaic.Lib.Claim

@[expose] public section

set_option maxRecDepth 16384
set_option maxHeartbeats 2000000

/-! The frame of the RG-LRU recurrence: the program ends, its arguments are unchanged and every counter is at zero. Nothing is said of what
its outputs hold. -/

noncomputable section

namespace Cert.RgForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.RgFIdeal Cert.RgFIdeal.Gen

variable {F : FTy → Type} [FloatOps F]

local notation "𝕄" => MT nD τ sig Unit (Elt F) ℕ (UR sig nD τ) ℕ

section Body

variable (c : Dev nD) (i : grid0.Coords)
  (arg2 : Memref sig .tc .vmem S256x1280 .bf16) (harg2 : arg2.IsWhole)
  (arg3 : Memref sig .tc .vmem S256x1280 .bf16) (harg3 : arg3.IsWhole)
  (arg4 : Memref sig .tc .vmem S256x1280 .bf16) (harg4 : arg4.IsWhole)
  (arg5 : Memref sig .tc .vmem S256x1280 .bf16) (harg5 : arg5.IsWhole)
  (arg6 : Memref sig .tc .vmem S1x1280 .f32) (harg6 : arg6.IsWhole)
  (arg7 : Memref sig .tc .vmem S1x1280 .f32) (harg7 : arg7.IsWhole)
  (arg8 : Memref sig .tc .vmem S1x1280 .f32) (harg8 : arg8.IsWhole)
  (arg9 : Memref sig .tc .vmem S256x1280 .f32) (harg9 : arg9.IsWhole)
  (arg10 : Memref sig .tc .vmem S256x1280 .bf16) (harg10 : arg10.IsWhole)
  (arg11 : Memref sig .tc .vmem S1x1280 .f32) (harg11 : arg11.IsWhole)
  (x0 : Vec F S256x1280 .bf16) (x1 : Vec F S256x1280 .bf16) (x2 : Vec F S256x1280 .bf16) (x3 : Vec F S256x1280 .bf16) (x4 : Vec F S1x1280 .f32) (x5 : Vec F S1x1280 .f32) (x6 : Vec F S1x1280 .f32)

/-- The call's inputs in their buffers. -/
abbrev inputs : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6)

/-- The call's outputs and scratch, whatever they hold. -/
abbrev others : sProp 𝕄 :=
  iprop((∃ d, owns (c : Thread nD τ) arg9 fullShare d)
    ∗ (∃ d, owns (c : Thread nD τ) arg10 fullShare d)
    ∗ (∃ d, owns (c : Thread nD τ) arg11 fullShare d))

/-- The body runs: it keeps its inputs, and leaves its outputs and scratch at something. -/
theorem body (E : Set ℕ) (K : PUnit → sProp 𝕄) :
    iprop(inputs c arg2 arg3 arg4 arg5 arg6 arg7 arg8 x0 x1 x2 x3 x4 x5 x6 ∗ others (F := F) c arg9 arg10 arg11
        ∗ (iprop(inputs c arg2 arg3 arg4 arg5 arg6 arg7 arg8 x0 x1 x2 x3 x4 x5 x6 ∗ others (F := F) c arg9 arg10 arg11) -∗ K ⟨⟩))
      ⊢ wp frame (wpE (defs₀ (F := F)) Variants.none c none) E
        (cc0_rg_fwd i arg2 harg2 arg3 harg3 arg4 harg4 arg5 harg5 arg6 harg6 arg7 harg7 arg8 harg8 arg9 harg9 arg10 harg10 arg11 harg11) K := by
  simp only [cc0_rg_fwd_eq_skeleton]; unfold cc0_rg_fwd_skel
  unfold inputs others owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨⟨%d7, %f7, -, H7⟩, ⟨%d8, %f8, -, H8⟩, ⟨%d9, %f9, -, H9⟩⟩, Hk⟩
  by_cases hc0 : (Scalar.cmpi .ne (Scalar.extui (Scalar.cmpi .eq (BitVec.ofNat 32 (i 1).val) 0#32)) 0#32) = 1#1
  all_goals
    sl_exec (disch := first | sl_exact hc0)
    sl_step
    iapply Hk
    isplitl [H0 H1 H2 H3 H4 H5 H6]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      iexists _; isplitr; · ipureintro; exact hf6
      iexact H6
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Body

variable (m : (ℓ : Loc nD τ sig) → Buf (Elt F) ℓ) (ρ : Dev nD → PrngReg)

/-- The proof data: the arrays as the region finds them; an input stays in its buffer, an output's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | w => Dat.unnamed (cfg := cfg0) w t
  Φ _ := Pipeline.ΦA spec0 c
  q w := Pipeline.shareOf spec0 w
  owed _ := 0

/-- The outputs are the windows nothing is said of. -/
def forgets (w : Fin cfg0.W) : Bool := decide (7 ≤ w.val)

/-- The proof data's arrays. -/
theorem A_eq (c : Dev nD) (w : Fin cfg0.W) : (dats m 0 c).A w = V m c (Pipeline.arrRef spec0 w) := by
  dsimp only [dats]

/-- Input 0 stays in its buffer. -/
theorem after0_0 (c : Dev nD) (t : Fin cfg0.N) : (dats m 0 c).after 0 t = iblk m c 0 t := rfl
/-- Input 0 is in its buffer before the point. -/
theorem before0_0 (c : Dev nD) (t : Fin cfg0.N) (d) : (dats m 0 c).before 0 t d = iblk m c 0 t :=
  before0_0_of m (dats m 0 c) (A_eq m c 0) (after0_0 m c) t d
/-- Input 1 stays in its buffer. -/
theorem after0_1 (c : Dev nD) (t : Fin cfg0.N) : (dats m 0 c).after 1 t = iblk m c 1 t := rfl
/-- Input 1 is in its buffer before the point. -/
theorem before0_1 (c : Dev nD) (t : Fin cfg0.N) (d) : (dats m 0 c).before 1 t d = iblk m c 1 t :=
  before0_1_of m (dats m 0 c) (A_eq m c 1) (after0_1 m c) t d
/-- Input 2 stays in its buffer. -/
theorem after0_2 (c : Dev nD) (t : Fin cfg0.N) : (dats m 0 c).after 2 t = iblk m c 2 t := rfl
/-- Input 2 is in its buffer before the point. -/
theorem before0_2 (c : Dev nD) (t : Fin cfg0.N) (d) : (dats m 0 c).before 2 t d = iblk m c 2 t :=
  before0_2_of m (dats m 0 c) (A_eq m c 2) (after0_2 m c) t d
/-- Input 3 stays in its buffer. -/
theorem after0_3 (c : Dev nD) (t : Fin cfg0.N) : (dats m 0 c).after 3 t = iblk m c 3 t := rfl
/-- Input 3 is in its buffer before the point. -/
theorem before0_3 (c : Dev nD) (t : Fin cfg0.N) (d) : (dats m 0 c).before 3 t d = iblk m c 3 t :=
  before0_3_of m (dats m 0 c) (A_eq m c 3) (after0_3 m c) t d
/-- Input 4 stays in its buffer. -/
theorem after0_4 (c : Dev nD) (t : Fin cfg0.N) : (dats m 0 c).after 4 t = iblk m c 4 t := rfl
/-- Input 4 is in its buffer before the point. -/
theorem before0_4 (c : Dev nD) (t : Fin cfg0.N) (d) : (dats m 0 c).before 4 t d = iblk m c 4 t :=
  before0_4_of m (dats m 0 c) (A_eq m c 4) (after0_4 m c) t d
/-- Input 5 stays in its buffer. -/
theorem after0_5 (c : Dev nD) (t : Fin cfg0.N) : (dats m 0 c).after 5 t = iblk m c 5 t := rfl
/-- Input 5 is in its buffer before the point. -/
theorem before0_5 (c : Dev nD) (t : Fin cfg0.N) (d) : (dats m 0 c).before 5 t d = iblk m c 5 t :=
  before0_5_of m (dats m 0 c) (A_eq m c 5) (after0_5 m c) t d
/-- Input 6 stays in its buffer. -/
theorem after0_6 (c : Dev nD) (t : Fin cfg0.N) : (dats m 0 c).after 6 t = iblk m c 6 t := rfl
/-- Input 6 is in its buffer before the point. -/
theorem before0_6 (c : Dev nD) (t : Fin cfg0.N) (d) : (dats m 0 c).before 6 t d = iblk m c 6 t :=
  before0_6_of m (dats m 0 c) (A_eq m c 6) (after0_6 m c) t d
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ X, owns (c : Thread nD τ) ((cfg0.win 7).stage (cfg0.slots t 7)) fullShare X)
    ∗ (∃ X, owns (c : Thread nD τ) ((cfg0.win 8).stage (cfg0.slots t 8)) fullShare X))

/-- What it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ (∃ X, owns (c : Thread nD τ) ((cfg0.win 7).stage (cfg0.slots t 7)) fullShare X)
    ∗ (∃ X, owns (c : Thread nD τ) ((cfg0.win 8).stage (cfg0.slots t 8)) fullShare X))

/-- The scratch between two points, whatever it holds, and the generator's register. -/
theorem scratch_eq (c : Dev nD) : (Pipeline.ΦA spec0 c : sProp 𝕄)
    = iprop((∃ d, owns (c : Thread nD τ) (Memref.whole cc0_scratch0 : Memref sig .tc .vmem S1x1280 .f32) fullShare d) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, scratch_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8⟩
  iapply (body c (grid0.coords t) _ _ _ _ _ _ _ _ _ _ _ _ _ _ _ _ _ _ _ _ _ _ _ _ _ _ _ Set.univ _)
  unfold inputs others
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8 HS]
  · isplitl [H7]; · iexact H7
    isplitl [H8]; · iexact H8
    iexact HS
  iintro ⟨⟨H0, H1, H2, H3, H4, H5, H6⟩, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation of its body. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- What the operations after the region write. -/
def T0 : Finset (Ref sig .tc) := {main_v15, main_v16, main_v17}

/-- They write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  subst hops
  simp only [hostOps1, List.mem_cons, List.mem_nil_iff, or_false] at hop
  rcases hop with rfl | rfl | rfl
  all_goals
    intro b hb
    simp only [StableHlo.unary_writes, StableHlo.binary_writes, StableHlo.reshape_writes, Finset.mem_singleton] at hb
    cases Proc.devRef_injective _ hb; decide

/-- What the run leaves: its inputs' arrays and every other buffer that nothing writes. -/
abbrev Post : PUnit × MemSt nD τ sig (Elt F) → Prop :=
  RDat.FramePostR cfg0 (fun c => (dats m 0 c).toRForget forgets) T0 (fun c b => V0 m c (Proc.devRef .tc b))

set_option backward.isDefEq.respectTransparency.types false in
/-- The program runs, with every counter at zero. -/
theorem run_main : θ_run defs (onTc (τ := τ) (main (F := F))) (s₀ m ρ) (fun r => Post m r ∧ r.2.sem = fun _ => 0) :=
  Pipeline.θ_run_frame_around_T_forget_shared (Q' := _) cfgs (dats m) (0 : Fin 1) launch₀0 defs₀ Variants.none forgets T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)
    (hQ' := fun _ h => h)

/-- The program ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hs⟩ => ⟨fun c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩, hs⟩) (run_main m ρ)

end Cert.RgForward

end
-- ==== Proof.RgF.Words.lean ====
module

public import proofs.«01_k».proof.Defs
public import proofs.«01_k».proof.Proof.Gen.RgF
public import proofs.«01_k».proof.Proof.RgF.Frame

@[expose] public section

set_option maxRecDepth 16384

/-! The program on words is, name for name, the one whose frame `RgF.Frame` proves over any floats. -/

noncomputable section

namespace Cert.RgForward

open Idealize.ShloMosaic Idealize.SL.Sem

attribute [local instance] Cert.RgFIdeal.Gen.facts Cert.RgF.Gen.facts

/-- The two programs' bodies are one. -/
theorem bodies : Cert.RgF.defs₀ (F := Bits) = Cert.RgFIdeal.defs₀ := by
  unfold Cert.RgF.defs₀ Cert.RgFIdeal.defs₀
  refine congrArg Defs.onTc (funext fun l => funext fun x => ?_)
  match l, x with
  | 0, (t, s) => rfl
  | ⟨_ + 1, h⟩, _ => exact absurd h (Nat.not_lt.2 (Nat.le_add_left _ _))

/-- So are their tables of launches. -/
theorem launches : Cert.RgF.defs (F := Bits) = Cert.RgFIdeal.defs := by
  unfold Cert.RgF.defs Cert.RgFIdeal.defs
  exact congrArg (Pipeline.defs _) bodies

/-- The program on words ends, with its arguments unchanged and every counter at zero. -/
theorem frame_words : Cert.quiescent_RgF (hRgF := Cert.RgF.Gen.facts) := fun m g _ =>
  Eq.mpr (congrArg (fun d => θ_run d _ _ _) launches) (frame (F := Bits) m g)

end Cert.RgForward

end
-- ==== Proof.Wfi.Value.lean ====
module

public import proofs.«01_k».proof.Proof.Common.Finite
public import proofs.«01_k».proof.Proof.Gen.WfiIdeal.Frame
public import Idealize.ShloMosaic.Lib.Pipeline.ValueKit
public import Idealize.ShloMosaic.Lib.Pipeline.ReadBack
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo
open Idealize.ShloMosaic.Pipeline (Dat)

/-! What the product for a weight's gradient computes: the rows' sum, in six row blocks, of one array's columns by another's. -/

namespace Cert.WfiIdeal.Value

open Cert.WfiIdeal Cert.WfiIdeal.Gen Cert.Common

variable (m : (ℓ : Loc nD τ sig) → Buf (Elt Ideal) ℓ)

/-- The kernel's rows of the normalised array: 240 rows of zeros in front. -/
def rows (x : FVec Ideal S8208x1024 .f32) : FVec Ideal S8448x1024 .bf16 :=
  truncf .bf16 (pad S8448x1024 ![240, 0] ![0, 0] ![0, 0] x (sitofp .f32 (constantI S_ 32 0#32)) pads_S8208x1024_S8448x1024_24000_000 h_S_) bitsLt_bf16_f32

/-- The hidden columns in the order of the four shards. -/
def shards (x : FVec Ideal S8208x5632 .f32) : FVec Ideal S8208x5632 .f32 :=
  concatenate S8208x5632 1 [⟨S8208x1408, extractStridedSlice S8208x1408 ![0, 0] x slices_S8208x5632_S8208x1408_0_0⟩,
    ⟨S8208x1408, extractStridedSlice S8208x1408 ![0, 2816] x slices_S8208x5632_S8208x1408_0_2816⟩,
    ⟨S8208x1408, extractStridedSlice S8208x1408 ![0, 1408] x slices_S8208x5632_S8208x1408_0_1408⟩,
    ⟨S8208x1408, extractStridedSlice S8208x1408 ![0, 4224] x slices_S8208x5632_S8208x1408_0_4224⟩] concatenates_S8208x1408_S8208x1408_S8208x1408_S8208x1408_S8208x5632_d1

/-- The hidden columns in that order and in the kernel's rows. -/
def hidden (x : FVec Ideal S8208x5632 .f32) : FVec Ideal S8448x5632 .bf16 :=
  truncf .bf16 (pad S8448x5632 ![240, 0] ![0, 0] ![0, 0] (shards x) (sitofp .f32 (constantI S_ 32 0#32)) pads_S8208x5632_S8448x5632_24000_000 h_S_) bitsLt_bf16_f32

/-- Where a column of the reference stands among the shards: the two middle ones change places. -/
def slot (k : ℕ) : ℕ := if k < 1408 then k else if k < 2816 then k + 1408 else if k < 4224 then k - 1408 else k

/-- It is a column again. -/
theorem slot_lt {k : ℕ} (h : k < 5632) : slot k < 5632 := by unfold slot; split_ifs <;> omega

/-- Changing twice changes nothing. -/
theorem slot_slot (k : ℕ) : slot (slot k) = k := by unfold slot; split_ifs <;> omega

/-- The array in the shards' order, at a column. -/
theorem shards_apply (x : FVec Ideal S8208x5632 .f32) (r : Fin 8208) (k : Fin 5632) : shards x (ix2 r k) = x (ix2 r ⟨slot k.val, slot_lt k.isLt⟩) := by
  pointwise [shards]
  unfold slot
  all_goals split_ifs <;> first | omega | blk_point
  all_goals split_ifs <;> omega

/-- A row of the sequence, after the padding. -/
theorem rows_apply (x : FVec Ideal S8208x1024 .f32) (r : Fin 8208) (k : Fin 1024) : rows x (ix2 ⟨240 + r.val, by omega⟩ k) = x (ix2 r k) := by
  pointwise [rows]

/-- The padding's word is zero. -/
theorem sitofp_zero : (FloatOps.sitofp .f32 (0#32) : Ideal .f32) = 0 := by
  show (((0#32 : BitVec 32).toInt : ℝ) : EReal) = 0
  norm_num

/-- A row of the padding. -/
theorem rows_zero (x : FVec Ideal S8208x1024 .f32) (r : Fin 8448) (k : Fin 1024) (h : r.val < 240) : rows x (ix2 r k) = 0 := by
  pointwise [rows]
  split_ifs <;> first | omega | exact sitofp_zero

/-- The hidden columns at a row of the sequence. -/
theorem hidden_apply (x : FVec Ideal S8208x5632 .f32) (r : Fin 8208) (k : Fin 5632) : hidden x (ix2 ⟨240 + r.val, by omega⟩ k) = x (ix2 r ⟨slot k.val, slot_lt k.isLt⟩) := by
  refine Eq.trans ?_ (shards_apply x r k)
  pointwise [hidden]

/-- The call's first argument. -/
theorem V_hn (c : Dev nD) : V m c main_v1 = rows (m ((c : Thread nD τ).loc main_arg0)) := by
  unfold V V0
  simp only [hostOps0, hostOps0_1, hostOps0_2, hostOps0_3, hostOps0_4, List.flatten_cons, List.flatten_nil, List.append_nil, List.cons_append, List.nil_append]
  after_reads_simp
  rfl

/-- The call's second argument. -/
theorem V_dgu (c : Dev nD) : V m c main_v8 = hidden (m ((c : Thread nD τ).loc main_arg1)) := by
  unfold V V0
  simp only [hostOps0, hostOps0_1, hostOps0_2, hostOps0_3, hostOps0_4, List.flatten_cons, List.flatten_nil, List.append_nil, List.cons_append, List.nil_append]
  after_reads_simp
  rfl

/-- The blocks that a grid point works on: one of four blocks of columns, and one of six of the rows that are summed. -/
theorem idx : ∀ t : Fin cfg0.N, win0_0.index t = ![t.val % 6, 0] ∧ win0_1.index t = ![t.val % 6, t.val / 6] ∧ win0_2.index t = ![0, t.val / 6] :=
  (by decide +kernel : ∀ t : Fin grid0.N, _)

/-- The call's first argument at its shape. -/
def lhs (c : Dev nD) : FVec Ideal S8448x1024 .bf16 := V m c main_v1
/-- The call's second argument at its shape. -/
def rhs (c : Dev nD) : FVec Ideal S8448x5632 .bf16 := V m c main_v8
/-- The first argument's block at a point. -/
def b0 (c : Dev nD) (t : Fin cfg0.N) : FVec Ideal S1408x1024 .bf16 := iblk m c 0 t
/-- The second argument's block at a point. -/
def b1 (c : Dev nD) (t : Fin cfg0.N) : FVec Ideal S1408x1408 .bf16 := iblk m c 1 t

/-- A row block's part of the product. -/
def part (c : Dev nD) (t : Fin cfg0.N) (y : S1024x1408.Idx) : EReal := ∑ l : Fin 1408, b0 m c t (ix2 l (y 0)) * b1 m c t (ix2 l (y 1))

/-- The running product after a column block's first point. -/
theorem acc_A (c : Dev nD) (t : Fin cfg0.N) (h : t.val % 6 = 0) (y : S1024x1408.Idx) : (outsAt0 m c t.val t.isLt).2 y = 0 + part m c t y := by
  rw [outsAt0_A m c t h (by omega)]
  frame_out
  pointwise [k0_pay2, k0_pay1]
  rfl

/-- The running product after a later point. -/
theorem acc_step (c : Dev nD) (t : Fin cfg0.N) (h : ¬t.val % 6 = 0) (y : S1024x1408.Idx) : (outsAt0 m c t.val t.isLt).2 y =
    (outsAt0 m c (t.val - 1) (Nat.lt_of_le_of_lt (Nat.sub_le _ _) t.isLt)).2 y + part m c t y := by
  by_cases h1 : t.val % 6 = 5
  · rw [outsAt0_C m c t h h1]
    frame_out
    simp only [read_unread_whole]
    pointwise [k0_pay2]
    rfl
  · rw [outsAt0_B m c t h h1]
    frame_out
    simp only [read_unread_whole]
    pointwise [k0_pay2]
    rfl

/-- One entry of the product over all rows. -/
def entry (a : FVec Ideal S8448x1024 .bf16) (b : FVec Ideal S8448x5632 .bf16) (i : Fin 1024) (j : Fin 5632) : EReal := ∑ l : Fin 8448, a (ix2 l i) * b (ix2 l j)

/-- A point's block of the first argument. -/
theorem b0_apply (c : Dev nD) (t : Fin cfg0.N) (l : Fin 1408) (i : Fin 1024) (r : Fin 8448) (hr : r.val = t.val % 6 * 1408 + l.val) :
    b0 m c t (ix2 l i) = lhs m c (ix2 r i) := by
  unfold b0 lhs
  blk_point [iblk, V, idx t]

/-- A point's block of the second argument. -/
theorem b1_apply (c : Dev nD) (t : Fin cfg0.N) (l : Fin 1408) (j : Fin 1408) (r : Fin 8448) (k : Fin 5632) (hr : r.val = t.val % 6 * 1408 + l.val)
    (hk : k.val = t.val / 6 * 1408 + j.val) : b1 m c t (ix2 l j) = rhs m c (ix2 r k) := by
  unfold b1 rhs
  blk_point [iblk, V, idx t]

/-- The running product after a column block's last point is the whole product. -/
theorem acc_full (c : Dev nD) (t : Fin cfg0.N) (h : t.val % 6 = 5) (y : S1024x1408.Idx) (k : Fin 5632) (hk : k.val = t.val / 6 * 1408 + (y 1).val) :
    (outsAt0 m c t.val t.isLt).2 y = entry (lhs m c) (rhs m c) (y 0) k := by
  refine (Pipeline.eq_sum_fin_of_reset_step_apply_of_flush (fun n h => (outsAt0 m c n h).2) 6 (fun _ => (0 : EReal)) (part m c) (acc_A m c) (acc_step m c) t h y).trans ?_
  rw [zero_add]
  unfold entry part
  refine Fin.sum_mul_add_congr fun s l hl => ?_
  rw [b0_apply m c _ l (y 0) ⟨s.val * 1408 + l.val, hl⟩ (by dsimp only; omega), b1_apply m c _ l (y 1) ⟨s.val * 1408 + l.val, hl⟩ k (by dsimp only; omega) (by dsimp only; omega)]

/-- A column block's last point writes the running product. -/
theorem out_last (c : Dev nD) (t : Fin cfg0.N) (h : t.val % 6 = 5) (y : S1024x1408.Idx) :
    (outsAt0 m c t.val t.isLt).1 y = (outsAt0 m c t.val t.isLt).2 y := by
  rw [outsAt0_C m c t (by omega) h]
  frame_out
  simp only [read_unread_whole]
  rfl

/-- The product as an array. -/
def product (a : FVec Ideal S8448x1024 .bf16) (b : FVec Ideal S8448x5632 .bf16) : FVec Ideal S1024x5632 .bf16 := fun i => entry a b (i 0) (i 1)

/-- The entry that a column block's last point writes, at the entry's own place. -/
theorem written (c : Dev nD) (t : Fin cfg0.N) (h : t.val % 6 = 5) (y : S1024x1408.Idx) (i : Fin 1024) (j : Fin 5632) (hi : i.val = (y 0).val)
    (hj : j.val = t.val / 6 * 1408 + (y 1).val) : (outsAt0 m c t.val t.isLt).1 y = entry (lhs m c) (rhs m c) i j := by
  rw [out_last m c t h y, acc_full m c t h y j hj, show y 0 = i from Fin.ext hi.symm]

/-- The call's output is the product. -/
theorem final2 (c : Dev nD) : (dats m 0 c).arrAt 2 (cfgs 0).N = product (lhs m c) (rhs m c) := by
  refine (dats m 0 c).arrAt_eq_of_covers 2 _ (by decide +kernel) fun t hf y => ?_
  have h := (flush0_2 t).mp hf
  blk_simp
  rw [after0_2]
  have e0 : (((win0_2.blk t).view.emb y) (0 : Fin 2)).val = (y (0 : Fin 2)).val := by blk_simp [idx t]
  have e1 : (((win0_2.blk t).view.emb y) (1 : Fin 2)).val = t.val / 6 * 1408 + (y (1 : Fin 2)).val := by blk_simp [idx t]
  exact written m c t h y _ _ e0 e1

end Cert.WfiIdeal.Value

end
-- ==== Proof.Wfi.Claim.lean ====
module

public import proofs.«01_k».proof.Defs
public import proofs.«01_k».proof.Proof.Common.Norm
public import proofs.«01_k».proof.Proof.Wfi.Value
public import proofs.«01_k».proof.Proof.Gen.WfiRefIdeal.Run
public import proofs.«01_k».proof.Proof.Gen.WfiRefIdeal.Read

@[expose] public section

set_option maxRecDepth 16384

noncomputable section

open Idealize.ShloMosaic Idealize.ShloMosaic.TcCoe Idealize.SL.Sem Idealize.ShloMosaic.StableHlo

namespace Cert.WfiIdeal.Value

open Cert.WfiIdeal Cert.WfiIdeal.Gen Cert.Common

variable (m : (ℓ : Loc nD τ sig) → Buf (Elt Ideal) ℓ)

/-- The weight's columns put back from the shards' order. -/
def unshard (x : FVec Ideal S1024x5632 .f32) : FVec Ideal S1024x5632 .f32 :=
  concatenate S1024x5632 1 [⟨S1024x1408, extractStridedSlice S1024x1408 ![0, 0] x slices_S1024x5632_S1024x1408_0_0⟩,
    ⟨S1024x1408, extractStridedSlice S1024x1408 ![0, 2816] x slices_S1024x5632_S1024x1408_0_2816⟩,
    ⟨S1024x1408, extractStridedSlice S1024x1408 ![0, 1408] x slices_S1024x5632_S1024x1408_0_1408⟩,
    ⟨S1024x1408, extractStridedSlice S1024x1408 ![0, 4224] x slices_S1024x5632_S1024x1408_0_4224⟩] concatenates_S1024x1408_S1024x1408_S1024x1408_S1024x1408_S1024x5632_d1

/-- The array put back, at a column. -/
theorem unshard_apply (x : FVec Ideal S1024x5632 .f32) (r : Fin 1024) (k : Fin 5632) : unshard x (ix2 r k) = x (ix2 r ⟨slot k.val, slot_lt k.isLt⟩) := by
  pointwise [unshard]
  unfold slot
  all_goals split_ifs <;> first | omega | blk_point
  all_goals split_ifs <;> omega

/-- The lines after the call from any contents of the buffers. -/
theorem after_v15 (V : Valuation τ sig (Elt Ideal)) : after hostOps1 V (Proc.devRef .tc main_v15)
    = unshard (extf .f32 (V (Proc.devRef .tc main_v9) : FVec Ideal S1024x5632 .bf16) bitsLt_bf16_f32) := by
  unfold hostOps1
  after_reads_simp
  rfl

/-- The result array of the call, as the lines after it find it. -/
theorem found (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

/-- The program's result `b` after the host operations that follow the launch. -/
abbrev resultOf (b : Dev nD) := Pipeline.afterTail₀ cfgs (dats m) 0 (V0 m) [hostOps1] b

/-- The program's result: the product at the columns' places. -/
theorem W_v15 (c : Dev nD) (r : Fin 1024) (k : Fin 5632) : (resultOf m c main_v15 : FVec Ideal S1024x5632 .f32) (ix2 r k) =
    entry (lhs m c) (rhs m c) r ⟨slot k.val, slot_lt k.isLt⟩ := by
  unfold resultOf Pipeline.afterTail₀
  simp only [List.flatten_cons, List.flatten_nil, List.append_nil]
  rw [after_v15, show Pipeline.withArrays (cfgs 0).spec c (V0 m c) (fun w => (dats m 0 c).arrAt w (cfgs 0).N) (Proc.devRef .tc main_v9) = _ from found m c 2, unshard_apply, final2]
  rfl

/-- The program's result as the sum over the sequence's rows: the rows of zeros in front add nothing. -/
theorem result (c : Dev nD) (x : FVec Ideal S8208x1024 .f32) (y : FVec Ideal S8208x5632 .f32) (hx : m ((c : Thread nD τ).loc main_arg0) = x)
    (hy : m ((c : Thread nD τ).loc main_arg1) = y) (r : Fin 1024) (k : Fin 5632) :
    (resultOf m c main_v15 : FVec Ideal S1024x5632 .f32) (ix2 r k) = ∑ l : Fin 8208, x (ix2 l r) * y (ix2 l k) := by
  rw [W_v15]
  unfold lhs rhs entry
  rw [V_hn, V_dgu, hx, hy]
  refine sum_pad (fun l hl => ?_) fun l => ?_
  · rw [rows_zero x l r hl]
    exact zero_mul _
  · rw [rows_apply, hidden_apply]
    exact congrArg (fun j => x (ix2 l r) * y (ix2 l j)) (Fin.ext (slot_slot k.val))

/-- The whole program: it ends with its result as the lines after the launch leave it, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v15) = resultOf m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).2 main_v15 (by decide), h.2 c⟩)
    (θ_run_and (run_main m ρ) (unchanged m ρ))

end Cert.WfiIdeal.Value

namespace Cert.Wfi

/-- The reference's frame: it runs on the host alone and declares no semaphore. -/
theorem frame_ref : Cert.quiescent_WfiRefIdeal (hWfiRefIdeal := Cert.WfiRefIdeal.Gen.facts) := fun m g _ =>
  (θ_run Cert.WfiRefIdeal.defs _ _).mono (fun r h => ⟨fun c => (h c).2, sem_eq_zero_of_no_sems (by decide) r.2⟩)
    (Cert.WfiRefIdeal.Value.run (F := Ideal) m g)

/-- The call and the plain product give the same array over the extended reals. -/
theorem algebraic : Cert.algebraic_WfiIdeal_WfiRefIdeal (hWfiIdeal := Cert.WfiIdeal.Gen.facts) (hWfiRefIdeal := Cert.WfiRefIdeal.Gen.facts) := by
  pair_intro
  · run_from Cert.WfiIdeal.Value.run m g
  · run_from Cert.WfiRefIdeal.Value.run m' g'
    funext i
    idx_vars i
    refine Eq.trans ?_ (Cert.WfiIdeal.Value.result m c _ _ rfl rfl i0 i1).symm
    pointwise

end Cert.Wfi

end
-- ==== Proof.Opt.Claim.lean ====
module

public import proofs.«01_k».proof.Defs
public import proofs.«01_k».proof.Proof.Gen.OptIdeal.Value
public import Idealize.ShloMosaic.Lib.Pipeline.ValueKit
public import proofs.«01_k».proof.Proof.Gen.OptRefIdeal.Run
public import proofs.«01_k».proof.Proof.Gen.OptRefIdeal.Read

@[expose] public section

set_option maxRecDepth 16384

noncomputable section

open Idealize.ShloMosaic Idealize.ShloMosaic.TcCoe Idealize.SL.Sem

/-! The optimiser's step of one weight: the update and the two moments. -/

namespace Cert.Opt

/-- The reference's frame: it runs on the host alone and declares no semaphore. -/
theorem frame_ref : Cert.quiescent_OptRefIdeal (hOptRefIdeal := Cert.OptRefIdeal.Gen.facts) := fun m g _ =>
  (θ_run Cert.OptRefIdeal.defs _ _).mono (fun r h => ⟨fun c => (h c).2.2.2, sem_eq_zero_of_no_sems (by decide) r.2⟩)
    (Cert.OptRefIdeal.Value.run (F := Ideal) m g)

/-- The call and reference.py's lines give the same three arrays over the extended reals. -/
theorem algebraic : Cert.algebraic_OptIdeal_OptRefIdeal (hOptIdeal := Cert.OptIdeal.Gen.facts) (hOptRefIdeal := Cert.OptRefIdeal.Gen.facts) := by
  pair_intro
  · run_from Cert.OptIdeal.Value.run m g
  · run_from Cert.OptRefIdeal.Value.run m' g'
    all_goals funext i
    all_goals idx_vars i
    all_goals pointwise
    all_goals rfl

end Cert.Opt

end
-- ==== Proof.Rows.Value.lean ====
module

public import proofs.«01_k».proof.Proof.Gen.RowsIdeal.Frame
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 1000000

noncomputable section

open Idealize.ShloMosaic Idealize.ShloMosaic.TcCoe Idealize.SL.Sem
open Idealize.ShloMosaic.Pipeline (Dat)

/-! What the packed vectors' call computes: the sum of the eight devices' rows, the optimiser's step of the first of them, and the others as they are. -/

namespace Cert.RowsIdeal.Value

open Cert.RowsIdeal Cert.RowsIdeal.Gen

variable (m : (ℓ : Loc nD τ sig) → Buf (Elt Ideal) ℓ)

/-- The eight devices' packs, from their three parts. -/
def packs (a : FVec Ideal S8x1x1024 .f32) (b : FVec Ideal S8x16x1024 .f32) (l : FVec Ideal S8x1x1 .f32) : FVec Ideal S8x24x1024 .f32 :=
  concatenate S8x24x1024 1 [⟨S8x1x1024, a⟩, ⟨S8x16x1024, b⟩, ⟨S8x1x1024, broadcastInDim S8x1x1024 ![0, 1, 2] bcast_S8x1x1_S8x1x1024_0_1_2 l⟩,
    ⟨S8x6x1024, broadcastInDim S8x6x1024 ![1, 2] bcast_S6x1024_S8x6x1024_1_2 (broadcastInDim S6x1024 ![] bcast_S_S6x1024 (constant S_ .f32 0x00000000#32))⟩] concatenates_S8x1x1024_S8x16x1024_S8x1x1024_S8x6x1024_S8x24x1024_d1

/-- The first row is the norm's. -/
theorem packs_norm (a : FVec Ideal S8x1x1024 .f32) (b : FVec Ideal S8x16x1024 .f32) (l : FVec Ideal S8x1x1 .f32) (d : Fin 8) (k : Fin 1024) :
    packs a b l (ix3 d 0 k) = a (ix3 d 0 k) := by
  pointwise [packs]

/-- Then come the sixteen meta tokens' rows. -/
theorem packs_meta (a : FVec Ideal S8x1x1024 .f32) (b : FVec Ideal S8x16x1024 .f32) (l : FVec Ideal S8x1x1 .f32) (d : Fin 8) (r : Fin 16) (k : Fin 1024) :
    packs a b l (ix3 d ⟨1 + r.val, by omega⟩ k) = b (ix3 d r k) := by
  pointwise [packs]

/-- Then the loss. -/
theorem packs_loss (a : FVec Ideal S8x1x1024 .f32) (b : FVec Ideal S8x16x1024 .f32) (l : FVec Ideal S8x1x1 .f32) (d : Fin 8) (k : Fin 1024) :
    packs a b l (ix3 d ⟨17, by omega⟩ k) = l (ix3 d 0 0) := by
  pointwise [packs]

/-- The packs as the launch finds them. -/
theorem V_packs (c : Dev nD) : V m c main_v3 = packs (m ((c : Thread nD τ).loc main_arg0)) (m ((c : Thread nD τ).loc main_arg1)) (m ((c : Thread nD τ).loc main_arg2)) := by
  unfold V
  simp only [hostOps0]
  after_reads_simp
  rfl

/-- The sum over the devices of a row's entry, as the call takes it. -/
def total (p : FVec Ideal S8x24x1024 .f32) (r : Fin 24) (k : Fin 1024) : EReal :=
  p (ix3 0 r k) + p (ix3 1 r k) + p (ix3 2 r k) + p (ix3 3 r k) + p (ix3 4 r k) + p (ix3 5 r k) + p (ix3 6 r k) + p (ix3 7 r k)

/-- The same as one sum. -/
theorem total_eq (p : FVec Ideal S8x24x1024 .f32) (r : Fin 24) (k : Fin 1024) : total p r k = ∑ d, p (ix3 d r k) :=
  (Fin.sum_univ_eight (M := EReal) fun d => p (ix3 d r k)).symm

/-- The one point stages every array whole. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- The summed packs. -/
theorem summed (c : Dev nD) (t : Fin cfg0.N) (r : Fin 24) (k : Fin 1024) :
    k0_pay6 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r k)
      = total (V m c main_v3) r k := by
  pointwise [k0_pay6]
  unfold total
  blk_point [iblk, V, idx t]

/-- The gradient of the norm's scale, summed over the devices. -/
def grad (p : FVec Ideal S8x24x1024 .f32) : FVec Ideal S1x1024 .f32 := fun i => total p 0 (i 1)

/-- The first row of the summed packs. -/
theorem first (c : Dev nD) (t : Fin cfg0.N) :
    k0_pay7 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7)
      = grad (V m c main_v3) := by
  funext i
  refine Eq.trans ?_ (summed m c t 0 (i 1))
  unfold k0_pay7
  idx_vars i
  pointwise

/-- The same as the body names it. -/
theorem nine (c : Dev nD) (t : Fin cfg0.N) : k0_pay9 (F := Ideal) (iblk m c 0 t) (iblk m c 1 t) (iblk m c 2 t) (iblk m c 3 t) = grad (V m c main_v3) :=
  first m c t

/-- The scale, staged whole. -/
theorem whole1 (c : Dev nD) (t : Fin cfg0.N) : (iblk m c 1 t : FVec Ideal S1x1024 .f32) = (V m c main_arg3 : FVec Ideal S1x1024 .f32) := by
  funext i
  blk_point [iblk, V, idx t]

/-- Its first moment, staged whole. -/
theorem whole2 (c : Dev nD) (t : Fin cfg0.N) : (iblk m c 2 t : FVec Ideal S1x1024 .f32) = (V m c main_arg4 : FVec Ideal S1x1024 .f32) := by
  funext i
  blk_point [iblk, V, idx t]

/-- Its second moment, staged whole. -/
theorem whole3 (c : Dev nD) (t : Fin cfg0.N) : (iblk m c 3 t : FVec Ideal S1x1024 .f32) = (V m c main_arg5 : FVec Ideal S1x1024 .f32) := by
  funext i
  blk_point [iblk, V, idx t]

/-- The first output: the summed gradient. -/
theorem final4 (c : Dev nD) : (dats m 0 c).arrAt 4 (cfgs 0).N = grad (V m c main_v3) := by
  refine (dats m 0 c).arrAt_eq_of_covers 4 _ (by decide +kernel) fun t _ y => ?_
  blk_simp
  rw [after0_4]
  frame_out
  refine (congrFun (first m c t) y).trans (congrArg _ ?_)
  blk_ext [idx t]

/-- The second output: the scale's change. -/
theorem final5 (c : Dev nD) : (dats m 0 c).arrAt 5 (cfgs 0).N
    = k0_pay3 (F := Ideal) (grad (V m c main_v3)) (V m c main_arg3) (V m c main_arg4) (V m c main_arg5) := by
  refine (dats m 0 c).arrAt_eq_of_covers 5 _ (by decide +kernel) fun t _ y => ?_
  blk_simp
  rw [after0_5]
  frame_out
  rw [nine, whole1, whole2, whole3]
  refine congrArg _ ?_
  blk_ext [idx t]

/-- The third output: the new first moment. -/
theorem final6 (c : Dev nD) : (dats m 0 c).arrAt 6 (cfgs 0).N = k0_pay1 (F := Ideal) (grad (V m c main_v3)) (V m c main_arg4) := by
  refine (dats m 0 c).arrAt_eq_of_covers 6 _ (by decide +kernel) fun t _ y => ?_
  blk_simp
  rw [after0_6]
  frame_out
  rw [nine, whole2]
  refine congrArg _ ?_
  blk_ext [idx t]

/-- The fourth output: the new second moment. -/
theorem final7 (c : Dev nD) : (dats m 0 c).arrAt 7 (cfgs 0).N = k0_pay2 (F := Ideal) (grad (V m c main_v3)) (V m c main_arg5) := by
  refine (dats m 0 c).arrAt_eq_of_covers 7 _ (by decide +kernel) fun t _ y => ?_
  blk_simp
  rw [after0_7]
  frame_out
  rw [nine, whole3]
  refine congrArg _ ?_
  blk_ext [idx t]

/-- The fifth output: the meta tokens' summed gradient. -/
theorem final8 (c : Dev nD) : (dats m 0 c).arrAt 8 (cfgs 0).N
    = (fun i => total (V m c main_v3) ⟨1 + (i 0).val, by idx_bounds; omega⟩ (i 1) : FVec Ideal S16x1024 .f32) := by
  refine (dats m 0 c).arrAt_eq_of_covers 8 _ (by decide +kernel) fun t _ y => ?_
  blk_simp
  rw [after0_8]
  frame_out
  refine Eq.trans ?_ ((summed m c t ⟨1 + (y 0).val, by idx_bounds; omega⟩ (y 1)).trans ?_)
  · unfold k0_pay4
    idx_vars y
    pointwise
    try blk_ext
  · dsimp only
    refine congrArg₂ (total _) ?_ ?_ <;> refine Fin.ext ?_ <;> blk_ext [idx t]

/-- The last output: the summed loss, in every column. -/
theorem final9 (c : Dev nD) : (dats m 0 c).arrAt 9 (cfgs 0).N = (fun i => total (V m c main_v3) ⟨17, by omega⟩ (i 1) : FVec Ideal S1x1024 .f32) := by
  refine (dats m 0 c).arrAt_eq_of_covers 9 _ (by decide +kernel) fun t _ y => ?_
  blk_simp
  rw [after0_9]
  frame_out
  refine Eq.trans ?_ ((summed m c t ⟨17, by omega⟩ (y 1)).trans ?_)
  · unfold k0_pay5
    idx_vars y
    pointwise
    try blk_ext
  · refine congrArg (total _ _) (Fin.ext ?_)
    blk_ext [idx t]

end Cert.RowsIdeal.Value

end
-- ==== Proof.Rows.Claim.lean ====
module

public import proofs.«01_k».proof.Defs
public import proofs.«01_k».proof.Proof.Rows.Value
public import proofs.«01_k».proof.Proof.Gen.RowsRefIdeal.Run
public import proofs.«01_k».proof.Proof.Gen.RowsRefIdeal.Read

@[expose] public section

set_option maxRecDepth 16384
set_option maxHeartbeats 1000000

noncomputable section

open Idealize.ShloMosaic Idealize.ShloMosaic.TcCoe Idealize.SL.Sem

/-! The packed vectors' call against reference.py's lines: the sums over the devices and the optimiser's step of the norm's scale. -/

namespace Cert.RowsIdeal.Value

open Cert.RowsIdeal Cert.RowsIdeal.Gen

variable (m : (ℓ : Loc nD τ sig) → Buf (Elt Ideal) ℓ)

/-- The devices' gradients of the norm's scale. -/
abbrev argNorm (c : Dev nD) : FVec Ideal S8x1x1024 .f32 := m ((c : Thread nD τ).loc main_arg0)
/-- The devices' gradients of the meta tokens. -/
abbrev argMeta (c : Dev nD) : FVec Ideal S8x16x1024 .f32 := m ((c : Thread nD τ).loc main_arg1)
/-- The devices' losses. -/
abbrev argLoss (c : Dev nD) : FVec Ideal S8x1x1 .f32 := m ((c : Thread nD τ).loc main_arg2)

/-- The summed gradient of the norm's scale. -/
theorem grad_eq (c : Dev nD) (i : S1x1024.Idx) : grad (V m c main_v3) i = ∑ d, argNorm m c (ix3 d 0 (i 1)) := by
  unfold grad
  rw [V_packs]
  refine (total_eq _ _ _).trans ?_
  exact Finset.sum_congr (M := EReal) rfl fun d _ => packs_norm _ _ _ d _

/-- The summed gradient of the meta tokens. -/
theorem meta_eq (c : Dev nD) (r : Fin 16) (k : Fin 1024) : total (V m c main_v3) ⟨1 + r.val, by omega⟩ k = ∑ d, argMeta m c (ix3 d r k) := by
  rw [V_packs, total_eq]
  exact Finset.sum_congr (M := EReal) rfl fun d _ => packs_meta _ _ _ d r k

/-- The summed loss. -/
theorem loss_eq (c : Dev nD) (k : Fin 1024) : total (V m c main_v3) ⟨17, by omega⟩ k = ∑ d, argLoss m c (ix3 d 0 0) := by
  rw [V_packs, total_eq]
  exact Finset.sum_congr (M := EReal) rfl fun d _ => packs_loss _ _ _ d k

/-- The whole program: it ends with the six results, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = grad (V m c main_v3)
      ∧ r.2.mem ((c.tc : Thread nD τ).loc main_v4_1) = k0_pay3 (F := Ideal) (grad (V m c main_v3)) (m ((c.tc : Thread nD τ).loc main_arg3)) (m ((c.tc : Thread nD τ).loc main_arg4)) (m ((c.tc : Thread nD τ).loc main_arg5))
      ∧ r.2.mem ((c.tc : Thread nD τ).loc main_v4_2) = k0_pay1 (F := Ideal) (grad (V m c main_v3)) (m ((c.tc : Thread nD τ).loc main_arg4))
      ∧ r.2.mem ((c.tc : Thread nD τ).loc main_v4_3) = k0_pay2 (F := Ideal) (grad (V m c main_v3)) (m ((c.tc : Thread nD τ).loc main_arg5))
      ∧ r.2.mem ((c.tc : Thread nD τ).loc main_v4_4) = (fun i => total (V m c main_v3) ⟨1 + (i 0).val, by idx_bounds; omega⟩ (i 1) : FVec Ideal S16x1024 .f32)
      ∧ r.2.mem ((c.tc : Thread nD τ).loc main_v4_5) = (fun i => total (V m c main_v3) ⟨17, by omega⟩ (i 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 4).trans (final4 m c),
      ((h.1 c).1 5).trans ((final5 m c).trans (by rw [V_main_arg3, V_main_arg4, V_main_arg5])),
      ((h.1 c).1 6).trans ((final6 m c).trans (by rw [V_main_arg4])),
      ((h.1 c).1 7).trans ((final7 m c).trans (by rw [V_main_arg5])),
      ((h.1 c).1 8).trans (final8 m c), ((h.1 c).1 9).trans (final9 m c), h.2 c⟩)
    (θ_run_and (run_main m ρ) (unchanged m ρ))

end Cert.RowsIdeal.Value

namespace Cert.Rows

/-- The reference's frame: it runs on the host alone and declares no semaphore. -/
theorem frame_ref : Cert.quiescent_RowsRefIdeal (hRowsRefIdeal := Cert.RowsRefIdeal.Gen.facts) := fun m g _ =>
  (θ_run Cert.RowsRefIdeal.defs _ _).mono (fun r h => ⟨fun c => (h c).2.2.2.2.2.2, sem_eq_zero_of_no_sems (by decide) r.2⟩)
    (Cert.RowsRefIdeal.Value.run (F := Ideal) m g)

/-- The zero word is the number 0. -/
theorem zero_word : Ideal.ofBits .f32 0x00000000#32 = 0 := by simp [Ideal.ofBits, Ideal.ieee]

/-- The reference's sum of the devices' gradients of the scale. -/
theorem norm_sum (m : (ℓ : Loc Cert.RowsIdeal.nD Cert.RowsIdeal.τ Cert.RowsIdeal.sig) → Buf (Elt Ideal) ℓ) (c : Dev Cert.RowsIdeal.nD) :
    Cert.RowsRefIdeal.Read.val_main_v0 (F := Ideal) (Cert.RowsIdeal.Value.argNorm m c) = Cert.RowsIdeal.Value.grad (Cert.RowsIdeal.Gen.V m c Cert.RowsIdeal.main_v3) := by
  funext i
  rw [Cert.RowsRefIdeal.Read.val_main_v0_apply, Cert.RowsIdeal.Value.grad_eq]
  refine (congrArg (· + _) zero_word).trans ((zero_add (M := EReal) _).trans (Finset.sum_congr (M := EReal) rfl fun d _ => ?_))
  exact congrArg (Cert.RowsIdeal.Value.argNorm m c) (funext fun a => match a with | ⟨0, _⟩ => rfl | ⟨1, _⟩ => Subsingleton.elim (α := Fin 1) _ _ | ⟨2, _⟩ => rfl)

/-- The reference's sum of the devices' gradients of the meta tokens. -/
theorem meta_sum (m : (ℓ : Loc Cert.RowsIdeal.nD Cert.RowsIdeal.τ Cert.RowsIdeal.sig) → Buf (Elt Ideal) ℓ) (c : Dev Cert.RowsIdeal.nD) :
    Cert.RowsRefIdeal.Read.val_main_v25 (F := Ideal) (Cert.RowsIdeal.Value.argMeta m c)
      = (fun i => Cert.RowsIdeal.Value.total (Cert.RowsIdeal.Gen.V m c Cert.RowsIdeal.main_v3) ⟨1 + (i 0).val, by idx_bounds; omega⟩ (i 1) : FVec Ideal Cert.RowsIdeal.S16x1024 .f32) := by
  funext i
  rw [Cert.RowsRefIdeal.Read.val_main_v25_apply]
  refine (congrArg (· + _) zero_word).trans ((zero_add (M := EReal) _).trans (Eq.trans (Finset.sum_congr (M := EReal) rfl fun d _ => ?_)
    (Cert.RowsIdeal.Value.meta_eq m c (i 0) (i 1)).symm))
  exact congrArg (Cert.RowsIdeal.Value.argMeta m c) (funext fun a => match a with | ⟨0, _⟩ => rfl | ⟨1, _⟩ => rfl | ⟨2, _⟩ => rfl)

/-- The reference's sum of the devices' losses, spread over a row. -/
theorem loss_sum (m : (ℓ : Loc Cert.RowsIdeal.nD Cert.RowsIdeal.τ Cert.RowsIdeal.sig) → Buf (Elt Ideal) ℓ) (c : Dev Cert.RowsIdeal.nD) :
    Cert.RowsRefIdeal.Read.val_main_v27 (F := Ideal) (Cert.RowsIdeal.Value.argLoss m c)
      = (fun i => Cert.RowsIdeal.Value.total (Cert.RowsIdeal.Gen.V m c Cert.RowsIdeal.main_v3) ⟨17, by omega⟩ (i 1) : FVec Ideal Cert.RowsIdeal.S1x1024 .f32) := by
  funext i
  rw [Cert.RowsRefIdeal.Read.val_main_v27_apply, Cert.RowsRefIdeal.Read.val_main_v26_apply]
  refine (congrArg (· + _) zero_word).trans ((zero_add (M := EReal) _).trans (Eq.trans (Finset.sum_congr (M := EReal) rfl fun d _ => ?_)
    (Cert.RowsIdeal.Value.loss_eq m c (i 1)).symm))
  exact congrArg (Cert.RowsIdeal.Value.argLoss m c) (funext fun a => match a with | ⟨0, _⟩ => rfl | ⟨1, _⟩ => Subsingleton.elim (α := Fin 1) _ _ | ⟨2, _⟩ => Subsingleton.elim (α := Fin 1) _ _)

/-- The call and reference.py's lines give the same six arrays over the extended reals. -/
theorem algebraic : Cert.algebraic_RowsIdeal_RowsRefIdeal (hRowsIdeal := Cert.RowsIdeal.Gen.facts) (hRowsRefIdeal := Cert.RowsRefIdeal.Gen.facts) := by
  pair_intro
  · run_from Cert.RowsIdeal.Value.run m g
  · refine θ_run_mono (Cert.RowsRefIdeal.Value.run m' g') ?_
    intro r hr c
    have hc := hr c
    have ha := hagree c
    clear hr
    rw [← and_assoc, ← and_assoc, ← and_assoc, ← and_assoc, ← and_assoc]
    refine ⟨?_, hc.2.2.2.2.2.2⟩
    rw [hc.1, hc.2.1, hc.2.2.1, hc.2.2.2.1, hc.2.2.2.2.1, hc.2.2.2.2.2.1]
    simp only [and_assoc]
    clear hc r
    obtain ⟨h0, h1, h2, h3, h4, h5⟩ := ha
    rw [h0, h1, h2, h3, h4, h5]
    have hg := norm_sum m c
    generalize Cert.RowsIdeal.Value.grad (Cert.RowsIdeal.Gen.V m c Cert.RowsIdeal.main_v3) = gr at hg ⊢
    unfold Cert.RowsRefIdeal.Read.val_main_v0 Cert.RowsRefIdeal.Read.val_main_cst at hg
    rw [hg]
    refine ⟨rfl, ?_, ?_, ?_, meta_sum m c, loss_sum m c⟩
    all_goals funext i
    all_goals idx_vars i
    all_goals pointwise [Cert.RowsIdeal.Gen.k0_pay1, Cert.RowsIdeal.Gen.k0_pay2, Cert.RowsIdeal.Gen.k0_pay3]
    all_goals rfl

end Cert.Rows

end
-- ==== Proof.Sum.Value.lean ====
module

public import proofs.«01_k».proof.Proof.Gen.SumIdeal.Frame
public import Idealize.ShloMosaic.Lib.Pipeline.ValueKit
public import Idealize.ShloMosaic.Lib.Pipeline.ReadBack
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo
open Idealize.ShloMosaic.Pipeline (Dat)

/-! What the call that adds up the devices' parts leaves: in its own half of the rows, a device's own part and the seven received ones. -/

namespace Cert.SumIdeal.Value

open Cert.SumIdeal Cert.SumIdeal.Gen

/-- The table of the device's coordinates, all zero. -/
def zeros : pre0.Contents (Elt Ideal) := fun | ⟨0, _⟩ => (fun _ => 0#32 : IVec S3 32) | ⟨_ + 1, h⟩ => absurd h (by simp)

/-- With that table every block lies inside its array. -/
theorem ok_zeros : ok0 (F := Ideal) zeros := by decide +kernel

/-- The table as contents the pipeline admits. -/
def table : (pcfg0 (F := Ideal)).Adm := ⟨zeros, ok_zeros⟩

variable (m : (ℓ : Loc nD τ sig) → Buf (Elt Ideal) ℓ)

/-- The host lines fill the table with zeros. -/
theorem tbl_eq : tbl m = zeros := by
  funext j
  match j with
  | ⟨0, _⟩ =>
    show V m 0 main_v0 = _
    unfold V V0
    simp only [hostOps0, List.flatten_cons, List.flatten_nil, List.append_nil]
    after_reads_simp
    rfl

/-- So the pipeline's side condition holds. -/
theorem ok : Ok m := by
  unfold Ok
  rw [tbl_eq]
  exact ok_zeros

/-- The contents the pipeline runs at. -/
theorem adm_eq : adm m (ok m) = table := Subtype.ext (tbl_eq m)

/-- The blocks of a point: the point's rows of the own part, of every received part and of the result. -/
def Blocks (a : (pcfg0 (F := Ideal)).Adm) : Prop := ∀ t : Fin grid0.N,
  ((cfg0 a).win 0).index t = ![t.val, 0] ∧ ((cfg0 a).win 1).index t = ![0, t.val, 0] ∧ ((cfg0 a).win 2).index t = ![t.val, 0]

/-- They are the blocks at the table of zeros. -/
theorem blocks_table : Blocks table := by unfold Blocks; decide +kernel

/-- The blocks at the table the host lines make. -/
theorem idx : Blocks (adm m (ok m)) := (adm_eq m).symm ▸ blocks_table

/-- The result's blocks are the first four of eight. -/
def Half (a : (pcfg0 (F := Ideal)).Adm) : Prop := ((cfg0 a).win 2).CoversWhere fun β => β (0 : Fin 2) < 4

/-- At the table of zeros. -/
theorem half_table : Half table := by unfold Half; decide +kernel

/-- At the table the host lines make. -/
theorem half : Half (adm m (ok m)) := (adm_eq m).symm ▸ half_table

/-- The call's first argument: the device's own part. -/
theorem V_part (c : Dev nD) : V m c main_v2 = (truncf .bf16 (m ((c : Thread nD τ).loc main_arg0)) bitsLt_bf16_f32 : FVec Ideal S1024x5632 .bf16) := by
  unfold V V0
  simp only [hostOps0, List.flatten_cons, List.flatten_nil, List.append_nil]
  after_reads_simp

/-- The call's second argument: the seven received parts. -/
theorem V_received (c : Dev nD) : V m c main_v1 = (truncf .bf16 (m ((c : Thread nD τ).loc main_arg1)) bitsLt_bf16_f32 : FVec Ideal S7x512x1408 .bf16) := by
  unfold V V0
  simp only [hostOps0, List.flatten_cons, List.flatten_nil, List.append_nil]
  after_reads_simp

/-- The sum of the own part and the received ones, at each place of the own half. -/
def total (p : FVec Ideal S1024x5632 .bf16) (q : FVec Ideal S7x512x1408 .bf16) : FVec Ideal S1024x1408 .f32 := fun i =>
  if h : (i 0).val < 512 then (p (ix2 (i 0) ⟨(i 1).val, Nat.lt_of_lt_of_le (i 1).isLt (by decide)⟩) : EReal) + ∑ d : Fin 7, (q (ix3 d ⟨(i 0).val, h⟩ (i 1)) : EReal)
  else 0

/-- A point's block of the own part. -/
def b0 (c : Dev nD) (t : Fin grid0.N) : FVec Ideal S128x1408 .bf16 := iblk m (ok m) c 0 t
/-- A point's block of the received parts. -/
def b1 (c : Dev nD) (t : Fin grid0.N) : FVec Ideal S7x128x1408 .bf16 := iblk m (ok m) c 1 t

/-- The own part's block at a place. -/
theorem b0_apply (c : Dev nD) (t : Fin grid0.N) (y : S128x1408.Idx) (i : S1024x1408.Idx) (hi : (i 0).val = t.val * 128 + (y 0).val) (hj : (i 1).val = (y 1).val) :
    b0 m c t y = (V m c main_v2 : FVec Ideal S1024x5632 .bf16) (ix2 (i 0) ⟨(i 1).val, Nat.lt_of_lt_of_le (i 1).isLt (by decide)⟩) := by
  unfold b0
  blk_point [iblk, V, (idx m t).1]

/-- A received part's block at a place. -/
theorem b1_apply (c : Dev nD) (t : Fin grid0.N) (d : Fin 7) (y : S128x1408.Idx) (i : S1024x1408.Idx) (hi : (i 0).val = t.val * 128 + (y 0).val) (hj : (i 1).val = (y 1).val)
    (h : (i 0).val < 512) : b1 m c t (ix3 d (y 0) (y 1)) = (V m c main_v1 : FVec Ideal S7x512x1408 .bf16) (ix3 d ⟨(i 0).val, h⟩ (i 1)) := by
  unfold b1
  blk_point [iblk, V, (idx m t).2.1]

/-- What the body leaves in the result's block: its block of the own part and the seven received ones, added in turn. -/
theorem body (c : Dev nD) (i : grid0.Coords) (a : Memref sig .tc .vmem S128x1408 .bf16) (ha : a.IsWhole) (b : Memref sig .tc .vmem S7x128x1408 .bf16) (hb : b.IsWhole)
    (o : Memref sig .tc .vmem S128x1408 .f32) (ho : o.IsWhole) (x : FVec Ideal S128x1408 .bf16) (z : FVec Ideal S7x128x1408 .bf16) (w : TbBuf0 (F := Ideal) c tbM0_0) (y : S128x1408.Idx) :
    out0_A_2 c i a ha b hb o ho x z w y = (x y : EReal) + z (ix3 0 (y 0) (y 1)) + z (ix3 1 (y 0) (y 1)) + z (ix3 2 (y 0) (y 1)) + z (ix3 3 (y 0) (y 1))
      + z (ix3 4 (y 0) (y 1)) + z (ix3 5 (y 0) (y 1)) + z (ix3 6 (y 0) (y 1)) := by
  frame_out
  pointwise [k0_pay1]

/-- What a point writes, at its own place. -/
theorem written (c : Dev nD) (t : Fin grid0.N) (y : S128x1408.Idx) (i : S1024x1408.Idx) (hi : (i 0).val = t.val * 128 + (y 0).val) (hj : (i 1).val = (y 1).val) :
    outsAt0 m (ok m) c t y = total (V m c main_v2) (V m c main_v1) i := by
  have ht : t.val < 4 := t.isLt
  have hy : (y 0).val < 128 := (y 0).isLt
  unfold outsAt0 total
  rw [dif_pos (by omega)]
  refine (body c (grid0.coords t) _ _ _ _ _ _ (b0 m c t) (b1 m c t) _ y).trans ?_
  rw [Fin.sum_univ_seven (M := EReal)]
  rw [b0_apply m c t y i hi hj]
  simp only [b1_apply m c t _ y i hi hj (by omega), add_assoc]

/-- The call's output in the own half of the rows. -/
theorem final2 (c : Dev nD) (i : S1024x1408.Idx) (hi : (i 0).val < 512) : ((dats m (ok m) 0 c).arrAt 2 (cfgM m (ok m)).N : FVec Ideal S1024x1408 .f32) i
    = total (V m c main_v2) (V m c main_v1) i := by
  refine ((dats m (ok m) 0 c).arrAt_apply_of_coversWhere 2 (total (V m c main_v2) (V m c main_v1))
    (P := fun i => (i (0 : Fin 2)).val < 512) (fun β => β (0 : Fin 2) < 4) (half m) (fun t hf y => ?_)
    (fun j => by show (j (0 : Fin 2)).val < 512 ↔ (j (0 : Fin 2)).val / 128 < 4; omega) i).trans (if_pos hi)
  blk_simp
  rw [after0_2]
  have e0 : (((((cfgM m (ok m)).win 2).blk t).view.emb y) (0 : Fin 2)).val = t.val * 128 + (y (0 : Fin 2)).val := by blk_simp [(idx m t).2.2]
  have e1 : (((((cfgM m (ok m)).win 2).blk t).view.emb y) (1 : Fin 2)).val = (y (1 : Fin 2)).val := by blk_simp [(idx m t).2.2]
  exact written m c t y _ e0 e1

end Cert.SumIdeal.Value

end
-- ==== Proof.Sum.Claim.lean ====
module

public import proofs.«01_k».proof.Defs
public import proofs.«01_k».proof.Proof.Sum.Value
public import proofs.«01_k».proof.Proof.Gen.SumRefIdeal.Run
public import proofs.«01_k».proof.Proof.Gen.SumRefIdeal.Read

@[expose] public section

set_option maxRecDepth 16384

noncomputable section

open Idealize.ShloMosaic Idealize.ShloMosaic.TcCoe Idealize.SL.Sem Idealize.ShloMosaic.StableHlo

/-! The summing call against the plain sum of the eight devices' parts. -/

namespace Cert.SumIdeal.Value

open Cert.SumIdeal Cert.SumIdeal.Gen

variable (m : (ℓ : Loc nD τ sig) → Buf (Elt Ideal) ℓ)

/-- The line after the call from any contents of the buffers. -/
theorem after_v4 (V : Valuation τ sig (Elt Ideal)) : after hostOps1 V (Proc.devRef .tc main_v4)
    = extractStridedSlice S512x1408 ![0, 0] (V (Proc.devRef .tc main_v3) : FVec Ideal S1024x1408 .f32) slices_S1024x1408_S512x1408_0_0 := by
  unfold hostOps1
  after_reads_simp

/-- The result array of the call, as the line after it finds it. -/
theorem found (c : Dev nD) (w : Fin (cfgM m (ok m)).W) :
    Pipeline.withArrays (cfgM m (ok m)).spec c (V0 m c) (fun w => (dats m (ok m) 0 c).arrAt w (cfgM m (ok m)).N) (Proc.devRef .tc (Pipeline.arrRef spec0 w))
      = (dats m (ok m) 0 c).arrAt w (cfgM m (ok m)).N :=
  Pipeline.withArrays_arr spec0 winFacts0.arr_inj c (V0 m c) (fun w => (dats m (ok m) 0 c).arrAt w (cfgM m (ok m)).N) w

/-- The program's result `b` after the host operations that follow the launch. -/
abbrev resultOf (b : Dev nD) := Pipeline.afterTail pcfgs (fun _ => adm m (ok m)) (dats m (ok m)) 0 (V0 m) [hostOps1] b

/-- The program's result: the sum of the own part and the received ones. -/
theorem result (c : Dev nD) (x : FVec Ideal S1024x5632 .f32) (y : FVec Ideal S7x512x1408 .f32) (hx : m ((c : Thread nD τ).loc main_arg0) = x)
    (hy : m ((c : Thread nD τ).loc main_arg1) = y) (r : Fin 512) (k : Fin 1408) :
    (resultOf m c main_v4 : FVec Ideal S512x1408 .f32) (ix2 r k) = (x (ix2 ⟨r.val, by omega⟩ ⟨k.val, by omega⟩) : EReal) + ∑ d : Fin 7, (y (ix3 d r k) : EReal) := by
  unfold resultOf Pipeline.afterTail
  simp only [List.flatten_cons, List.flatten_nil, List.append_nil]
  rw [after_v4, show Pipeline.withArrays (Pipeline.pin pcfgs (fun _ => adm m (ok m)) 0).spec c (V0 m c) (fun w => (dats m (ok m) 0 c).arrAt w (cfgM m (ok m)).N) (Proc.devRef .tc main_v3) = _ from found m c 2]
  have h := final2 m c (ix2 ⟨r.val, by omega⟩ k) r.isLt
  unfold total at h
  rw [V_part, V_received, hx, hy, dif_pos (show ((ix2 (⟨r.val, by omega⟩ : Fin 1024) k) 0).val < 512 from r.isLt)] at h
  refine Eq.trans ?_ h
  pointwise

/-- The whole program: it ends with its result as the line after the launch leaves it, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = resultOf m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).2 main_v4 (show main_v4 ∈ Pipeline.restRefs sig spec0 by decide), h.2 c⟩)
    (θ_run_and (run_main m ρ (ok m)) (unchanged m ρ (ok m)))

end Cert.SumIdeal.Value

namespace Cert.Sum

/-- The reference's frame: it runs on the host alone and declares no semaphore. -/
theorem frame_ref : Cert.quiescent_SumRefIdeal (hSumRefIdeal := Cert.SumRefIdeal.Gen.facts) := fun m g _ =>
  (θ_run Cert.SumRefIdeal.defs _ _).mono (fun r h => ⟨fun c => (h c).2, sem_eq_zero_of_no_sems (by decide) r.2⟩)
    (Cert.SumRefIdeal.Value.run (F := Ideal) m g)

/-- The call and the plain sum give the same array over the extended reals. -/
theorem algebraic : Cert.algebraic_SumIdeal_SumRefIdeal (hSumIdeal := Cert.SumIdeal.Gen.facts) (hSumRefIdeal := Cert.SumRefIdeal.Gen.facts) := by
  pair_intro
  · run_from Cert.SumIdeal.Value.run m g
  · run_from Cert.SumRefIdeal.Value.run m' g'
    funext i
    idx_vars i
    refine Eq.trans ?_ (Cert.SumIdeal.Value.result m c _ _ rfl rfl i0 i1).symm
    pointwise

end Cert.Sum

end
-- ==== Proof.Sum.Words.lean ====
module

public import proofs.«01_k».proof.Defs
public import proofs.«01_k».proof.Proof.Gen.Sum.Frame
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo

/-! The side condition of the summing call's table of coordinates, at the program's own floats. -/

namespace Cert.SumWords

open Cert.Sum Cert.Sum.Gen

/-- The table of the device's coordinates, all zero. -/
def zeros : pre0.Contents (Elt Bits) := fun | ⟨0, _⟩ => (fun _ => 0#32 : IVec S3 32) | ⟨_ + 1, h⟩ => absurd h (by simp)

/-- With that table every block lies inside its array. -/
theorem ok_zeros : ok0 (F := Bits) zeros := by decide +kernel

variable (m : (ℓ : Loc nD τ sig) → Buf (Elt Bits) ℓ)

/-- The host lines fill the table with zeros. -/
theorem tbl_eq : tbl m = zeros := by
  funext j
  match j with
  | ⟨0, _⟩ =>
    show V m 0 main_v0 = _
    unfold V V0
    simp only [hostOps0, List.flatten_cons, List.flatten_nil, List.append_nil]
    after_reads_simp
    rfl

/-- So the pipeline's side condition holds. -/
theorem ok : Ok m := by
  unfold Ok
  rw [tbl_eq]
  exact ok_zeros

end Cert.SumWords

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Merge.Claim
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActRefIdeal.Run
public import proofs.«01_k».proof.Proof.Gen.ActRefIdeal.Read
public import proofs.«01_k».proof.Proof.Gen.Pre_act_finite
public import proofs.«01_k».proof.Proof.Act.Claim
public import proofs.«01_k».proof.Proof.Gen.HnTwo
public import proofs.«01_k».proof.Proof.Gen.HnTwo.Skeleton
public import proofs.«01_k».proof.Proof.Gen.HnTwo.Launch
public import proofs.«01_k».proof.Proof.Gen.HnTwo.Points
public import proofs.«01_k».proof.Proof.Gen.HnTwo.Frame
public import proofs.«01_k».proof.Proof.Gen.HnTwoIdeal
public import proofs.«01_k».proof.Proof.Gen.HnTwoIdeal.Skeleton
public import proofs.«01_k».proof.Proof.Gen.HnTwoIdeal.Launch
public import proofs.«01_k».proof.Proof.Gen.HnTwoIdeal.Points
public import proofs.«01_k».proof.Proof.Gen.HnTwoIdeal.Frame
public import proofs.«01_k».proof.Proof.Gen.HnTwoRefIdeal
public import proofs.«01_k».proof.Proof.Gen.HnTwoRefIdeal.Run
public import proofs.«01_k».proof.Proof.Gen.HnTwoRefIdeal.Read
public import proofs.«01_k».proof.Proof.Gen.Pre_hn2_finite
public import proofs.«01_k».proof.Proof.HnTwo.Claim
public import proofs.«01_k».proof.Proof.Gen.HnOne
public import proofs.«01_k».proof.Proof.Gen.HnOne.Skeleton
public import proofs.«01_k».proof.Proof.Gen.HnOne.Launch
public import proofs.«01_k».proof.Proof.Gen.HnOne.Points
public import proofs.«01_k».proof.Proof.Gen.HnOne.Frame
public import proofs.«01_k».proof.Proof.Gen.HnOneIdeal
public import proofs.«01_k».proof.Proof.Gen.HnOneIdeal.Skeleton
public import proofs.«01_k».proof.Proof.Gen.HnOneIdeal.Launch
public import proofs.«01_k».proof.Proof.Gen.HnOneIdeal.Points
public import proofs.«01_k».proof.Proof.Gen.HnOneIdeal.Frame
public import proofs.«01_k».proof.Proof.Gen.HnOneRefIdeal
public import proofs.«01_k».proof.Proof.Gen.HnOneRefIdeal.Run
public import proofs.«01_k».proof.Proof.Gen.HnOneRefIdeal.Read
public import proofs.«01_k».proof.Proof.Gen.Pre_hn1_finite
public import proofs.«01_k».proof.Proof.HnOne.Claim
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Loss.Claim
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvRefIdeal
public import proofs.«01_k».proof.Proof.Gen.ConvRefIdeal.Run
public import proofs.«01_k».proof.Proof.Gen.ConvRefIdeal.Read
public import proofs.«01_k».proof.Proof.Conv.Claim
public import proofs.«01_k».proof.Proof.Conv.FrameBits
public import proofs.«01_k».proof.Proof.Gen.RgBwd
public import proofs.«01_k».proof.Proof.Gen.RgBwd.Skeleton
public import proofs.«01_k».proof.Proof.Gen.RgBwd.Launch
public import proofs.«01_k».proof.Proof.Gen.RgBwd.Points
public import proofs.«01_k».proof.Proof.Gen.RgBwdIdeal
public import proofs.«01_k».proof.Proof.Gen.RgBwdIdeal.Skeleton
public import proofs.«01_k».proof.Proof.Gen.RgBwdIdeal.Launch
public import proofs.«01_k».proof.Proof.Gen.RgBwdIdeal.Points
public import proofs.«01_k».proof.Proof.RgBwd.Frame
public import proofs.«01_k».proof.Proof.RgBwd.Words
public import proofs.«01_k».proof.Proof.Gen.HgrnBwd
public import proofs.«01_k».proof.Proof.Gen.HgrnBwd.Skeleton
public import proofs.«01_k».proof.Proof.Gen.HgrnBwd.Launch
public import proofs.«01_k».proof.Proof.Gen.HgrnBwd.Points
public import proofs.«01_k».proof.Proof.Gen.HgrnBwd.Frame
public import proofs.«01_k».proof.Proof.Gen.HgrnBwdIdeal
public import proofs.«01_k».proof.Proof.Gen.HgrnBwdIdeal.Skeleton
public import proofs.«01_k».proof.Proof.Gen.HgrnBwdIdeal.Launch
public import proofs.«01_k».proof.Proof.Gen.HgrnBwdIdeal.Points
public import proofs.«01_k».proof.Proof.Gen.HgrnBwdIdeal.Frame
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Out.Claim
public import proofs.«01_k».proof.Proof.Gen.ConvF
public import proofs.«01_k».proof.Proof.Gen.ConvF.Skeleton
public import proofs.«01_k».proof.Proof.Gen.ConvF.Launch
public import proofs.«01_k».proof.Proof.Gen.ConvF.Points
public import proofs.«01_k».proof.Proof.Gen.ConvF.Frame
public import proofs.«01_k».proof.Proof.Gen.ConvFIdeal
public import proofs.«01_k».proof.Proof.Gen.ConvFIdeal.Skeleton
public import proofs.«01_k».proof.Proof.Gen.ConvFIdeal.Launch
public import proofs.«01_k».proof.Proof.Gen.ConvFIdeal.Points
public import proofs.«01_k».proof.Proof.Gen.ConvFIdeal.Frame
public import proofs.«01_k».proof.Proof.Gen.ConvFRefIdeal
public import proofs.«01_k».proof.Proof.Gen.ConvFRefIdeal.Run
public import proofs.«01_k».proof.Proof.Gen.ConvFRefIdeal.Read
public import proofs.«01_k».proof.Proof.ConvF.Claim
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn.Claim
public import proofs.«01_k».proof.Proof.Ffn.Words
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import proofs.«01_k».proof.Proof.Proj.Claim
public import proofs.«01_k».proof.Proof.Proj.Words
public import proofs.«01_k».proof.Proof.Gen.RgF
public import proofs.«01_k».proof.Proof.Gen.RgF.Skeleton
public import proofs.«01_k».proof.Proof.Gen.RgF.Launch
public import proofs.«01_k».proof.Proof.Gen.RgF.Points
public import proofs.«01_k».proof.Proof.Gen.RgFIdeal
public import proofs.«01_k».proof.Proof.Gen.RgFIdeal.Skeleton
public import proofs.«01_k».proof.Proof.Gen.RgFIdeal.Launch
public import proofs.«01_k».proof.Proof.Gen.RgFIdeal.Points
public import proofs.«01_k».proof.Proof.RgF.Frame
public import proofs.«01_k».proof.Proof.RgF.Words
public import proofs.«01_k».proof.Proof.Gen.HgrnF
public import proofs.«01_k».proof.Proof.Gen.HgrnF.Skeleton
public import proofs.«01_k».proof.Proof.Gen.HgrnF.Launch
public import proofs.«01_k».proof.Proof.Gen.HgrnF.Points
public import proofs.«01_k».proof.Proof.Gen.HgrnF.Frame
public import proofs.«01_k».proof.Proof.Gen.HgrnFIdeal
public import proofs.«01_k».proof.Proof.Gen.HgrnFIdeal.Skeleton
public import proofs.«01_k».proof.Proof.Gen.HgrnFIdeal.Launch
public import proofs.«01_k».proof.Proof.Gen.HgrnFIdeal.Points
public import proofs.«01_k».proof.Proof.Gen.HgrnFIdeal.Frame
public import proofs.«01_k».proof.Proof.Gen.Wfi
public import proofs.«01_k».proof.Proof.Gen.Wfi.Skeleton
public import proofs.«01_k».proof.Proof.Gen.Wfi.Launch
public import proofs.«01_k».proof.Proof.Gen.Wfi.Points
public import proofs.«01_k».proof.Proof.Gen.Wfi.Frame
public import proofs.«01_k».proof.Proof.Gen.WfiIdeal
public import proofs.«01_k».proof.Proof.Gen.WfiIdeal.Skeleton
public import proofs.«01_k».proof.Proof.Gen.WfiIdeal.Launch
public import proofs.«01_k».proof.Proof.Gen.WfiIdeal.Points
public import proofs.«01_k».proof.Proof.Gen.WfiIdeal.Frame
public import proofs.«01_k».proof.Proof.Gen.WfiRefIdeal
public import proofs.«01_k».proof.Proof.Gen.WfiRefIdeal.Run
public import proofs.«01_k».proof.Proof.Gen.WfiRefIdeal.Read
public import proofs.«01_k».proof.Proof.Wfi.Claim
public import proofs.«01_k».proof.Proof.Gen.Opt
public import proofs.«01_k».proof.Proof.Gen.Opt.Skeleton
public import proofs.«01_k».proof.Proof.Gen.Opt.Launch
public import proofs.«01_k».proof.Proof.Gen.Opt.Points
public import proofs.«01_k».proof.Proof.Gen.Opt.Frame
public import proofs.«01_k».proof.Proof.Gen.OptIdeal
public import proofs.«01_k».proof.Proof.Gen.OptIdeal.Value
public import proofs.«01_k».proof.Proof.Gen.OptIdeal.Skeleton
public import proofs.«01_k».proof.Proof.Gen.OptIdeal.Launch
public import proofs.«01_k».proof.Proof.Gen.OptIdeal.Points
public import proofs.«01_k».proof.Proof.Gen.OptIdeal.Frame
public import proofs.«01_k».proof.Proof.Gen.OptRefIdeal
public import proofs.«01_k».proof.Proof.Gen.OptRefIdeal.Run
public import proofs.«01_k».proof.Proof.Gen.OptRefIdeal.Read
public import proofs.«01_k».proof.Proof.Opt.Claim
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsRefIdeal
public import proofs.«01_k».proof.Proof.Gen.RowsRefIdeal.Run
public import proofs.«01_k».proof.Proof.Gen.RowsRefIdeal.Read
public import proofs.«01_k».proof.Proof.Rows.Claim
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumRefIdeal
public import proofs.«01_k».proof.Proof.Gen.SumRefIdeal.Run
public import proofs.«01_k».proof.Proof.Gen.SumRefIdeal.Read
public import proofs.«01_k».proof.Proof.Sum.Claim
public import proofs.«01_k».proof.Proof.Sum.Words
public import Idealize.ShloMosaic.Adequacy
public import Idealize.ShloMosaic.Init

@[expose] public section

noncomputable section

namespace Cert.Proof

/-- Every claim: of each call the frames, that the ideal program is the program read over the extended reals, and the values. -/
theorem claim : Cert.Claim :=
  ⟨Cert.Merge.Gen.facts,
    Cert.MergeIdeal.Gen.facts,
    Cert.MergeRefIdeal.Gen.facts,
    Cert.Act.Gen.facts,
    Cert.ActIdeal.Gen.facts,
    Cert.ActRefIdeal.Gen.facts,
    Cert.HnTwo.Gen.facts,
    Cert.HnTwoIdeal.Gen.facts,
    Cert.HnTwoRefIdeal.Gen.facts,
    Cert.HnOne.Gen.facts,
    Cert.HnOneIdeal.Gen.facts,
    Cert.HnOneRefIdeal.Gen.facts,
    Cert.Loss.Gen.facts,
    Cert.LossIdeal.Gen.facts,
    Cert.LossRefIdeal.Gen.facts,
    Cert.Conv.Gen.facts,
    Cert.ConvIdeal.Gen.facts,
    Cert.ConvRefIdeal.Gen.facts,
    Cert.RgBwd.Gen.facts,
    Cert.RgBwdIdeal.Gen.facts,
    Cert.HgrnBwd.Gen.facts,
    Cert.HgrnBwdIdeal.Gen.facts,
    Cert.Out.Gen.facts,
    Cert.OutIdeal.Gen.facts,
    Cert.OutRefIdeal.Gen.facts,
    Cert.ConvF.Gen.facts,
    Cert.ConvFIdeal.Gen.facts,
    Cert.ConvFRefIdeal.Gen.facts,
    Cert.Ffn.Gen.facts,
    Cert.FfnIdeal.Gen.facts,
    Cert.FfnRefIdeal.Gen.facts,
    Cert.Proj.Gen.facts,
    Cert.ProjIdeal.Gen.facts,
    Cert.ProjRefIdeal.Gen.facts,
    Cert.RgF.Gen.facts,
    Cert.RgFIdeal.Gen.facts,
    Cert.HgrnF.Gen.facts,
    Cert.HgrnFIdeal.Gen.facts,
    Cert.Wfi.Gen.facts,
    Cert.WfiIdeal.Gen.facts,
    Cert.WfiRefIdeal.Gen.facts,
    Cert.Opt.Gen.facts,
    Cert.OptIdeal.Gen.facts,
    Cert.OptRefIdeal.Gen.facts,
    Cert.Rows.Gen.facts,
    Cert.RowsIdeal.Gen.facts,
    Cert.RowsRefIdeal.Gen.facts,
    Cert.Sum.Gen.facts,
    Cert.SumIdeal.Gen.facts,
    Cert.SumRefIdeal.Gen.facts,
    Cert.Pre_act_finite.Gen.facts,
    Cert.Pre_hn2_finite.Gen.facts,
    Cert.Pre_hn1_finite.Gen.facts,
    Cert.Pre_loss_finite.Gen.facts,
    fun m g _ => Cert.Merge.Gen.frame m g,
    fun m g _ => Cert.MergeIdeal.Gen.frame m g,
    Cert.Merge.frame_ref,
    fun m g _ => Cert.Act.Gen.frame m g,
    fun m g _ => Cert.ActIdeal.Gen.frame m g,
    fun m g _ => Cert.ActIdeal.Gen.frame m g,
    Cert.Act.frame_ref,
    fun m g _ => Cert.Act.frame_ref m g trivial,
    fun m g _ => Cert.HnTwo.Gen.frame m g,
    fun m g _ => Cert.HnTwoIdeal.Gen.frame m g,
    fun m g _ => Cert.HnTwoIdeal.Gen.frame m g,
    Cert.HnTwo.frame_ref,
    fun m g _ => Cert.HnTwo.frame_ref m g trivial,
    fun m g _ => Cert.HnOne.Gen.frame m g,
    fun m g _ => Cert.HnOneIdeal.Gen.frame m g,
    fun m g _ => Cert.HnOneIdeal.Gen.frame m g,
    Cert.HnOne.frame_ref,
    fun m g _ => Cert.HnOne.frame_ref m g trivial,
    fun m g _ => Cert.Loss.Gen.frame m g,
    fun m g _ => Cert.LossIdeal.Gen.frame m g,
    fun m g _ => Cert.LossIdeal.Gen.frame m g,
    Cert.Loss.frame_ref,
    fun m g _ => Cert.Loss.frame_ref m g trivial,
    fun m g _ => Cert.ConvFrame.frame m g,
    fun m g _ => Cert.Conv.frame_ideal m g,
    Cert.Conv.frame_ref,
    Cert.RgFrame.frame_words,
    fun m g _ => Cert.RgFrame.frame m g,
    fun m g _ => Cert.HgrnBwd.Gen.frame m g,
    fun m g _ => Cert.HgrnBwdIdeal.Gen.frame m g,
    fun m g _ => Cert.Out.Gen.frame m g,
    fun m g _ => Cert.OutIdeal.Gen.frame m g,
    Cert.Out.frame_ref,
    fun m g _ => Cert.ConvF.Gen.frame m g,
    fun m g _ => Cert.ConvFIdeal.Gen.frame m g,
    Cert.ConvF.frame_ref,
    Cert.Ffn.frame_words,
    fun m g _ => Cert.Ffn.frame m g,
    Cert.Ffn.frame_ref,
    Cert.Proj.frame_words,
    fun m g _ => Cert.Proj.frame m g,
    Cert.Proj.frame_ref,
    Cert.RgForward.frame_words,
    fun m g _ => Cert.RgForward.frame m g,
    fun m g _ => Cert.HgrnF.Gen.frame m g,
    fun m g _ => Cert.HgrnFIdeal.Gen.frame m g,
    fun m g _ => Cert.Wfi.Gen.frame m g,
    fun m g _ => Cert.WfiIdeal.Gen.frame m g,
    Cert.Wfi.frame_ref,
    fun m g _ => Cert.Opt.Gen.frame m g,
    fun m g _ => Cert.OptIdeal.Gen.frame m g,
    Cert.Opt.frame_ref,
    fun m g _ => Cert.Rows.Gen.frame m g,
    fun m g _ => Cert.RowsIdeal.Gen.frame m g,
    Cert.Rows.frame_ref,
    fun m g _ => Cert.Sum.Gen.frame m g (Cert.SumWords.ok m),
    fun m g _ => Cert.SumIdeal.Gen.frame m g (Cert.SumIdeal.Value.ok m),
    Cert.Sum.frame_ref,
    trivial,
    Cert.Merge.algebraic,
    trivial,
    Cert.Act.algebraic,
    trivial,
    Cert.HnTwo.algebraic,
    trivial,
    Cert.HnOne.algebraic,
    trivial,
    Cert.Loss.algebraic,
    trivial,
    Cert.Conv.algebraic,
    trivial,
    trivial,
    trivial,
    Cert.Out.algebraic,
    trivial,
    Cert.ConvF.algebraic,
    trivial,
    Cert.Ffn.algebraic,
    trivial,
    Cert.Proj.algebraic,
    trivial,
    trivial,
    trivial,
    Cert.Wfi.algebraic,
    trivial,
    Cert.Opt.algebraic,
    trivial,
    Cert.Rows.algebraic,
    trivial,
    Cert.Sum.algebraic⟩

end Cert.Proof

end
